-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelSguDh (m : (ℓ : Loc Cert.KernelSguDh.nD Cert.KernelSguDh.τ Cert.KernelSguDh.sig) → Buf (Elt Bits) ℓ) : Prop :=
  True

def Pre_KernelSguDhIdeal (m : (ℓ : Loc Cert.KernelSguDhIdeal.nD Cert.KernelSguDhIdeal.τ Cert.KernelSguDhIdeal.sig) → Buf (Elt Ideal) ℓ) : Prop :=
  True

def Pre_ReferenceSguDhIdeal (m : (ℓ : Loc Cert.ReferenceSguDhIdeal.nD Cert.ReferenceSguDhIdeal.τ Cert.ReferenceSguDhIdeal.sig) → Buf (Elt Ideal) ℓ) : Prop :=
  True

def Pre_KernelSguIn (m : (ℓ : Loc Cert.KernelSguIn.nD Cert.KernelSguIn.τ Cert.KernelSguIn.sig) → Buf (Elt Bits) ℓ) : Prop :=
  True

def Pre_KernelSguInIdeal (m : (ℓ : Loc Cert.KernelSguInIdeal.nD Cert.KernelSguInIdeal.τ Cert.KernelSguInIdeal.sig) → Buf (Elt Ideal) ℓ) : Prop :=
  True

def Pre_ReferenceSguInIdeal (m : (ℓ : Loc Cert.ReferenceSguInIdeal.nD Cert.ReferenceSguInIdeal.τ Cert.ReferenceSguInIdeal.sig) → Buf (Elt Ideal) ℓ) : Prop :=
  True

def Pre_KernelOutDa (m : (ℓ : Loc Cert.KernelOutDa.nD Cert.KernelOutDa.τ Cert.KernelOutDa.sig) → Buf (Elt Bits) ℓ) : Prop :=
  True

def Pre_KernelOutDaIdeal (m : (ℓ : Loc Cert.KernelOutDaIdeal.nD Cert.KernelOutDaIdeal.τ Cert.KernelOutDaIdeal.sig) → Buf (Elt Ideal) ℓ) : Prop :=
  True

def Pre_ReferenceOutDaIdeal (m : (ℓ : Loc Cert.ReferenceOutDaIdeal.nD Cert.ReferenceOutDaIdeal.τ Cert.ReferenceOutDaIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelOutDw [hPre_out_core_ok : Cert.Pre_out_core_ok.Facts] (m : (ℓ : Loc Cert.KernelOutDw.nD Cert.KernelOutDw.τ Cert.KernelOutDw.sig) → Buf (Elt Bits) ℓ) : Prop :=
  ∀ c : Dev Cert.KernelOutDw.nD,
    (Cert.Pre_out_core_ok.fn (F := Bits) (m ((c.tc : Thread Cert.KernelOutDw.nD Cert.KernelOutDw.τ).loc Cert.KernelOutDw.main_arg0)) (m ((c.tc : Thread Cert.KernelOutDw.nD Cert.KernelOutDw.τ).loc Cert.KernelOutDw.main_arg1)) (m ((c.tc : Thread Cert.KernelOutDw.nD Cert.KernelOutDw.τ).loc Cert.KernelOutDw.main_arg2)) (m ((c.tc : Thread Cert.KernelOutDw.nD Cert.KernelOutDw.τ).loc Cert.KernelOutDw.main_arg3)) (m ((c.tc : Thread Cert.KernelOutDw.nD Cert.KernelOutDw.τ).loc Cert.KernelOutDw.main_arg4))) = (fun _ => 1#1)

def Pre_KernelOutDwIdeal [hPre_out_core_ok : Cert.Pre_out_core_ok.Facts] (m : (ℓ : Loc Cert.KernelOutDwIdeal.nD Cert.KernelOutDwIdeal.τ Cert.KernelOutDwIdeal.sig) → Buf (Elt Ideal) ℓ) : Prop :=
  ∀ c : Dev Cert.KernelOutDwIdeal.nD,
    (Cert.Pre_out_core_ok.fn (F := Ideal) (m ((c.tc : Thread Cert.KernelOutDwIdeal.nD Cert.KernelOutDwIdeal.τ).loc Cert.KernelOutDwIdeal.main_arg0)) (m ((c.tc : Thread Cert.KernelOutDwIdeal.nD Cert.KernelOutDwIdeal.τ).loc Cert.KernelOutDwIdeal.main_arg1)) (m ((c.tc : Thread Cert.KernelOutDwIdeal.nD Cert.KernelOutDwIdeal.τ).loc Cert.KernelOutDwIdeal.main_arg2)) (m ((c.tc : Thread Cert.KernelOutDwIdeal.nD Cert.KernelOutDwIdeal.τ).loc Cert.KernelOutDwIdeal.main_arg3)) (m ((c.tc : Thread Cert.KernelOutDwIdeal.nD Cert.KernelOutDwIdeal.τ).loc Cert.KernelOutDwIdeal.main_arg4))) = (fun _ => 1#1)

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_ReferenceOutDwIdeal_out_core_ok [hPre_out_core_ok : Cert.Pre_out_core_ok.Facts] (m : (ℓ : Loc Cert.ReferenceOutDwIdeal.nD Cert.ReferenceOutDwIdeal.τ Cert.ReferenceOutDwIdeal.sig) → Buf (Elt Ideal) ℓ) : Prop :=
  ∀ c : Dev Cert.ReferenceOutDwIdeal.nD,
    (Cert.Pre_out_core_ok.fn (F := Ideal) (m ((c.tc : Thread Cert.ReferenceOutDwIdeal.nD Cert.ReferenceOutDwIdeal.τ).loc Cert.ReferenceOutDwIdeal.main_arg0)) (m ((c.tc : Thread Cert.ReferenceOutDwIdeal.nD Cert.ReferenceOutDwIdeal.τ).loc Cert.ReferenceOutDwIdeal.main_arg1)) (m ((c.tc : Thread Cert.ReferenceOutDwIdeal.nD Cert.ReferenceOutDwIdeal.τ).loc Cert.ReferenceOutDwIdeal.main_arg2)) (m ((c.tc : Thread Cert.ReferenceOutDwIdeal.nD Cert.ReferenceOutDwIdeal.τ).loc Cert.ReferenceOutDwIdeal.main_arg3)) (m ((c.tc : Thread Cert.ReferenceOutDwIdeal.nD Cert.ReferenceOutDwIdeal.τ).loc Cert.ReferenceOutDwIdeal.main_arg4))) = (fun _ => 1#1)

def Pre_KernelSguDw [hPre_sgu_core_ok : Cert.Pre_sgu_core_ok.Facts] (m : (ℓ : Loc Cert.KernelSguDw.nD Cert.KernelSguDw.τ Cert.KernelSguDw.sig) → Buf (Elt Bits) ℓ) : Prop :=
  ∀ c : Dev Cert.KernelSguDw.nD,
    (Cert.Pre_sgu_core_ok.fn (F := Bits) (m ((c.tc : Thread Cert.KernelSguDw.nD Cert.KernelSguDw.τ).loc Cert.KernelSguDw.main_arg0)) (m ((c.tc : Thread Cert.KernelSguDw.nD Cert.KernelSguDw.τ).loc Cert.KernelSguDw.main_arg1)) (m ((c.tc : Thread Cert.KernelSguDw.nD Cert.KernelSguDw.τ).loc Cert.KernelSguDw.main_arg2)) (m ((c.tc : Thread Cert.KernelSguDw.nD Cert.KernelSguDw.τ).loc Cert.KernelSguDw.main_arg3)) (m ((c.tc : Thread Cert.KernelSguDw.nD Cert.KernelSguDw.τ).loc Cert.KernelSguDw.main_arg4))) = (fun _ => 1#1)

def Pre_KernelSguDwIdeal [hPre_sgu_core_ok : Cert.Pre_sgu_core_ok.Facts] (m : (ℓ : Loc Cert.KernelSguDwIdeal.nD Cert.KernelSguDwIdeal.τ Cert.KernelSguDwIdeal.sig) → Buf (Elt Ideal) ℓ) : Prop :=
  ∀ c : Dev Cert.KernelSguDwIdeal.nD,
    (Cert.Pre_sgu_core_ok.fn (F := Ideal) (m ((c.tc : Thread Cert.KernelSguDwIdeal.nD Cert.KernelSguDwIdeal.τ).loc Cert.KernelSguDwIdeal.main_arg0)) (m ((c.tc : Thread Cert.KernelSguDwIdeal.nD Cert.KernelSguDwIdeal.τ).loc Cert.KernelSguDwIdeal.main_arg1)) (m ((c.tc : Thread Cert.KernelSguDwIdeal.nD Cert.KernelSguDwIdeal.τ).loc Cert.KernelSguDwIdeal.main_arg2)) (m ((c.tc : Thread Cert.KernelSguDwIdeal.nD Cert.KernelSguDwIdeal.τ).loc Cert.KernelSguDwIdeal.main_arg3)) (m ((c.tc : Thread Cert.KernelSguDwIdeal.nD Cert.KernelSguDwIdeal.τ).loc Cert.KernelSguDwIdeal.main_arg4))) = (fun _ => 1#1)

def Pre_ReferenceSguDwIdeal (m : (ℓ : Loc Cert.ReferenceSguDwIdeal.nD Cert.ReferenceSguDwIdeal.τ Cert.ReferenceSguDwIdeal.sig) → Buf (Elt Ideal) ℓ) : Prop :=
  True

def Pre_ReferenceSguDwIdeal_sgu_core_ok [hPre_sgu_core_ok : Cert.Pre_sgu_core_ok.Facts] (m : (ℓ : Loc Cert.ReferenceSguDwIdeal.nD Cert.ReferenceSguDwIdeal.τ Cert.ReferenceSguDwIdeal.sig) → Buf (Elt Ideal) ℓ) : Prop :=
  ∀ c : Dev Cert.ReferenceSguDwIdeal.nD,
    (Cert.Pre_sgu_core_ok.fn (F := Ideal) (m ((c.tc : Thread Cert.ReferenceSguDwIdeal.nD Cert.ReferenceSguDwIdeal.τ).loc Cert.ReferenceSguDwIdeal.main_arg0)) (m ((c.tc : Thread Cert.ReferenceSguDwIdeal.nD Cert.ReferenceSguDwIdeal.τ).loc Cert.ReferenceSguDwIdeal.main_arg1)) (m ((c.tc : Thread Cert.ReferenceSguDwIdeal.nD Cert.ReferenceSguDwIdeal.τ).loc Cert.ReferenceSguDwIdeal.main_arg2)) (m ((c.tc : Thread Cert.ReferenceSguDwIdeal.nD Cert.ReferenceSguDwIdeal.τ).loc Cert.ReferenceSguDwIdeal.main_arg3)) (m ((c.tc : Thread Cert.ReferenceSguDwIdeal.nD Cert.ReferenceSguDwIdeal.τ).loc Cert.ReferenceSguDwIdeal.main_arg4))) = (fun _ => 1#1)

def Pre_KernelGlaDh (m : (ℓ : Loc Cert.KernelGlaDh.nD Cert.KernelGlaDh.τ Cert.KernelGlaDh.sig) → Buf (Elt Bits) ℓ) : Prop :=
  True

def Pre_KernelGlaDhIdeal (m : (ℓ : Loc Cert.KernelGlaDhIdeal.nD Cert.KernelGlaDhIdeal.τ Cert.KernelGlaDhIdeal.sig) → Buf (Elt Ideal) ℓ) : Prop :=
  True

def Pre_ReferenceGlaDhIdeal (m : (ℓ : Loc Cert.ReferenceGlaDhIdeal.nD Cert.ReferenceGlaDhIdeal.τ Cert.ReferenceGlaDhIdeal.sig) → Buf (Elt Ideal) ℓ) : Prop :=
  True

def Pre_KernelGlaIn (m : (ℓ : Loc Cert.KernelGlaIn.nD Cert.KernelGlaIn.τ Cert.KernelGlaIn.sig) → Buf (Elt Bits) ℓ) : Prop :=
  True

def Pre_KernelGlaInIdeal (m : (ℓ : Loc Cert.KernelGlaInIdeal.nD Cert.KernelGlaInIdeal.τ Cert.KernelGlaInIdeal.sig) → Buf (Elt Ideal) ℓ) : Prop :=
  True

def Pre_ReferenceGlaInIdeal (m : (ℓ : Loc Cert.ReferenceGlaInIdeal.nD Cert.ReferenceGlaInIdeal.τ Cert.ReferenceGlaInIdeal.sig) → Buf (Elt Ideal) ℓ) : Prop :=
  True

def Pre_KernelGlaDw0 [hPre_gla_core_ok : Cert.Pre_gla_core_ok.Facts] (m : (ℓ : Loc Cert.KernelGlaDw0.nD Cert.KernelGlaDw0.τ Cert.KernelGlaDw0.sig) → Buf (Elt Bits) ℓ) : Prop :=
  ∀ c : Dev Cert.KernelGlaDw0.nD,
    (Cert.Pre_gla_core_ok.fn (F := Bits) (m ((c.tc : Thread Cert.KernelGlaDw0.nD Cert.KernelGlaDw0.τ).loc Cert.KernelGlaDw0.main_arg0)) (m ((c.tc : Thread Cert.KernelGlaDw0.nD Cert.KernelGlaDw0.τ).loc Cert.KernelGlaDw0.main_arg1)) (m ((c.tc : Thread Cert.KernelGlaDw0.nD Cert.KernelGlaDw0.τ).loc Cert.KernelGlaDw0.main_arg2)) (m ((c.tc : Thread Cert.KernelGlaDw0.nD Cert.KernelGlaDw0.τ).loc Cert.KernelGlaDw0.main_arg3)) (m ((c.tc : Thread Cert.KernelGlaDw0.nD Cert.KernelGlaDw0.τ).loc Cert.KernelGlaDw0.main_arg4))) = (fun _ => 1#1)

def Pre_KernelGlaDw0Ideal [hPre_gla_core_ok : Cert.Pre_gla_core_ok.Facts] (m : (ℓ : Loc Cert.KernelGlaDw0Ideal.nD Cert.KernelGlaDw0Ideal.τ Cert.KernelGlaDw0Ideal.sig) → Buf (Elt Ideal) ℓ) : Prop :=
  ∀ c : Dev Cert.KernelGlaDw0Ideal.nD,
    (Cert.Pre_gla_core_ok.fn (F := Ideal) (m ((c.tc : Thread Cert.KernelGlaDw0Ideal.nD Cert.KernelGlaDw0Ideal.τ).loc Cert.KernelGlaDw0Ideal.main_arg0)) (m ((c.tc : Thread Cert.KernelGlaDw0Ideal.nD Cert.KernelGlaDw0Ideal.τ).loc Cert.KernelGlaDw0Ideal.main_arg1)) (m ((c.tc : Thread Cert.KernelGlaDw0Ideal.nD Cert.KernelGlaDw0Ideal.τ).loc Cert.KernelGlaDw0Ideal.main_arg2)) (m ((c.tc : Thread Cert.KernelGlaDw0Ideal.nD Cert.KernelGlaDw0Ideal.τ).loc Cert.KernelGlaDw0Ideal.main_arg3)) (m ((c.tc : Thread Cert.KernelGlaDw0Ideal.nD Cert.KernelGlaDw0Ideal.τ).loc Cert.KernelGlaDw0Ideal.main_arg4))) = (fun _ => 1#1)

def Pre_ReferenceGlaDw0Ideal (m : (ℓ : Loc Cert.ReferenceGlaDw0Ideal.nD Cert.ReferenceGlaDw0Ideal.τ Cert.ReferenceGlaDw0Ideal.sig) → Buf (Elt Ideal) ℓ) : Prop :=
  True

def Pre_ReferenceGlaDw0Ideal_gla_core_ok [hPre_gla_core_ok : Cert.Pre_gla_core_ok.Facts] (m : (ℓ : Loc Cert.ReferenceGlaDw0Ideal.nD Cert.ReferenceGlaDw0Ideal.τ Cert.ReferenceGlaDw0Ideal.sig) → Buf (Elt Ideal) ℓ) : Prop :=
  ∀ c : Dev Cert.ReferenceGlaDw0Ideal.nD,
    (Cert.Pre_gla_core_ok.fn (F := Ideal) (m ((c.tc : Thread Cert.ReferenceGlaDw0Ideal.nD Cert.ReferenceGlaDw0Ideal.τ).loc Cert.ReferenceGlaDw0Ideal.main_arg0)) (m ((c.tc : Thread Cert.ReferenceGlaDw0Ideal.nD Cert.ReferenceGlaDw0Ideal.τ).loc Cert.ReferenceGlaDw0Ideal.main_arg1)) (m ((c.tc : Thread Cert.ReferenceGlaDw0Ideal.nD Cert.ReferenceGlaDw0Ideal.τ).loc Cert.ReferenceGlaDw0Ideal.main_arg2)) (m ((c.tc : Thread Cert.ReferenceGlaDw0Ideal.nD Cert.ReferenceGlaDw0Ideal.τ).loc Cert.ReferenceGlaDw0Ideal.main_arg3)) (m ((c.tc : Thread Cert.ReferenceGlaDw0Ideal.nD Cert.ReferenceGlaDw0Ideal.τ).loc Cert.ReferenceGlaDw0Ideal.main_arg4))) = (fun _ => 1#1)

def Pre_KernelGlaDw1 [hPre_gla_core_ok : Cert.Pre_gla_core_ok.Facts] (m : (ℓ : Loc Cert.KernelGlaDw1.nD Cert.KernelGlaDw1.τ Cert.KernelGlaDw1.sig) → Buf (Elt Bits) ℓ) : Prop :=
  ∀ c : Dev Cert.KernelGlaDw1.nD,
    (Cert.Pre_gla_core_ok.fn (F := Bits) (m ((c.tc : Thread Cert.KernelGlaDw1.nD Cert.KernelGlaDw1.τ).loc Cert.KernelGlaDw1.main_arg0)) (m ((c.tc : Thread Cert.KernelGlaDw1.nD Cert.KernelGlaDw1.τ).loc Cert.KernelGlaDw1.main_arg1)) (m ((c.tc : Thread Cert.KernelGlaDw1.nD Cert.KernelGlaDw1.τ).loc Cert.KernelGlaDw1.main_arg2)) (m ((c.tc : Thread Cert.KernelGlaDw1.nD Cert.KernelGlaDw1.τ).loc Cert.KernelGlaDw1.main_arg3)) (m ((c.tc : Thread Cert.KernelGlaDw1.nD Cert.KernelGlaDw1.τ).loc Cert.KernelGlaDw1.main_arg4))) = (fun _ => 1#1)

def Pre_KernelGlaDw1Ideal [hPre_gla_core_ok : Cert.Pre_gla_core_ok.Facts] (m : (ℓ : Loc Cert.KernelGlaDw1Ideal.nD Cert.KernelGlaDw1Ideal.τ Cert.KernelGlaDw1Ideal.sig) → Buf (Elt Ideal) ℓ) : Prop :=
  ∀ c : Dev Cert.KernelGlaDw1Ideal.nD,
    (Cert.Pre_gla_core_ok.fn (F := Ideal) (m ((c.tc : Thread Cert.KernelGlaDw1Ideal.nD Cert.KernelGlaDw1Ideal.τ).loc Cert.KernelGlaDw1Ideal.main_arg0)) (m ((c.tc : Thread Cert.KernelGlaDw1Ideal.nD Cert.KernelGlaDw1Ideal.τ).loc Cert.KernelGlaDw1Ideal.main_arg1)) (m ((c.tc : Thread Cert.KernelGlaDw1Ideal.nD Cert.KernelGlaDw1Ideal.τ).loc Cert.KernelGlaDw1Ideal.main_arg2)) (m ((c.tc : Thread Cert.KernelGlaDw1Ideal.nD Cert.KernelGlaDw1Ideal.τ).loc Cert.KernelGlaDw1Ideal.main_arg3)) (m ((c.tc : Thread Cert.KernelGlaDw1Ideal.nD Cert.KernelGlaDw1Ideal.τ).loc Cert.KernelGlaDw1Ideal.main_arg4))) = (fun _ => 1#1)

def Pre_ReferenceGlaDw1Ideal (m : (ℓ : Loc Cert.ReferenceGlaDw1Ideal.nD Cert.ReferenceGlaDw1Ideal.τ Cert.ReferenceGlaDw1Ideal.sig) → Buf (Elt Ideal) ℓ) : Prop :=
  True

def Pre_ReferenceGlaDw1Ideal_gla_core_ok [hPre_gla_core_ok : Cert.Pre_gla_core_ok.Facts] (m : (ℓ : Loc Cert.ReferenceGlaDw1Ideal.nD Cert.ReferenceGlaDw1Ideal.τ Cert.ReferenceGlaDw1Ideal.sig) → Buf (Elt Ideal) ℓ) : Prop :=
  ∀ c : Dev Cert.ReferenceGlaDw1Ideal.nD,
    (Cert.Pre_gla_core_ok.fn (F := Ideal) (m ((c.tc : Thread Cert.ReferenceGlaDw1Ideal.nD Cert.ReferenceGlaDw1Ideal.τ).loc Cert.ReferenceGlaDw1Ideal.main_arg0)) (m ((c.tc : Thread Cert.ReferenceGlaDw1Ideal.nD Cert.ReferenceGlaDw1Ideal.τ).loc Cert.ReferenceGlaDw1Ideal.main_arg1)) (m ((c.tc : Thread Cert.ReferenceGlaDw1Ideal.nD Cert.ReferenceGlaDw1Ideal.τ).loc Cert.ReferenceGlaDw1Ideal.main_arg2)) (m ((c.tc : Thread Cert.ReferenceGlaDw1Ideal.nD Cert.ReferenceGlaDw1Ideal.τ).loc Cert.ReferenceGlaDw1Ideal.main_arg3)) (m ((c.tc : Thread Cert.ReferenceGlaDw1Ideal.nD Cert.ReferenceGlaDw1Ideal.τ).loc Cert.ReferenceGlaDw1Ideal.main_arg4))) = (fun _ => 1#1)

def Pre_KernelPreNorm (m : (ℓ : Loc Cert.KernelPreNorm.nD Cert.KernelPreNorm.τ Cert.KernelPreNorm.sig) → Buf (Elt Bits) ℓ) : Prop :=
  True

def Pre_KernelPreNormIdeal (m : (ℓ : Loc Cert.KernelPreNormIdeal.nD Cert.KernelPreNormIdeal.τ Cert.KernelPreNormIdeal.sig) → Buf (Elt Ideal) ℓ) : Prop :=
  True

def Pre_ReferencePreNormIdeal (m : (ℓ : Loc Cert.ReferencePreNormIdeal.nD Cert.ReferencePreNormIdeal.τ Cert.ReferencePreNormIdeal.sig) → Buf (Elt Ideal) ℓ) : Prop :=
  True

def Pre_KernelPostPre (m : (ℓ : Loc Cert.KernelPostPre.nD Cert.KernelPostPre.τ Cert.KernelPostPre.sig) → Buf (Elt Bits) ℓ) : Prop :=
  True

def Pre_KernelPostPreIdeal (m : (ℓ : Loc Cert.KernelPostPreIdeal.nD Cert.KernelPostPreIdeal.τ Cert.KernelPostPreIdeal.sig) → Buf (Elt Ideal) ℓ) : Prop :=
  True

def Pre_ReferencePostPreIdeal (m : (ℓ : Loc Cert.ReferencePostPreIdeal.nD Cert.ReferencePostPreIdeal.τ Cert.ReferencePostPreIdeal.sig) → Buf (Elt Ideal) ℓ) : Prop :=
  True

def Pre_KernelLossHead (m : (ℓ : Loc Cert.KernelLossHead.nD Cert.KernelLossHead.τ Cert.KernelLossHead.sig) → Buf (Elt Bits) ℓ) : Prop :=
  True

def Pre_KernelLossHeadIdeal (m : (ℓ : Loc Cert.KernelLossHeadIdeal.nD Cert.KernelLossHeadIdeal.τ Cert.KernelLossHeadIdeal.sig) → Buf (Elt Ideal) ℓ) : Prop :=
  True

def Pre_KernelLossHeadIdeal_loss_finite [hPre_loss_finite : Cert.Pre_loss_finite.Facts] (m : (ℓ : Loc Cert.KernelLossHeadIdeal.nD Cert.KernelLossHeadIdeal.τ Cert.KernelLossHeadIdeal.sig) → Buf (Elt Ideal) ℓ) : Prop :=
  ∀ c : Dev Cert.KernelLossHeadIdeal.nD,
    (Cert.Pre_loss_finite.fn (F := Ideal) (m ((c.tc : Thread Cert.KernelLossHeadIdeal.nD Cert.KernelLossHeadIdeal.τ).loc Cert.KernelLossHeadIdeal.main_arg0)) (m ((c.tc : Thread Cert.KernelLossHeadIdeal.nD Cert.KernelLossHeadIdeal.τ).loc Cert.KernelLossHeadIdeal.main_arg1)) (m ((c.tc : Thread Cert.KernelLossHeadIdeal.nD Cert.KernelLossHeadIdeal.τ).loc Cert.KernelLossHeadIdeal.main_arg2)) (m ((c.tc : Thread Cert.KernelLossHeadIdeal.nD Cert.KernelLossHeadIdeal.τ).loc Cert.KernelLossHeadIdeal.main_arg3))) = (fun _ => 1#1)

def Pre_ReferenceLossHeadIdeal (m : (ℓ : Loc Cert.ReferenceLossHeadIdeal.nD Cert.ReferenceLossHeadIdeal.τ Cert.ReferenceLossHeadIdeal.sig) → Buf (Elt Ideal) ℓ) : Prop :=
  True

def Pre_ReferenceLossHeadIdeal_loss_finite [hPre_loss_finite : Cert.Pre_loss_finite.Facts] (m : (ℓ : Loc Cert.ReferenceLossHeadIdeal.nD Cert.ReferenceLossHeadIdeal.τ Cert.ReferenceLossHeadIdeal.sig) → Buf (Elt Ideal) ℓ) : Prop :=
  ∀ c : Dev Cert.ReferenceLossHeadIdeal.nD,
    (Cert.Pre_loss_finite.fn (F := Ideal) (m ((c.tc : Thread Cert.ReferenceLossHeadIdeal.nD Cert.ReferenceLossHeadIdeal.τ).loc Cert.ReferenceLossHeadIdeal.main_arg0)) (m ((c.tc : Thread Cert.ReferenceLossHeadIdeal.nD Cert.ReferenceLossHeadIdeal.τ).loc Cert.ReferenceLossHeadIdeal.main_arg1)) (m ((c.tc : Thread Cert.ReferenceLossHeadIdeal.nD Cert.ReferenceLossHeadIdeal.τ).loc Cert.ReferenceLossHeadIdeal.main_arg2)) (m ((c.tc : Thread Cert.ReferenceLossHeadIdeal.nD Cert.ReferenceLossHeadIdeal.τ).loc Cert.ReferenceLossHeadIdeal.main_arg3))) = (fun _ => 1#1)

def Pre_KernelMidBwd (m : (ℓ : Loc Cert.KernelMidBwd.nD Cert.KernelMidBwd.τ Cert.KernelMidBwd.sig) → Buf (Elt Bits) ℓ) : Prop :=
  True

def Pre_KernelMidBwdIdeal (m : (ℓ : Loc Cert.KernelMidBwdIdeal.nD Cert.KernelMidBwdIdeal.τ Cert.KernelMidBwdIdeal.sig) → Buf (Elt Ideal) ℓ) : Prop :=
  True

def Pre_KernelMidBwdIdeal_mid_finite [hPre_mid_finite : Cert.Pre_mid_finite.Facts] (m : (ℓ : Loc Cert.KernelMidBwdIdeal.nD Cert.KernelMidBwdIdeal.τ Cert.KernelMidBwdIdeal.sig) → Buf (Elt Ideal) ℓ) : Prop :=
  ∀ c : Dev Cert.KernelMidBwdIdeal.nD,
    (Cert.Pre_mid_finite.fn (F := Ideal) (m ((c.tc : Thread Cert.KernelMidBwdIdeal.nD Cert.KernelMidBwdIdeal.τ).loc Cert.KernelMidBwdIdeal.main_arg0)) (m ((c.tc : Thread Cert.KernelMidBwdIdeal.nD Cert.KernelMidBwdIdeal.τ).loc Cert.KernelMidBwdIdeal.main_arg1)) (m ((c.tc : Thread Cert.KernelMidBwdIdeal.nD Cert.KernelMidBwdIdeal.τ).loc Cert.KernelMidBwdIdeal.main_arg2)) (m ((c.tc : Thread Cert.KernelMidBwdIdeal.nD Cert.KernelMidBwdIdeal.τ).loc Cert.KernelMidBwdIdeal.main_arg3)) (m ((c.tc : Thread Cert.KernelMidBwdIdeal.nD Cert.KernelMidBwdIdeal.τ).loc Cert.KernelMidBwdIdeal.main_arg4)) (m ((c.tc : Thread Cert.KernelMidBwdIdeal.nD Cert.KernelMidBwdIdeal.τ).loc Cert.KernelMidBwdIdeal.main_arg5))) = (fun _ => 1#1)

def Pre_ReferenceMidBwdIdeal (m : (ℓ : Loc Cert.ReferenceMidBwdIdeal.nD Cert.ReferenceMidBwdIdeal.τ Cert.ReferenceMidBwdIdeal.sig) → Buf (Elt Ideal) ℓ) : Prop :=
  True

def Pre_ReferenceMidBwdIdeal_mid_finite [hPre_mid_finite : Cert.Pre_mid_finite.Facts] (m : (ℓ : Loc Cert.ReferenceMidBwdIdeal.nD Cert.ReferenceMidBwdIdeal.τ Cert.ReferenceMidBwdIdeal.sig) → Buf (Elt Ideal) ℓ) : Prop :=
  ∀ c : Dev Cert.ReferenceMidBwdIdeal.nD,
    (Cert.Pre_mid_finite.fn (F := Ideal) (m ((c.tc : Thread Cert.ReferenceMidBwdIdeal.nD Cert.ReferenceMidBwdIdeal.τ).loc Cert.ReferenceMidBwdIdeal.main_arg0)) (m ((c.tc : Thread Cert.ReferenceMidBwdIdeal.nD Cert.ReferenceMidBwdIdeal.τ).loc Cert.ReferenceMidBwdIdeal.main_arg1)) (m ((c.tc : Thread Cert.ReferenceMidBwdIdeal.nD Cert.ReferenceMidBwdIdeal.τ).loc Cert.ReferenceMidBwdIdeal.main_arg2)) (m ((c.tc : Thread Cert.ReferenceMidBwdIdeal.nD Cert.ReferenceMidBwdIdeal.τ).loc Cert.ReferenceMidBwdIdeal.main_arg3)) (m ((c.tc : Thread Cert.ReferenceMidBwdIdeal.nD Cert.ReferenceMidBwdIdeal.τ).loc Cert.ReferenceMidBwdIdeal.main_arg4)) (m ((c.tc : Thread Cert.ReferenceMidBwdIdeal.nD Cert.ReferenceMidBwdIdeal.τ).loc Cert.ReferenceMidBwdIdeal.main_arg5))) = (fun _ => 1#1)

def Pre_KernelFirstBwd (m : (ℓ : Loc Cert.KernelFirstBwd.nD Cert.KernelFirstBwd.τ Cert.KernelFirstBwd.sig) → Buf (Elt Bits) ℓ) : Prop :=
  True

def Pre_KernelFirstBwdIdeal (m : (ℓ : Loc Cert.KernelFirstBwdIdeal.nD Cert.KernelFirstBwdIdeal.τ Cert.KernelFirstBwdIdeal.sig) → Buf (Elt Ideal) ℓ) : Prop :=
  True

def Pre_KernelFirstBwdIdeal_first_finite [hPre_first_finite : Cert.Pre_first_finite.Facts] (m : (ℓ : Loc Cert.KernelFirstBwdIdeal.nD Cert.KernelFirstBwdIdeal.τ Cert.KernelFirstBwdIdeal.sig) → Buf (Elt Ideal) ℓ) : Prop :=
  ∀ c : Dev Cert.KernelFirstBwdIdeal.nD,
    (Cert.Pre_first_finite.fn (F := Ideal) (m ((c.tc : Thread Cert.KernelFirstBwdIdeal.nD Cert.KernelFirstBwdIdeal.τ).loc Cert.KernelFirstBwdIdeal.main_arg0)) (m ((c.tc : Thread Cert.KernelFirstBwdIdeal.nD Cert.KernelFirstBwdIdeal.τ).loc Cert.KernelFirstBwdIdeal.main_arg1)) (m ((c.tc : Thread Cert.KernelFirstBwdIdeal.nD Cert.KernelFirstBwdIdeal.τ).loc Cert.KernelFirstBwdIdeal.main_arg2)) (m ((c.tc : Thread Cert.KernelFirstBwdIdeal.nD Cert.KernelFirstBwdIdeal.τ).loc Cert.KernelFirstBwdIdeal.main_arg3))) = (fun _ => 1#1)

def Pre_ReferenceFirstBwdIdeal (m : (ℓ : Loc Cert.ReferenceFirstBwdIdeal.nD Cert.ReferenceFirstBwdIdeal.τ Cert.ReferenceFirstBwdIdeal.sig) → Buf (Elt Ideal) ℓ) : Prop :=
  True

def Pre_ReferenceFirstBwdIdeal_first_finite [hPre_first_finite : Cert.Pre_first_finite.Facts] (m : (ℓ : Loc Cert.ReferenceFirstBwdIdeal.nD Cert.ReferenceFirstBwdIdeal.τ Cert.ReferenceFirstBwdIdeal.sig) → Buf (Elt Ideal) ℓ) : Prop :=
  ∀ c : Dev Cert.ReferenceFirstBwdIdeal.nD,
    (Cert.Pre_first_finite.fn (F := Ideal) (m ((c.tc : Thread Cert.ReferenceFirstBwdIdeal.nD Cert.ReferenceFirstBwdIdeal.τ).loc Cert.ReferenceFirstBwdIdeal.main_arg0)) (m ((c.tc : Thread Cert.ReferenceFirstBwdIdeal.nD Cert.ReferenceFirstBwdIdeal.τ).loc Cert.ReferenceFirstBwdIdeal.main_arg1)) (m ((c.tc : Thread Cert.ReferenceFirstBwdIdeal.nD Cert.ReferenceFirstBwdIdeal.τ).loc Cert.ReferenceFirstBwdIdeal.main_arg2)) (m ((c.tc : Thread Cert.ReferenceFirstBwdIdeal.nD Cert.ReferenceFirstBwdIdeal.τ).loc Cert.ReferenceFirstBwdIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelSguDh [hKernelSguDh : Cert.KernelSguDh.Facts] : Prop :=
  ∀ (m : (ℓ : Loc Cert.KernelSguDh.nD Cert.KernelSguDh.τ Cert.KernelSguDh.sig) → Buf (Elt Bits) ℓ) (g : Dev Cert.KernelSguDh.nD → PrngReg), Pre_KernelSguDh m →
    θ_run (Cert.KernelSguDh.defs (F := Bits)) (onTc (τ := Cert.KernelSguDh.τ) (Cert.KernelSguDh.main (F := Bits))) ⟨m, fun _ => 0, g⟩ (fun r => (∀ c : Dev Cert.KernelSguDh.nD,
      r.2.mem ((c.tc : Thread Cert.KernelSguDh.nD Cert.KernelSguDh.τ).loc Cert.KernelSguDh.main_arg0) = m ((c.tc : Thread Cert.KernelSguDh.nD Cert.KernelSguDh.τ).loc Cert.KernelSguDh.main_arg0)
      ∧ r.2.mem ((c.tc : Thread Cert.KernelSguDh.nD Cert.KernelSguDh.τ).loc Cert.KernelSguDh.main_arg1) = m ((c.tc : Thread Cert.KernelSguDh.nD Cert.KernelSguDh.τ).loc Cert.KernelSguDh.main_arg1))
      ∧ r.2.sem = fun _ => 0)

def quiescent_KernelSguDhIdeal [hKernelSguDhIdeal : Cert.KernelSguDhIdeal.Facts] : Prop :=
  ∀ (m : (ℓ : Loc Cert.KernelSguDhIdeal.nD Cert.KernelSguDhIdeal.τ Cert.KernelSguDhIdeal.sig) → Buf (Elt Ideal) ℓ) (g : Dev Cert.KernelSguDhIdeal.nD → PrngReg), Pre_KernelSguDhIdeal m →
    θ_run (Cert.KernelSguDhIdeal.defs (F := Ideal)) (onTc (τ := Cert.KernelSguDhIdeal.τ) (Cert.KernelSguDhIdeal.main (F := Ideal))) ⟨m, fun _ => 0, g⟩ (fun r => (∀ c : Dev Cert.KernelSguDhIdeal.nD,
      r.2.mem ((c.tc : Thread Cert.KernelSguDhIdeal.nD Cert.KernelSguDhIdeal.τ).loc Cert.KernelSguDhIdeal.main_arg0) = m ((c.tc : Thread Cert.KernelSguDhIdeal.nD Cert.KernelSguDhIdeal.τ).loc Cert.KernelSguDhIdeal.main_arg0)
      ∧ r.2.mem ((c.tc : Thread Cert.KernelSguDhIdeal.nD Cert.KernelSguDhIdeal.τ).loc Cert.KernelSguDhIdeal.main_arg1) = m ((c.tc : Thread Cert.KernelSguDhIdeal.nD Cert.KernelSguDhIdeal.τ).loc Cert.KernelSguDhIdeal.main_arg1))
      ∧ r.2.sem = fun _ => 0)

def quiescent_ReferenceSguDhIdeal [hReferenceSguDhIdeal : Cert.ReferenceSguDhIdeal.Facts] : Prop :=
  ∀ (m : (ℓ : Loc Cert.ReferenceSguDhIdeal.nD Cert.ReferenceSguDhIdeal.τ Cert.ReferenceSguDhIdeal.sig) → Buf (Elt Ideal) ℓ) (g : Dev Cert.ReferenceSguDhIdeal.nD → PrngReg), Pre_ReferenceSguDhIdeal m →
    θ_run (Cert.ReferenceSguDhIdeal.defs (F := Ideal)) (onTc (τ := Cert.ReferenceSguDhIdeal.τ) (Cert.ReferenceSguDhIdeal.main (F := Ideal))) ⟨m, fun _ => 0, g⟩ (fun r => (∀ c : Dev Cert.ReferenceSguDhIdeal.nD,
      r.2.mem ((c.tc : Thread Cert.ReferenceSguDhIdeal.nD Cert.ReferenceSguDhIdeal.τ).loc Cert.ReferenceSguDhIdeal.main_arg0) = m ((c.tc : Thread Cert.ReferenceSguDhIdeal.nD Cert.ReferenceSguDhIdeal.τ).loc Cert.ReferenceSguDhIdeal.main_arg0)
      ∧ r.2.mem ((c.tc : Thread Cert.ReferenceSguDhIdeal.nD Cert.ReferenceSguDhIdeal.τ).loc Cert.ReferenceSguDhIdeal.main_arg1) = m ((c.tc : Thread Cert.ReferenceSguDhIdeal.nD Cert.ReferenceSguDhIdeal.τ).loc Cert.ReferenceSguDhIdeal.main_arg1))
      ∧ r.2.sem = fun _ => 0)

def quiescent_KernelSguIn [hKernelSguIn : Cert.KernelSguIn.Facts] : Prop :=
  ∀ (m : (ℓ : Loc Cert.KernelSguIn.nD Cert.KernelSguIn.τ Cert.KernelSguIn.sig) → Buf (Elt Bits) ℓ) (g : Dev Cert.KernelSguIn.nD → PrngReg), Pre_KernelSguIn m →
    θ_run (Cert.KernelSguIn.defs (F := Bits)) (onTc (τ := Cert.KernelSguIn.τ) (Cert.KernelSguIn.main (F := Bits))) ⟨m, fun _ => 0, g⟩ (fun r => (∀ c : Dev Cert.KernelSguIn.nD,
      r.2.mem ((c.tc : Thread Cert.KernelSguIn.nD Cert.KernelSguIn.τ).loc Cert.KernelSguIn.main_arg0) = m ((c.tc : Thread Cert.KernelSguIn.nD Cert.KernelSguIn.τ).loc Cert.KernelSguIn.main_arg0)
      ∧ r.2.mem ((c.tc : Thread Cert.KernelSguIn.nD Cert.KernelSguIn.τ).loc Cert.KernelSguIn.main_arg1) = m ((c.tc : Thread Cert.KernelSguIn.nD Cert.KernelSguIn.τ).loc Cert.KernelSguIn.main_arg1))
      ∧ r.2.sem = fun _ => 0)

def quiescent_KernelSguInIdeal [hKernelSguInIdeal : Cert.KernelSguInIdeal.Facts] : Prop :=
  ∀ (m : (ℓ : Loc Cert.KernelSguInIdeal.nD Cert.KernelSguInIdeal.τ Cert.KernelSguInIdeal.sig) → Buf (Elt Ideal) ℓ) (g : Dev Cert.KernelSguInIdeal.nD → PrngReg), Pre_KernelSguInIdeal m →
    θ_run (Cert.KernelSguInIdeal.defs (F := Ideal)) (onTc (τ := Cert.KernelSguInIdeal.τ) (Cert.KernelSguInIdeal.main (F := Ideal))) ⟨m, fun _ => 0, g⟩ (fun r => (∀ c : Dev Cert.KernelSguInIdeal.nD,
      r.2.mem ((c.tc : Thread Cert.KernelSguInIdeal.nD Cert.KernelSguInIdeal.τ).loc Cert.KernelSguInIdeal.main_arg0) = m ((c.tc : Thread Cert.KernelSguInIdeal.nD Cert.KernelSguInIdeal.τ).loc Cert.KernelSguInIdeal.main_arg0)
      ∧ r.2.mem ((c.tc : Thread Cert.KernelSguInIdeal.nD Cert.KernelSguInIdeal.τ).loc Cert.KernelSguInIdeal.main_arg1) = m ((c.tc : Thread Cert.KernelSguInIdeal.nD Cert.KernelSguInIdeal.τ).loc Cert.KernelSguInIdeal.main_arg1))
      ∧ r.2.sem = fun _ => 0)

def quiescent_ReferenceSguInIdeal [hReferenceSguInIdeal : Cert.ReferenceSguInIdeal.Facts] : Prop :=
  ∀ (m : (ℓ : Loc Cert.ReferenceSguInIdeal.nD Cert.ReferenceSguInIdeal.τ Cert.ReferenceSguInIdeal.sig) → Buf (Elt Ideal) ℓ) (g : Dev Cert.ReferenceSguInIdeal.nD → PrngReg), Pre_ReferenceSguInIdeal m →
    θ_run (Cert.ReferenceSguInIdeal.defs (F := Ideal)) (onTc (τ := Cert.ReferenceSguInIdeal.τ) (Cert.ReferenceSguInIdeal.main (F := Ideal))) ⟨m, fun _ => 0, g⟩ (fun r => (∀ c : Dev Cert.ReferenceSguInIdeal.nD,
      r.2.mem ((c.tc : Thread Cert.ReferenceSguInIdeal.nD Cert.ReferenceSguInIdeal.τ).loc Cert.ReferenceSguInIdeal.main_arg0) = m ((c.tc : Thread Cert.ReferenceSguInIdeal.nD Cert.ReferenceSguInIdeal.τ).loc Cert.ReferenceSguInIdeal.main_arg0)
      ∧ r.2.mem ((c.tc : Thread Cert.ReferenceSguInIdeal.nD Cert.ReferenceSguInIdeal.τ).loc Cert.ReferenceSguInIdeal.main_arg1) = m ((c.tc : Thread Cert.ReferenceSguInIdeal.nD Cert.ReferenceSguInIdeal.τ).loc Cert.ReferenceSguInIdeal.main_arg1))
      ∧ r.2.sem = fun _ => 0)

def quiescent_KernelOutDa [hKernelOutDa : Cert.KernelOutDa.Facts] : Prop :=
  ∀ (m : (ℓ : Loc Cert.KernelOutDa.nD Cert.KernelOutDa.τ Cert.KernelOutDa.sig) → Buf (Elt Bits) ℓ) (g : Dev Cert.KernelOutDa.nD → PrngReg), Pre_KernelOutDa m →
    θ_run (Cert.KernelOutDa.defs (F := Bits)) (onTc (τ := Cert.KernelOutDa.τ) (Cert.KernelOutDa.main (F := Bits))) ⟨m, fun _ => 0, g⟩ (fun r => (∀ c : Dev Cert.KernelOutDa.nD,
      r.2.mem ((c.tc : Thread Cert.KernelOutDa.nD Cert.KernelOutDa.τ).loc Cert.KernelOutDa.main_arg0) = m ((c.tc : Thread Cert.KernelOutDa.nD Cert.KernelOutDa.τ).loc Cert.KernelOutDa.main_arg0)
      ∧ r.2.mem ((c.tc : Thread Cert.KernelOutDa.nD Cert.KernelOutDa.τ).loc Cert.KernelOutDa.main_arg1) = m ((c.tc : Thread Cert.KernelOutDa.nD Cert.KernelOutDa.τ).loc Cert.KernelOutDa.main_arg1))
      ∧ r.2.sem = fun _ => 0)

def quiescent_KernelOutDaIdeal [hKernelOutDaIdeal : Cert.KernelOutDaIdeal.Facts] : Prop :=
  ∀ (m : (ℓ : Loc Cert.KernelOutDaIdeal.nD Cert.KernelOutDaIdeal.τ Cert.KernelOutDaIdeal.sig) → Buf (Elt Ideal) ℓ) (g : Dev Cert.KernelOutDaIdeal.nD → PrngReg), Pre_KernelOutDaIdeal m →
    θ_run (Cert.KernelOutDaIdeal.defs (F := Ideal)) (onTc (τ := Cert.KernelOutDaIdeal.τ) (Cert.KernelOutDaIdeal.main (F := Ideal))) ⟨m, fun _ => 0, g⟩ (fun r => (∀ c : Dev Cert.KernelOutDaIdeal.nD,
      r.2.mem ((c.tc : Thread Cert.KernelOutDaIdeal.nD Cert.KernelOutDaIdeal.τ).loc Cert.KernelOutDaIdeal.main_arg0) = m ((c.tc : Thread Cert.KernelOutDaIdeal.nD Cert.KernelOutDaIdeal.τ).loc Cert.KernelOutDaIdeal.main_arg0)
      ∧ r.2.mem ((c.tc : Thread Cert.KernelOutDaIdeal.nD Cert.KernelOutDaIdeal.τ).loc Cert.KernelOutDaIdeal.main_arg1) = m ((c.tc : Thread Cert.KernelOutDaIdeal.nD Cert.KernelOutDaIdeal.τ).loc Cert.KernelOutDaIdeal.main_arg1))
      ∧ r.2.sem = fun _ => 0)

def quiescent_ReferenceOutDaIdeal [hReferenceOutDaIdeal : Cert.ReferenceOutDaIdeal.Facts] : Prop :=
  ∀ (m : (ℓ : Loc Cert.ReferenceOutDaIdeal.nD Cert.ReferenceOutDaIdeal.τ Cert.ReferenceOutDaIdeal.sig) → Buf (Elt Ideal) ℓ) (g : Dev Cert.ReferenceOutDaIdeal.nD → PrngReg), Pre_ReferenceOutDaIdeal m →
    θ_run (Cert.ReferenceOutDaIdeal.defs (F := Ideal)) (onTc (τ := Cert.ReferenceOutDaIdeal.τ) (Cert.ReferenceOutDaIdeal.main (F := Ideal))) ⟨m, fun _ => 0, g⟩ (fun r => (∀ c : Dev Cert.ReferenceOutDaIdeal.nD,
      r.2.mem ((c.tc : Thread Cert.ReferenceOutDaIdeal.nD Cert.ReferenceOutDaIdeal.τ).loc Cert.ReferenceOutDaIdeal.main_arg0) = m ((c.tc : Thread Cert.ReferenceOutDaIdeal.nD Cert.ReferenceOutDaIdeal.τ).loc Cert.ReferenceOutDaIdeal.main_arg0)
      ∧ r.2.mem ((c.tc : Thread Cert.ReferenceOutDaIdeal.nD Cert.ReferenceOutDaIdeal.τ).loc Cert.ReferenceOutDaIdeal.main_arg1) = m ((c.tc : Thread Cert.ReferenceOutDaIdeal.nD Cert.ReferenceOutDaIdeal.τ).loc Cert.ReferenceOutDaIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelOutDw [hKernelOutDw : Cert.KernelOutDw.Facts] [hPre_out_core_ok : Cert.Pre_out_core_ok.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1)
      ∧ r.2.mem ((c.tc : Thread Cert.KernelOutDw.nD Cert.KernelOutDw.τ).loc Cert.KernelOutDw.main_arg2) = m ((c.tc : Thread Cert.KernelOutDw.nD Cert.KernelOutDw.τ).loc Cert.KernelOutDw.main_arg2)
      ∧ r.2.mem ((c.tc : Thread Cert.KernelOutDw.nD Cert.KernelOutDw.τ).loc Cert.KernelOutDw.main_arg3) = m ((c.tc : Thread Cert.KernelOutDw.nD Cert.KernelOutDw.τ).loc Cert.KernelOutDw.main_arg3)
      ∧ r.2.mem ((c.tc : Thread Cert.KernelOutDw.nD Cert.KernelOutDw.τ).loc Cert.KernelOutDw.main_arg4) = m ((c.tc : Thread Cert.KernelOutDw.nD Cert.KernelOutDw.τ).loc Cert.KernelOutDw.main_arg4))
      ∧ r.2.sem = fun _ => 0)

def quiescent_KernelOutDwIdeal [hKernelOutDwIdeal : Cert.KernelOutDwIdeal.Facts] [hPre_out_core_ok : Cert.Pre_out_core_ok.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1)
      ∧ r.2.mem ((c.tc : Thread Cert.KernelOutDwIdeal.nD Cert.KernelOutDwIdeal.τ).loc Cert.KernelOutDwIdeal.main_arg2) = m ((c.tc : Thread Cert.KernelOutDwIdeal.nD Cert.KernelOutDwIdeal.τ).loc Cert.KernelOutDwIdeal.main_arg2)
      ∧ r.2.mem ((c.tc : Thread Cert.KernelOutDwIdeal.nD Cert.KernelOutDwIdeal.τ).loc Cert.KernelOutDwIdeal.main_arg3) = m ((c.tc : Thread Cert.KernelOutDwIdeal.nD Cert.KernelOutDwIdeal.τ).loc Cert.KernelOutDwIdeal.main_arg3)
      ∧ r.2.mem ((c.tc : Thread Cert.KernelOutDwIdeal.nD Cert.KernelOutDwIdeal.τ).loc Cert.KernelOutDwIdeal.main_arg4) = m ((c.tc : Thread Cert.KernelOutDwIdeal.nD Cert.KernelOutDwIdeal.τ).loc Cert.KernelOutDwIdeal.main_arg4))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1)
      ∧ r.2.mem ((c.tc : Thread Cert.ReferenceOutDwIdeal.nD Cert.ReferenceOutDwIdeal.τ).loc Cert.ReferenceOutDwIdeal.main_arg2) = m ((c.tc : Thread Cert.ReferenceOutDwIdeal.nD Cert.ReferenceOutDwIdeal.τ).loc Cert.ReferenceOutDwIdeal.main_arg2)
      ∧ r.2.mem ((c.tc : Thread Cert.ReferenceOutDwIdeal.nD Cert.ReferenceOutDwIdeal.τ).loc Cert.ReferenceOutDwIdeal.main_arg3) = m ((c.tc : Thread Cert.ReferenceOutDwIdeal.nD Cert.ReferenceOutDwIdeal.τ).loc Cert.ReferenceOutDwIdeal.main_arg3)
      ∧ r.2.mem ((c.tc : Thread Cert.ReferenceOutDwIdeal.nD Cert.ReferenceOutDwIdeal.τ).loc Cert.ReferenceOutDwIdeal.main_arg4) = m ((c.tc : Thread Cert.ReferenceOutDwIdeal.nD Cert.ReferenceOutDwIdeal.τ).loc Cert.ReferenceOutDwIdeal.main_arg4))
      ∧ r.2.sem = fun _ => 0)

def quiescent_ReferenceOutDwIdeal_pre_out_core_ok [hReferenceOutDwIdeal : Cert.ReferenceOutDwIdeal.Facts] [hPre_out_core_ok : Cert.Pre_out_core_ok.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal_out_core_ok m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1)
      ∧ r.2.mem ((c.tc : Thread Cert.ReferenceOutDwIdeal.nD Cert.ReferenceOutDwIdeal.τ).loc Cert.ReferenceOutDwIdeal.main_arg2) = m ((c.tc : Thread Cert.ReferenceOutDwIdeal.nD Cert.ReferenceOutDwIdeal.τ).loc Cert.ReferenceOutDwIdeal.main_arg2)
      ∧ r.2.mem ((c.tc : Thread Cert.ReferenceOutDwIdeal.nD Cert.ReferenceOutDwIdeal.τ).loc Cert.ReferenceOutDwIdeal.main_arg3) = m ((c.tc : Thread Cert.ReferenceOutDwIdeal.nD Cert.ReferenceOutDwIdeal.τ).loc Cert.ReferenceOutDwIdeal.main_arg3)
      ∧ r.2.mem ((c.tc : Thread Cert.ReferenceOutDwIdeal.nD Cert.ReferenceOutDwIdeal.τ).loc Cert.ReferenceOutDwIdeal.main_arg4) = m ((c.tc : Thread Cert.ReferenceOutDwIdeal.nD Cert.ReferenceOutDwIdeal.τ).loc Cert.ReferenceOutDwIdeal.main_arg4))
      ∧ r.2.sem = fun _ => 0)

def quiescent_KernelSguDw [hKernelSguDw : Cert.KernelSguDw.Facts] [hPre_sgu_core_ok : Cert.Pre_sgu_core_ok.Facts] : Prop :=
  ∀ (m : (ℓ : Loc Cert.KernelSguDw.nD Cert.KernelSguDw.τ Cert.KernelSguDw.sig) → Buf (Elt Bits) ℓ) (g : Dev Cert.KernelSguDw.nD → PrngReg), Pre_KernelSguDw m →
    θ_run (Cert.KernelSguDw.defs (F := Bits)) (onTc (τ := Cert.KernelSguDw.τ) (Cert.KernelSguDw.main (F := Bits))) ⟨m, fun _ => 0, g⟩ (fun r => (∀ c : Dev Cert.KernelSguDw.nD,
      r.2.mem ((c.tc : Thread Cert.KernelSguDw.nD Cert.KernelSguDw.τ).loc Cert.KernelSguDw.main_arg0) = m ((c.tc : Thread Cert.KernelSguDw.nD Cert.KernelSguDw.τ).loc Cert.KernelSguDw.main_arg0)
      ∧ r.2.mem ((c.tc : Thread Cert.KernelSguDw.nD Cert.KernelSguDw.τ).loc Cert.KernelSguDw.main_arg1) = m ((c.tc : Thread Cert.KernelSguDw.nD Cert.KernelSguDw.τ).loc Cert.KernelSguDw.main_arg1)
      ∧ r.2.mem ((c.tc : Thread Cert.KernelSguDw.nD Cert.KernelSguDw.τ).loc Cert.KernelSguDw.main_arg2) = m ((c.tc : Thread Cert.KernelSguDw.nD Cert.KernelSguDw.τ).loc Cert.KernelSguDw.main_arg2)
      ∧ r.2.mem ((c.tc : Thread Cert.KernelSguDw.nD Cert.KernelSguDw.τ).loc Cert.KernelSguDw.main_arg3) = m ((c.tc : Thread Cert.KernelSguDw.nD Cert.KernelSguDw.τ).loc Cert.KernelSguDw.main_arg3)
      ∧ r.2.mem ((c.tc : Thread Cert.KernelSguDw.nD Cert.KernelSguDw.τ).loc Cert.KernelSguDw.main_arg4) = m ((c.tc : Thread Cert.KernelSguDw.nD Cert.KernelSguDw.τ).loc Cert.KernelSguDw.main_arg4))
      ∧ r.2.sem = fun _ => 0)

def quiescent_KernelSguDwIdeal [hKernelSguDwIdeal : Cert.KernelSguDwIdeal.Facts] [hPre_sgu_core_ok : Cert.Pre_sgu_core_ok.Facts] : Prop :=
  ∀ (m : (ℓ : Loc Cert.KernelSguDwIdeal.nD Cert.KernelSguDwIdeal.τ Cert.KernelSguDwIdeal.sig) → Buf (Elt Ideal) ℓ) (g : Dev Cert.KernelSguDwIdeal.nD → PrngReg), Pre_KernelSguDwIdeal m →
    θ_run (Cert.KernelSguDwIdeal.defs (F := Ideal)) (onTc (τ := Cert.KernelSguDwIdeal.τ) (Cert.KernelSguDwIdeal.main (F := Ideal))) ⟨m, fun _ => 0, g⟩ (fun r => (∀ c : Dev Cert.KernelSguDwIdeal.nD,
      r.2.mem ((c.tc : Thread Cert.KernelSguDwIdeal.nD Cert.KernelSguDwIdeal.τ).loc Cert.KernelSguDwIdeal.main_arg0) = m ((c.tc : Thread Cert.KernelSguDwIdeal.nD Cert.KernelSguDwIdeal.τ).loc Cert.KernelSguDwIdeal.main_arg0)
      ∧ r.2.mem ((c.tc : Thread Cert.KernelSguDwIdeal.nD Cert.KernelSguDwIdeal.τ).loc Cert.KernelSguDwIdeal.main_arg1) = m ((c.tc : Thread Cert.KernelSguDwIdeal.nD Cert.KernelSguDwIdeal.τ).loc Cert.KernelSguDwIdeal.main_arg1)
      ∧ r.2.mem ((c.tc : Thread Cert.KernelSguDwIdeal.nD Cert.KernelSguDwIdeal.τ).loc Cert.KernelSguDwIdeal.main_arg2) = m ((c.tc : Thread Cert.KernelSguDwIdeal.nD Cert.KernelSguDwIdeal.τ).loc Cert.KernelSguDwIdeal.main_arg2)
      ∧ r.2.mem ((c.tc : Thread Cert.KernelSguDwIdeal.nD Cert.KernelSguDwIdeal.τ).loc Cert.KernelSguDwIdeal.main_arg3) = m ((c.tc : Thread Cert.KernelSguDwIdeal.nD Cert.KernelSguDwIdeal.τ).loc Cert.KernelSguDwIdeal.main_arg3)
      ∧ r.2.mem ((c.tc : Thread Cert.KernelSguDwIdeal.nD Cert.KernelSguDwIdeal.τ).loc Cert.KernelSguDwIdeal.main_arg4) = m ((c.tc : Thread Cert.KernelSguDwIdeal.nD Cert.KernelSguDwIdeal.τ).loc Cert.KernelSguDwIdeal.main_arg4))
      ∧ r.2.sem = fun _ => 0)

def quiescent_ReferenceSguDwIdeal [hReferenceSguDwIdeal : Cert.ReferenceSguDwIdeal.Facts] : Prop :=
  ∀ (m : (ℓ : Loc Cert.ReferenceSguDwIdeal.nD Cert.ReferenceSguDwIdeal.τ Cert.ReferenceSguDwIdeal.sig) → Buf (Elt Ideal) ℓ) (g : Dev Cert.ReferenceSguDwIdeal.nD → PrngReg), Pre_ReferenceSguDwIdeal m →
    θ_run (Cert.ReferenceSguDwIdeal.defs (F := Ideal)) (onTc (τ := Cert.ReferenceSguDwIdeal.τ) (Cert.ReferenceSguDwIdeal.main (F := Ideal))) ⟨m, fun _ => 0, g⟩ (fun r => (∀ c : Dev Cert.ReferenceSguDwIdeal.nD,
      r.2.mem ((c.tc : Thread Cert.ReferenceSguDwIdeal.nD Cert.ReferenceSguDwIdeal.τ).loc Cert.ReferenceSguDwIdeal.main_arg0) = m ((c.tc : Thread Cert.ReferenceSguDwIdeal.nD Cert.ReferenceSguDwIdeal.τ).loc Cert.ReferenceSguDwIdeal.main_arg0)
      ∧ r.2.mem ((c.tc : Thread Cert.ReferenceSguDwIdeal.nD Cert.ReferenceSguDwIdeal.τ).loc Cert.ReferenceSguDwIdeal.main_arg1) = m ((c.tc : Thread Cert.ReferenceSguDwIdeal.nD Cert.ReferenceSguDwIdeal.τ).loc Cert.ReferenceSguDwIdeal.main_arg1)
      ∧ r.2.mem ((c.tc : Thread Cert.ReferenceSguDwIdeal.nD Cert.ReferenceSguDwIdeal.τ).loc Cert.ReferenceSguDwIdeal.main_arg2) = m ((c.tc : Thread Cert.ReferenceSguDwIdeal.nD Cert.ReferenceSguDwIdeal.τ).loc Cert.ReferenceSguDwIdeal.main_arg2)
      ∧ r.2.mem ((c.tc : Thread Cert.ReferenceSguDwIdeal.nD Cert.ReferenceSguDwIdeal.τ).loc Cert.ReferenceSguDwIdeal.main_arg3) = m ((c.tc : Thread Cert.ReferenceSguDwIdeal.nD Cert.ReferenceSguDwIdeal.τ).loc Cert.ReferenceSguDwIdeal.main_arg3)
      ∧ r.2.mem ((c.tc : Thread Cert.ReferenceSguDwIdeal.nD Cert.ReferenceSguDwIdeal.τ).loc Cert.ReferenceSguDwIdeal.main_arg4) = m ((c.tc : Thread Cert.ReferenceSguDwIdeal.nD Cert.ReferenceSguDwIdeal.τ).loc Cert.ReferenceSguDwIdeal.main_arg4))
      ∧ r.2.sem = fun _ => 0)

def quiescent_ReferenceSguDwIdeal_pre_sgu_core_ok [hReferenceSguDwIdeal : Cert.ReferenceSguDwIdeal.Facts] [hPre_sgu_core_ok : Cert.Pre_sgu_core_ok.Facts] : Prop :=
  ∀ (m : (ℓ : Loc Cert.ReferenceSguDwIdeal.nD Cert.ReferenceSguDwIdeal.τ Cert.ReferenceSguDwIdeal.sig) → Buf (Elt Ideal) ℓ) (g : Dev Cert.ReferenceSguDwIdeal.nD → PrngReg), Pre_ReferenceSguDwIdeal_sgu_core_ok m →
    θ_run (Cert.ReferenceSguDwIdeal.defs (F := Ideal)) (onTc (τ := Cert.ReferenceSguDwIdeal.τ) (Cert.ReferenceSguDwIdeal.main (F := Ideal))) ⟨m, fun _ => 0, g⟩ (fun r => (∀ c : Dev Cert.ReferenceSguDwIdeal.nD,
      r.2.mem ((c.tc : Thread Cert.ReferenceSguDwIdeal.nD Cert.ReferenceSguDwIdeal.τ).loc Cert.ReferenceSguDwIdeal.main_arg0) = m ((c.tc : Thread Cert.ReferenceSguDwIdeal.nD Cert.ReferenceSguDwIdeal.τ).loc Cert.ReferenceSguDwIdeal.main_arg0)
      ∧ r.2.mem ((c.tc : Thread Cert.ReferenceSguDwIdeal.nD Cert.ReferenceSguDwIdeal.τ).loc Cert.ReferenceSguDwIdeal.main_arg1) = m ((c.tc : Thread Cert.ReferenceSguDwIdeal.nD Cert.ReferenceSguDwIdeal.τ).loc Cert.ReferenceSguDwIdeal.main_arg1)
      ∧ r.2.mem ((c.tc : Thread Cert.ReferenceSguDwIdeal.nD Cert.ReferenceSguDwIdeal.τ).loc Cert.ReferenceSguDwIdeal.main_arg2) = m ((c.tc : Thread Cert.ReferenceSguDwIdeal.nD Cert.ReferenceSguDwIdeal.τ).loc Cert.ReferenceSguDwIdeal.main_arg2)
      ∧ r.2.mem ((c.tc : Thread Cert.ReferenceSguDwIdeal.nD Cert.ReferenceSguDwIdeal.τ).loc Cert.ReferenceSguDwIdeal.main_arg3) = m ((c.tc : Thread Cert.ReferenceSguDwIdeal.nD Cert.ReferenceSguDwIdeal.τ).loc Cert.ReferenceSguDwIdeal.main_arg3)
      ∧ r.2.mem ((c.tc : Thread Cert.ReferenceSguDwIdeal.nD Cert.ReferenceSguDwIdeal.τ).loc Cert.ReferenceSguDwIdeal.main_arg4) = m ((c.tc : Thread Cert.ReferenceSguDwIdeal.nD Cert.ReferenceSguDwIdeal.τ).loc Cert.ReferenceSguDwIdeal.main_arg4))
      ∧ r.2.sem = fun _ => 0)

def quiescent_KernelGlaDh [hKernelGlaDh : Cert.KernelGlaDh.Facts] : Prop :=
  ∀ (m : (ℓ : Loc Cert.KernelGlaDh.nD Cert.KernelGlaDh.τ Cert.KernelGlaDh.sig) → Buf (Elt Bits) ℓ) (g : Dev Cert.KernelGlaDh.nD → PrngReg), Pre_KernelGlaDh m →
    θ_run (Cert.KernelGlaDh.defs (F := Bits)) (onTc (τ := Cert.KernelGlaDh.τ) (Cert.KernelGlaDh.main (F := Bits))) ⟨m, fun _ => 0, g⟩ (fun r => (∀ c : Dev Cert.KernelGlaDh.nD,
      r.2.mem ((c.tc : Thread Cert.KernelGlaDh.nD Cert.KernelGlaDh.τ).loc Cert.KernelGlaDh.main_arg0) = m ((c.tc : Thread Cert.KernelGlaDh.nD Cert.KernelGlaDh.τ).loc Cert.KernelGlaDh.main_arg0)
      ∧ r.2.mem ((c.tc : Thread Cert.KernelGlaDh.nD Cert.KernelGlaDh.τ).loc Cert.KernelGlaDh.main_arg1) = m ((c.tc : Thread Cert.KernelGlaDh.nD Cert.KernelGlaDh.τ).loc Cert.KernelGlaDh.main_arg1))
      ∧ r.2.sem = fun _ => 0)

def quiescent_KernelGlaDhIdeal [hKernelGlaDhIdeal : Cert.KernelGlaDhIdeal.Facts] : Prop :=
  ∀ (m : (ℓ : Loc Cert.KernelGlaDhIdeal.nD Cert.KernelGlaDhIdeal.τ Cert.KernelGlaDhIdeal.sig) → Buf (Elt Ideal) ℓ) (g : Dev Cert.KernelGlaDhIdeal.nD → PrngReg), Pre_KernelGlaDhIdeal m →
    θ_run (Cert.KernelGlaDhIdeal.defs (F := Ideal)) (onTc (τ := Cert.KernelGlaDhIdeal.τ) (Cert.KernelGlaDhIdeal.main (F := Ideal))) ⟨m, fun _ => 0, g⟩ (fun r => (∀ c : Dev Cert.KernelGlaDhIdeal.nD,
      r.2.mem ((c.tc : Thread Cert.KernelGlaDhIdeal.nD Cert.KernelGlaDhIdeal.τ).loc Cert.KernelGlaDhIdeal.main_arg0) = m ((c.tc : Thread Cert.KernelGlaDhIdeal.nD Cert.KernelGlaDhIdeal.τ).loc Cert.KernelGlaDhIdeal.main_arg0)
      ∧ r.2.mem ((c.tc : Thread Cert.KernelGlaDhIdeal.nD Cert.KernelGlaDhIdeal.τ).loc Cert.KernelGlaDhIdeal.main_arg1) = m ((c.tc : Thread Cert.KernelGlaDhIdeal.nD Cert.KernelGlaDhIdeal.τ).loc Cert.KernelGlaDhIdeal.main_arg1))
      ∧ r.2.sem = fun _ => 0)

def quiescent_ReferenceGlaDhIdeal [hReferenceGlaDhIdeal : Cert.ReferenceGlaDhIdeal.Facts] : Prop :=
  ∀ (m : (ℓ : Loc Cert.ReferenceGlaDhIdeal.nD Cert.ReferenceGlaDhIdeal.τ Cert.ReferenceGlaDhIdeal.sig) → Buf (Elt Ideal) ℓ) (g : Dev Cert.ReferenceGlaDhIdeal.nD → PrngReg), Pre_ReferenceGlaDhIdeal m →
    θ_run (Cert.ReferenceGlaDhIdeal.defs (F := Ideal)) (onTc (τ := Cert.ReferenceGlaDhIdeal.τ) (Cert.ReferenceGlaDhIdeal.main (F := Ideal))) ⟨m, fun _ => 0, g⟩ (fun r => (∀ c : Dev Cert.ReferenceGlaDhIdeal.nD,
      r.2.mem ((c.tc : Thread Cert.ReferenceGlaDhIdeal.nD Cert.ReferenceGlaDhIdeal.τ).loc Cert.ReferenceGlaDhIdeal.main_arg0) = m ((c.tc : Thread Cert.ReferenceGlaDhIdeal.nD Cert.ReferenceGlaDhIdeal.τ).loc Cert.ReferenceGlaDhIdeal.main_arg0)
      ∧ r.2.mem ((c.tc : Thread Cert.ReferenceGlaDhIdeal.nD Cert.ReferenceGlaDhIdeal.τ).loc Cert.ReferenceGlaDhIdeal.main_arg1) = m ((c.tc : Thread Cert.ReferenceGlaDhIdeal.nD Cert.ReferenceGlaDhIdeal.τ).loc Cert.ReferenceGlaDhIdeal.main_arg1))
      ∧ r.2.sem = fun _ => 0)

def quiescent_KernelGlaIn [hKernelGlaIn : Cert.KernelGlaIn.Facts] : Prop :=
  ∀ (m : (ℓ : Loc Cert.KernelGlaIn.nD Cert.KernelGlaIn.τ Cert.KernelGlaIn.sig) → Buf (Elt Bits) ℓ) (g : Dev Cert.KernelGlaIn.nD → PrngReg), Pre_KernelGlaIn m →
    θ_run (Cert.KernelGlaIn.defs (F := Bits)) (onTc (τ := Cert.KernelGlaIn.τ) (Cert.KernelGlaIn.main (F := Bits))) ⟨m, fun _ => 0, g⟩ (fun r => (∀ c : Dev Cert.KernelGlaIn.nD,
      r.2.mem ((c.tc : Thread Cert.KernelGlaIn.nD Cert.KernelGlaIn.τ).loc Cert.KernelGlaIn.main_arg0) = m ((c.tc : Thread Cert.KernelGlaIn.nD Cert.KernelGlaIn.τ).loc Cert.KernelGlaIn.main_arg0)
      ∧ r.2.mem ((c.tc : Thread Cert.KernelGlaIn.nD Cert.KernelGlaIn.τ).loc Cert.KernelGlaIn.main_arg1) = m ((c.tc : Thread Cert.KernelGlaIn.nD Cert.KernelGlaIn.τ).loc Cert.KernelGlaIn.main_arg1))
      ∧ r.2.sem = fun _ => 0)

def quiescent_KernelGlaInIdeal [hKernelGlaInIdeal : Cert.KernelGlaInIdeal.Facts] : Prop :=
  ∀ (m : (ℓ : Loc Cert.KernelGlaInIdeal.nD Cert.KernelGlaInIdeal.τ Cert.KernelGlaInIdeal.sig) → Buf (Elt Ideal) ℓ) (g : Dev Cert.KernelGlaInIdeal.nD → PrngReg), Pre_KernelGlaInIdeal m →
    θ_run (Cert.KernelGlaInIdeal.defs (F := Ideal)) (onTc (τ := Cert.KernelGlaInIdeal.τ) (Cert.KernelGlaInIdeal.main (F := Ideal))) ⟨m, fun _ => 0, g⟩ (fun r => (∀ c : Dev Cert.KernelGlaInIdeal.nD,
      r.2.mem ((c.tc : Thread Cert.KernelGlaInIdeal.nD Cert.KernelGlaInIdeal.τ).loc Cert.KernelGlaInIdeal.main_arg0) = m ((c.tc : Thread Cert.KernelGlaInIdeal.nD Cert.KernelGlaInIdeal.τ).loc Cert.KernelGlaInIdeal.main_arg0)
      ∧ r.2.mem ((c.tc : Thread Cert.KernelGlaInIdeal.nD Cert.KernelGlaInIdeal.τ).loc Cert.KernelGlaInIdeal.main_arg1) = m ((c.tc : Thread Cert.KernelGlaInIdeal.nD Cert.KernelGlaInIdeal.τ).loc Cert.KernelGlaInIdeal.main_arg1))
      ∧ r.2.sem = fun _ => 0)

def quiescent_ReferenceGlaInIdeal [hReferenceGlaInIdeal : Cert.ReferenceGlaInIdeal.Facts] : Prop :=
  ∀ (m : (ℓ : Loc Cert.ReferenceGlaInIdeal.nD Cert.ReferenceGlaInIdeal.τ Cert.ReferenceGlaInIdeal.sig) → Buf (Elt Ideal) ℓ) (g : Dev Cert.ReferenceGlaInIdeal.nD → PrngReg), Pre_ReferenceGlaInIdeal m →
    θ_run (Cert.ReferenceGlaInIdeal.defs (F := Ideal)) (onTc (τ := Cert.ReferenceGlaInIdeal.τ) (Cert.ReferenceGlaInIdeal.main (F := Ideal))) ⟨m, fun _ => 0, g⟩ (fun r => (∀ c : Dev Cert.ReferenceGlaInIdeal.nD,
      r.2.mem ((c.tc : Thread Cert.ReferenceGlaInIdeal.nD Cert.ReferenceGlaInIdeal.τ).loc Cert.ReferenceGlaInIdeal.main_arg0) = m ((c.tc : Thread Cert.ReferenceGlaInIdeal.nD Cert.ReferenceGlaInIdeal.τ).loc Cert.ReferenceGlaInIdeal.main_arg0)
      ∧ r.2.mem ((c.tc : Thread Cert.ReferenceGlaInIdeal.nD Cert.ReferenceGlaInIdeal.τ).loc Cert.ReferenceGlaInIdeal.main_arg1) = m ((c.tc : Thread Cert.ReferenceGlaInIdeal.nD Cert.ReferenceGlaInIdeal.τ).loc Cert.ReferenceGlaInIdeal.main_arg1))
      ∧ r.2.sem = fun _ => 0)

def quiescent_KernelGlaDw0 [hKernelGlaDw0 : Cert.KernelGlaDw0.Facts] [hPre_gla_core_ok : Cert.Pre_gla_core_ok.Facts] : Prop :=
  ∀ (m : (ℓ : Loc Cert.KernelGlaDw0.nD Cert.KernelGlaDw0.τ Cert.KernelGlaDw0.sig) → Buf (Elt Bits) ℓ) (g : Dev Cert.KernelGlaDw0.nD → PrngReg), Pre_KernelGlaDw0 m →
    θ_run (Cert.KernelGlaDw0.defs (F := Bits)) (onTc (τ := Cert.KernelGlaDw0.τ) (Cert.KernelGlaDw0.main (F := Bits))) ⟨m, fun _ => 0, g⟩ (fun r => (∀ c : Dev Cert.KernelGlaDw0.nD,
      r.2.mem ((c.tc : Thread Cert.KernelGlaDw0.nD Cert.KernelGlaDw0.τ).loc Cert.KernelGlaDw0.main_arg0) = m ((c.tc : Thread Cert.KernelGlaDw0.nD Cert.KernelGlaDw0.τ).loc Cert.KernelGlaDw0.main_arg0)
      ∧ r.2.mem ((c.tc : Thread Cert.KernelGlaDw0.nD Cert.KernelGlaDw0.τ).loc Cert.KernelGlaDw0.main_arg1) = m ((c.tc : Thread Cert.KernelGlaDw0.nD Cert.KernelGlaDw0.τ).loc Cert.KernelGlaDw0.main_arg1)
      ∧ r.2.mem ((c.tc : Thread Cert.KernelGlaDw0.nD Cert.KernelGlaDw0.τ).loc Cert.KernelGlaDw0.main_arg2) = m ((c.tc : Thread Cert.KernelGlaDw0.nD Cert.KernelGlaDw0.τ).loc Cert.KernelGlaDw0.main_arg2)
      ∧ r.2.mem ((c.tc : Thread Cert.KernelGlaDw0.nD Cert.KernelGlaDw0.τ).loc Cert.KernelGlaDw0.main_arg3) = m ((c.tc : Thread Cert.KernelGlaDw0.nD Cert.KernelGlaDw0.τ).loc Cert.KernelGlaDw0.main_arg3)
      ∧ r.2.mem ((c.tc : Thread Cert.KernelGlaDw0.nD Cert.KernelGlaDw0.τ).loc Cert.KernelGlaDw0.main_arg4) = m ((c.tc : Thread Cert.KernelGlaDw0.nD Cert.KernelGlaDw0.τ).loc Cert.KernelGlaDw0.main_arg4))
      ∧ r.2.sem = fun _ => 0)

def quiescent_KernelGlaDw0Ideal [hKernelGlaDw0Ideal : Cert.KernelGlaDw0Ideal.Facts] [hPre_gla_core_ok : Cert.Pre_gla_core_ok.Facts] : Prop :=
  ∀ (m : (ℓ : Loc Cert.KernelGlaDw0Ideal.nD Cert.KernelGlaDw0Ideal.τ Cert.KernelGlaDw0Ideal.sig) → Buf (Elt Ideal) ℓ) (g : Dev Cert.KernelGlaDw0Ideal.nD → PrngReg), Pre_KernelGlaDw0Ideal m →
    θ_run (Cert.KernelGlaDw0Ideal.defs (F := Ideal)) (onTc (τ := Cert.KernelGlaDw0Ideal.τ) (Cert.KernelGlaDw0Ideal.main (F := Ideal))) ⟨m, fun _ => 0, g⟩ (fun r => (∀ c : Dev Cert.KernelGlaDw0Ideal.nD,
      r.2.mem ((c.tc : Thread Cert.KernelGlaDw0Ideal.nD Cert.KernelGlaDw0Ideal.τ).loc Cert.KernelGlaDw0Ideal.main_arg0) = m ((c.tc : Thread Cert.KernelGlaDw0Ideal.nD Cert.KernelGlaDw0Ideal.τ).loc Cert.KernelGlaDw0Ideal.main_arg0)
      ∧ r.2.mem ((c.tc : Thread Cert.KernelGlaDw0Ideal.nD Cert.KernelGlaDw0Ideal.τ).loc Cert.KernelGlaDw0Ideal.main_arg1) = m ((c.tc : Thread Cert.KernelGlaDw0Ideal.nD Cert.KernelGlaDw0Ideal.τ).loc Cert.KernelGlaDw0Ideal.main_arg1)
      ∧ r.2.mem ((c.tc : Thread Cert.KernelGlaDw0Ideal.nD Cert.KernelGlaDw0Ideal.τ).loc Cert.KernelGlaDw0Ideal.main_arg2) = m ((c.tc : Thread Cert.KernelGlaDw0Ideal.nD Cert.KernelGlaDw0Ideal.τ).loc Cert.KernelGlaDw0Ideal.main_arg2)
      ∧ r.2.mem ((c.tc : Thread Cert.KernelGlaDw0Ideal.nD Cert.KernelGlaDw0Ideal.τ).loc Cert.KernelGlaDw0Ideal.main_arg3) = m ((c.tc : Thread Cert.KernelGlaDw0Ideal.nD Cert.KernelGlaDw0Ideal.τ).loc Cert.KernelGlaDw0Ideal.main_arg3)
      ∧ r.2.mem ((c.tc : Thread Cert.KernelGlaDw0Ideal.nD Cert.KernelGlaDw0Ideal.τ).loc Cert.KernelGlaDw0Ideal.main_arg4) = m ((c.tc : Thread Cert.KernelGlaDw0Ideal.nD Cert.KernelGlaDw0Ideal.τ).loc Cert.KernelGlaDw0Ideal.main_arg4))
      ∧ r.2.sem = fun _ => 0)

def quiescent_ReferenceGlaDw0Ideal [hReferenceGlaDw0Ideal : Cert.ReferenceGlaDw0Ideal.Facts] : Prop :=
  ∀ (m : (ℓ : Loc Cert.ReferenceGlaDw0Ideal.nD Cert.ReferenceGlaDw0Ideal.τ Cert.ReferenceGlaDw0Ideal.sig) → Buf (Elt Ideal) ℓ) (g : Dev Cert.ReferenceGlaDw0Ideal.nD → PrngReg), Pre_ReferenceGlaDw0Ideal m →
    θ_run (Cert.ReferenceGlaDw0Ideal.defs (F := Ideal)) (onTc (τ := Cert.ReferenceGlaDw0Ideal.τ) (Cert.ReferenceGlaDw0Ideal.main (F := Ideal))) ⟨m, fun _ => 0, g⟩ (fun r => (∀ c : Dev Cert.ReferenceGlaDw0Ideal.nD,
      r.2.mem ((c.tc : Thread Cert.ReferenceGlaDw0Ideal.nD Cert.ReferenceGlaDw0Ideal.τ).loc Cert.ReferenceGlaDw0Ideal.main_arg0) = m ((c.tc : Thread Cert.ReferenceGlaDw0Ideal.nD Cert.ReferenceGlaDw0Ideal.τ).loc Cert.ReferenceGlaDw0Ideal.main_arg0)
      ∧ r.2.mem ((c.tc : Thread Cert.ReferenceGlaDw0Ideal.nD Cert.ReferenceGlaDw0Ideal.τ).loc Cert.ReferenceGlaDw0Ideal.main_arg1) = m ((c.tc : Thread Cert.ReferenceGlaDw0Ideal.nD Cert.ReferenceGlaDw0Ideal.τ).loc Cert.ReferenceGlaDw0Ideal.main_arg1)
      ∧ r.2.mem ((c.tc : Thread Cert.ReferenceGlaDw0Ideal.nD Cert.ReferenceGlaDw0Ideal.τ).loc Cert.ReferenceGlaDw0Ideal.main_arg2) = m ((c.tc : Thread Cert.ReferenceGlaDw0Ideal.nD Cert.ReferenceGlaDw0Ideal.τ).loc Cert.ReferenceGlaDw0Ideal.main_arg2)
      ∧ r.2.mem ((c.tc : Thread Cert.ReferenceGlaDw0Ideal.nD Cert.ReferenceGlaDw0Ideal.τ).loc Cert.ReferenceGlaDw0Ideal.main_arg3) = m ((c.tc : Thread Cert.ReferenceGlaDw0Ideal.nD Cert.ReferenceGlaDw0Ideal.τ).loc Cert.ReferenceGlaDw0Ideal.main_arg3)
      ∧ r.2.mem ((c.tc : Thread Cert.ReferenceGlaDw0Ideal.nD Cert.ReferenceGlaDw0Ideal.τ).loc Cert.ReferenceGlaDw0Ideal.main_arg4) = m ((c.tc : Thread Cert.ReferenceGlaDw0Ideal.nD Cert.ReferenceGlaDw0Ideal.τ).loc Cert.ReferenceGlaDw0Ideal.main_arg4))
      ∧ r.2.sem = fun _ => 0)

def quiescent_ReferenceGlaDw0Ideal_pre_gla_core_ok [hReferenceGlaDw0Ideal : Cert.ReferenceGlaDw0Ideal.Facts] [hPre_gla_core_ok : Cert.Pre_gla_core_ok.Facts] : Prop :=
  ∀ (m : (ℓ : Loc Cert.ReferenceGlaDw0Ideal.nD Cert.ReferenceGlaDw0Ideal.τ Cert.ReferenceGlaDw0Ideal.sig) → Buf (Elt Ideal) ℓ) (g : Dev Cert.ReferenceGlaDw0Ideal.nD → PrngReg), Pre_ReferenceGlaDw0Ideal_gla_core_ok m →
    θ_run (Cert.ReferenceGlaDw0Ideal.defs (F := Ideal)) (onTc (τ := Cert.ReferenceGlaDw0Ideal.τ) (Cert.ReferenceGlaDw0Ideal.main (F := Ideal))) ⟨m, fun _ => 0, g⟩ (fun r => (∀ c : Dev Cert.ReferenceGlaDw0Ideal.nD,
      r.2.mem ((c.tc : Thread Cert.ReferenceGlaDw0Ideal.nD Cert.ReferenceGlaDw0Ideal.τ).loc Cert.ReferenceGlaDw0Ideal.main_arg0) = m ((c.tc : Thread Cert.ReferenceGlaDw0Ideal.nD Cert.ReferenceGlaDw0Ideal.τ).loc Cert.ReferenceGlaDw0Ideal.main_arg0)
      ∧ r.2.mem ((c.tc : Thread Cert.ReferenceGlaDw0Ideal.nD Cert.ReferenceGlaDw0Ideal.τ).loc Cert.ReferenceGlaDw0Ideal.main_arg1) = m ((c.tc : Thread Cert.ReferenceGlaDw0Ideal.nD Cert.ReferenceGlaDw0Ideal.τ).loc Cert.ReferenceGlaDw0Ideal.main_arg1)
      ∧ r.2.mem ((c.tc : Thread Cert.ReferenceGlaDw0Ideal.nD Cert.ReferenceGlaDw0Ideal.τ).loc Cert.ReferenceGlaDw0Ideal.main_arg2) = m ((c.tc : Thread Cert.ReferenceGlaDw0Ideal.nD Cert.ReferenceGlaDw0Ideal.τ).loc Cert.ReferenceGlaDw0Ideal.main_arg2)
      ∧ r.2.mem ((c.tc : Thread Cert.ReferenceGlaDw0Ideal.nD Cert.ReferenceGlaDw0Ideal.τ).loc Cert.ReferenceGlaDw0Ideal.main_arg3) = m ((c.tc : Thread Cert.ReferenceGlaDw0Ideal.nD Cert.ReferenceGlaDw0Ideal.τ).loc Cert.ReferenceGlaDw0Ideal.main_arg3)
      ∧ r.2.mem ((c.tc : Thread Cert.ReferenceGlaDw0Ideal.nD Cert.ReferenceGlaDw0Ideal.τ).loc Cert.ReferenceGlaDw0Ideal.main_arg4) = m ((c.tc : Thread Cert.ReferenceGlaDw0Ideal.nD Cert.ReferenceGlaDw0Ideal.τ).loc Cert.ReferenceGlaDw0Ideal.main_arg4))
      ∧ r.2.sem = fun _ => 0)

def quiescent_KernelGlaDw1 [hKernelGlaDw1 : Cert.KernelGlaDw1.Facts] [hPre_gla_core_ok : Cert.Pre_gla_core_ok.Facts] : Prop :=
  ∀ (m : (ℓ : Loc Cert.KernelGlaDw1.nD Cert.KernelGlaDw1.τ Cert.KernelGlaDw1.sig) → Buf (Elt Bits) ℓ) (g : Dev Cert.KernelGlaDw1.nD → PrngReg), Pre_KernelGlaDw1 m →
    θ_run (Cert.KernelGlaDw1.defs (F := Bits)) (onTc (τ := Cert.KernelGlaDw1.τ) (Cert.KernelGlaDw1.main (F := Bits))) ⟨m, fun _ => 0, g⟩ (fun r => (∀ c : Dev Cert.KernelGlaDw1.nD,
      r.2.mem ((c.tc : Thread Cert.KernelGlaDw1.nD Cert.KernelGlaDw1.τ).loc Cert.KernelGlaDw1.main_arg0) = m ((c.tc : Thread Cert.KernelGlaDw1.nD Cert.KernelGlaDw1.τ).loc Cert.KernelGlaDw1.main_arg0)
      ∧ r.2.mem ((c.tc : Thread Cert.KernelGlaDw1.nD Cert.KernelGlaDw1.τ).loc Cert.KernelGlaDw1.main_arg1) = m ((c.tc : Thread Cert.KernelGlaDw1.nD Cert.KernelGlaDw1.τ).loc Cert.KernelGlaDw1.main_arg1)
      ∧ r.2.mem ((c.tc : Thread Cert.KernelGlaDw1.nD Cert.KernelGlaDw1.τ).loc Cert.KernelGlaDw1.main_arg2) = m ((c.tc : Thread Cert.KernelGlaDw1.nD Cert.KernelGlaDw1.τ).loc Cert.KernelGlaDw1.main_arg2)
      ∧ r.2.mem ((c.tc : Thread Cert.KernelGlaDw1.nD Cert.KernelGlaDw1.τ).loc Cert.KernelGlaDw1.main_arg3) = m ((c.tc : Thread Cert.KernelGlaDw1.nD Cert.KernelGlaDw1.τ).loc Cert.KernelGlaDw1.main_arg3)
      ∧ r.2.mem ((c.tc : Thread Cert.KernelGlaDw1.nD Cert.KernelGlaDw1.τ).loc Cert.KernelGlaDw1.main_arg4) = m ((c.tc : Thread Cert.KernelGlaDw1.nD Cert.KernelGlaDw1.τ).loc Cert.KernelGlaDw1.main_arg4))
      ∧ r.2.sem = fun _ => 0)

def quiescent_KernelGlaDw1Ideal [hKernelGlaDw1Ideal : Cert.KernelGlaDw1Ideal.Facts] [hPre_gla_core_ok : Cert.Pre_gla_core_ok.Facts] : Prop :=
  ∀ (m : (ℓ : Loc Cert.KernelGlaDw1Ideal.nD Cert.KernelGlaDw1Ideal.τ Cert.KernelGlaDw1Ideal.sig) → Buf (Elt Ideal) ℓ) (g : Dev Cert.KernelGlaDw1Ideal.nD → PrngReg), Pre_KernelGlaDw1Ideal m →
    θ_run (Cert.KernelGlaDw1Ideal.defs (F := Ideal)) (onTc (τ := Cert.KernelGlaDw1Ideal.τ) (Cert.KernelGlaDw1Ideal.main (F := Ideal))) ⟨m, fun _ => 0, g⟩ (fun r => (∀ c : Dev Cert.KernelGlaDw1Ideal.nD,
      r.2.mem ((c.tc : Thread Cert.KernelGlaDw1Ideal.nD Cert.KernelGlaDw1Ideal.τ).loc Cert.KernelGlaDw1Ideal.main_arg0) = m ((c.tc : Thread Cert.KernelGlaDw1Ideal.nD Cert.KernelGlaDw1Ideal.τ).loc Cert.KernelGlaDw1Ideal.main_arg0)
      ∧ r.2.mem ((c.tc : Thread Cert.KernelGlaDw1Ideal.nD Cert.KernelGlaDw1Ideal.τ).loc Cert.KernelGlaDw1Ideal.main_arg1) = m ((c.tc : Thread Cert.KernelGlaDw1Ideal.nD Cert.KernelGlaDw1Ideal.τ).loc Cert.KernelGlaDw1Ideal.main_arg1)
      ∧ r.2.mem ((c.tc : Thread Cert.KernelGlaDw1Ideal.nD Cert.KernelGlaDw1Ideal.τ).loc Cert.KernelGlaDw1Ideal.main_arg2) = m ((c.tc : Thread Cert.KernelGlaDw1Ideal.nD Cert.KernelGlaDw1Ideal.τ).loc Cert.KernelGlaDw1Ideal.main_arg2)
      ∧ r.2.mem ((c.tc : Thread Cert.KernelGlaDw1Ideal.nD Cert.KernelGlaDw1Ideal.τ).loc Cert.KernelGlaDw1Ideal.main_arg3) = m ((c.tc : Thread Cert.KernelGlaDw1Ideal.nD Cert.KernelGlaDw1Ideal.τ).loc Cert.KernelGlaDw1Ideal.main_arg3)
      ∧ r.2.mem ((c.tc : Thread Cert.KernelGlaDw1Ideal.nD Cert.KernelGlaDw1Ideal.τ).loc Cert.KernelGlaDw1Ideal.main_arg4) = m ((c.tc : Thread Cert.KernelGlaDw1Ideal.nD Cert.KernelGlaDw1Ideal.τ).loc Cert.KernelGlaDw1Ideal.main_arg4))
      ∧ r.2.sem = fun _ => 0)

def quiescent_ReferenceGlaDw1Ideal [hReferenceGlaDw1Ideal : Cert.ReferenceGlaDw1Ideal.Facts] : Prop :=
  ∀ (m : (ℓ : Loc Cert.ReferenceGlaDw1Ideal.nD Cert.ReferenceGlaDw1Ideal.τ Cert.ReferenceGlaDw1Ideal.sig) → Buf (Elt Ideal) ℓ) (g : Dev Cert.ReferenceGlaDw1Ideal.nD → PrngReg), Pre_ReferenceGlaDw1Ideal m →
    θ_run (Cert.ReferenceGlaDw1Ideal.defs (F := Ideal)) (onTc (τ := Cert.ReferenceGlaDw1Ideal.τ) (Cert.ReferenceGlaDw1Ideal.main (F := Ideal))) ⟨m, fun _ => 0, g⟩ (fun r => (∀ c : Dev Cert.ReferenceGlaDw1Ideal.nD,
      r.2.mem ((c.tc : Thread Cert.ReferenceGlaDw1Ideal.nD Cert.ReferenceGlaDw1Ideal.τ).loc Cert.ReferenceGlaDw1Ideal.main_arg0) = m ((c.tc : Thread Cert.ReferenceGlaDw1Ideal.nD Cert.ReferenceGlaDw1Ideal.τ).loc Cert.ReferenceGlaDw1Ideal.main_arg0)
      ∧ r.2.mem ((c.tc : Thread Cert.ReferenceGlaDw1Ideal.nD Cert.ReferenceGlaDw1Ideal.τ).loc Cert.ReferenceGlaDw1Ideal.main_arg1) = m ((c.tc : Thread Cert.ReferenceGlaDw1Ideal.nD Cert.ReferenceGlaDw1Ideal.τ).loc Cert.ReferenceGlaDw1Ideal.main_arg1)
      ∧ r.2.mem ((c.tc : Thread Cert.ReferenceGlaDw1Ideal.nD Cert.ReferenceGlaDw1Ideal.τ).loc Cert.ReferenceGlaDw1Ideal.main_arg2) = m ((c.tc : Thread Cert.ReferenceGlaDw1Ideal.nD Cert.ReferenceGlaDw1Ideal.τ).loc Cert.ReferenceGlaDw1Ideal.main_arg2)
      ∧ r.2.mem ((c.tc : Thread Cert.ReferenceGlaDw1Ideal.nD Cert.ReferenceGlaDw1Ideal.τ).loc Cert.ReferenceGlaDw1Ideal.main_arg3) = m ((c.tc : Thread Cert.ReferenceGlaDw1Ideal.nD Cert.ReferenceGlaDw1Ideal.τ).loc Cert.ReferenceGlaDw1Ideal.main_arg3)
      ∧ r.2.mem ((c.tc : Thread Cert.ReferenceGlaDw1Ideal.nD Cert.ReferenceGlaDw1Ideal.τ).loc Cert.ReferenceGlaDw1Ideal.main_arg4) = m ((c.tc : Thread Cert.ReferenceGlaDw1Ideal.nD Cert.ReferenceGlaDw1Ideal.τ).loc Cert.ReferenceGlaDw1Ideal.main_arg4))
      ∧ r.2.sem = fun _ => 0)

def quiescent_ReferenceGlaDw1Ideal_pre_gla_core_ok [hReferenceGlaDw1Ideal : Cert.ReferenceGlaDw1Ideal.Facts] [hPre_gla_core_ok : Cert.Pre_gla_core_ok.Facts] : Prop :=
  ∀ (m : (ℓ : Loc Cert.ReferenceGlaDw1Ideal.nD Cert.ReferenceGlaDw1Ideal.τ Cert.ReferenceGlaDw1Ideal.sig) → Buf (Elt Ideal) ℓ) (g : Dev Cert.ReferenceGlaDw1Ideal.nD → PrngReg), Pre_ReferenceGlaDw1Ideal_gla_core_ok m →
    θ_run (Cert.ReferenceGlaDw1Ideal.defs (F := Ideal)) (onTc (τ := Cert.ReferenceGlaDw1Ideal.τ) (Cert.ReferenceGlaDw1Ideal.main (F := Ideal))) ⟨m, fun _ => 0, g⟩ (fun r => (∀ c : Dev Cert.ReferenceGlaDw1Ideal.nD,
      r.2.mem ((c.tc : Thread Cert.ReferenceGlaDw1Ideal.nD Cert.ReferenceGlaDw1Ideal.τ).loc Cert.ReferenceGlaDw1Ideal.main_arg0) = m ((c.tc : Thread Cert.ReferenceGlaDw1Ideal.nD Cert.ReferenceGlaDw1Ideal.τ).loc Cert.ReferenceGlaDw1Ideal.main_arg0)
      ∧ r.2.mem ((c.tc : Thread Cert.ReferenceGlaDw1Ideal.nD Cert.ReferenceGlaDw1Ideal.τ).loc Cert.ReferenceGlaDw1Ideal.main_arg1) = m ((c.tc : Thread Cert.ReferenceGlaDw1Ideal.nD Cert.ReferenceGlaDw1Ideal.τ).loc Cert.ReferenceGlaDw1Ideal.main_arg1)
      ∧ r.2.mem ((c.tc : Thread Cert.ReferenceGlaDw1Ideal.nD Cert.ReferenceGlaDw1Ideal.τ).loc Cert.ReferenceGlaDw1Ideal.main_arg2) = m ((c.tc : Thread Cert.ReferenceGlaDw1Ideal.nD Cert.ReferenceGlaDw1Ideal.τ).loc Cert.ReferenceGlaDw1Ideal.main_arg2)
      ∧ r.2.mem ((c.tc : Thread Cert.ReferenceGlaDw1Ideal.nD Cert.ReferenceGlaDw1Ideal.τ).loc Cert.ReferenceGlaDw1Ideal.main_arg3) = m ((c.tc : Thread Cert.ReferenceGlaDw1Ideal.nD Cert.ReferenceGlaDw1Ideal.τ).loc Cert.ReferenceGlaDw1Ideal.main_arg3)
      ∧ r.2.mem ((c.tc : Thread Cert.ReferenceGlaDw1Ideal.nD Cert.ReferenceGlaDw1Ideal.τ).loc Cert.ReferenceGlaDw1Ideal.main_arg4) = m ((c.tc : Thread Cert.ReferenceGlaDw1Ideal.nD Cert.ReferenceGlaDw1Ideal.τ).loc Cert.ReferenceGlaDw1Ideal.main_arg4))
      ∧ r.2.sem = fun _ => 0)

def quiescent_KernelPreNorm [hKernelPreNorm : Cert.KernelPreNorm.Facts] : Prop :=
  ∀ (m : (ℓ : Loc Cert.KernelPreNorm.nD Cert.KernelPreNorm.τ Cert.KernelPreNorm.sig) → Buf (Elt Bits) ℓ) (g : Dev Cert.KernelPreNorm.nD → PrngReg), Pre_KernelPreNorm m →
    θ_run (Cert.KernelPreNorm.defs (F := Bits)) (onTc (τ := Cert.KernelPreNorm.τ) (Cert.KernelPreNorm.main (F := Bits))) ⟨m, fun _ => 0, g⟩ (fun r => (∀ c : Dev Cert.KernelPreNorm.nD,
      r.2.mem ((c.tc : Thread Cert.KernelPreNorm.nD Cert.KernelPreNorm.τ).loc Cert.KernelPreNorm.main_arg0) = m ((c.tc : Thread Cert.KernelPreNorm.nD Cert.KernelPreNorm.τ).loc Cert.KernelPreNorm.main_arg0)
      ∧ r.2.mem ((c.tc : Thread Cert.KernelPreNorm.nD Cert.KernelPreNorm.τ).loc Cert.KernelPreNorm.main_arg1) = m ((c.tc : Thread Cert.KernelPreNorm.nD Cert.KernelPreNorm.τ).loc Cert.KernelPreNorm.main_arg1))
      ∧ r.2.sem = fun _ => 0)

def quiescent_KernelPreNormIdeal [hKernelPreNormIdeal : Cert.KernelPreNormIdeal.Facts] : Prop :=
  ∀ (m : (ℓ : Loc Cert.KernelPreNormIdeal.nD Cert.KernelPreNormIdeal.τ Cert.KernelPreNormIdeal.sig) → Buf (Elt Ideal) ℓ) (g : Dev Cert.KernelPreNormIdeal.nD → PrngReg), Pre_KernelPreNormIdeal m →
    θ_run (Cert.KernelPreNormIdeal.defs (F := Ideal)) (onTc (τ := Cert.KernelPreNormIdeal.τ) (Cert.KernelPreNormIdeal.main (F := Ideal))) ⟨m, fun _ => 0, g⟩ (fun r => (∀ c : Dev Cert.KernelPreNormIdeal.nD,
      r.2.mem ((c.tc : Thread Cert.KernelPreNormIdeal.nD Cert.KernelPreNormIdeal.τ).loc Cert.KernelPreNormIdeal.main_arg0) = m ((c.tc : Thread Cert.KernelPreNormIdeal.nD Cert.KernelPreNormIdeal.τ).loc Cert.KernelPreNormIdeal.main_arg0)
      ∧ r.2.mem ((c.tc : Thread Cert.KernelPreNormIdeal.nD Cert.KernelPreNormIdeal.τ).loc Cert.KernelPreNormIdeal.main_arg1) = m ((c.tc : Thread Cert.KernelPreNormIdeal.nD Cert.KernelPreNormIdeal.τ).loc Cert.KernelPreNormIdeal.main_arg1))
      ∧ r.2.sem = fun _ => 0)

def quiescent_ReferencePreNormIdeal [hReferencePreNormIdeal : Cert.ReferencePreNormIdeal.Facts] : Prop :=
  ∀ (m : (ℓ : Loc Cert.ReferencePreNormIdeal.nD Cert.ReferencePreNormIdeal.τ Cert.ReferencePreNormIdeal.sig) → Buf (Elt Ideal) ℓ) (g : Dev Cert.ReferencePreNormIdeal.nD → PrngReg), Pre_ReferencePreNormIdeal m →
    θ_run (Cert.ReferencePreNormIdeal.defs (F := Ideal)) (onTc (τ := Cert.ReferencePreNormIdeal.τ) (Cert.ReferencePreNormIdeal.main (F := Ideal))) ⟨m, fun _ => 0, g⟩ (fun r => (∀ c : Dev Cert.ReferencePreNormIdeal.nD,
      r.2.mem ((c.tc : Thread Cert.ReferencePreNormIdeal.nD Cert.ReferencePreNormIdeal.τ).loc Cert.ReferencePreNormIdeal.main_arg0) = m ((c.tc : Thread Cert.ReferencePreNormIdeal.nD Cert.ReferencePreNormIdeal.τ).loc Cert.ReferencePreNormIdeal.main_arg0)
      ∧ r.2.mem ((c.tc : Thread Cert.ReferencePreNormIdeal.nD Cert.ReferencePreNormIdeal.τ).loc Cert.ReferencePreNormIdeal.main_arg1) = m ((c.tc : Thread Cert.ReferencePreNormIdeal.nD Cert.ReferencePreNormIdeal.τ).loc Cert.ReferencePreNormIdeal.main_arg1))
      ∧ r.2.sem = fun _ => 0)

def quiescent_KernelPostPre [hKernelPostPre : Cert.KernelPostPre.Facts] : Prop :=
  ∀ (m : (ℓ : Loc Cert.KernelPostPre.nD Cert.KernelPostPre.τ Cert.KernelPostPre.sig) → Buf (Elt Bits) ℓ) (g : Dev Cert.KernelPostPre.nD → PrngReg), Pre_KernelPostPre m →
    θ_run (Cert.KernelPostPre.defs (F := Bits)) (onTc (τ := Cert.KernelPostPre.τ) (Cert.KernelPostPre.main (F := Bits))) ⟨m, fun _ => 0, g⟩ (fun r => (∀ c : Dev Cert.KernelPostPre.nD,
      r.2.mem ((c.tc : Thread Cert.KernelPostPre.nD Cert.KernelPostPre.τ).loc Cert.KernelPostPre.main_arg0) = m ((c.tc : Thread Cert.KernelPostPre.nD Cert.KernelPostPre.τ).loc Cert.KernelPostPre.main_arg0)
      ∧ r.2.mem ((c.tc : Thread Cert.KernelPostPre.nD Cert.KernelPostPre.τ).loc Cert.KernelPostPre.main_arg1) = m ((c.tc : Thread Cert.KernelPostPre.nD Cert.KernelPostPre.τ).loc Cert.KernelPostPre.main_arg1)
      ∧ r.2.mem ((c.tc : Thread Cert.KernelPostPre.nD Cert.KernelPostPre.τ).loc Cert.KernelPostPre.main_arg2) = m ((c.tc : Thread Cert.KernelPostPre.nD Cert.KernelPostPre.τ).loc Cert.KernelPostPre.main_arg2)
      ∧ r.2.mem ((c.tc : Thread Cert.KernelPostPre.nD Cert.KernelPostPre.τ).loc Cert.KernelPostPre.main_arg3) = m ((c.tc : Thread Cert.KernelPostPre.nD Cert.KernelPostPre.τ).loc Cert.KernelPostPre.main_arg3))
      ∧ r.2.sem = fun _ => 0)

def quiescent_KernelPostPreIdeal [hKernelPostPreIdeal : Cert.KernelPostPreIdeal.Facts] : Prop :=
  ∀ (m : (ℓ : Loc Cert.KernelPostPreIdeal.nD Cert.KernelPostPreIdeal.τ Cert.KernelPostPreIdeal.sig) → Buf (Elt Ideal) ℓ) (g : Dev Cert.KernelPostPreIdeal.nD → PrngReg), Pre_KernelPostPreIdeal m →
    θ_run (Cert.KernelPostPreIdeal.defs (F := Ideal)) (onTc (τ := Cert.KernelPostPreIdeal.τ) (Cert.KernelPostPreIdeal.main (F := Ideal))) ⟨m, fun _ => 0, g⟩ (fun r => (∀ c : Dev Cert.KernelPostPreIdeal.nD,
      r.2.mem ((c.tc : Thread Cert.KernelPostPreIdeal.nD Cert.KernelPostPreIdeal.τ).loc Cert.KernelPostPreIdeal.main_arg0) = m ((c.tc : Thread Cert.KernelPostPreIdeal.nD Cert.KernelPostPreIdeal.τ).loc Cert.KernelPostPreIdeal.main_arg0)
      ∧ r.2.mem ((c.tc : Thread Cert.KernelPostPreIdeal.nD Cert.KernelPostPreIdeal.τ).loc Cert.KernelPostPreIdeal.main_arg1) = m ((c.tc : Thread Cert.KernelPostPreIdeal.nD Cert.KernelPostPreIdeal.τ).loc Cert.KernelPostPreIdeal.main_arg1)
      ∧ r.2.mem ((c.tc : Thread Cert.KernelPostPreIdeal.nD Cert.KernelPostPreIdeal.τ).loc Cert.KernelPostPreIdeal.main_arg2) = m ((c.tc : Thread Cert.KernelPostPreIdeal.nD Cert.KernelPostPreIdeal.τ).loc Cert.KernelPostPreIdeal.main_arg2)
      ∧ r.2.mem ((c.tc : Thread Cert.KernelPostPreIdeal.nD Cert.KernelPostPreIdeal.τ).loc Cert.KernelPostPreIdeal.main_arg3) = m ((c.tc : Thread Cert.KernelPostPreIdeal.nD Cert.KernelPostPreIdeal.τ).loc Cert.KernelPostPreIdeal.main_arg3))
      ∧ r.2.sem = fun _ => 0)

def quiescent_ReferencePostPreIdeal [hReferencePostPreIdeal : Cert.ReferencePostPreIdeal.Facts] : Prop :=
  ∀ (m : (ℓ : Loc Cert.ReferencePostPreIdeal.nD Cert.ReferencePostPreIdeal.τ Cert.ReferencePostPreIdeal.sig) → Buf (Elt Ideal) ℓ) (g : Dev Cert.ReferencePostPreIdeal.nD → PrngReg), Pre_ReferencePostPreIdeal m →
    θ_run (Cert.ReferencePostPreIdeal.defs (F := Ideal)) (onTc (τ := Cert.ReferencePostPreIdeal.τ) (Cert.ReferencePostPreIdeal.main (F := Ideal))) ⟨m, fun _ => 0, g⟩ (fun r => (∀ c : Dev Cert.ReferencePostPreIdeal.nD,
      r.2.mem ((c.tc : Thread Cert.ReferencePostPreIdeal.nD Cert.ReferencePostPreIdeal.τ).loc Cert.ReferencePostPreIdeal.main_arg0) = m ((c.tc : Thread Cert.ReferencePostPreIdeal.nD Cert.ReferencePostPreIdeal.τ).loc Cert.ReferencePostPreIdeal.main_arg0)
      ∧ r.2.mem ((c.tc : Thread Cert.ReferencePostPreIdeal.nD Cert.ReferencePostPreIdeal.τ).loc Cert.ReferencePostPreIdeal.main_arg1) = m ((c.tc : Thread Cert.ReferencePostPreIdeal.nD Cert.ReferencePostPreIdeal.τ).loc Cert.ReferencePostPreIdeal.main_arg1)
      ∧ r.2.mem ((c.tc : Thread Cert.ReferencePostPreIdeal.nD Cert.ReferencePostPreIdeal.τ).loc Cert.ReferencePostPreIdeal.main_arg2) = m ((c.tc : Thread Cert.ReferencePostPreIdeal.nD Cert.ReferencePostPreIdeal.τ).loc Cert.ReferencePostPreIdeal.main_arg2)
      ∧ r.2.mem ((c.tc : Thread Cert.ReferencePostPreIdeal.nD Cert.ReferencePostPreIdeal.τ).loc Cert.ReferencePostPreIdeal.main_arg3) = m ((c.tc : Thread Cert.ReferencePostPreIdeal.nD Cert.ReferencePostPreIdeal.τ).loc Cert.ReferencePostPreIdeal.main_arg3))
      ∧ r.2.sem = fun _ => 0)

def quiescent_KernelLossHead [hKernelLossHead : Cert.KernelLossHead.Facts] : Prop :=
  ∀ (m : (ℓ : Loc Cert.KernelLossHead.nD Cert.KernelLossHead.τ Cert.KernelLossHead.sig) → Buf (Elt Bits) ℓ) (g : Dev Cert.KernelLossHead.nD → PrngReg), Pre_KernelLossHead m →
    θ_run (Cert.KernelLossHead.defs (F := Bits)) (onTc (τ := Cert.KernelLossHead.τ) (Cert.KernelLossHead.main (F := Bits))) ⟨m, fun _ => 0, g⟩ (fun r => (∀ c : Dev Cert.KernelLossHead.nD,
      r.2.mem ((c.tc : Thread Cert.KernelLossHead.nD Cert.KernelLossHead.τ).loc Cert.KernelLossHead.main_arg0) = m ((c.tc : Thread Cert.KernelLossHead.nD Cert.KernelLossHead.τ).loc Cert.KernelLossHead.main_arg0)
      ∧ r.2.mem ((c.tc : Thread Cert.KernelLossHead.nD Cert.KernelLossHead.τ).loc Cert.KernelLossHead.main_arg1) = m ((c.tc : Thread Cert.KernelLossHead.nD Cert.KernelLossHead.τ).loc Cert.KernelLossHead.main_arg1)
      ∧ r.2.mem ((c.tc : Thread Cert.KernelLossHead.nD Cert.KernelLossHead.τ).loc Cert.KernelLossHead.main_arg2) = m ((c.tc : Thread Cert.KernelLossHead.nD Cert.KernelLossHead.τ).loc Cert.KernelLossHead.main_arg2)
      ∧ r.2.mem ((c.tc : Thread Cert.KernelLossHead.nD Cert.KernelLossHead.τ).loc Cert.KernelLossHead.main_arg3) = m ((c.tc : Thread Cert.KernelLossHead.nD Cert.KernelLossHead.τ).loc Cert.KernelLossHead.main_arg3))
      ∧ r.2.sem = fun _ => 0)

def quiescent_KernelLossHeadIdeal [hKernelLossHeadIdeal : Cert.KernelLossHeadIdeal.Facts] : Prop :=
  ∀ (m : (ℓ : Loc Cert.KernelLossHeadIdeal.nD Cert.KernelLossHeadIdeal.τ Cert.KernelLossHeadIdeal.sig) → Buf (Elt Ideal) ℓ) (g : Dev Cert.KernelLossHeadIdeal.nD → PrngReg), Pre_KernelLossHeadIdeal m →
    θ_run (Cert.KernelLossHeadIdeal.defs (F := Ideal)) (onTc (τ := Cert.KernelLossHeadIdeal.τ) (Cert.KernelLossHeadIdeal.main (F := Ideal))) ⟨m, fun _ => 0, g⟩ (fun r => (∀ c : Dev Cert.KernelLossHeadIdeal.nD,
      r.2.mem ((c.tc : Thread Cert.KernelLossHeadIdeal.nD Cert.KernelLossHeadIdeal.τ).loc Cert.KernelLossHeadIdeal.main_arg0) = m ((c.tc : Thread Cert.KernelLossHeadIdeal.nD Cert.KernelLossHeadIdeal.τ).loc Cert.KernelLossHeadIdeal.main_arg0)
      ∧ r.2.mem ((c.tc : Thread Cert.KernelLossHeadIdeal.nD Cert.KernelLossHeadIdeal.τ).loc Cert.KernelLossHeadIdeal.main_arg1) = m ((c.tc : Thread Cert.KernelLossHeadIdeal.nD Cert.KernelLossHeadIdeal.τ).loc Cert.KernelLossHeadIdeal.main_arg1)
      ∧ r.2.mem ((c.tc : Thread Cert.KernelLossHeadIdeal.nD Cert.KernelLossHeadIdeal.τ).loc Cert.KernelLossHeadIdeal.main_arg2) = m ((c.tc : Thread Cert.KernelLossHeadIdeal.nD Cert.KernelLossHeadIdeal.τ).loc Cert.KernelLossHeadIdeal.main_arg2)
      ∧ r.2.mem ((c.tc : Thread Cert.KernelLossHeadIdeal.nD Cert.KernelLossHeadIdeal.τ).loc Cert.KernelLossHeadIdeal.main_arg3) = m ((c.tc : Thread Cert.KernelLossHeadIdeal.nD Cert.KernelLossHeadIdeal.τ).loc Cert.KernelLossHeadIdeal.main_arg3))
      ∧ r.2.sem = fun _ => 0)

def quiescent_KernelLossHeadIdeal_pre_loss_finite [hKernelLossHeadIdeal : Cert.KernelLossHeadIdeal.Facts] [hPre_loss_finite : Cert.Pre_loss_finite.Facts] : Prop :=
  ∀ (m : (ℓ : Loc Cert.KernelLossHeadIdeal.nD Cert.KernelLossHeadIdeal.τ Cert.KernelLossHeadIdeal.sig) → Buf (Elt Ideal) ℓ) (g : Dev Cert.KernelLossHeadIdeal.nD → PrngReg), Pre_KernelLossHeadIdeal_loss_finite m →
    θ_run (Cert.KernelLossHeadIdeal.defs (F := Ideal)) (onTc (τ := Cert.KernelLossHeadIdeal.τ) (Cert.KernelLossHeadIdeal.main (F := Ideal))) ⟨m, fun _ => 0, g⟩ (fun r => (∀ c : Dev Cert.KernelLossHeadIdeal.nD,
      r.2.mem ((c.tc : Thread Cert.KernelLossHeadIdeal.nD Cert.KernelLossHeadIdeal.τ).loc Cert.KernelLossHeadIdeal.main_arg0) = m ((c.tc : Thread Cert.KernelLossHeadIdeal.nD Cert.KernelLossHeadIdeal.τ).loc Cert.KernelLossHeadIdeal.main_arg0)
      ∧ r.2.mem ((c.tc : Thread Cert.KernelLossHeadIdeal.nD Cert.KernelLossHeadIdeal.τ).loc Cert.KernelLossHeadIdeal.main_arg1) = m ((c.tc : Thread Cert.KernelLossHeadIdeal.nD Cert.KernelLossHeadIdeal.τ).loc Cert.KernelLossHeadIdeal.main_arg1)
      ∧ r.2.mem ((c.tc : Thread Cert.KernelLossHeadIdeal.nD Cert.KernelLossHeadIdeal.τ).loc Cert.KernelLossHeadIdeal.main_arg2) = m ((c.tc : Thread Cert.KernelLossHeadIdeal.nD Cert.KernelLossHeadIdeal.τ).loc Cert.KernelLossHeadIdeal.main_arg2)
      ∧ r.2.mem ((c.tc : Thread Cert.KernelLossHeadIdeal.nD Cert.KernelLossHeadIdeal.τ).loc Cert.KernelLossHeadIdeal.main_arg3) = m ((c.tc : Thread Cert.KernelLossHeadIdeal.nD Cert.KernelLossHeadIdeal.τ).loc Cert.KernelLossHeadIdeal.main_arg3))
      ∧ r.2.sem = fun _ => 0)

def quiescent_ReferenceLossHeadIdeal [hReferenceLossHeadIdeal : Cert.ReferenceLossHeadIdeal.Facts] : Prop :=
  ∀ (m : (ℓ : Loc Cert.ReferenceLossHeadIdeal.nD Cert.ReferenceLossHeadIdeal.τ Cert.ReferenceLossHeadIdeal.sig) → Buf (Elt Ideal) ℓ) (g : Dev Cert.ReferenceLossHeadIdeal.nD → PrngReg), Pre_ReferenceLossHeadIdeal m →
    θ_run (Cert.ReferenceLossHeadIdeal.defs (F := Ideal)) (onTc (τ := Cert.ReferenceLossHeadIdeal.τ) (Cert.ReferenceLossHeadIdeal.main (F := Ideal))) ⟨m, fun _ => 0, g⟩ (fun r => (∀ c : Dev Cert.ReferenceLossHeadIdeal.nD,
      r.2.mem ((c.tc : Thread Cert.ReferenceLossHeadIdeal.nD Cert.ReferenceLossHeadIdeal.τ).loc Cert.ReferenceLossHeadIdeal.main_arg0) = m ((c.tc : Thread Cert.ReferenceLossHeadIdeal.nD Cert.ReferenceLossHeadIdeal.τ).loc Cert.ReferenceLossHeadIdeal.main_arg0)
      ∧ r.2.mem ((c.tc : Thread Cert.ReferenceLossHeadIdeal.nD Cert.ReferenceLossHeadIdeal.τ).loc Cert.ReferenceLossHeadIdeal.main_arg1) = m ((c.tc : Thread Cert.ReferenceLossHeadIdeal.nD Cert.ReferenceLossHeadIdeal.τ).loc Cert.ReferenceLossHeadIdeal.main_arg1)
      ∧ r.2.mem ((c.tc : Thread Cert.ReferenceLossHeadIdeal.nD Cert.ReferenceLossHeadIdeal.τ).loc Cert.ReferenceLossHeadIdeal.main_arg2) = m ((c.tc : Thread Cert.ReferenceLossHeadIdeal.nD Cert.ReferenceLossHeadIdeal.τ).loc Cert.ReferenceLossHeadIdeal.main_arg2)
      ∧ r.2.mem ((c.tc : Thread Cert.ReferenceLossHeadIdeal.nD Cert.ReferenceLossHeadIdeal.τ).loc Cert.ReferenceLossHeadIdeal.main_arg3) = m ((c.tc : Thread Cert.ReferenceLossHeadIdeal.nD Cert.ReferenceLossHeadIdeal.τ).loc Cert.ReferenceLossHeadIdeal.main_arg3))
      ∧ r.2.sem = fun _ => 0)

def quiescent_ReferenceLossHeadIdeal_pre_loss_finite [hReferenceLossHeadIdeal : Cert.ReferenceLossHeadIdeal.Facts] [hPre_loss_finite : Cert.Pre_loss_finite.Facts] : Prop :=
  ∀ (m : (ℓ : Loc Cert.ReferenceLossHeadIdeal.nD Cert.ReferenceLossHeadIdeal.τ Cert.ReferenceLossHeadIdeal.sig) → Buf (Elt Ideal) ℓ) (g : Dev Cert.ReferenceLossHeadIdeal.nD → PrngReg), Pre_ReferenceLossHeadIdeal_loss_finite m →
    θ_run (Cert.ReferenceLossHeadIdeal.defs (F := Ideal)) (onTc (τ := Cert.ReferenceLossHeadIdeal.τ) (Cert.ReferenceLossHeadIdeal.main (F := Ideal))) ⟨m, fun _ => 0, g⟩ (fun r => (∀ c : Dev Cert.ReferenceLossHeadIdeal.nD,
      r.2.mem ((c.tc : Thread Cert.ReferenceLossHeadIdeal.nD Cert.ReferenceLossHeadIdeal.τ).loc Cert.ReferenceLossHeadIdeal.main_arg0) = m ((c.tc : Thread Cert.ReferenceLossHeadIdeal.nD Cert.ReferenceLossHeadIdeal.τ).loc Cert.ReferenceLossHeadIdeal.main_arg0)
      ∧ r.2.mem ((c.tc : Thread Cert.ReferenceLossHeadIdeal.nD Cert.ReferenceLossHeadIdeal.τ).loc Cert.ReferenceLossHeadIdeal.main_arg1) = m ((c.tc : Thread Cert.ReferenceLossHeadIdeal.nD Cert.ReferenceLossHeadIdeal.τ).loc Cert.ReferenceLossHeadIdeal.main_arg1)
      ∧ r.2.mem ((c.tc : Thread Cert.ReferenceLossHeadIdeal.nD Cert.ReferenceLossHeadIdeal.τ).loc Cert.ReferenceLossHeadIdeal.main_arg2) = m ((c.tc : Thread Cert.ReferenceLossHeadIdeal.nD Cert.ReferenceLossHeadIdeal.τ).loc Cert.ReferenceLossHeadIdeal.main_arg2)
      ∧ r.2.mem ((c.tc : Thread Cert.ReferenceLossHeadIdeal.nD Cert.ReferenceLossHeadIdeal.τ).loc Cert.ReferenceLossHeadIdeal.main_arg3) = m ((c.tc : Thread Cert.ReferenceLossHeadIdeal.nD Cert.ReferenceLossHeadIdeal.τ).loc Cert.ReferenceLossHeadIdeal.main_arg3))
      ∧ r.2.sem = fun _ => 0)

def quiescent_KernelMidBwd [hKernelMidBwd : Cert.KernelMidBwd.Facts] : Prop :=
  ∀ (m : (ℓ : Loc Cert.KernelMidBwd.nD Cert.KernelMidBwd.τ Cert.KernelMidBwd.sig) → Buf (Elt Bits) ℓ) (g : Dev Cert.KernelMidBwd.nD → PrngReg), Pre_KernelMidBwd m →
    θ_run (Cert.KernelMidBwd.defs (F := Bits)) (onTc (τ := Cert.KernelMidBwd.τ) (Cert.KernelMidBwd.main (F := Bits))) ⟨m, fun _ => 0, g⟩ (fun r => (∀ c : Dev Cert.KernelMidBwd.nD,
      r.2.mem ((c.tc : Thread Cert.KernelMidBwd.nD Cert.KernelMidBwd.τ).loc Cert.KernelMidBwd.main_arg0) = m ((c.tc : Thread Cert.KernelMidBwd.nD Cert.KernelMidBwd.τ).loc Cert.KernelMidBwd.main_arg0)
      ∧ r.2.mem ((c.tc : Thread Cert.KernelMidBwd.nD Cert.KernelMidBwd.τ).loc Cert.KernelMidBwd.main_arg1) = m ((c.tc : Thread Cert.KernelMidBwd.nD Cert.KernelMidBwd.τ).loc Cert.KernelMidBwd.main_arg1)
      ∧ r.2.mem ((c.tc : Thread Cert.KernelMidBwd.nD Cert.KernelMidBwd.τ).loc Cert.KernelMidBwd.main_arg2) = m ((c.tc : Thread Cert.KernelMidBwd.nD Cert.KernelMidBwd.τ).loc Cert.KernelMidBwd.main_arg2)
      ∧ r.2.mem ((c.tc : Thread Cert.KernelMidBwd.nD Cert.KernelMidBwd.τ).loc Cert.KernelMidBwd.main_arg3) = m ((c.tc : Thread Cert.KernelMidBwd.nD Cert.KernelMidBwd.τ).loc Cert.KernelMidBwd.main_arg3)
      ∧ r.2.mem ((c.tc : Thread Cert.KernelMidBwd.nD Cert.KernelMidBwd.τ).loc Cert.KernelMidBwd.main_arg4) = m ((c.tc : Thread Cert.KernelMidBwd.nD Cert.KernelMidBwd.τ).loc Cert.KernelMidBwd.main_arg4)
      ∧ r.2.mem ((c.tc : Thread Cert.KernelMidBwd.nD Cert.KernelMidBwd.τ).loc Cert.KernelMidBwd.main_arg5) = m ((c.tc : Thread Cert.KernelMidBwd.nD Cert.KernelMidBwd.τ).loc Cert.KernelMidBwd.main_arg5))
      ∧ r.2.sem = fun _ => 0)

def quiescent_KernelMidBwdIdeal [hKernelMidBwdIdeal : Cert.KernelMidBwdIdeal.Facts] : Prop :=
  ∀ (m : (ℓ : Loc Cert.KernelMidBwdIdeal.nD Cert.KernelMidBwdIdeal.τ Cert.KernelMidBwdIdeal.sig) → Buf (Elt Ideal) ℓ) (g : Dev Cert.KernelMidBwdIdeal.nD → PrngReg), Pre_KernelMidBwdIdeal m →
    θ_run (Cert.KernelMidBwdIdeal.defs (F := Ideal)) (onTc (τ := Cert.KernelMidBwdIdeal.τ) (Cert.KernelMidBwdIdeal.main (F := Ideal))) ⟨m, fun _ => 0, g⟩ (fun r => (∀ c : Dev Cert.KernelMidBwdIdeal.nD,
      r.2.mem ((c.tc : Thread Cert.KernelMidBwdIdeal.nD Cert.KernelMidBwdIdeal.τ).loc Cert.KernelMidBwdIdeal.main_arg0) = m ((c.tc : Thread Cert.KernelMidBwdIdeal.nD Cert.KernelMidBwdIdeal.τ).loc Cert.KernelMidBwdIdeal.main_arg0)
      ∧ r.2.mem ((c.tc : Thread Cert.KernelMidBwdIdeal.nD Cert.KernelMidBwdIdeal.τ).loc Cert.KernelMidBwdIdeal.main_arg1) = m ((c.tc : Thread Cert.KernelMidBwdIdeal.nD Cert.KernelMidBwdIdeal.τ).loc Cert.KernelMidBwdIdeal.main_arg1)
      ∧ r.2.mem ((c.tc : Thread Cert.KernelMidBwdIdeal.nD Cert.KernelMidBwdIdeal.τ).loc Cert.KernelMidBwdIdeal.main_arg2) = m ((c.tc : Thread Cert.KernelMidBwdIdeal.nD Cert.KernelMidBwdIdeal.τ).loc Cert.KernelMidBwdIdeal.main_arg2)
      ∧ r.2.mem ((c.tc : Thread Cert.KernelMidBwdIdeal.nD Cert.KernelMidBwdIdeal.τ).loc Cert.KernelMidBwdIdeal.main_arg3) = m ((c.tc : Thread Cert.KernelMidBwdIdeal.nD Cert.KernelMidBwdIdeal.τ).loc Cert.KernelMidBwdIdeal.main_arg3)
      ∧ r.2.mem ((c.tc : Thread Cert.KernelMidBwdIdeal.nD Cert.KernelMidBwdIdeal.τ).loc Cert.KernelMidBwdIdeal.main_arg4) = m ((c.tc : Thread Cert.KernelMidBwdIdeal.nD Cert.KernelMidBwdIdeal.τ).loc Cert.KernelMidBwdIdeal.main_arg4)
      ∧ r.2.mem ((c.tc : Thread Cert.KernelMidBwdIdeal.nD Cert.KernelMidBwdIdeal.τ).loc Cert.KernelMidBwdIdeal.main_arg5) = m ((c.tc : Thread Cert.KernelMidBwdIdeal.nD Cert.KernelMidBwdIdeal.τ).loc Cert.KernelMidBwdIdeal.main_arg5))
      ∧ r.2.sem = fun _ => 0)

def quiescent_KernelMidBwdIdeal_pre_mid_finite [hKernelMidBwdIdeal : Cert.KernelMidBwdIdeal.Facts] [hPre_mid_finite : Cert.Pre_mid_finite.Facts] : Prop :=
  ∀ (m : (ℓ : Loc Cert.KernelMidBwdIdeal.nD Cert.KernelMidBwdIdeal.τ Cert.KernelMidBwdIdeal.sig) → Buf (Elt Ideal) ℓ) (g : Dev Cert.KernelMidBwdIdeal.nD → PrngReg), Pre_KernelMidBwdIdeal_mid_finite m →
    θ_run (Cert.KernelMidBwdIdeal.defs (F := Ideal)) (onTc (τ := Cert.KernelMidBwdIdeal.τ) (Cert.KernelMidBwdIdeal.main (F := Ideal))) ⟨m, fun _ => 0, g⟩ (fun r => (∀ c : Dev Cert.KernelMidBwdIdeal.nD,
      r.2.mem ((c.tc : Thread Cert.KernelMidBwdIdeal.nD Cert.KernelMidBwdIdeal.τ).loc Cert.KernelMidBwdIdeal.main_arg0) = m ((c.tc : Thread Cert.KernelMidBwdIdeal.nD Cert.KernelMidBwdIdeal.τ).loc Cert.KernelMidBwdIdeal.main_arg0)
      ∧ r.2.mem ((c.tc : Thread Cert.KernelMidBwdIdeal.nD Cert.KernelMidBwdIdeal.τ).loc Cert.KernelMidBwdIdeal.main_arg1) = m ((c.tc : Thread Cert.KernelMidBwdIdeal.nD Cert.KernelMidBwdIdeal.τ).loc Cert.KernelMidBwdIdeal.main_arg1)
      ∧ r.2.mem ((c.tc : Thread Cert.KernelMidBwdIdeal.nD Cert.KernelMidBwdIdeal.τ).loc Cert.KernelMidBwdIdeal.main_arg2) = m ((c.tc : Thread Cert.KernelMidBwdIdeal.nD Cert.KernelMidBwdIdeal.τ).loc Cert.KernelMidBwdIdeal.main_arg2)
      ∧ r.2.mem ((c.tc : Thread Cert.KernelMidBwdIdeal.nD Cert.KernelMidBwdIdeal.τ).loc Cert.KernelMidBwdIdeal.main_arg3) = m ((c.tc : Thread Cert.KernelMidBwdIdeal.nD Cert.KernelMidBwdIdeal.τ).loc Cert.KernelMidBwdIdeal.main_arg3)
      ∧ r.2.mem ((c.tc : Thread Cert.KernelMidBwdIdeal.nD Cert.KernelMidBwdIdeal.τ).loc Cert.KernelMidBwdIdeal.main_arg4) = m ((c.tc : Thread Cert.KernelMidBwdIdeal.nD Cert.KernelMidBwdIdeal.τ).loc Cert.KernelMidBwdIdeal.main_arg4)
      ∧ r.2.mem ((c.tc : Thread Cert.KernelMidBwdIdeal.nD Cert.KernelMidBwdIdeal.τ).loc Cert.KernelMidBwdIdeal.main_arg5) = m ((c.tc : Thread Cert.KernelMidBwdIdeal.nD Cert.KernelMidBwdIdeal.τ).loc Cert.KernelMidBwdIdeal.main_arg5))
      ∧ r.2.sem = fun _ => 0)

def quiescent_ReferenceMidBwdIdeal [hReferenceMidBwdIdeal : Cert.ReferenceMidBwdIdeal.Facts] : Prop :=
  ∀ (m : (ℓ : Loc Cert.ReferenceMidBwdIdeal.nD Cert.ReferenceMidBwdIdeal.τ Cert.ReferenceMidBwdIdeal.sig) → Buf (Elt Ideal) ℓ) (g : Dev Cert.ReferenceMidBwdIdeal.nD → PrngReg), Pre_ReferenceMidBwdIdeal m →
    θ_run (Cert.ReferenceMidBwdIdeal.defs (F := Ideal)) (onTc (τ := Cert.ReferenceMidBwdIdeal.τ) (Cert.ReferenceMidBwdIdeal.main (F := Ideal))) ⟨m, fun _ => 0, g⟩ (fun r => (∀ c : Dev Cert.ReferenceMidBwdIdeal.nD,
      r.2.mem ((c.tc : Thread Cert.ReferenceMidBwdIdeal.nD Cert.ReferenceMidBwdIdeal.τ).loc Cert.ReferenceMidBwdIdeal.main_arg0) = m ((c.tc : Thread Cert.ReferenceMidBwdIdeal.nD Cert.ReferenceMidBwdIdeal.τ).loc Cert.ReferenceMidBwdIdeal.main_arg0)
      ∧ r.2.mem ((c.tc : Thread Cert.ReferenceMidBwdIdeal.nD Cert.ReferenceMidBwdIdeal.τ).loc Cert.ReferenceMidBwdIdeal.main_arg1) = m ((c.tc : Thread Cert.ReferenceMidBwdIdeal.nD Cert.ReferenceMidBwdIdeal.τ).loc Cert.ReferenceMidBwdIdeal.main_arg1)
      ∧ r.2.mem ((c.tc : Thread Cert.ReferenceMidBwdIdeal.nD Cert.ReferenceMidBwdIdeal.τ).loc Cert.ReferenceMidBwdIdeal.main_arg2) = m ((c.tc : Thread Cert.ReferenceMidBwdIdeal.nD Cert.ReferenceMidBwdIdeal.τ).loc Cert.ReferenceMidBwdIdeal.main_arg2)
      ∧ r.2.mem ((c.tc : Thread Cert.ReferenceMidBwdIdeal.nD Cert.ReferenceMidBwdIdeal.τ).loc Cert.ReferenceMidBwdIdeal.main_arg3) = m ((c.tc : Thread Cert.ReferenceMidBwdIdeal.nD Cert.ReferenceMidBwdIdeal.τ).loc Cert.ReferenceMidBwdIdeal.main_arg3)
      ∧ r.2.mem ((c.tc : Thread Cert.ReferenceMidBwdIdeal.nD Cert.ReferenceMidBwdIdeal.τ).loc Cert.ReferenceMidBwdIdeal.main_arg4) = m ((c.tc : Thread Cert.ReferenceMidBwdIdeal.nD Cert.ReferenceMidBwdIdeal.τ).loc Cert.ReferenceMidBwdIdeal.main_arg4)
      ∧ r.2.mem ((c.tc : Thread Cert.ReferenceMidBwdIdeal.nD Cert.ReferenceMidBwdIdeal.τ).loc Cert.ReferenceMidBwdIdeal.main_arg5) = m ((c.tc : Thread Cert.ReferenceMidBwdIdeal.nD Cert.ReferenceMidBwdIdeal.τ).loc Cert.ReferenceMidBwdIdeal.main_arg5))
      ∧ r.2.sem = fun _ => 0)

def quiescent_ReferenceMidBwdIdeal_pre_mid_finite [hReferenceMidBwdIdeal : Cert.ReferenceMidBwdIdeal.Facts] [hPre_mid_finite : Cert.Pre_mid_finite.Facts] : Prop :=
  ∀ (m : (ℓ : Loc Cert.ReferenceMidBwdIdeal.nD Cert.ReferenceMidBwdIdeal.τ Cert.ReferenceMidBwdIdeal.sig) → Buf (Elt Ideal) ℓ) (g : Dev Cert.ReferenceMidBwdIdeal.nD → PrngReg), Pre_ReferenceMidBwdIdeal_mid_finite m →
    θ_run (Cert.ReferenceMidBwdIdeal.defs (F := Ideal)) (onTc (τ := Cert.ReferenceMidBwdIdeal.τ) (Cert.ReferenceMidBwdIdeal.main (F := Ideal))) ⟨m, fun _ => 0, g⟩ (fun r => (∀ c : Dev Cert.ReferenceMidBwdIdeal.nD,
      r.2.mem ((c.tc : Thread Cert.ReferenceMidBwdIdeal.nD Cert.ReferenceMidBwdIdeal.τ).loc Cert.ReferenceMidBwdIdeal.main_arg0) = m ((c.tc : Thread Cert.ReferenceMidBwdIdeal.nD Cert.ReferenceMidBwdIdeal.τ).loc Cert.ReferenceMidBwdIdeal.main_arg0)
      ∧ r.2.mem ((c.tc : Thread Cert.ReferenceMidBwdIdeal.nD Cert.ReferenceMidBwdIdeal.τ).loc Cert.ReferenceMidBwdIdeal.main_arg1) = m ((c.tc : Thread Cert.ReferenceMidBwdIdeal.nD Cert.ReferenceMidBwdIdeal.τ).loc Cert.ReferenceMidBwdIdeal.main_arg1)
      ∧ r.2.mem ((c.tc : Thread Cert.ReferenceMidBwdIdeal.nD Cert.ReferenceMidBwdIdeal.τ).loc Cert.ReferenceMidBwdIdeal.main_arg2) = m ((c.tc : Thread Cert.ReferenceMidBwdIdeal.nD Cert.ReferenceMidBwdIdeal.τ).loc Cert.ReferenceMidBwdIdeal.main_arg2)
      ∧ r.2.mem ((c.tc : Thread Cert.ReferenceMidBwdIdeal.nD Cert.ReferenceMidBwdIdeal.τ).loc Cert.ReferenceMidBwdIdeal.main_arg3) = m ((c.tc : Thread Cert.ReferenceMidBwdIdeal.nD Cert.ReferenceMidBwdIdeal.τ).loc Cert.ReferenceMidBwdIdeal.main_arg3)
      ∧ r.2.mem ((c.tc : Thread Cert.ReferenceMidBwdIdeal.nD Cert.ReferenceMidBwdIdeal.τ).loc Cert.ReferenceMidBwdIdeal.main_arg4) = m ((c.tc : Thread Cert.ReferenceMidBwdIdeal.nD Cert.ReferenceMidBwdIdeal.τ).loc Cert.ReferenceMidBwdIdeal.main_arg4)
      ∧ r.2.mem ((c.tc : Thread Cert.ReferenceMidBwdIdeal.nD Cert.ReferenceMidBwdIdeal.τ).loc Cert.ReferenceMidBwdIdeal.main_arg5) = m ((c.tc : Thread Cert.ReferenceMidBwdIdeal.nD Cert.ReferenceMidBwdIdeal.τ).loc Cert.ReferenceMidBwdIdeal.main_arg5))
      ∧ r.2.sem = fun _ => 0)

def quiescent_KernelFirstBwd [hKernelFirstBwd : Cert.KernelFirstBwd.Facts] : Prop :=
  ∀ (m : (ℓ : Loc Cert.KernelFirstBwd.nD Cert.KernelFirstBwd.τ Cert.KernelFirstBwd.sig) → Buf (Elt Bits) ℓ) (g : Dev Cert.KernelFirstBwd.nD → PrngReg), Pre_KernelFirstBwd m →
    θ_run (Cert.KernelFirstBwd.defs (F := Bits)) (onTc (τ := Cert.KernelFirstBwd.τ) (Cert.KernelFirstBwd.main (F := Bits))) ⟨m, fun _ => 0, g⟩ (fun r => (∀ c : Dev Cert.KernelFirstBwd.nD,
      r.2.mem ((c.tc : Thread Cert.KernelFirstBwd.nD Cert.KernelFirstBwd.τ).loc Cert.KernelFirstBwd.main_arg0) = m ((c.tc : Thread Cert.KernelFirstBwd.nD Cert.KernelFirstBwd.τ).loc Cert.KernelFirstBwd.main_arg0)
      ∧ r.2.mem ((c.tc : Thread Cert.KernelFirstBwd.nD Cert.KernelFirstBwd.τ).loc Cert.KernelFirstBwd.main_arg1) = m ((c.tc : Thread Cert.KernelFirstBwd.nD Cert.KernelFirstBwd.τ).loc Cert.KernelFirstBwd.main_arg1)
      ∧ r.2.mem ((c.tc : Thread Cert.KernelFirstBwd.nD Cert.KernelFirstBwd.τ).loc Cert.KernelFirstBwd.main_arg2) = m ((c.tc : Thread Cert.KernelFirstBwd.nD Cert.KernelFirstBwd.τ).loc Cert.KernelFirstBwd.main_arg2)
      ∧ r.2.mem ((c.tc : Thread Cert.KernelFirstBwd.nD Cert.KernelFirstBwd.τ).loc Cert.KernelFirstBwd.main_arg3) = m ((c.tc : Thread Cert.KernelFirstBwd.nD Cert.KernelFirstBwd.τ).loc Cert.KernelFirstBwd.main_arg3))
      ∧ r.2.sem = fun _ => 0)

def quiescent_KernelFirstBwdIdeal [hKernelFirstBwdIdeal : Cert.KernelFirstBwdIdeal.Facts] : Prop :=
  ∀ (m : (ℓ : Loc Cert.KernelFirstBwdIdeal.nD Cert.KernelFirstBwdIdeal.τ Cert.KernelFirstBwdIdeal.sig) → Buf (Elt Ideal) ℓ) (g : Dev Cert.KernelFirstBwdIdeal.nD → PrngReg), Pre_KernelFirstBwdIdeal m →
    θ_run (Cert.KernelFirstBwdIdeal.defs (F := Ideal)) (onTc (τ := Cert.KernelFirstBwdIdeal.τ) (Cert.KernelFirstBwdIdeal.main (F := Ideal))) ⟨m, fun _ => 0, g⟩ (fun r => (∀ c : Dev Cert.KernelFirstBwdIdeal.nD,
      r.2.mem ((c.tc : Thread Cert.KernelFirstBwdIdeal.nD Cert.KernelFirstBwdIdeal.τ).loc Cert.KernelFirstBwdIdeal.main_arg0) = m ((c.tc : Thread Cert.KernelFirstBwdIdeal.nD Cert.KernelFirstBwdIdeal.τ).loc Cert.KernelFirstBwdIdeal.main_arg0)
      ∧ r.2.mem ((c.tc : Thread Cert.KernelFirstBwdIdeal.nD Cert.KernelFirstBwdIdeal.τ).loc Cert.KernelFirstBwdIdeal.main_arg1) = m ((c.tc : Thread Cert.KernelFirstBwdIdeal.nD Cert.KernelFirstBwdIdeal.τ).loc Cert.KernelFirstBwdIdeal.main_arg1)
      ∧ r.2.mem ((c.tc : Thread Cert.KernelFirstBwdIdeal.nD Cert.KernelFirstBwdIdeal.τ).loc Cert.KernelFirstBwdIdeal.main_arg2) = m ((c.tc : Thread Cert.KernelFirstBwdIdeal.nD Cert.KernelFirstBwdIdeal.τ).loc Cert.KernelFirstBwdIdeal.main_arg2)
      ∧ r.2.mem ((c.tc : Thread Cert.KernelFirstBwdIdeal.nD Cert.KernelFirstBwdIdeal.τ).loc Cert.KernelFirstBwdIdeal.main_arg3) = m ((c.tc : Thread Cert.KernelFirstBwdIdeal.nD Cert.KernelFirstBwdIdeal.τ).loc Cert.KernelFirstBwdIdeal.main_arg3))
      ∧ r.2.sem = fun _ => 0)

def quiescent_KernelFirstBwdIdeal_pre_first_finite [hKernelFirstBwdIdeal : Cert.KernelFirstBwdIdeal.Facts] [hPre_first_finite : Cert.Pre_first_finite.Facts] : Prop :=
  ∀ (m : (ℓ : Loc Cert.KernelFirstBwdIdeal.nD Cert.KernelFirstBwdIdeal.τ Cert.KernelFirstBwdIdeal.sig) → Buf (Elt Ideal) ℓ) (g : Dev Cert.KernelFirstBwdIdeal.nD → PrngReg), Pre_KernelFirstBwdIdeal_first_finite m →
    θ_run (Cert.KernelFirstBwdIdeal.defs (F := Ideal)) (onTc (τ := Cert.KernelFirstBwdIdeal.τ) (Cert.KernelFirstBwdIdeal.main (F := Ideal))) ⟨m, fun _ => 0, g⟩ (fun r => (∀ c : Dev Cert.KernelFirstBwdIdeal.nD,
      r.2.mem ((c.tc : Thread Cert.KernelFirstBwdIdeal.nD Cert.KernelFirstBwdIdeal.τ).loc Cert.KernelFirstBwdIdeal.main_arg0) = m ((c.tc : Thread Cert.KernelFirstBwdIdeal.nD Cert.KernelFirstBwdIdeal.τ).loc Cert.KernelFirstBwdIdeal.main_arg0)
      ∧ r.2.mem ((c.tc : Thread Cert.KernelFirstBwdIdeal.nD Cert.KernelFirstBwdIdeal.τ).loc Cert.KernelFirstBwdIdeal.main_arg1) = m ((c.tc : Thread Cert.KernelFirstBwdIdeal.nD Cert.KernelFirstBwdIdeal.τ).loc Cert.KernelFirstBwdIdeal.main_arg1)
      ∧ r.2.mem ((c.tc : Thread Cert.KernelFirstBwdIdeal.nD Cert.KernelFirstBwdIdeal.τ).loc Cert.KernelFirstBwdIdeal.main_arg2) = m ((c.tc : Thread Cert.KernelFirstBwdIdeal.nD Cert.KernelFirstBwdIdeal.τ).loc Cert.KernelFirstBwdIdeal.main_arg2)
      ∧ r.2.mem ((c.tc : Thread Cert.KernelFirstBwdIdeal.nD Cert.KernelFirstBwdIdeal.τ).loc Cert.KernelFirstBwdIdeal.main_arg3) = m ((c.tc : Thread Cert.KernelFirstBwdIdeal.nD Cert.KernelFirstBwdIdeal.τ).loc Cert.KernelFirstBwdIdeal.main_arg3))
      ∧ r.2.sem = fun _ => 0)

def quiescent_ReferenceFirstBwdIdeal [hReferenceFirstBwdIdeal : Cert.ReferenceFirstBwdIdeal.Facts] : Prop :=
  ∀ (m : (ℓ : Loc Cert.ReferenceFirstBwdIdeal.nD Cert.ReferenceFirstBwdIdeal.τ Cert.ReferenceFirstBwdIdeal.sig) → Buf (Elt Ideal) ℓ) (g : Dev Cert.ReferenceFirstBwdIdeal.nD → PrngReg), Pre_ReferenceFirstBwdIdeal m →
    θ_run (Cert.ReferenceFirstBwdIdeal.defs (F := Ideal)) (onTc (τ := Cert.ReferenceFirstBwdIdeal.τ) (Cert.ReferenceFirstBwdIdeal.main (F := Ideal))) ⟨m, fun _ => 0, g⟩ (fun r => (∀ c : Dev Cert.ReferenceFirstBwdIdeal.nD,
      r.2.mem ((c.tc : Thread Cert.ReferenceFirstBwdIdeal.nD Cert.ReferenceFirstBwdIdeal.τ).loc Cert.ReferenceFirstBwdIdeal.main_arg0) = m ((c.tc : Thread Cert.ReferenceFirstBwdIdeal.nD Cert.ReferenceFirstBwdIdeal.τ).loc Cert.ReferenceFirstBwdIdeal.main_arg0)
      ∧ r.2.mem ((c.tc : Thread Cert.ReferenceFirstBwdIdeal.nD Cert.ReferenceFirstBwdIdeal.τ).loc Cert.ReferenceFirstBwdIdeal.main_arg1) = m ((c.tc : Thread Cert.ReferenceFirstBwdIdeal.nD Cert.ReferenceFirstBwdIdeal.τ).loc Cert.ReferenceFirstBwdIdeal.main_arg1)
      ∧ r.2.mem ((c.tc : Thread Cert.ReferenceFirstBwdIdeal.nD Cert.ReferenceFirstBwdIdeal.τ).loc Cert.ReferenceFirstBwdIdeal.main_arg2) = m ((c.tc : Thread Cert.ReferenceFirstBwdIdeal.nD Cert.ReferenceFirstBwdIdeal.τ).loc Cert.ReferenceFirstBwdIdeal.main_arg2)
      ∧ r.2.mem ((c.tc : Thread Cert.ReferenceFirstBwdIdeal.nD Cert.ReferenceFirstBwdIdeal.τ).loc Cert.ReferenceFirstBwdIdeal.main_arg3) = m ((c.tc : Thread Cert.ReferenceFirstBwdIdeal.nD Cert.ReferenceFirstBwdIdeal.τ).loc Cert.ReferenceFirstBwdIdeal.main_arg3))
      ∧ r.2.sem = fun _ => 0)

def quiescent_ReferenceFirstBwdIdeal_pre_first_finite [hReferenceFirstBwdIdeal : Cert.ReferenceFirstBwdIdeal.Facts] [hPre_first_finite : Cert.Pre_first_finite.Facts] : Prop :=
  ∀ (m : (ℓ : Loc Cert.ReferenceFirstBwdIdeal.nD Cert.ReferenceFirstBwdIdeal.τ Cert.ReferenceFirstBwdIdeal.sig) → Buf (Elt Ideal) ℓ) (g : Dev Cert.ReferenceFirstBwdIdeal.nD → PrngReg), Pre_ReferenceFirstBwdIdeal_first_finite m →
    θ_run (Cert.ReferenceFirstBwdIdeal.defs (F := Ideal)) (onTc (τ := Cert.ReferenceFirstBwdIdeal.τ) (Cert.ReferenceFirstBwdIdeal.main (F := Ideal))) ⟨m, fun _ => 0, g⟩ (fun r => (∀ c : Dev Cert.ReferenceFirstBwdIdeal.nD,
      r.2.mem ((c.tc : Thread Cert.ReferenceFirstBwdIdeal.nD Cert.ReferenceFirstBwdIdeal.τ).loc Cert.ReferenceFirstBwdIdeal.main_arg0) = m ((c.tc : Thread Cert.ReferenceFirstBwdIdeal.nD Cert.ReferenceFirstBwdIdeal.τ).loc Cert.ReferenceFirstBwdIdeal.main_arg0)
      ∧ r.2.mem ((c.tc : Thread Cert.ReferenceFirstBwdIdeal.nD Cert.ReferenceFirstBwdIdeal.τ).loc Cert.ReferenceFirstBwdIdeal.main_arg1) = m ((c.tc : Thread Cert.ReferenceFirstBwdIdeal.nD Cert.ReferenceFirstBwdIdeal.τ).loc Cert.ReferenceFirstBwdIdeal.main_arg1)
      ∧ r.2.mem ((c.tc : Thread Cert.ReferenceFirstBwdIdeal.nD Cert.ReferenceFirstBwdIdeal.τ).loc Cert.ReferenceFirstBwdIdeal.main_arg2) = m ((c.tc : Thread Cert.ReferenceFirstBwdIdeal.nD Cert.ReferenceFirstBwdIdeal.τ).loc Cert.ReferenceFirstBwdIdeal.main_arg2)
      ∧ r.2.mem ((c.tc : Thread Cert.ReferenceFirstBwdIdeal.nD Cert.ReferenceFirstBwdIdeal.τ).loc Cert.ReferenceFirstBwdIdeal.main_arg3) = m ((c.tc : Thread Cert.ReferenceFirstBwdIdeal.nD Cert.ReferenceFirstBwdIdeal.τ).loc Cert.ReferenceFirstBwdIdeal.main_arg3))
      ∧ r.2.sem = fun _ => 0)

def preserves_Kernel_KernelIdeal : Prop :=
  IdealRules.named_const.Statement Cert.KernelIdeal.κ "gelu_ca" .f32 0x3D122279#32 ((80338380498831 / 2251799813685248 : ℝ) : EReal)
  ∧ IdealRules.named_const.Statement Cert.KernelIdeal.κ "gelu_6ca" .f32 0x3E5B33B6#32 ((241015141496493 / 1125899906842624 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_v109) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelSguDh_KernelSguDhIdeal : Prop :=
  True

def algebraic_KernelSguDhIdeal_ReferenceSguDhIdeal [hKernelSguDhIdeal : Cert.KernelSguDhIdeal.Facts] [hReferenceSguDhIdeal : Cert.ReferenceSguDhIdeal.Facts] : Prop :=
  ∀ (m : (ℓ : Loc Cert.KernelSguDhIdeal.nD Cert.KernelSguDhIdeal.τ Cert.KernelSguDhIdeal.sig) → Buf (Elt Ideal) ℓ) (g : Dev Cert.KernelSguDhIdeal.nD → PrngReg)
    (m' : (ℓ : Loc Cert.ReferenceSguDhIdeal.nD Cert.ReferenceSguDhIdeal.τ Cert.ReferenceSguDhIdeal.sig) → Buf (Elt Ideal) ℓ) (g' : Dev Cert.ReferenceSguDhIdeal.nD → PrngReg), Pre_KernelSguDhIdeal m →
    (∀ c : Dev Cert.KernelSguDhIdeal.nD,
      m' ((c.tc : Thread Cert.ReferenceSguDhIdeal.nD Cert.ReferenceSguDhIdeal.τ).loc Cert.ReferenceSguDhIdeal.main_arg0) = m ((c.tc : Thread Cert.KernelSguDhIdeal.nD Cert.KernelSguDhIdeal.τ).loc Cert.KernelSguDhIdeal.main_arg0)
      ∧ m' ((c.tc : Thread Cert.ReferenceSguDhIdeal.nD Cert.ReferenceSguDhIdeal.τ).loc Cert.ReferenceSguDhIdeal.main_arg1) = m ((c.tc : Thread Cert.KernelSguDhIdeal.nD Cert.KernelSguDhIdeal.τ).loc Cert.KernelSguDhIdeal.main_arg1)) →
    ∃ (v0 : (c : Dev Cert.KernelSguDhIdeal.nD) → Buf (Elt Ideal) ((c.tc : Thread Cert.KernelSguDhIdeal.nD Cert.KernelSguDhIdeal.τ).loc Cert.KernelSguDhIdeal.main_v3)),
      θ_run (Cert.KernelSguDhIdeal.defs (F := Ideal)) (onTc (τ := Cert.KernelSguDhIdeal.τ) (Cert.KernelSguDhIdeal.main (F := Ideal))) ⟨m, fun _ => 0, g⟩ (fun r => ∀ c : Dev Cert.KernelSguDhIdeal.nD,
          r.2.mem ((c.tc : Thread Cert.KernelSguDhIdeal.nD Cert.KernelSguDhIdeal.τ).loc Cert.KernelSguDhIdeal.main_v3) = v0 c
          ∧ r.2.mem ((c.tc : Thread Cert.KernelSguDhIdeal.nD Cert.KernelSguDhIdeal.τ).loc Cert.KernelSguDhIdeal.main_arg0) = m ((c.tc : Thread Cert.KernelSguDhIdeal.nD Cert.KernelSguDhIdeal.τ).loc Cert.KernelSguDhIdeal.main_arg0)
          ∧ r.2.mem ((c.tc : Thread Cert.KernelSguDhIdeal.nD Cert.KernelSguDhIdeal.τ).loc Cert.KernelSguDhIdeal.main_arg1) = m ((c.tc : Thread Cert.KernelSguDhIdeal.nD Cert.KernelSguDhIdeal.τ).loc Cert.KernelSguDhIdeal.main_arg1))
      ∧ θ_run (Cert.ReferenceSguDhIdeal.defs (F := Ideal)) (onTc (τ := Cert.ReferenceSguDhIdeal.τ) (Cert.ReferenceSguDhIdeal.main (F := Ideal))) ⟨m', fun _ => 0, g'⟩ (fun r => ∀ c : Dev Cert.ReferenceSguDhIdeal.nD,
          r.2.mem ((c.tc : Thread Cert.ReferenceSguDhIdeal.nD Cert.ReferenceSguDhIdeal.τ).loc Cert.ReferenceSguDhIdeal.main_v3) = v0 c
          ∧ r.2.mem ((c.tc : Thread Cert.ReferenceSguDhIdeal.nD Cert.ReferenceSguDhIdeal.τ).loc Cert.ReferenceSguDhIdeal.main_arg0) = m' ((c.tc : Thread Cert.ReferenceSguDhIdeal.nD Cert.ReferenceSguDhIdeal.τ).loc Cert.ReferenceSguDhIdeal.main_arg0)
          ∧ r.2.mem ((c.tc : Thread Cert.ReferenceSguDhIdeal.nD Cert.ReferenceSguDhIdeal.τ).loc Cert.ReferenceSguDhIdeal.main_arg1) = m' ((c.tc : Thread Cert.ReferenceSguDhIdeal.nD Cert.ReferenceSguDhIdeal.τ).loc Cert.ReferenceSguDhIdeal.main_arg1))

def preserves_KernelSguIn_KernelSguInIdeal : Prop :=
  True

def algebraic_KernelSguInIdeal_ReferenceSguInIdeal [hKernelSguInIdeal : Cert.KernelSguInIdeal.Facts] [hReferenceSguInIdeal : Cert.ReferenceSguInIdeal.Facts] : Prop :=
  ∀ (m : (ℓ : Loc Cert.KernelSguInIdeal.nD Cert.KernelSguInIdeal.τ Cert.KernelSguInIdeal.sig) → Buf (Elt Ideal) ℓ) (g : Dev Cert.KernelSguInIdeal.nD → PrngReg)
    (m' : (ℓ : Loc Cert.ReferenceSguInIdeal.nD Cert.ReferenceSguInIdeal.τ Cert.ReferenceSguInIdeal.sig) → Buf (Elt Ideal) ℓ) (g' : Dev Cert.ReferenceSguInIdeal.nD → PrngReg), Pre_KernelSguInIdeal m →
    (∀ c : Dev Cert.KernelSguInIdeal.nD,
      m' ((c.tc : Thread Cert.ReferenceSguInIdeal.nD Cert.ReferenceSguInIdeal.τ).loc Cert.ReferenceSguInIdeal.main_arg0) = m ((c.tc : Thread Cert.KernelSguInIdeal.nD Cert.KernelSguInIdeal.τ).loc Cert.KernelSguInIdeal.main_arg0)
      ∧ m' ((c.tc : Thread Cert.ReferenceSguInIdeal.nD Cert.ReferenceSguInIdeal.τ).loc Cert.ReferenceSguInIdeal.main_arg1) = m ((c.tc : Thread Cert.KernelSguInIdeal.nD Cert.KernelSguInIdeal.τ).loc Cert.KernelSguInIdeal.main_arg1)) →
    ∃ (v0 : (c : Dev Cert.KernelSguInIdeal.nD) → Buf (Elt Ideal) ((c.tc : Thread Cert.KernelSguInIdeal.nD Cert.KernelSguInIdeal.τ).loc Cert.KernelSguInIdeal.main_v3)),
      θ_run (Cert.KernelSguInIdeal.defs (F := Ideal)) (onTc (τ := Cert.KernelSguInIdeal.τ) (Cert.KernelSguInIdeal.main (F := Ideal))) ⟨m, fun _ => 0, g⟩ (fun r => ∀ c : Dev Cert.KernelSguInIdeal.nD,
          r.2.mem ((c.tc : Thread Cert.KernelSguInIdeal.nD Cert.KernelSguInIdeal.τ).loc Cert.KernelSguInIdeal.main_v3) = v0 c
          ∧ r.2.mem ((c.tc : Thread Cert.KernelSguInIdeal.nD Cert.KernelSguInIdeal.τ).loc Cert.KernelSguInIdeal.main_arg0) = m ((c.tc : Thread Cert.KernelSguInIdeal.nD Cert.KernelSguInIdeal.τ).loc Cert.KernelSguInIdeal.main_arg0)
          ∧ r.2.mem ((c.tc : Thread Cert.KernelSguInIdeal.nD Cert.KernelSguInIdeal.τ).loc Cert.KernelSguInIdeal.main_arg1) = m ((c.tc : Thread Cert.KernelSguInIdeal.nD Cert.KernelSguInIdeal.τ).loc Cert.KernelSguInIdeal.main_arg1))
      ∧ θ_run (Cert.ReferenceSguInIdeal.defs (F := Ideal)) (onTc (τ := Cert.ReferenceSguInIdeal.τ) (Cert.ReferenceSguInIdeal.main (F := Ideal))) ⟨m', fun _ => 0, g'⟩ (fun r => ∀ c : Dev Cert.ReferenceSguInIdeal.nD,
          r.2.mem ((c.tc : Thread Cert.ReferenceSguInIdeal.nD Cert.ReferenceSguInIdeal.τ).loc Cert.ReferenceSguInIdeal.main_v1) = v0 c
          ∧ r.2.mem ((c.tc : Thread Cert.ReferenceSguInIdeal.nD Cert.ReferenceSguInIdeal.τ).loc Cert.ReferenceSguInIdeal.main_arg0) = m' ((c.tc : Thread Cert.ReferenceSguInIdeal.nD Cert.ReferenceSguInIdeal.τ).loc Cert.ReferenceSguInIdeal.main_arg0)
          ∧ r.2.mem ((c.tc : Thread Cert.ReferenceSguInIdeal.nD Cert.ReferenceSguInIdeal.τ).loc Cert.ReferenceSguInIdeal.main_arg1) = m' ((c.tc : Thread Cert.ReferenceSguInIdeal.nD Cert.ReferenceSguInIdeal.τ).loc Cert.ReferenceSguInIdeal.main_arg1))

def preserves_KernelOutDa_KernelOutDaIdeal : Prop :=
  True

def algebraic_KernelOutDaIdeal_ReferenceOutDaIdeal [hKernelOutDaIdeal : Cert.KernelOutDaIdeal.Facts] [hReferenceOutDaIdeal : Cert.ReferenceOutDaIdeal.Facts] : Prop :=
  ∀ (m : (ℓ : Loc Cert.KernelOutDaIdeal.nD Cert.KernelOutDaIdeal.τ Cert.KernelOutDaIdeal.sig) → Buf (Elt Ideal) ℓ) (g : Dev Cert.KernelOutDaIdeal.nD → PrngReg)
    (m' : (ℓ : Loc Cert.ReferenceOutDaIdeal.nD Cert.ReferenceOutDaIdeal.τ Cert.ReferenceOutDaIdeal.sig) → Buf (Elt Ideal) ℓ) (g' : Dev Cert.ReferenceOutDaIdeal.nD → PrngReg), Pre_KernelOutDaIdeal m →
    (∀ c : Dev Cert.KernelOutDaIdeal.nD,
      m' ((c.tc : Thread Cert.ReferenceOutDaIdeal.nD Cert.ReferenceOutDaIdeal.τ).loc Cert.ReferenceOutDaIdeal.main_arg0) = m ((c.tc : Thread Cert.KernelOutDaIdeal.nD Cert.KernelOutDaIdeal.τ).loc Cert.KernelOutDaIdeal.main_arg0)
      ∧ m' ((c.tc : Thread Cert.ReferenceOutDaIdeal.nD Cert.ReferenceOutDaIdeal.τ).loc Cert.ReferenceOutDaIdeal.main_arg1) = m ((c.tc : Thread Cert.KernelOutDaIdeal.nD Cert.KernelOutDaIdeal.τ).loc Cert.KernelOutDaIdeal.main_arg1)) →
    ∃ (v0 : (c : Dev Cert.KernelOutDaIdeal.nD) → Buf (Elt Ideal) ((c.tc : Thread Cert.KernelOutDaIdeal.nD Cert.KernelOutDaIdeal.τ).loc Cert.KernelOutDaIdeal.main_v1)),
      θ_run (Cert.KernelOutDaIdeal.defs (F := Ideal)) (onTc (τ := Cert.KernelOutDaIdeal.τ) (Cert.KernelOutDaIdeal.main (F := Ideal))) ⟨m, fun _ => 0, g⟩ (fun r => ∀ c : Dev Cert.KernelOutDaIdeal.nD,
          r.2.mem ((c.tc : Thread Cert.KernelOutDaIdeal.nD Cert.KernelOutDaIdeal.τ).loc Cert.KernelOutDaIdeal.main_v1) = v0 c
          ∧ r.2.mem ((c.tc : Thread Cert.KernelOutDaIdeal.nD Cert.KernelOutDaIdeal.τ).loc Cert.KernelOutDaIdeal.main_arg0) = m ((c.tc : Thread Cert.KernelOutDaIdeal.nD Cert.KernelOutDaIdeal.τ).loc Cert.KernelOutDaIdeal.main_arg0)
          ∧ r.2.mem ((c.tc : Thread Cert.KernelOutDaIdeal.nD Cert.KernelOutDaIdeal.τ).loc Cert.KernelOutDaIdeal.main_arg1) = m ((c.tc : Thread Cert.KernelOutDaIdeal.nD Cert.KernelOutDaIdeal.τ).loc Cert.KernelOutDaIdeal.main_arg1))
      ∧ θ_run (Cert.ReferenceOutDaIdeal.defs (F := Ideal)) (onTc (τ := Cert.ReferenceOutDaIdeal.τ) (Cert.ReferenceOutDaIdeal.main (F := Ideal))) ⟨m', fun _ => 0, g'⟩ (fun r => ∀ c : Dev Cert.ReferenceOutDaIdeal.nD,
          r.2.mem ((c.tc : Thread Cert.ReferenceOutDaIdeal.nD Cert.ReferenceOutDaIdeal.τ).loc Cert.ReferenceOutDaIdeal.main_v3) = v0 c
          ∧ r.2.mem ((c.tc : Thread Cert.ReferenceOutDaIdeal.nD Cert.ReferenceOutDaIdeal.τ).loc Cert.ReferenceOutDaIdeal.main_arg0) = m' ((c.tc : Thread Cert.ReferenceOutDaIdeal.nD Cert.ReferenceOutDaIdeal.τ).loc Cert.ReferenceOutDaIdeal.main_arg0)
          ∧ r.2.mem ((c.tc : Thread Cert.ReferenceOutDaIdeal.nD Cert.ReferenceOutDaIdeal.τ).loc Cert.ReferenceOutDaIdeal.main_arg1) = m' ((c.tc : Thread Cert.ReferenceOutDaIdeal.nD Cert.ReferenceOutDaIdeal.τ).loc Cert.ReferenceOutDaIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v1) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] [hPre_out_core_ok : Cert.Pre_out_core_ok.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)
      ∧ m' ((c.tc : Thread Cert.ReferenceOutDwIdeal.nD Cert.ReferenceOutDwIdeal.τ).loc Cert.ReferenceOutDwIdeal.main_arg2) = m ((c.tc : Thread Cert.KernelOutDwIdeal.nD Cert.KernelOutDwIdeal.τ).loc Cert.KernelOutDwIdeal.main_arg2)
      ∧ m' ((c.tc : Thread Cert.ReferenceOutDwIdeal.nD Cert.ReferenceOutDwIdeal.τ).loc Cert.ReferenceOutDwIdeal.main_arg3) = m ((c.tc : Thread Cert.KernelOutDwIdeal.nD Cert.KernelOutDwIdeal.τ).loc Cert.KernelOutDwIdeal.main_arg3)
      ∧ m' ((c.tc : Thread Cert.ReferenceOutDwIdeal.nD Cert.ReferenceOutDwIdeal.τ).loc Cert.ReferenceOutDwIdeal.main_arg4) = m ((c.tc : Thread Cert.KernelOutDwIdeal.nD Cert.KernelOutDwIdeal.τ).loc Cert.KernelOutDwIdeal.main_arg4)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1)
          ∧ r.2.mem ((c.tc : Thread Cert.KernelOutDwIdeal.nD Cert.KernelOutDwIdeal.τ).loc Cert.KernelOutDwIdeal.main_arg2) = m ((c.tc : Thread Cert.KernelOutDwIdeal.nD Cert.KernelOutDwIdeal.τ).loc Cert.KernelOutDwIdeal.main_arg2)
          ∧ r.2.mem ((c.tc : Thread Cert.KernelOutDwIdeal.nD Cert.KernelOutDwIdeal.τ).loc Cert.KernelOutDwIdeal.main_arg3) = m ((c.tc : Thread Cert.KernelOutDwIdeal.nD Cert.KernelOutDwIdeal.τ).loc Cert.KernelOutDwIdeal.main_arg3)
          ∧ r.2.mem ((c.tc : Thread Cert.KernelOutDwIdeal.nD Cert.KernelOutDwIdeal.τ).loc Cert.KernelOutDwIdeal.main_arg4) = m ((c.tc : Thread Cert.KernelOutDwIdeal.nD Cert.KernelOutDwIdeal.τ).loc Cert.KernelOutDwIdeal.main_arg4))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v14) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1)
          ∧ r.2.mem ((c.tc : Thread Cert.ReferenceOutDwIdeal.nD Cert.ReferenceOutDwIdeal.τ).loc Cert.ReferenceOutDwIdeal.main_arg2) = m' ((c.tc : Thread Cert.ReferenceOutDwIdeal.nD Cert.ReferenceOutDwIdeal.τ).loc Cert.ReferenceOutDwIdeal.main_arg2)
          ∧ r.2.mem ((c.tc : Thread Cert.ReferenceOutDwIdeal.nD Cert.ReferenceOutDwIdeal.τ).loc Cert.ReferenceOutDwIdeal.main_arg3) = m' ((c.tc : Thread Cert.ReferenceOutDwIdeal.nD Cert.ReferenceOutDwIdeal.τ).loc Cert.ReferenceOutDwIdeal.main_arg3)
          ∧ r.2.mem ((c.tc : Thread Cert.ReferenceOutDwIdeal.nD Cert.ReferenceOutDwIdeal.τ).loc Cert.ReferenceOutDwIdeal.main_arg4) = m' ((c.tc : Thread Cert.ReferenceOutDwIdeal.nD Cert.ReferenceOutDwIdeal.τ).loc Cert.ReferenceOutDwIdeal.main_arg4))

def preserves_KernelSguDw_KernelSguDwIdeal : Prop :=
  True

def algebraic_KernelSguDwIdeal_ReferenceSguDwIdeal [hKernelSguDwIdeal : Cert.KernelSguDwIdeal.Facts] [hReferenceSguDwIdeal : Cert.ReferenceSguDwIdeal.Facts] [hPre_sgu_core_ok : Cert.Pre_sgu_core_ok.Facts] : Prop :=
  ∀ (m : (ℓ : Loc Cert.KernelSguDwIdeal.nD Cert.KernelSguDwIdeal.τ Cert.KernelSguDwIdeal.sig) → Buf (Elt Ideal) ℓ) (g : Dev Cert.KernelSguDwIdeal.nD → PrngReg)
    (m' : (ℓ : Loc Cert.ReferenceSguDwIdeal.nD Cert.ReferenceSguDwIdeal.τ Cert.ReferenceSguDwIdeal.sig) → Buf (Elt Ideal) ℓ) (g' : Dev Cert.ReferenceSguDwIdeal.nD → PrngReg), Pre_KernelSguDwIdeal m →
    (∀ c : Dev Cert.KernelSguDwIdeal.nD,
      m' ((c.tc : Thread Cert.ReferenceSguDwIdeal.nD Cert.ReferenceSguDwIdeal.τ).loc Cert.ReferenceSguDwIdeal.main_arg0) = m ((c.tc : Thread Cert.KernelSguDwIdeal.nD Cert.KernelSguDwIdeal.τ).loc Cert.KernelSguDwIdeal.main_arg0)
      ∧ m' ((c.tc : Thread Cert.ReferenceSguDwIdeal.nD Cert.ReferenceSguDwIdeal.τ).loc Cert.ReferenceSguDwIdeal.main_arg1) = m ((c.tc : Thread Cert.KernelSguDwIdeal.nD Cert.KernelSguDwIdeal.τ).loc Cert.KernelSguDwIdeal.main_arg1)
      ∧ m' ((c.tc : Thread Cert.ReferenceSguDwIdeal.nD Cert.ReferenceSguDwIdeal.τ).loc Cert.ReferenceSguDwIdeal.main_arg2) = m ((c.tc : Thread Cert.KernelSguDwIdeal.nD Cert.KernelSguDwIdeal.τ).loc Cert.KernelSguDwIdeal.main_arg2)
      ∧ m' ((c.tc : Thread Cert.ReferenceSguDwIdeal.nD Cert.ReferenceSguDwIdeal.τ).loc Cert.ReferenceSguDwIdeal.main_arg3) = m ((c.tc : Thread Cert.KernelSguDwIdeal.nD Cert.KernelSguDwIdeal.τ).loc Cert.KernelSguDwIdeal.main_arg3)
      ∧ m' ((c.tc : Thread Cert.ReferenceSguDwIdeal.nD Cert.ReferenceSguDwIdeal.τ).loc Cert.ReferenceSguDwIdeal.main_arg4) = m ((c.tc : Thread Cert.KernelSguDwIdeal.nD Cert.KernelSguDwIdeal.τ).loc Cert.KernelSguDwIdeal.main_arg4)) →
    ∃ (v0 : (c : Dev Cert.KernelSguDwIdeal.nD) → Buf (Elt Ideal) ((c.tc : Thread Cert.KernelSguDwIdeal.nD Cert.KernelSguDwIdeal.τ).loc Cert.KernelSguDwIdeal.main_v0)),
      θ_run (Cert.KernelSguDwIdeal.defs (F := Ideal)) (onTc (τ := Cert.KernelSguDwIdeal.τ) (Cert.KernelSguDwIdeal.main (F := Ideal))) ⟨m, fun _ => 0, g⟩ (fun r => ∀ c : Dev Cert.KernelSguDwIdeal.nD,
          r.2.mem ((c.tc : Thread Cert.KernelSguDwIdeal.nD Cert.KernelSguDwIdeal.τ).loc Cert.KernelSguDwIdeal.main_v0) = v0 c
          ∧ r.2.mem ((c.tc : Thread Cert.KernelSguDwIdeal.nD Cert.KernelSguDwIdeal.τ).loc Cert.KernelSguDwIdeal.main_arg0) = m ((c.tc : Thread Cert.KernelSguDwIdeal.nD Cert.KernelSguDwIdeal.τ).loc Cert.KernelSguDwIdeal.main_arg0)
          ∧ r.2.mem ((c.tc : Thread Cert.KernelSguDwIdeal.nD Cert.KernelSguDwIdeal.τ).loc Cert.KernelSguDwIdeal.main_arg1) = m ((c.tc : Thread Cert.KernelSguDwIdeal.nD Cert.KernelSguDwIdeal.τ).loc Cert.KernelSguDwIdeal.main_arg1)
          ∧ r.2.mem ((c.tc : Thread Cert.KernelSguDwIdeal.nD Cert.KernelSguDwIdeal.τ).loc Cert.KernelSguDwIdeal.main_arg2) = m ((c.tc : Thread Cert.KernelSguDwIdeal.nD Cert.KernelSguDwIdeal.τ).loc Cert.KernelSguDwIdeal.main_arg2)
          ∧ r.2.mem ((c.tc : Thread Cert.KernelSguDwIdeal.nD Cert.KernelSguDwIdeal.τ).loc Cert.KernelSguDwIdeal.main_arg3) = m ((c.tc : Thread Cert.KernelSguDwIdeal.nD Cert.KernelSguDwIdeal.τ).loc Cert.KernelSguDwIdeal.main_arg3)
          ∧ r.2.mem ((c.tc : Thread Cert.KernelSguDwIdeal.nD Cert.KernelSguDwIdeal.τ).loc Cert.KernelSguDwIdeal.main_arg4) = m ((c.tc : Thread Cert.KernelSguDwIdeal.nD Cert.KernelSguDwIdeal.τ).loc Cert.KernelSguDwIdeal.main_arg4))
      ∧ θ_run (Cert.ReferenceSguDwIdeal.defs (F := Ideal)) (onTc (τ := Cert.ReferenceSguDwIdeal.τ) (Cert.ReferenceSguDwIdeal.main (F := Ideal))) ⟨m', fun _ => 0, g'⟩ (fun r => ∀ c : Dev Cert.ReferenceSguDwIdeal.nD,
          r.2.mem ((c.tc : Thread Cert.ReferenceSguDwIdeal.nD Cert.ReferenceSguDwIdeal.τ).loc Cert.ReferenceSguDwIdeal.main_v19) = v0 c
          ∧ r.2.mem ((c.tc : Thread Cert.ReferenceSguDwIdeal.nD Cert.ReferenceSguDwIdeal.τ).loc Cert.ReferenceSguDwIdeal.main_arg0) = m' ((c.tc : Thread Cert.ReferenceSguDwIdeal.nD Cert.ReferenceSguDwIdeal.τ).loc Cert.ReferenceSguDwIdeal.main_arg0)
          ∧ r.2.mem ((c.tc : Thread Cert.ReferenceSguDwIdeal.nD Cert.ReferenceSguDwIdeal.τ).loc Cert.ReferenceSguDwIdeal.main_arg1) = m' ((c.tc : Thread Cert.ReferenceSguDwIdeal.nD Cert.ReferenceSguDwIdeal.τ).loc Cert.ReferenceSguDwIdeal.main_arg1)
          ∧ r.2.mem ((c.tc : Thread Cert.ReferenceSguDwIdeal.nD Cert.ReferenceSguDwIdeal.τ).loc Cert.ReferenceSguDwIdeal.main_arg2) = m' ((c.tc : Thread Cert.ReferenceSguDwIdeal.nD Cert.ReferenceSguDwIdeal.τ).loc Cert.ReferenceSguDwIdeal.main_arg2)
          ∧ r.2.mem ((c.tc : Thread Cert.ReferenceSguDwIdeal.nD Cert.ReferenceSguDwIdeal.τ).loc Cert.ReferenceSguDwIdeal.main_arg3) = m' ((c.tc : Thread Cert.ReferenceSguDwIdeal.nD Cert.ReferenceSguDwIdeal.τ).loc Cert.ReferenceSguDwIdeal.main_arg3)
          ∧ r.2.mem ((c.tc : Thread Cert.ReferenceSguDwIdeal.nD Cert.ReferenceSguDwIdeal.τ).loc Cert.ReferenceSguDwIdeal.main_arg4) = m' ((c.tc : Thread Cert.ReferenceSguDwIdeal.nD Cert.ReferenceSguDwIdeal.τ).loc Cert.ReferenceSguDwIdeal.main_arg4))

def preserves_KernelGlaDh_KernelGlaDhIdeal : Prop :=
  True

def algebraic_KernelGlaDhIdeal_ReferenceGlaDhIdeal [hKernelGlaDhIdeal : Cert.KernelGlaDhIdeal.Facts] [hReferenceGlaDhIdeal : Cert.ReferenceGlaDhIdeal.Facts] : Prop :=
  ∀ (m : (ℓ : Loc Cert.KernelGlaDhIdeal.nD Cert.KernelGlaDhIdeal.τ Cert.KernelGlaDhIdeal.sig) → Buf (Elt Ideal) ℓ) (g : Dev Cert.KernelGlaDhIdeal.nD → PrngReg)
    (m' : (ℓ : Loc Cert.ReferenceGlaDhIdeal.nD Cert.ReferenceGlaDhIdeal.τ Cert.ReferenceGlaDhIdeal.sig) → Buf (Elt Ideal) ℓ) (g' : Dev Cert.ReferenceGlaDhIdeal.nD → PrngReg), Pre_KernelGlaDhIdeal m →
    (∀ c : Dev Cert.KernelGlaDhIdeal.nD,
      m' ((c.tc : Thread Cert.ReferenceGlaDhIdeal.nD Cert.ReferenceGlaDhIdeal.τ).loc Cert.ReferenceGlaDhIdeal.main_arg0) = m ((c.tc : Thread Cert.KernelGlaDhIdeal.nD Cert.KernelGlaDhIdeal.τ).loc Cert.KernelGlaDhIdeal.main_arg0)
      ∧ m' ((c.tc : Thread Cert.ReferenceGlaDhIdeal.nD Cert.ReferenceGlaDhIdeal.τ).loc Cert.ReferenceGlaDhIdeal.main_arg1) = m ((c.tc : Thread Cert.KernelGlaDhIdeal.nD Cert.KernelGlaDhIdeal.τ).loc Cert.KernelGlaDhIdeal.main_arg1)) →
    ∃ (v0 : (c : Dev Cert.KernelGlaDhIdeal.nD) → Buf (Elt Ideal) ((c.tc : Thread Cert.KernelGlaDhIdeal.nD Cert.KernelGlaDhIdeal.τ).loc Cert.KernelGlaDhIdeal.main_v5)),
      θ_run (Cert.KernelGlaDhIdeal.defs (F := Ideal)) (onTc (τ := Cert.KernelGlaDhIdeal.τ) (Cert.KernelGlaDhIdeal.main (F := Ideal))) ⟨m, fun _ => 0, g⟩ (fun r => ∀ c : Dev Cert.KernelGlaDhIdeal.nD,
          r.2.mem ((c.tc : Thread Cert.KernelGlaDhIdeal.nD Cert.KernelGlaDhIdeal.τ).loc Cert.KernelGlaDhIdeal.main_v5) = v0 c
          ∧ r.2.mem ((c.tc : Thread Cert.KernelGlaDhIdeal.nD Cert.KernelGlaDhIdeal.τ).loc Cert.KernelGlaDhIdeal.main_arg0) = m ((c.tc : Thread Cert.KernelGlaDhIdeal.nD Cert.KernelGlaDhIdeal.τ).loc Cert.KernelGlaDhIdeal.main_arg0)
          ∧ r.2.mem ((c.tc : Thread Cert.KernelGlaDhIdeal.nD Cert.KernelGlaDhIdeal.τ).loc Cert.KernelGlaDhIdeal.main_arg1) = m ((c.tc : Thread Cert.KernelGlaDhIdeal.nD Cert.KernelGlaDhIdeal.τ).loc Cert.KernelGlaDhIdeal.main_arg1))
      ∧ θ_run (Cert.ReferenceGlaDhIdeal.defs (F := Ideal)) (onTc (τ := Cert.ReferenceGlaDhIdeal.τ) (Cert.ReferenceGlaDhIdeal.main (F := Ideal))) ⟨m', fun _ => 0, g'⟩ (fun r => ∀ c : Dev Cert.ReferenceGlaDhIdeal.nD,
          r.2.mem ((c.tc : Thread Cert.ReferenceGlaDhIdeal.nD Cert.ReferenceGlaDhIdeal.τ).loc Cert.ReferenceGlaDhIdeal.main_v6) = v0 c
          ∧ r.2.mem ((c.tc : Thread Cert.ReferenceGlaDhIdeal.nD Cert.ReferenceGlaDhIdeal.τ).loc Cert.ReferenceGlaDhIdeal.main_arg0) = m' ((c.tc : Thread Cert.ReferenceGlaDhIdeal.nD Cert.ReferenceGlaDhIdeal.τ).loc Cert.ReferenceGlaDhIdeal.main_arg0)
          ∧ r.2.mem ((c.tc : Thread Cert.ReferenceGlaDhIdeal.nD Cert.ReferenceGlaDhIdeal.τ).loc Cert.ReferenceGlaDhIdeal.main_arg1) = m' ((c.tc : Thread Cert.ReferenceGlaDhIdeal.nD Cert.ReferenceGlaDhIdeal.τ).loc Cert.ReferenceGlaDhIdeal.main_arg1))

def preserves_KernelGlaIn_KernelGlaInIdeal : Prop :=
  True

def algebraic_KernelGlaInIdeal_ReferenceGlaInIdeal [hKernelGlaInIdeal : Cert.KernelGlaInIdeal.Facts] [hReferenceGlaInIdeal : Cert.ReferenceGlaInIdeal.Facts] : Prop :=
  ∀ (m : (ℓ : Loc Cert.KernelGlaInIdeal.nD Cert.KernelGlaInIdeal.τ Cert.KernelGlaInIdeal.sig) → Buf (Elt Ideal) ℓ) (g : Dev Cert.KernelGlaInIdeal.nD → PrngReg)
    (m' : (ℓ : Loc Cert.ReferenceGlaInIdeal.nD Cert.ReferenceGlaInIdeal.τ Cert.ReferenceGlaInIdeal.sig) → Buf (Elt Ideal) ℓ) (g' : Dev Cert.ReferenceGlaInIdeal.nD → PrngReg), Pre_KernelGlaInIdeal m →
    (∀ c : Dev Cert.KernelGlaInIdeal.nD,
      m' ((c.tc : Thread Cert.ReferenceGlaInIdeal.nD Cert.ReferenceGlaInIdeal.τ).loc Cert.ReferenceGlaInIdeal.main_arg0) = m ((c.tc : Thread Cert.KernelGlaInIdeal.nD Cert.KernelGlaInIdeal.τ).loc Cert.KernelGlaInIdeal.main_arg0)
      ∧ m' ((c.tc : Thread Cert.ReferenceGlaInIdeal.nD Cert.ReferenceGlaInIdeal.τ).loc Cert.ReferenceGlaInIdeal.main_arg1) = m ((c.tc : Thread Cert.KernelGlaInIdeal.nD Cert.KernelGlaInIdeal.τ).loc Cert.KernelGlaInIdeal.main_arg1)) →
    ∃ (v0 : (c : Dev Cert.KernelGlaInIdeal.nD) → Buf (Elt Ideal) ((c.tc : Thread Cert.KernelGlaInIdeal.nD Cert.KernelGlaInIdeal.τ).loc Cert.KernelGlaInIdeal.main_v5)),
      θ_run (Cert.KernelGlaInIdeal.defs (F := Ideal)) (onTc (τ := Cert.KernelGlaInIdeal.τ) (Cert.KernelGlaInIdeal.main (F := Ideal))) ⟨m, fun _ => 0, g⟩ (fun r => ∀ c : Dev Cert.KernelGlaInIdeal.nD,
          r.2.mem ((c.tc : Thread Cert.KernelGlaInIdeal.nD Cert.KernelGlaInIdeal.τ).loc Cert.KernelGlaInIdeal.main_v5) = v0 c
          ∧ r.2.mem ((c.tc : Thread Cert.KernelGlaInIdeal.nD Cert.KernelGlaInIdeal.τ).loc Cert.KernelGlaInIdeal.main_arg0) = m ((c.tc : Thread Cert.KernelGlaInIdeal.nD Cert.KernelGlaInIdeal.τ).loc Cert.KernelGlaInIdeal.main_arg0)
          ∧ r.2.mem ((c.tc : Thread Cert.KernelGlaInIdeal.nD Cert.KernelGlaInIdeal.τ).loc Cert.KernelGlaInIdeal.main_arg1) = m ((c.tc : Thread Cert.KernelGlaInIdeal.nD Cert.KernelGlaInIdeal.τ).loc Cert.KernelGlaInIdeal.main_arg1))
      ∧ θ_run (Cert.ReferenceGlaInIdeal.defs (F := Ideal)) (onTc (τ := Cert.ReferenceGlaInIdeal.τ) (Cert.ReferenceGlaInIdeal.main (F := Ideal))) ⟨m', fun _ => 0, g'⟩ (fun r => ∀ c : Dev Cert.ReferenceGlaInIdeal.nD,
          r.2.mem ((c.tc : Thread Cert.ReferenceGlaInIdeal.nD Cert.ReferenceGlaInIdeal.τ).loc Cert.ReferenceGlaInIdeal.main_v4) = v0 c
          ∧ r.2.mem ((c.tc : Thread Cert.ReferenceGlaInIdeal.nD Cert.ReferenceGlaInIdeal.τ).loc Cert.ReferenceGlaInIdeal.main_arg0) = m' ((c.tc : Thread Cert.ReferenceGlaInIdeal.nD Cert.ReferenceGlaInIdeal.τ).loc Cert.ReferenceGlaInIdeal.main_arg0)
          ∧ r.2.mem ((c.tc : Thread Cert.ReferenceGlaInIdeal.nD Cert.ReferenceGlaInIdeal.τ).loc Cert.ReferenceGlaInIdeal.main_arg1) = m' ((c.tc : Thread Cert.ReferenceGlaInIdeal.nD Cert.ReferenceGlaInIdeal.τ).loc Cert.ReferenceGlaInIdeal.main_arg1))

def preserves_KernelGlaDw0_KernelGlaDw0Ideal : Prop :=
  True

def algebraic_KernelGlaDw0Ideal_ReferenceGlaDw0Ideal [hKernelGlaDw0Ideal : Cert.KernelGlaDw0Ideal.Facts] [hReferenceGlaDw0Ideal : Cert.ReferenceGlaDw0Ideal.Facts] [hPre_gla_core_ok : Cert.Pre_gla_core_ok.Facts] : Prop :=
  ∀ (m : (ℓ : Loc Cert.KernelGlaDw0Ideal.nD Cert.KernelGlaDw0Ideal.τ Cert.KernelGlaDw0Ideal.sig) → Buf (Elt Ideal) ℓ) (g : Dev Cert.KernelGlaDw0Ideal.nD → PrngReg)
    (m' : (ℓ : Loc Cert.ReferenceGlaDw0Ideal.nD Cert.ReferenceGlaDw0Ideal.τ Cert.ReferenceGlaDw0Ideal.sig) → Buf (Elt Ideal) ℓ) (g' : Dev Cert.ReferenceGlaDw0Ideal.nD → PrngReg), Pre_KernelGlaDw0Ideal m →
    (∀ c : Dev Cert.KernelGlaDw0Ideal.nD,
      m' ((c.tc : Thread Cert.ReferenceGlaDw0Ideal.nD Cert.ReferenceGlaDw0Ideal.τ).loc Cert.ReferenceGlaDw0Ideal.main_arg0) = m ((c.tc : Thread Cert.KernelGlaDw0Ideal.nD Cert.KernelGlaDw0Ideal.τ).loc Cert.KernelGlaDw0Ideal.main_arg0)
      ∧ m' ((c.tc : Thread Cert.ReferenceGlaDw0Ideal.nD Cert.ReferenceGlaDw0Ideal.τ).loc Cert.ReferenceGlaDw0Ideal.main_arg1) = m ((c.tc : Thread Cert.KernelGlaDw0Ideal.nD Cert.KernelGlaDw0Ideal.τ).loc Cert.KernelGlaDw0Ideal.main_arg1)
      ∧ m' ((c.tc : Thread Cert.ReferenceGlaDw0Ideal.nD Cert.ReferenceGlaDw0Ideal.τ).loc Cert.ReferenceGlaDw0Ideal.main_arg2) = m ((c.tc : Thread Cert.KernelGlaDw0Ideal.nD Cert.KernelGlaDw0Ideal.τ).loc Cert.KernelGlaDw0Ideal.main_arg2)
      ∧ m' ((c.tc : Thread Cert.ReferenceGlaDw0Ideal.nD Cert.ReferenceGlaDw0Ideal.τ).loc Cert.ReferenceGlaDw0Ideal.main_arg3) = m ((c.tc : Thread Cert.KernelGlaDw0Ideal.nD Cert.KernelGlaDw0Ideal.τ).loc Cert.KernelGlaDw0Ideal.main_arg3)
      ∧ m' ((c.tc : Thread Cert.ReferenceGlaDw0Ideal.nD Cert.ReferenceGlaDw0Ideal.τ).loc Cert.ReferenceGlaDw0Ideal.main_arg4) = m ((c.tc : Thread Cert.KernelGlaDw0Ideal.nD Cert.KernelGlaDw0Ideal.τ).loc Cert.KernelGlaDw0Ideal.main_arg4)) →
    ∃ (v0 : (c : Dev Cert.KernelGlaDw0Ideal.nD) → Buf (Elt Ideal) ((c.tc : Thread Cert.KernelGlaDw0Ideal.nD Cert.KernelGlaDw0Ideal.τ).loc Cert.KernelGlaDw0Ideal.main_v0)),
      θ_run (Cert.KernelGlaDw0Ideal.defs (F := Ideal)) (onTc (τ := Cert.KernelGlaDw0Ideal.τ) (Cert.KernelGlaDw0Ideal.main (F := Ideal))) ⟨m, fun _ => 0, g⟩ (fun r => ∀ c : Dev Cert.KernelGlaDw0Ideal.nD,
          r.2.mem ((c.tc : Thread Cert.KernelGlaDw0Ideal.nD Cert.KernelGlaDw0Ideal.τ).loc Cert.KernelGlaDw0Ideal.main_v0) = v0 c
          ∧ r.2.mem ((c.tc : Thread Cert.KernelGlaDw0Ideal.nD Cert.KernelGlaDw0Ideal.τ).loc Cert.KernelGlaDw0Ideal.main_arg0) = m ((c.tc : Thread Cert.KernelGlaDw0Ideal.nD Cert.KernelGlaDw0Ideal.τ).loc Cert.KernelGlaDw0Ideal.main_arg0)
          ∧ r.2.mem ((c.tc : Thread Cert.KernelGlaDw0Ideal.nD Cert.KernelGlaDw0Ideal.τ).loc Cert.KernelGlaDw0Ideal.main_arg1) = m ((c.tc : Thread Cert.KernelGlaDw0Ideal.nD Cert.KernelGlaDw0Ideal.τ).loc Cert.KernelGlaDw0Ideal.main_arg1)
          ∧ r.2.mem ((c.tc : Thread Cert.KernelGlaDw0Ideal.nD Cert.KernelGlaDw0Ideal.τ).loc Cert.KernelGlaDw0Ideal.main_arg2) = m ((c.tc : Thread Cert.KernelGlaDw0Ideal.nD Cert.KernelGlaDw0Ideal.τ).loc Cert.KernelGlaDw0Ideal.main_arg2)
          ∧ r.2.mem ((c.tc : Thread Cert.KernelGlaDw0Ideal.nD Cert.KernelGlaDw0Ideal.τ).loc Cert.KernelGlaDw0Ideal.main_arg3) = m ((c.tc : Thread Cert.KernelGlaDw0Ideal.nD Cert.KernelGlaDw0Ideal.τ).loc Cert.KernelGlaDw0Ideal.main_arg3)
          ∧ r.2.mem ((c.tc : Thread Cert.KernelGlaDw0Ideal.nD Cert.KernelGlaDw0Ideal.τ).loc Cert.KernelGlaDw0Ideal.main_arg4) = m ((c.tc : Thread Cert.KernelGlaDw0Ideal.nD Cert.KernelGlaDw0Ideal.τ).loc Cert.KernelGlaDw0Ideal.main_arg4))
      ∧ θ_run (Cert.ReferenceGlaDw0Ideal.defs (F := Ideal)) (onTc (τ := Cert.ReferenceGlaDw0Ideal.τ) (Cert.ReferenceGlaDw0Ideal.main (F := Ideal))) ⟨m', fun _ => 0, g'⟩ (fun r => ∀ c : Dev Cert.ReferenceGlaDw0Ideal.nD,
          r.2.mem ((c.tc : Thread Cert.ReferenceGlaDw0Ideal.nD Cert.ReferenceGlaDw0Ideal.τ).loc Cert.ReferenceGlaDw0Ideal.main_v15) = v0 c
          ∧ r.2.mem ((c.tc : Thread Cert.ReferenceGlaDw0Ideal.nD Cert.ReferenceGlaDw0Ideal.τ).loc Cert.ReferenceGlaDw0Ideal.main_arg0) = m' ((c.tc : Thread Cert.ReferenceGlaDw0Ideal.nD Cert.ReferenceGlaDw0Ideal.τ).loc Cert.ReferenceGlaDw0Ideal.main_arg0)
          ∧ r.2.mem ((c.tc : Thread Cert.ReferenceGlaDw0Ideal.nD Cert.ReferenceGlaDw0Ideal.τ).loc Cert.ReferenceGlaDw0Ideal.main_arg1) = m' ((c.tc : Thread Cert.ReferenceGlaDw0Ideal.nD Cert.ReferenceGlaDw0Ideal.τ).loc Cert.ReferenceGlaDw0Ideal.main_arg1)
          ∧ r.2.mem ((c.tc : Thread Cert.ReferenceGlaDw0Ideal.nD Cert.ReferenceGlaDw0Ideal.τ).loc Cert.ReferenceGlaDw0Ideal.main_arg2) = m' ((c.tc : Thread Cert.ReferenceGlaDw0Ideal.nD Cert.ReferenceGlaDw0Ideal.τ).loc Cert.ReferenceGlaDw0Ideal.main_arg2)
          ∧ r.2.mem ((c.tc : Thread Cert.ReferenceGlaDw0Ideal.nD Cert.ReferenceGlaDw0Ideal.τ).loc Cert.ReferenceGlaDw0Ideal.main_arg3) = m' ((c.tc : Thread Cert.ReferenceGlaDw0Ideal.nD Cert.ReferenceGlaDw0Ideal.τ).loc Cert.ReferenceGlaDw0Ideal.main_arg3)
          ∧ r.2.mem ((c.tc : Thread Cert.ReferenceGlaDw0Ideal.nD Cert.ReferenceGlaDw0Ideal.τ).loc Cert.ReferenceGlaDw0Ideal.main_arg4) = m' ((c.tc : Thread Cert.ReferenceGlaDw0Ideal.nD Cert.ReferenceGlaDw0Ideal.τ).loc Cert.ReferenceGlaDw0Ideal.main_arg4))

def preserves_KernelGlaDw1_KernelGlaDw1Ideal : Prop :=
  True

def algebraic_KernelGlaDw1Ideal_ReferenceGlaDw1Ideal [hKernelGlaDw1Ideal : Cert.KernelGlaDw1Ideal.Facts] [hReferenceGlaDw1Ideal : Cert.ReferenceGlaDw1Ideal.Facts] [hPre_gla_core_ok : Cert.Pre_gla_core_ok.Facts] : Prop :=
  ∀ (m : (ℓ : Loc Cert.KernelGlaDw1Ideal.nD Cert.KernelGlaDw1Ideal.τ Cert.KernelGlaDw1Ideal.sig) → Buf (Elt Ideal) ℓ) (g : Dev Cert.KernelGlaDw1Ideal.nD → PrngReg)
    (m' : (ℓ : Loc Cert.ReferenceGlaDw1Ideal.nD Cert.ReferenceGlaDw1Ideal.τ Cert.ReferenceGlaDw1Ideal.sig) → Buf (Elt Ideal) ℓ) (g' : Dev Cert.ReferenceGlaDw1Ideal.nD → PrngReg), Pre_KernelGlaDw1Ideal m →
    (∀ c : Dev Cert.KernelGlaDw1Ideal.nD,
      m' ((c.tc : Thread Cert.ReferenceGlaDw1Ideal.nD Cert.ReferenceGlaDw1Ideal.τ).loc Cert.ReferenceGlaDw1Ideal.main_arg0) = m ((c.tc : Thread Cert.KernelGlaDw1Ideal.nD Cert.KernelGlaDw1Ideal.τ).loc Cert.KernelGlaDw1Ideal.main_arg0)
      ∧ m' ((c.tc : Thread Cert.ReferenceGlaDw1Ideal.nD Cert.ReferenceGlaDw1Ideal.τ).loc Cert.ReferenceGlaDw1Ideal.main_arg1) = m ((c.tc : Thread Cert.KernelGlaDw1Ideal.nD Cert.KernelGlaDw1Ideal.τ).loc Cert.KernelGlaDw1Ideal.main_arg1)
      ∧ m' ((c.tc : Thread Cert.ReferenceGlaDw1Ideal.nD Cert.ReferenceGlaDw1Ideal.τ).loc Cert.ReferenceGlaDw1Ideal.main_arg2) = m ((c.tc : Thread Cert.KernelGlaDw1Ideal.nD Cert.KernelGlaDw1Ideal.τ).loc Cert.KernelGlaDw1Ideal.main_arg2)
      ∧ m' ((c.tc : Thread Cert.ReferenceGlaDw1Ideal.nD Cert.ReferenceGlaDw1Ideal.τ).loc Cert.ReferenceGlaDw1Ideal.main_arg3) = m ((c.tc : Thread Cert.KernelGlaDw1Ideal.nD Cert.KernelGlaDw1Ideal.τ).loc Cert.KernelGlaDw1Ideal.main_arg3)
      ∧ m' ((c.tc : Thread Cert.ReferenceGlaDw1Ideal.nD Cert.ReferenceGlaDw1Ideal.τ).loc Cert.ReferenceGlaDw1Ideal.main_arg4) = m ((c.tc : Thread Cert.KernelGlaDw1Ideal.nD Cert.KernelGlaDw1Ideal.τ).loc Cert.KernelGlaDw1Ideal.main_arg4)) →
    ∃ (v0 : (c : Dev Cert.KernelGlaDw1Ideal.nD) → Buf (Elt Ideal) ((c.tc : Thread Cert.KernelGlaDw1Ideal.nD Cert.KernelGlaDw1Ideal.τ).loc Cert.KernelGlaDw1Ideal.main_v0)),
      θ_run (Cert.KernelGlaDw1Ideal.defs (F := Ideal)) (onTc (τ := Cert.KernelGlaDw1Ideal.τ) (Cert.KernelGlaDw1Ideal.main (F := Ideal))) ⟨m, fun _ => 0, g⟩ (fun r => ∀ c : Dev Cert.KernelGlaDw1Ideal.nD,
          r.2.mem ((c.tc : Thread Cert.KernelGlaDw1Ideal.nD Cert.KernelGlaDw1Ideal.τ).loc Cert.KernelGlaDw1Ideal.main_v0) = v0 c
          ∧ r.2.mem ((c.tc : Thread Cert.KernelGlaDw1Ideal.nD Cert.KernelGlaDw1Ideal.τ).loc Cert.KernelGlaDw1Ideal.main_arg0) = m ((c.tc : Thread Cert.KernelGlaDw1Ideal.nD Cert.KernelGlaDw1Ideal.τ).loc Cert.KernelGlaDw1Ideal.main_arg0)
          ∧ r.2.mem ((c.tc : Thread Cert.KernelGlaDw1Ideal.nD Cert.KernelGlaDw1Ideal.τ).loc Cert.KernelGlaDw1Ideal.main_arg1) = m ((c.tc : Thread Cert.KernelGlaDw1Ideal.nD Cert.KernelGlaDw1Ideal.τ).loc Cert.KernelGlaDw1Ideal.main_arg1)
          ∧ r.2.mem ((c.tc : Thread Cert.KernelGlaDw1Ideal.nD Cert.KernelGlaDw1Ideal.τ).loc Cert.KernelGlaDw1Ideal.main_arg2) = m ((c.tc : Thread Cert.KernelGlaDw1Ideal.nD Cert.KernelGlaDw1Ideal.τ).loc Cert.KernelGlaDw1Ideal.main_arg2)
          ∧ r.2.mem ((c.tc : Thread Cert.KernelGlaDw1Ideal.nD Cert.KernelGlaDw1Ideal.τ).loc Cert.KernelGlaDw1Ideal.main_arg3) = m ((c.tc : Thread Cert.KernelGlaDw1Ideal.nD Cert.KernelGlaDw1Ideal.τ).loc Cert.KernelGlaDw1Ideal.main_arg3)
          ∧ r.2.mem ((c.tc : Thread Cert.KernelGlaDw1Ideal.nD Cert.KernelGlaDw1Ideal.τ).loc Cert.KernelGlaDw1Ideal.main_arg4) = m ((c.tc : Thread Cert.KernelGlaDw1Ideal.nD Cert.KernelGlaDw1Ideal.τ).loc Cert.KernelGlaDw1Ideal.main_arg4))
      ∧ θ_run (Cert.ReferenceGlaDw1Ideal.defs (F := Ideal)) (onTc (τ := Cert.ReferenceGlaDw1Ideal.τ) (Cert.ReferenceGlaDw1Ideal.main (F := Ideal))) ⟨m', fun _ => 0, g'⟩ (fun r => ∀ c : Dev Cert.ReferenceGlaDw1Ideal.nD,
          r.2.mem ((c.tc : Thread Cert.ReferenceGlaDw1Ideal.nD Cert.ReferenceGlaDw1Ideal.τ).loc Cert.ReferenceGlaDw1Ideal.main_v15) = v0 c
          ∧ r.2.mem ((c.tc : Thread Cert.ReferenceGlaDw1Ideal.nD Cert.ReferenceGlaDw1Ideal.τ).loc Cert.ReferenceGlaDw1Ideal.main_arg0) = m' ((c.tc : Thread Cert.ReferenceGlaDw1Ideal.nD Cert.ReferenceGlaDw1Ideal.τ).loc Cert.ReferenceGlaDw1Ideal.main_arg0)
          ∧ r.2.mem ((c.tc : Thread Cert.ReferenceGlaDw1Ideal.nD Cert.ReferenceGlaDw1Ideal.τ).loc Cert.ReferenceGlaDw1Ideal.main_arg1) = m' ((c.tc : Thread Cert.ReferenceGlaDw1Ideal.nD Cert.ReferenceGlaDw1Ideal.τ).loc Cert.ReferenceGlaDw1Ideal.main_arg1)
          ∧ r.2.mem ((c.tc : Thread Cert.ReferenceGlaDw1Ideal.nD Cert.ReferenceGlaDw1Ideal.τ).loc Cert.ReferenceGlaDw1Ideal.main_arg2) = m' ((c.tc : Thread Cert.ReferenceGlaDw1Ideal.nD Cert.ReferenceGlaDw1Ideal.τ).loc Cert.ReferenceGlaDw1Ideal.main_arg2)
          ∧ r.2.mem ((c.tc : Thread Cert.ReferenceGlaDw1Ideal.nD Cert.ReferenceGlaDw1Ideal.τ).loc Cert.ReferenceGlaDw1Ideal.main_arg3) = m' ((c.tc : Thread Cert.ReferenceGlaDw1Ideal.nD Cert.ReferenceGlaDw1Ideal.τ).loc Cert.ReferenceGlaDw1Ideal.main_arg3)
          ∧ r.2.mem ((c.tc : Thread Cert.ReferenceGlaDw1Ideal.nD Cert.ReferenceGlaDw1Ideal.τ).loc Cert.ReferenceGlaDw1Ideal.main_arg4) = m' ((c.tc : Thread Cert.ReferenceGlaDw1Ideal.nD Cert.ReferenceGlaDw1Ideal.τ).loc Cert.ReferenceGlaDw1Ideal.main_arg4))

def preserves_KernelPreNorm_KernelPreNormIdeal : Prop :=
  True

def algebraic_KernelPreNormIdeal_ReferencePreNormIdeal [hKernelPreNormIdeal : Cert.KernelPreNormIdeal.Facts] [hReferencePreNormIdeal : Cert.ReferencePreNormIdeal.Facts] : Prop :=
  ∀ (m : (ℓ : Loc Cert.KernelPreNormIdeal.nD Cert.KernelPreNormIdeal.τ Cert.KernelPreNormIdeal.sig) → Buf (Elt Ideal) ℓ) (g : Dev Cert.KernelPreNormIdeal.nD → PrngReg)
    (m' : (ℓ : Loc Cert.ReferencePreNormIdeal.nD Cert.ReferencePreNormIdeal.τ Cert.ReferencePreNormIdeal.sig) → Buf (Elt Ideal) ℓ) (g' : Dev Cert.ReferencePreNormIdeal.nD → PrngReg), Pre_KernelPreNormIdeal m →
    (∀ c : Dev Cert.KernelPreNormIdeal.nD,
      m' ((c.tc : Thread Cert.ReferencePreNormIdeal.nD Cert.ReferencePreNormIdeal.τ).loc Cert.ReferencePreNormIdeal.main_arg0) = m ((c.tc : Thread Cert.KernelPreNormIdeal.nD Cert.KernelPreNormIdeal.τ).loc Cert.KernelPreNormIdeal.main_arg0)
      ∧ m' ((c.tc : Thread Cert.ReferencePreNormIdeal.nD Cert.ReferencePreNormIdeal.τ).loc Cert.ReferencePreNormIdeal.main_arg1) = m ((c.tc : Thread Cert.KernelPreNormIdeal.nD Cert.KernelPreNormIdeal.τ).loc Cert.KernelPreNormIdeal.main_arg1)) →
    ∃ (v0 : (c : Dev Cert.KernelPreNormIdeal.nD) → Buf (Elt Ideal) ((c.tc : Thread Cert.KernelPreNormIdeal.nD Cert.KernelPreNormIdeal.τ).loc Cert.KernelPreNormIdeal.main_v0)),
      θ_run (Cert.KernelPreNormIdeal.defs (F := Ideal)) (onTc (τ := Cert.KernelPreNormIdeal.τ) (Cert.KernelPreNormIdeal.main (F := Ideal))) ⟨m, fun _ => 0, g⟩ (fun r => ∀ c : Dev Cert.KernelPreNormIdeal.nD,
          r.2.mem ((c.tc : Thread Cert.KernelPreNormIdeal.nD Cert.KernelPreNormIdeal.τ).loc Cert.KernelPreNormIdeal.main_v0) = v0 c
          ∧ r.2.mem ((c.tc : Thread Cert.KernelPreNormIdeal.nD Cert.KernelPreNormIdeal.τ).loc Cert.KernelPreNormIdeal.main_arg0) = m ((c.tc : Thread Cert.KernelPreNormIdeal.nD Cert.KernelPreNormIdeal.τ).loc Cert.KernelPreNormIdeal.main_arg0)
          ∧ r.2.mem ((c.tc : Thread Cert.KernelPreNormIdeal.nD Cert.KernelPreNormIdeal.τ).loc Cert.KernelPreNormIdeal.main_arg1) = m ((c.tc : Thread Cert.KernelPreNormIdeal.nD Cert.KernelPreNormIdeal.τ).loc Cert.KernelPreNormIdeal.main_arg1))
      ∧ θ_run (Cert.ReferencePreNormIdeal.defs (F := Ideal)) (onTc (τ := Cert.ReferencePreNormIdeal.τ) (Cert.ReferencePreNormIdeal.main (F := Ideal))) ⟨m', fun _ => 0, g'⟩ (fun r => ∀ c : Dev Cert.ReferencePreNormIdeal.nD,
          r.2.mem ((c.tc : Thread Cert.ReferencePreNormIdeal.nD Cert.ReferencePreNormIdeal.τ).loc Cert.ReferencePreNormIdeal.main_v12) = v0 c
          ∧ r.2.mem ((c.tc : Thread Cert.ReferencePreNormIdeal.nD Cert.ReferencePreNormIdeal.τ).loc Cert.ReferencePreNormIdeal.main_arg0) = m' ((c.tc : Thread Cert.ReferencePreNormIdeal.nD Cert.ReferencePreNormIdeal.τ).loc Cert.ReferencePreNormIdeal.main_arg0)
          ∧ r.2.mem ((c.tc : Thread Cert.ReferencePreNormIdeal.nD Cert.ReferencePreNormIdeal.τ).loc Cert.ReferencePreNormIdeal.main_arg1) = m' ((c.tc : Thread Cert.ReferencePreNormIdeal.nD Cert.ReferencePreNormIdeal.τ).loc Cert.ReferencePreNormIdeal.main_arg1))

def preserves_KernelPostPre_KernelPostPreIdeal : Prop :=
  True

def algebraic_KernelPostPreIdeal_ReferencePostPreIdeal [hKernelPostPreIdeal : Cert.KernelPostPreIdeal.Facts] [hReferencePostPreIdeal : Cert.ReferencePostPreIdeal.Facts] : Prop :=
  ∀ (m : (ℓ : Loc Cert.KernelPostPreIdeal.nD Cert.KernelPostPreIdeal.τ Cert.KernelPostPreIdeal.sig) → Buf (Elt Ideal) ℓ) (g : Dev Cert.KernelPostPreIdeal.nD → PrngReg)
    (m' : (ℓ : Loc Cert.ReferencePostPreIdeal.nD Cert.ReferencePostPreIdeal.τ Cert.ReferencePostPreIdeal.sig) → Buf (Elt Ideal) ℓ) (g' : Dev Cert.ReferencePostPreIdeal.nD → PrngReg), Pre_KernelPostPreIdeal m →
    (∀ c : Dev Cert.KernelPostPreIdeal.nD,
      m' ((c.tc : Thread Cert.ReferencePostPreIdeal.nD Cert.ReferencePostPreIdeal.τ).loc Cert.ReferencePostPreIdeal.main_arg0) = m ((c.tc : Thread Cert.KernelPostPreIdeal.nD Cert.KernelPostPreIdeal.τ).loc Cert.KernelPostPreIdeal.main_arg0)
      ∧ m' ((c.tc : Thread Cert.ReferencePostPreIdeal.nD Cert.ReferencePostPreIdeal.τ).loc Cert.ReferencePostPreIdeal.main_arg1) = m ((c.tc : Thread Cert.KernelPostPreIdeal.nD Cert.KernelPostPreIdeal.τ).loc Cert.KernelPostPreIdeal.main_arg1)
      ∧ m' ((c.tc : Thread Cert.ReferencePostPreIdeal.nD Cert.ReferencePostPreIdeal.τ).loc Cert.ReferencePostPreIdeal.main_arg2) = m ((c.tc : Thread Cert.KernelPostPreIdeal.nD Cert.KernelPostPreIdeal.τ).loc Cert.KernelPostPreIdeal.main_arg2)
      ∧ m' ((c.tc : Thread Cert.ReferencePostPreIdeal.nD Cert.ReferencePostPreIdeal.τ).loc Cert.ReferencePostPreIdeal.main_arg3) = m ((c.tc : Thread Cert.KernelPostPreIdeal.nD Cert.KernelPostPreIdeal.τ).loc Cert.KernelPostPreIdeal.main_arg3)) →
    ∃ (v0 : (c : Dev Cert.KernelPostPreIdeal.nD) → Buf (Elt Ideal) ((c.tc : Thread Cert.KernelPostPreIdeal.nD Cert.KernelPostPreIdeal.τ).loc Cert.KernelPostPreIdeal.main_v0_0)) (v1 : (c : Dev Cert.KernelPostPreIdeal.nD) → Buf (Elt Ideal) ((c.tc : Thread Cert.KernelPostPreIdeal.nD Cert.KernelPostPreIdeal.τ).loc Cert.KernelPostPreIdeal.main_v0_1)),
      θ_run (Cert.KernelPostPreIdeal.defs (F := Ideal)) (onTc (τ := Cert.KernelPostPreIdeal.τ) (Cert.KernelPostPreIdeal.main (F := Ideal))) ⟨m, fun _ => 0, g⟩ (fun r => ∀ c : Dev Cert.KernelPostPreIdeal.nD,
          r.2.mem ((c.tc : Thread Cert.KernelPostPreIdeal.nD Cert.KernelPostPreIdeal.τ).loc Cert.KernelPostPreIdeal.main_v0_0) = v0 c
          ∧ r.2.mem ((c.tc : Thread Cert.KernelPostPreIdeal.nD Cert.KernelPostPreIdeal.τ).loc Cert.KernelPostPreIdeal.main_v0_1) = v1 c
          ∧ r.2.mem ((c.tc : Thread Cert.KernelPostPreIdeal.nD Cert.KernelPostPreIdeal.τ).loc Cert.KernelPostPreIdeal.main_arg0) = m ((c.tc : Thread Cert.KernelPostPreIdeal.nD Cert.KernelPostPreIdeal.τ).loc Cert.KernelPostPreIdeal.main_arg0)
          ∧ r.2.mem ((c.tc : Thread Cert.KernelPostPreIdeal.nD Cert.KernelPostPreIdeal.τ).loc Cert.KernelPostPreIdeal.main_arg1) = m ((c.tc : Thread Cert.KernelPostPreIdeal.nD Cert.KernelPostPreIdeal.τ).loc Cert.KernelPostPreIdeal.main_arg1)
          ∧ r.2.mem ((c.tc : Thread Cert.KernelPostPreIdeal.nD Cert.KernelPostPreIdeal.τ).loc Cert.KernelPostPreIdeal.main_arg2) = m ((c.tc : Thread Cert.KernelPostPreIdeal.nD Cert.KernelPostPreIdeal.τ).loc Cert.KernelPostPreIdeal.main_arg2)
          ∧ r.2.mem ((c.tc : Thread Cert.KernelPostPreIdeal.nD Cert.KernelPostPreIdeal.τ).loc Cert.KernelPostPreIdeal.main_arg3) = m ((c.tc : Thread Cert.KernelPostPreIdeal.nD Cert.KernelPostPreIdeal.τ).loc Cert.KernelPostPreIdeal.main_arg3))
      ∧ θ_run (Cert.ReferencePostPreIdeal.defs (F := Ideal)) (onTc (τ := Cert.ReferencePostPreIdeal.τ) (Cert.ReferencePostPreIdeal.main (F := Ideal))) ⟨m', fun _ => 0, g'⟩ (fun r => ∀ c : Dev Cert.ReferencePostPreIdeal.nD,
          r.2.mem ((c.tc : Thread Cert.ReferencePostPreIdeal.nD Cert.ReferencePostPreIdeal.τ).loc Cert.ReferencePostPreIdeal.main_v12) = v0 c
          ∧ r.2.mem ((c.tc : Thread Cert.ReferencePostPreIdeal.nD Cert.ReferencePostPreIdeal.τ).loc Cert.ReferencePostPreIdeal.main_v25) = v1 c
          ∧ r.2.mem ((c.tc : Thread Cert.ReferencePostPreIdeal.nD Cert.ReferencePostPreIdeal.τ).loc Cert.ReferencePostPreIdeal.main_arg0) = m' ((c.tc : Thread Cert.ReferencePostPreIdeal.nD Cert.ReferencePostPreIdeal.τ).loc Cert.ReferencePostPreIdeal.main_arg0)
          ∧ r.2.mem ((c.tc : Thread Cert.ReferencePostPreIdeal.nD Cert.ReferencePostPreIdeal.τ).loc Cert.ReferencePostPreIdeal.main_arg1) = m' ((c.tc : Thread Cert.ReferencePostPreIdeal.nD Cert.ReferencePostPreIdeal.τ).loc Cert.ReferencePostPreIdeal.main_arg1)
          ∧ r.2.mem ((c.tc : Thread Cert.ReferencePostPreIdeal.nD Cert.ReferencePostPreIdeal.τ).loc Cert.ReferencePostPreIdeal.main_arg2) = m' ((c.tc : Thread Cert.ReferencePostPreIdeal.nD Cert.ReferencePostPreIdeal.τ).loc Cert.ReferencePostPreIdeal.main_arg2)
          ∧ r.2.mem ((c.tc : Thread Cert.ReferencePostPreIdeal.nD Cert.ReferencePostPreIdeal.τ).loc Cert.ReferencePostPreIdeal.main_arg3) = m' ((c.tc : Thread Cert.ReferencePostPreIdeal.nD Cert.ReferencePostPreIdeal.τ).loc Cert.ReferencePostPreIdeal.main_arg3))

def preserves_KernelLossHead_KernelLossHeadIdeal : Prop :=
  True

def algebraic_KernelLossHeadIdeal_ReferenceLossHeadIdeal_pre_loss_finite [hKernelLossHeadIdeal : Cert.KernelLossHeadIdeal.Facts] [hReferenceLossHeadIdeal : Cert.ReferenceLossHeadIdeal.Facts] [hPre_loss_finite : Cert.Pre_loss_finite.Facts] : Prop :=
  ∀ (m : (ℓ : Loc Cert.KernelLossHeadIdeal.nD Cert.KernelLossHeadIdeal.τ Cert.KernelLossHeadIdeal.sig) → Buf (Elt Ideal) ℓ) (g : Dev Cert.KernelLossHeadIdeal.nD → PrngReg)
    (m' : (ℓ : Loc Cert.ReferenceLossHeadIdeal.nD Cert.ReferenceLossHeadIdeal.τ Cert.ReferenceLossHeadIdeal.sig) → Buf (Elt Ideal) ℓ) (g' : Dev Cert.ReferenceLossHeadIdeal.nD → PrngReg), Pre_KernelLossHeadIdeal_loss_finite m →
    (∀ c : Dev Cert.KernelLossHeadIdeal.nD,
      m' ((c.tc : Thread Cert.ReferenceLossHeadIdeal.nD Cert.ReferenceLossHeadIdeal.τ).loc Cert.ReferenceLossHeadIdeal.main_arg0) = m ((c.tc : Thread Cert.KernelLossHeadIdeal.nD Cert.KernelLossHeadIdeal.τ).loc Cert.KernelLossHeadIdeal.main_arg0)
      ∧ m' ((c.tc : Thread Cert.ReferenceLossHeadIdeal.nD Cert.ReferenceLossHeadIdeal.τ).loc Cert.ReferenceLossHeadIdeal.main_arg1) = m ((c.tc : Thread Cert.KernelLossHeadIdeal.nD Cert.KernelLossHeadIdeal.τ).loc Cert.KernelLossHeadIdeal.main_arg1)
      ∧ m' ((c.tc : Thread Cert.ReferenceLossHeadIdeal.nD Cert.ReferenceLossHeadIdeal.τ).loc Cert.ReferenceLossHeadIdeal.main_arg2) = m ((c.tc : Thread Cert.KernelLossHeadIdeal.nD Cert.KernelLossHeadIdeal.τ).loc Cert.KernelLossHeadIdeal.main_arg2)
      ∧ m' ((c.tc : Thread Cert.ReferenceLossHeadIdeal.nD Cert.ReferenceLossHeadIdeal.τ).loc Cert.ReferenceLossHeadIdeal.main_arg3) = m ((c.tc : Thread Cert.KernelLossHeadIdeal.nD Cert.KernelLossHeadIdeal.τ).loc Cert.KernelLossHeadIdeal.main_arg3)) →
    ∃ (v0 : (c : Dev Cert.KernelLossHeadIdeal.nD) → Buf (Elt Ideal) ((c.tc : Thread Cert.KernelLossHeadIdeal.nD Cert.KernelLossHeadIdeal.τ).loc Cert.KernelLossHeadIdeal.main_v2)) (v1 : (c : Dev Cert.KernelLossHeadIdeal.nD) → Buf (Elt Ideal) ((c.tc : Thread Cert.KernelLossHeadIdeal.nD Cert.KernelLossHeadIdeal.τ).loc Cert.KernelLossHeadIdeal.main_v0_1)) (v2 : (c : Dev Cert.KernelLossHeadIdeal.nD) → Buf (Elt Ideal) ((c.tc : Thread Cert.KernelLossHeadIdeal.nD Cert.KernelLossHeadIdeal.τ).loc Cert.KernelLossHeadIdeal.main_v0_2)) (v3 : (c : Dev Cert.KernelLossHeadIdeal.nD) → Buf (Elt Ideal) ((c.tc : Thread Cert.KernelLossHeadIdeal.nD Cert.KernelLossHeadIdeal.τ).loc Cert.KernelLossHeadIdeal.main_v0_3)),
      θ_run (Cert.KernelLossHeadIdeal.defs (F := Ideal)) (onTc (τ := Cert.KernelLossHeadIdeal.τ) (Cert.KernelLossHeadIdeal.main (F := Ideal))) ⟨m, fun _ => 0, g⟩ (fun r => ∀ c : Dev Cert.KernelLossHeadIdeal.nD,
          r.2.mem ((c.tc : Thread Cert.KernelLossHeadIdeal.nD Cert.KernelLossHeadIdeal.τ).loc Cert.KernelLossHeadIdeal.main_v2) = v0 c
          ∧ r.2.mem ((c.tc : Thread Cert.KernelLossHeadIdeal.nD Cert.KernelLossHeadIdeal.τ).loc Cert.KernelLossHeadIdeal.main_v0_1) = v1 c
          ∧ r.2.mem ((c.tc : Thread Cert.KernelLossHeadIdeal.nD Cert.KernelLossHeadIdeal.τ).loc Cert.KernelLossHeadIdeal.main_v0_2) = v2 c
          ∧ r.2.mem ((c.tc : Thread Cert.KernelLossHeadIdeal.nD Cert.KernelLossHeadIdeal.τ).loc Cert.KernelLossHeadIdeal.main_v0_3) = v3 c
          ∧ r.2.mem ((c.tc : Thread Cert.KernelLossHeadIdeal.nD Cert.KernelLossHeadIdeal.τ).loc Cert.KernelLossHeadIdeal.main_arg0) = m ((c.tc : Thread Cert.KernelLossHeadIdeal.nD Cert.KernelLossHeadIdeal.τ).loc Cert.KernelLossHeadIdeal.main_arg0)
          ∧ r.2.mem ((c.tc : Thread Cert.KernelLossHeadIdeal.nD Cert.KernelLossHeadIdeal.τ).loc Cert.KernelLossHeadIdeal.main_arg1) = m ((c.tc : Thread Cert.KernelLossHeadIdeal.nD Cert.KernelLossHeadIdeal.τ).loc Cert.KernelLossHeadIdeal.main_arg1)
          ∧ r.2.mem ((c.tc : Thread Cert.KernelLossHeadIdeal.nD Cert.KernelLossHeadIdeal.τ).loc Cert.KernelLossHeadIdeal.main_arg2) = m ((c.tc : Thread Cert.KernelLossHeadIdeal.nD Cert.KernelLossHeadIdeal.τ).loc Cert.KernelLossHeadIdeal.main_arg2)
          ∧ r.2.mem ((c.tc : Thread Cert.KernelLossHeadIdeal.nD Cert.KernelLossHeadIdeal.τ).loc Cert.KernelLossHeadIdeal.main_arg3) = m ((c.tc : Thread Cert.KernelLossHeadIdeal.nD Cert.KernelLossHeadIdeal.τ).loc Cert.KernelLossHeadIdeal.main_arg3))
      ∧ θ_run (Cert.ReferenceLossHeadIdeal.defs (F := Ideal)) (onTc (τ := Cert.ReferenceLossHeadIdeal.τ) (Cert.ReferenceLossHeadIdeal.main (F := Ideal))) ⟨m', fun _ => 0, g'⟩ (fun r => ∀ c : Dev Cert.ReferenceLossHeadIdeal.nD,
          r.2.mem ((c.tc : Thread Cert.ReferenceLossHeadIdeal.nD Cert.ReferenceLossHeadIdeal.τ).loc Cert.ReferenceLossHeadIdeal.main_v24) = v0 c
          ∧ r.2.mem ((c.tc : Thread Cert.ReferenceLossHeadIdeal.nD Cert.ReferenceLossHeadIdeal.τ).loc Cert.ReferenceLossHeadIdeal.main_v30) = v1 c
          ∧ r.2.mem ((c.tc : Thread Cert.ReferenceLossHeadIdeal.nD Cert.ReferenceLossHeadIdeal.τ).loc Cert.ReferenceLossHeadIdeal.main_v50) = v2 c
          ∧ r.2.mem ((c.tc : Thread Cert.ReferenceLossHeadIdeal.nD Cert.ReferenceLossHeadIdeal.τ).loc Cert.ReferenceLossHeadIdeal.main_v33) = v3 c
          ∧ r.2.mem ((c.tc : Thread Cert.ReferenceLossHeadIdeal.nD Cert.ReferenceLossHeadIdeal.τ).loc Cert.ReferenceLossHeadIdeal.main_arg0) = m' ((c.tc : Thread Cert.ReferenceLossHeadIdeal.nD Cert.ReferenceLossHeadIdeal.τ).loc Cert.ReferenceLossHeadIdeal.main_arg0)
          ∧ r.2.mem ((c.tc : Thread Cert.ReferenceLossHeadIdeal.nD Cert.ReferenceLossHeadIdeal.τ).loc Cert.ReferenceLossHeadIdeal.main_arg1) = m' ((c.tc : Thread Cert.ReferenceLossHeadIdeal.nD Cert.ReferenceLossHeadIdeal.τ).loc Cert.ReferenceLossHeadIdeal.main_arg1)
          ∧ r.2.mem ((c.tc : Thread Cert.ReferenceLossHeadIdeal.nD Cert.ReferenceLossHeadIdeal.τ).loc Cert.ReferenceLossHeadIdeal.main_arg2) = m' ((c.tc : Thread Cert.ReferenceLossHeadIdeal.nD Cert.ReferenceLossHeadIdeal.τ).loc Cert.ReferenceLossHeadIdeal.main_arg2)
          ∧ r.2.mem ((c.tc : Thread Cert.ReferenceLossHeadIdeal.nD Cert.ReferenceLossHeadIdeal.τ).loc Cert.ReferenceLossHeadIdeal.main_arg3) = m' ((c.tc : Thread Cert.ReferenceLossHeadIdeal.nD Cert.ReferenceLossHeadIdeal.τ).loc Cert.ReferenceLossHeadIdeal.main_arg3))

def preserves_KernelMidBwd_KernelMidBwdIdeal : Prop :=
  True

def algebraic_KernelMidBwdIdeal_ReferenceMidBwdIdeal_pre_mid_finite [hKernelMidBwdIdeal : Cert.KernelMidBwdIdeal.Facts] [hReferenceMidBwdIdeal : Cert.ReferenceMidBwdIdeal.Facts] [hPre_mid_finite : Cert.Pre_mid_finite.Facts] : Prop :=
  ∀ (m : (ℓ : Loc Cert.KernelMidBwdIdeal.nD Cert.KernelMidBwdIdeal.τ Cert.KernelMidBwdIdeal.sig) → Buf (Elt Ideal) ℓ) (g : Dev Cert.KernelMidBwdIdeal.nD → PrngReg)
    (m' : (ℓ : Loc Cert.ReferenceMidBwdIdeal.nD Cert.ReferenceMidBwdIdeal.τ Cert.ReferenceMidBwdIdeal.sig) → Buf (Elt Ideal) ℓ) (g' : Dev Cert.ReferenceMidBwdIdeal.nD → PrngReg), Pre_KernelMidBwdIdeal_mid_finite m →
    (∀ c : Dev Cert.KernelMidBwdIdeal.nD,
      m' ((c.tc : Thread Cert.ReferenceMidBwdIdeal.nD Cert.ReferenceMidBwdIdeal.τ).loc Cert.ReferenceMidBwdIdeal.main_arg0) = m ((c.tc : Thread Cert.KernelMidBwdIdeal.nD Cert.KernelMidBwdIdeal.τ).loc Cert.KernelMidBwdIdeal.main_arg0)
      ∧ m' ((c.tc : Thread Cert.ReferenceMidBwdIdeal.nD Cert.ReferenceMidBwdIdeal.τ).loc Cert.ReferenceMidBwdIdeal.main_arg1) = m ((c.tc : Thread Cert.KernelMidBwdIdeal.nD Cert.KernelMidBwdIdeal.τ).loc Cert.KernelMidBwdIdeal.main_arg1)
      ∧ m' ((c.tc : Thread Cert.ReferenceMidBwdIdeal.nD Cert.ReferenceMidBwdIdeal.τ).loc Cert.ReferenceMidBwdIdeal.main_arg2) = m ((c.tc : Thread Cert.KernelMidBwdIdeal.nD Cert.KernelMidBwdIdeal.τ).loc Cert.KernelMidBwdIdeal.main_arg2)
      ∧ m' ((c.tc : Thread Cert.ReferenceMidBwdIdeal.nD Cert.ReferenceMidBwdIdeal.τ).loc Cert.ReferenceMidBwdIdeal.main_arg3) = m ((c.tc : Thread Cert.KernelMidBwdIdeal.nD Cert.KernelMidBwdIdeal.τ).loc Cert.KernelMidBwdIdeal.main_arg3)
      ∧ m' ((c.tc : Thread Cert.ReferenceMidBwdIdeal.nD Cert.ReferenceMidBwdIdeal.τ).loc Cert.ReferenceMidBwdIdeal.main_arg4) = m ((c.tc : Thread Cert.KernelMidBwdIdeal.nD Cert.KernelMidBwdIdeal.τ).loc Cert.KernelMidBwdIdeal.main_arg4)
      ∧ m' ((c.tc : Thread Cert.ReferenceMidBwdIdeal.nD Cert.ReferenceMidBwdIdeal.τ).loc Cert.ReferenceMidBwdIdeal.main_arg5) = m ((c.tc : Thread Cert.KernelMidBwdIdeal.nD Cert.KernelMidBwdIdeal.τ).loc Cert.KernelMidBwdIdeal.main_arg5)) →
    ∃ (v0 : (c : Dev Cert.KernelMidBwdIdeal.nD) → Buf (Elt Ideal) ((c.tc : Thread Cert.KernelMidBwdIdeal.nD Cert.KernelMidBwdIdeal.τ).loc Cert.KernelMidBwdIdeal.main_v0_0)) (v1 : (c : Dev Cert.KernelMidBwdIdeal.nD) → Buf (Elt Ideal) ((c.tc : Thread Cert.KernelMidBwdIdeal.nD Cert.KernelMidBwdIdeal.τ).loc Cert.KernelMidBwdIdeal.main_v0_1)) (v2 : (c : Dev Cert.KernelMidBwdIdeal.nD) → Buf (Elt Ideal) ((c.tc : Thread Cert.KernelMidBwdIdeal.nD Cert.KernelMidBwdIdeal.τ).loc Cert.KernelMidBwdIdeal.main_v0_2)) (v3 : (c : Dev Cert.KernelMidBwdIdeal.nD) → Buf (Elt Ideal) ((c.tc : Thread Cert.KernelMidBwdIdeal.nD Cert.KernelMidBwdIdeal.τ).loc Cert.KernelMidBwdIdeal.main_v0_3)),
      θ_run (Cert.KernelMidBwdIdeal.defs (F := Ideal)) (onTc (τ := Cert.KernelMidBwdIdeal.τ) (Cert.KernelMidBwdIdeal.main (F := Ideal))) ⟨m, fun _ => 0, g⟩ (fun r => ∀ c : Dev Cert.KernelMidBwdIdeal.nD,
          r.2.mem ((c.tc : Thread Cert.KernelMidBwdIdeal.nD Cert.KernelMidBwdIdeal.τ).loc Cert.KernelMidBwdIdeal.main_v0_0) = v0 c
          ∧ r.2.mem ((c.tc : Thread Cert.KernelMidBwdIdeal.nD Cert.KernelMidBwdIdeal.τ).loc Cert.KernelMidBwdIdeal.main_v0_1) = v1 c
          ∧ r.2.mem ((c.tc : Thread Cert.KernelMidBwdIdeal.nD Cert.KernelMidBwdIdeal.τ).loc Cert.KernelMidBwdIdeal.main_v0_2) = v2 c
          ∧ r.2.mem ((c.tc : Thread Cert.KernelMidBwdIdeal.nD Cert.KernelMidBwdIdeal.τ).loc Cert.KernelMidBwdIdeal.main_v0_3) = v3 c
          ∧ r.2.mem ((c.tc : Thread Cert.KernelMidBwdIdeal.nD Cert.KernelMidBwdIdeal.τ).loc Cert.KernelMidBwdIdeal.main_arg0) = m ((c.tc : Thread Cert.KernelMidBwdIdeal.nD Cert.KernelMidBwdIdeal.τ).loc Cert.KernelMidBwdIdeal.main_arg0)
          ∧ r.2.mem ((c.tc : Thread Cert.KernelMidBwdIdeal.nD Cert.KernelMidBwdIdeal.τ).loc Cert.KernelMidBwdIdeal.main_arg1) = m ((c.tc : Thread Cert.KernelMidBwdIdeal.nD Cert.KernelMidBwdIdeal.τ).loc Cert.KernelMidBwdIdeal.main_arg1)
          ∧ r.2.mem ((c.tc : Thread Cert.KernelMidBwdIdeal.nD Cert.KernelMidBwdIdeal.τ).loc Cert.KernelMidBwdIdeal.main_arg2) = m ((c.tc : Thread Cert.KernelMidBwdIdeal.nD Cert.KernelMidBwdIdeal.τ).loc Cert.KernelMidBwdIdeal.main_arg2)
          ∧ r.2.mem ((c.tc : Thread Cert.KernelMidBwdIdeal.nD Cert.KernelMidBwdIdeal.τ).loc Cert.KernelMidBwdIdeal.main_arg3) = m ((c.tc : Thread Cert.KernelMidBwdIdeal.nD Cert.KernelMidBwdIdeal.τ).loc Cert.KernelMidBwdIdeal.main_arg3)
          ∧ r.2.mem ((c.tc : Thread Cert.KernelMidBwdIdeal.nD Cert.KernelMidBwdIdeal.τ).loc Cert.KernelMidBwdIdeal.main_arg4) = m ((c.tc : Thread Cert.KernelMidBwdIdeal.nD Cert.KernelMidBwdIdeal.τ).loc Cert.KernelMidBwdIdeal.main_arg4)
          ∧ r.2.mem ((c.tc : Thread Cert.KernelMidBwdIdeal.nD Cert.KernelMidBwdIdeal.τ).loc Cert.KernelMidBwdIdeal.main_arg5) = m ((c.tc : Thread Cert.KernelMidBwdIdeal.nD Cert.KernelMidBwdIdeal.τ).loc Cert.KernelMidBwdIdeal.main_arg5))
      ∧ θ_run (Cert.ReferenceMidBwdIdeal.defs (F := Ideal)) (onTc (τ := Cert.ReferenceMidBwdIdeal.τ) (Cert.ReferenceMidBwdIdeal.main (F := Ideal))) ⟨m', fun _ => 0, g'⟩ (fun r => ∀ c : Dev Cert.ReferenceMidBwdIdeal.nD,
          r.2.mem ((c.tc : Thread Cert.ReferenceMidBwdIdeal.nD Cert.ReferenceMidBwdIdeal.τ).loc Cert.ReferenceMidBwdIdeal.main_v34) = v0 c
          ∧ r.2.mem ((c.tc : Thread Cert.ReferenceMidBwdIdeal.nD Cert.ReferenceMidBwdIdeal.τ).loc Cert.ReferenceMidBwdIdeal.main_v69) = v1 c
          ∧ r.2.mem ((c.tc : Thread Cert.ReferenceMidBwdIdeal.nD Cert.ReferenceMidBwdIdeal.τ).loc Cert.ReferenceMidBwdIdeal.main_v17) = v2 c
          ∧ r.2.mem ((c.tc : Thread Cert.ReferenceMidBwdIdeal.nD Cert.ReferenceMidBwdIdeal.τ).loc Cert.ReferenceMidBwdIdeal.main_v52) = v3 c
          ∧ r.2.mem ((c.tc : Thread Cert.ReferenceMidBwdIdeal.nD Cert.ReferenceMidBwdIdeal.τ).loc Cert.ReferenceMidBwdIdeal.main_arg0) = m' ((c.tc : Thread Cert.ReferenceMidBwdIdeal.nD Cert.ReferenceMidBwdIdeal.τ).loc Cert.ReferenceMidBwdIdeal.main_arg0)
          ∧ r.2.mem ((c.tc : Thread Cert.ReferenceMidBwdIdeal.nD Cert.ReferenceMidBwdIdeal.τ).loc Cert.ReferenceMidBwdIdeal.main_arg1) = m' ((c.tc : Thread Cert.ReferenceMidBwdIdeal.nD Cert.ReferenceMidBwdIdeal.τ).loc Cert.ReferenceMidBwdIdeal.main_arg1)
          ∧ r.2.mem ((c.tc : Thread Cert.ReferenceMidBwdIdeal.nD Cert.ReferenceMidBwdIdeal.τ).loc Cert.ReferenceMidBwdIdeal.main_arg2) = m' ((c.tc : Thread Cert.ReferenceMidBwdIdeal.nD Cert.ReferenceMidBwdIdeal.τ).loc Cert.ReferenceMidBwdIdeal.main_arg2)
          ∧ r.2.mem ((c.tc : Thread Cert.ReferenceMidBwdIdeal.nD Cert.ReferenceMidBwdIdeal.τ).loc Cert.ReferenceMidBwdIdeal.main_arg3) = m' ((c.tc : Thread Cert.ReferenceMidBwdIdeal.nD Cert.ReferenceMidBwdIdeal.τ).loc Cert.ReferenceMidBwdIdeal.main_arg3)
          ∧ r.2.mem ((c.tc : Thread Cert.ReferenceMidBwdIdeal.nD Cert.ReferenceMidBwdIdeal.τ).loc Cert.ReferenceMidBwdIdeal.main_arg4) = m' ((c.tc : Thread Cert.ReferenceMidBwdIdeal.nD Cert.ReferenceMidBwdIdeal.τ).loc Cert.ReferenceMidBwdIdeal.main_arg4)
          ∧ r.2.mem ((c.tc : Thread Cert.ReferenceMidBwdIdeal.nD Cert.ReferenceMidBwdIdeal.τ).loc Cert.ReferenceMidBwdIdeal.main_arg5) = m' ((c.tc : Thread Cert.ReferenceMidBwdIdeal.nD Cert.ReferenceMidBwdIdeal.τ).loc Cert.ReferenceMidBwdIdeal.main_arg5))

def preserves_KernelFirstBwd_KernelFirstBwdIdeal : Prop :=
  True

def algebraic_KernelFirstBwdIdeal_ReferenceFirstBwdIdeal_pre_first_finite [hKernelFirstBwdIdeal : Cert.KernelFirstBwdIdeal.Facts] [hReferenceFirstBwdIdeal : Cert.ReferenceFirstBwdIdeal.Facts] [hPre_first_finite : Cert.Pre_first_finite.Facts] : Prop :=
  ∀ (m : (ℓ : Loc Cert.KernelFirstBwdIdeal.nD Cert.KernelFirstBwdIdeal.τ Cert.KernelFirstBwdIdeal.sig) → Buf (Elt Ideal) ℓ) (g : Dev Cert.KernelFirstBwdIdeal.nD → PrngReg)
    (m' : (ℓ : Loc Cert.ReferenceFirstBwdIdeal.nD Cert.ReferenceFirstBwdIdeal.τ Cert.ReferenceFirstBwdIdeal.sig) → Buf (Elt Ideal) ℓ) (g' : Dev Cert.ReferenceFirstBwdIdeal.nD → PrngReg), Pre_KernelFirstBwdIdeal_first_finite m →
    (∀ c : Dev Cert.KernelFirstBwdIdeal.nD,
      m' ((c.tc : Thread Cert.ReferenceFirstBwdIdeal.nD Cert.ReferenceFirstBwdIdeal.τ).loc Cert.ReferenceFirstBwdIdeal.main_arg0) = m ((c.tc : Thread Cert.KernelFirstBwdIdeal.nD Cert.KernelFirstBwdIdeal.τ).loc Cert.KernelFirstBwdIdeal.main_arg0)
      ∧ m' ((c.tc : Thread Cert.ReferenceFirstBwdIdeal.nD Cert.ReferenceFirstBwdIdeal.τ).loc Cert.ReferenceFirstBwdIdeal.main_arg1) = m ((c.tc : Thread Cert.KernelFirstBwdIdeal.nD Cert.KernelFirstBwdIdeal.τ).loc Cert.KernelFirstBwdIdeal.main_arg1)
      ∧ m' ((c.tc : Thread Cert.ReferenceFirstBwdIdeal.nD Cert.ReferenceFirstBwdIdeal.τ).loc Cert.ReferenceFirstBwdIdeal.main_arg2) = m ((c.tc : Thread Cert.KernelFirstBwdIdeal.nD Cert.KernelFirstBwdIdeal.τ).loc Cert.KernelFirstBwdIdeal.main_arg2)
      ∧ m' ((c.tc : Thread Cert.ReferenceFirstBwdIdeal.nD Cert.ReferenceFirstBwdIdeal.τ).loc Cert.ReferenceFirstBwdIdeal.main_arg3) = m ((c.tc : Thread Cert.KernelFirstBwdIdeal.nD Cert.KernelFirstBwdIdeal.τ).loc Cert.KernelFirstBwdIdeal.main_arg3)) →
    ∃ (v0 : (c : Dev Cert.KernelFirstBwdIdeal.nD) → Buf (Elt Ideal) ((c.tc : Thread Cert.KernelFirstBwdIdeal.nD Cert.KernelFirstBwdIdeal.τ).loc Cert.KernelFirstBwdIdeal.main_v0_0)) (v1 : (c : Dev Cert.KernelFirstBwdIdeal.nD) → Buf (Elt Ideal) ((c.tc : Thread Cert.KernelFirstBwdIdeal.nD Cert.KernelFirstBwdIdeal.τ).loc Cert.KernelFirstBwdIdeal.main_v0_1)),
      θ_run (Cert.KernelFirstBwdIdeal.defs (F := Ideal)) (onTc (τ := Cert.KernelFirstBwdIdeal.τ) (Cert.KernelFirstBwdIdeal.main (F := Ideal))) ⟨m, fun _ => 0, g⟩ (fun r => ∀ c : Dev Cert.KernelFirstBwdIdeal.nD,
          r.2.mem ((c.tc : Thread Cert.KernelFirstBwdIdeal.nD Cert.KernelFirstBwdIdeal.τ).loc Cert.KernelFirstBwdIdeal.main_v0_0) = v0 c
          ∧ r.2.mem ((c.tc : Thread Cert.KernelFirstBwdIdeal.nD Cert.KernelFirstBwdIdeal.τ).loc Cert.KernelFirstBwdIdeal.main_v0_1) = v1 c
          ∧ r.2.mem ((c.tc : Thread Cert.KernelFirstBwdIdeal.nD Cert.KernelFirstBwdIdeal.τ).loc Cert.KernelFirstBwdIdeal.main_arg0) = m ((c.tc : Thread Cert.KernelFirstBwdIdeal.nD Cert.KernelFirstBwdIdeal.τ).loc Cert.KernelFirstBwdIdeal.main_arg0)
          ∧ r.2.mem ((c.tc : Thread Cert.KernelFirstBwdIdeal.nD Cert.KernelFirstBwdIdeal.τ).loc Cert.KernelFirstBwdIdeal.main_arg1) = m ((c.tc : Thread Cert.KernelFirstBwdIdeal.nD Cert.KernelFirstBwdIdeal.τ).loc Cert.KernelFirstBwdIdeal.main_arg1)
          ∧ r.2.mem ((c.tc : Thread Cert.KernelFirstBwdIdeal.nD Cert.KernelFirstBwdIdeal.τ).loc Cert.KernelFirstBwdIdeal.main_arg2) = m ((c.tc : Thread Cert.KernelFirstBwdIdeal.nD Cert.KernelFirstBwdIdeal.τ).loc Cert.KernelFirstBwdIdeal.main_arg2)
          ∧ r.2.mem ((c.tc : Thread Cert.KernelFirstBwdIdeal.nD Cert.KernelFirstBwdIdeal.τ).loc Cert.KernelFirstBwdIdeal.main_arg3) = m ((c.tc : Thread Cert.KernelFirstBwdIdeal.nD Cert.KernelFirstBwdIdeal.τ).loc Cert.KernelFirstBwdIdeal.main_arg3))
      ∧ θ_run (Cert.ReferenceFirstBwdIdeal.defs (F := Ideal)) (onTc (τ := Cert.ReferenceFirstBwdIdeal.τ) (Cert.ReferenceFirstBwdIdeal.main (F := Ideal))) ⟨m', fun _ => 0, g'⟩ (fun r => ∀ c : Dev Cert.ReferenceFirstBwdIdeal.nD,
          r.2.mem ((c.tc : Thread Cert.ReferenceFirstBwdIdeal.nD Cert.ReferenceFirstBwdIdeal.τ).loc Cert.ReferenceFirstBwdIdeal.main_v34) = v0 c
          ∧ r.2.mem ((c.tc : Thread Cert.ReferenceFirstBwdIdeal.nD Cert.ReferenceFirstBwdIdeal.τ).loc Cert.ReferenceFirstBwdIdeal.main_v17) = v1 c
          ∧ r.2.mem ((c.tc : Thread Cert.ReferenceFirstBwdIdeal.nD Cert.ReferenceFirstBwdIdeal.τ).loc Cert.ReferenceFirstBwdIdeal.main_arg0) = m' ((c.tc : Thread Cert.ReferenceFirstBwdIdeal.nD Cert.ReferenceFirstBwdIdeal.τ).loc Cert.ReferenceFirstBwdIdeal.main_arg0)
          ∧ r.2.mem ((c.tc : Thread Cert.ReferenceFirstBwdIdeal.nD Cert.ReferenceFirstBwdIdeal.τ).loc Cert.ReferenceFirstBwdIdeal.main_arg1) = m' ((c.tc : Thread Cert.ReferenceFirstBwdIdeal.nD Cert.ReferenceFirstBwdIdeal.τ).loc Cert.ReferenceFirstBwdIdeal.main_arg1)
          ∧ r.2.mem ((c.tc : Thread Cert.ReferenceFirstBwdIdeal.nD Cert.ReferenceFirstBwdIdeal.τ).loc Cert.ReferenceFirstBwdIdeal.main_arg2) = m' ((c.tc : Thread Cert.ReferenceFirstBwdIdeal.nD Cert.ReferenceFirstBwdIdeal.τ).loc Cert.ReferenceFirstBwdIdeal.main_arg2)
          ∧ r.2.mem ((c.tc : Thread Cert.ReferenceFirstBwdIdeal.nD Cert.ReferenceFirstBwdIdeal.τ).loc Cert.ReferenceFirstBwdIdeal.main_arg3) = m' ((c.tc : Thread Cert.ReferenceFirstBwdIdeal.nD Cert.ReferenceFirstBwdIdeal.τ).loc Cert.ReferenceFirstBwdIdeal.main_arg3))

def Claim : Prop :=
  ∃ (hKernel : Cert.Kernel.Facts) (hKernelIdeal : Cert.KernelIdeal.Facts) (hReferenceIdeal : Cert.ReferenceIdeal.Facts) (hKernelSguDh : Cert.KernelSguDh.Facts) (hKernelSguDhIdeal : Cert.KernelSguDhIdeal.Facts) (hReferenceSguDhIdeal : Cert.ReferenceSguDhIdeal.Facts) (hKernelSguIn : Cert.KernelSguIn.Facts) (hKernelSguInIdeal : Cert.KernelSguInIdeal.Facts) (hReferenceSguInIdeal : Cert.ReferenceSguInIdeal.Facts) (hKernelOutDa : Cert.KernelOutDa.Facts) (hKernelOutDaIdeal : Cert.KernelOutDaIdeal.Facts) (hReferenceOutDaIdeal : Cert.ReferenceOutDaIdeal.Facts) (hKernelOut : Cert.KernelOut.Facts) (hKernelOutIdeal : Cert.KernelOutIdeal.Facts) (hReferenceOutIdeal : Cert.ReferenceOutIdeal.Facts) (hKernelOutDw : Cert.KernelOutDw.Facts) (hKernelOutDwIdeal : Cert.KernelOutDwIdeal.Facts) (hReferenceOutDwIdeal : Cert.ReferenceOutDwIdeal.Facts) (hKernelSguDw : Cert.KernelSguDw.Facts) (hKernelSguDwIdeal : Cert.KernelSguDwIdeal.Facts) (hReferenceSguDwIdeal : Cert.ReferenceSguDwIdeal.Facts) (hKernelGlaDh : Cert.KernelGlaDh.Facts) (hKernelGlaDhIdeal : Cert.KernelGlaDhIdeal.Facts) (hReferenceGlaDhIdeal : Cert.ReferenceGlaDhIdeal.Facts) (hKernelGlaIn : Cert.KernelGlaIn.Facts) (hKernelGlaInIdeal : Cert.KernelGlaInIdeal.Facts) (hReferenceGlaInIdeal : Cert.ReferenceGlaInIdeal.Facts) (hKernelGlaDw0 : Cert.KernelGlaDw0.Facts) (hKernelGlaDw0Ideal : Cert.KernelGlaDw0Ideal.Facts) (hReferenceGlaDw0Ideal : Cert.ReferenceGlaDw0Ideal.Facts) (hKernelGlaDw1 : Cert.KernelGlaDw1.Facts) (hKernelGlaDw1Ideal : Cert.KernelGlaDw1Ideal.Facts) (hReferenceGlaDw1Ideal : Cert.ReferenceGlaDw1Ideal.Facts) (hKernelPreNorm : Cert.KernelPreNorm.Facts) (hKernelPreNormIdeal : Cert.KernelPreNormIdeal.Facts) (hReferencePreNormIdeal : Cert.ReferencePreNormIdeal.Facts) (hKernelPostPre : Cert.KernelPostPre.Facts) (hKernelPostPreIdeal : Cert.KernelPostPreIdeal.Facts) (hReferencePostPreIdeal : Cert.ReferencePostPreIdeal.Facts) (hKernelLossHead : Cert.KernelLossHead.Facts) (hKernelLossHeadIdeal : Cert.KernelLossHeadIdeal.Facts) (hReferenceLossHeadIdeal : Cert.ReferenceLossHeadIdeal.Facts) (hKernelMidBwd : Cert.KernelMidBwd.Facts) (hKernelMidBwdIdeal : Cert.KernelMidBwdIdeal.Facts) (hReferenceMidBwdIdeal : Cert.ReferenceMidBwdIdeal.Facts) (hKernelFirstBwd : Cert.KernelFirstBwd.Facts) (hKernelFirstBwdIdeal : Cert.KernelFirstBwdIdeal.Facts) (hReferenceFirstBwdIdeal : Cert.ReferenceFirstBwdIdeal.Facts) (hPre_finite : Cert.Pre_finite.Facts) (hPre_out_core_ok : Cert.Pre_out_core_ok.Facts) (hPre_sgu_core_ok : Cert.Pre_sgu_core_ok.Facts) (hPre_gla_core_ok : Cert.Pre_gla_core_ok.Facts) (hPre_loss_finite : Cert.Pre_loss_finite.Facts) (hPre_mid_finite : Cert.Pre_mid_finite.Facts) (hPre_first_finite : Cert.Pre_first_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelSguDh (hKernelSguDh := hKernelSguDh)
    ∧ quiescent_KernelSguDhIdeal (hKernelSguDhIdeal := hKernelSguDhIdeal)
    ∧ quiescent_ReferenceSguDhIdeal (hReferenceSguDhIdeal := hReferenceSguDhIdeal)
    ∧ quiescent_KernelSguIn (hKernelSguIn := hKernelSguIn)
    ∧ quiescent_KernelSguInIdeal (hKernelSguInIdeal := hKernelSguInIdeal)
    ∧ quiescent_ReferenceSguInIdeal (hReferenceSguInIdeal := hReferenceSguInIdeal)
    ∧ quiescent_KernelOutDa (hKernelOutDa := hKernelOutDa)
    ∧ quiescent_KernelOutDaIdeal (hKernelOutDaIdeal := hKernelOutDaIdeal)
    ∧ quiescent_ReferenceOutDaIdeal (hReferenceOutDaIdeal := hReferenceOutDaIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelOutDw (hKernelOutDw := hKernelOutDw) (hPre_out_core_ok := hPre_out_core_ok)
    ∧ quiescent_KernelOutDwIdeal (hKernelOutDwIdeal := hKernelOutDwIdeal) (hPre_out_core_ok := hPre_out_core_ok)
    ∧ quiescent_ReferenceOutDwIdeal (hReferenceOutDwIdeal := hReferenceOutDwIdeal)
    ∧ quiescent_ReferenceOutDwIdeal_pre_out_core_ok (hReferenceOutDwIdeal := hReferenceOutDwIdeal) (hPre_out_core_ok := hPre_out_core_ok)
    ∧ quiescent_KernelSguDw (hKernelSguDw := hKernelSguDw) (hPre_sgu_core_ok := hPre_sgu_core_ok)
    ∧ quiescent_KernelSguDwIdeal (hKernelSguDwIdeal := hKernelSguDwIdeal) (hPre_sgu_core_ok := hPre_sgu_core_ok)
    ∧ quiescent_ReferenceSguDwIdeal (hReferenceSguDwIdeal := hReferenceSguDwIdeal)
    ∧ quiescent_ReferenceSguDwIdeal_pre_sgu_core_ok (hReferenceSguDwIdeal := hReferenceSguDwIdeal) (hPre_sgu_core_ok := hPre_sgu_core_ok)
    ∧ quiescent_KernelGlaDh (hKernelGlaDh := hKernelGlaDh)
    ∧ quiescent_KernelGlaDhIdeal (hKernelGlaDhIdeal := hKernelGlaDhIdeal)
    ∧ quiescent_ReferenceGlaDhIdeal (hReferenceGlaDhIdeal := hReferenceGlaDhIdeal)
    ∧ quiescent_KernelGlaIn (hKernelGlaIn := hKernelGlaIn)
    ∧ quiescent_KernelGlaInIdeal (hKernelGlaInIdeal := hKernelGlaInIdeal)
    ∧ quiescent_ReferenceGlaInIdeal (hReferenceGlaInIdeal := hReferenceGlaInIdeal)
    ∧ quiescent_KernelGlaDw0 (hKernelGlaDw0 := hKernelGlaDw0) (hPre_gla_core_ok := hPre_gla_core_ok)
    ∧ quiescent_KernelGlaDw0Ideal (hKernelGlaDw0Ideal := hKernelGlaDw0Ideal) (hPre_gla_core_ok := hPre_gla_core_ok)
    ∧ quiescent_ReferenceGlaDw0Ideal (hReferenceGlaDw0Ideal := hReferenceGlaDw0Ideal)
    ∧ quiescent_ReferenceGlaDw0Ideal_pre_gla_core_ok (hReferenceGlaDw0Ideal := hReferenceGlaDw0Ideal) (hPre_gla_core_ok := hPre_gla_core_ok)
    ∧ quiescent_KernelGlaDw1 (hKernelGlaDw1 := hKernelGlaDw1) (hPre_gla_core_ok := hPre_gla_core_ok)
    ∧ quiescent_KernelGlaDw1Ideal (hKernelGlaDw1Ideal := hKernelGlaDw1Ideal) (hPre_gla_core_ok := hPre_gla_core_ok)
    ∧ quiescent_ReferenceGlaDw1Ideal (hReferenceGlaDw1Ideal := hReferenceGlaDw1Ideal)
    ∧ quiescent_ReferenceGlaDw1Ideal_pre_gla_core_ok (hReferenceGlaDw1Ideal := hReferenceGlaDw1Ideal) (hPre_gla_core_ok := hPre_gla_core_ok)
    ∧ quiescent_KernelPreNorm (hKernelPreNorm := hKernelPreNorm)
    ∧ quiescent_KernelPreNormIdeal (hKernelPreNormIdeal := hKernelPreNormIdeal)
    ∧ quiescent_ReferencePreNormIdeal (hReferencePreNormIdeal := hReferencePreNormIdeal)
    ∧ quiescent_KernelPostPre (hKernelPostPre := hKernelPostPre)
    ∧ quiescent_KernelPostPreIdeal (hKernelPostPreIdeal := hKernelPostPreIdeal)
    ∧ quiescent_ReferencePostPreIdeal (hReferencePostPreIdeal := hReferencePostPreIdeal)
    ∧ quiescent_KernelLossHead (hKernelLossHead := hKernelLossHead)
    ∧ quiescent_KernelLossHeadIdeal (hKernelLossHeadIdeal := hKernelLossHeadIdeal)
    ∧ quiescent_KernelLossHeadIdeal_pre_loss_finite (hKernelLossHeadIdeal := hKernelLossHeadIdeal) (hPre_loss_finite := hPre_loss_finite)
    ∧ quiescent_ReferenceLossHeadIdeal (hReferenceLossHeadIdeal := hReferenceLossHeadIdeal)
    ∧ quiescent_ReferenceLossHeadIdeal_pre_loss_finite (hReferenceLossHeadIdeal := hReferenceLossHeadIdeal) (hPre_loss_finite := hPre_loss_finite)
    ∧ quiescent_KernelMidBwd (hKernelMidBwd := hKernelMidBwd)
    ∧ quiescent_KernelMidBwdIdeal (hKernelMidBwdIdeal := hKernelMidBwdIdeal)
    ∧ quiescent_KernelMidBwdIdeal_pre_mid_finite (hKernelMidBwdIdeal := hKernelMidBwdIdeal) (hPre_mid_finite := hPre_mid_finite)
    ∧ quiescent_ReferenceMidBwdIdeal (hReferenceMidBwdIdeal := hReferenceMidBwdIdeal)
    ∧ quiescent_ReferenceMidBwdIdeal_pre_mid_finite (hReferenceMidBwdIdeal := hReferenceMidBwdIdeal) (hPre_mid_finite := hPre_mid_finite)
    ∧ quiescent_KernelFirstBwd (hKernelFirstBwd := hKernelFirstBwd)
    ∧ quiescent_KernelFirstBwdIdeal (hKernelFirstBwdIdeal := hKernelFirstBwdIdeal)
    ∧ quiescent_KernelFirstBwdIdeal_pre_first_finite (hKernelFirstBwdIdeal := hKernelFirstBwdIdeal) (hPre_first_finite := hPre_first_finite)
    ∧ quiescent_ReferenceFirstBwdIdeal (hReferenceFirstBwdIdeal := hReferenceFirstBwdIdeal)
    ∧ quiescent_ReferenceFirstBwdIdeal_pre_first_finite (hReferenceFirstBwdIdeal := hReferenceFirstBwdIdeal) (hPre_first_finite := hPre_first_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelSguDh_KernelSguDhIdeal
    ∧ algebraic_KernelSguDhIdeal_ReferenceSguDhIdeal (hKernelSguDhIdeal := hKernelSguDhIdeal) (hReferenceSguDhIdeal := hReferenceSguDhIdeal)
    ∧ preserves_KernelSguIn_KernelSguInIdeal
    ∧ algebraic_KernelSguInIdeal_ReferenceSguInIdeal (hKernelSguInIdeal := hKernelSguInIdeal) (hReferenceSguInIdeal := hReferenceSguInIdeal)
    ∧ preserves_KernelOutDa_KernelOutDaIdeal
    ∧ algebraic_KernelOutDaIdeal_ReferenceOutDaIdeal (hKernelOutDaIdeal := hKernelOutDaIdeal) (hReferenceOutDaIdeal := hReferenceOutDaIdeal)
    ∧ preserves_KernelOut_KernelOutIdeal
    ∧ algebraic_KernelOutIdeal_ReferenceOutIdeal (hKernelOutIdeal := hKernelOutIdeal) (hReferenceOutIdeal := hReferenceOutIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal) (hPre_out_core_ok := hPre_out_core_ok)
    ∧ preserves_KernelSguDw_KernelSguDwIdeal
    ∧ algebraic_KernelSguDwIdeal_ReferenceSguDwIdeal (hKernelSguDwIdeal := hKernelSguDwIdeal) (hReferenceSguDwIdeal := hReferenceSguDwIdeal) (hPre_sgu_core_ok := hPre_sgu_core_ok)
    ∧ preserves_KernelGlaDh_KernelGlaDhIdeal
    ∧ algebraic_KernelGlaDhIdeal_ReferenceGlaDhIdeal (hKernelGlaDhIdeal := hKernelGlaDhIdeal) (hReferenceGlaDhIdeal := hReferenceGlaDhIdeal)
    ∧ preserves_KernelGlaIn_KernelGlaInIdeal
    ∧ algebraic_KernelGlaInIdeal_ReferenceGlaInIdeal (hKernelGlaInIdeal := hKernelGlaInIdeal) (hReferenceGlaInIdeal := hReferenceGlaInIdeal)
    ∧ preserves_KernelGlaDw0_KernelGlaDw0Ideal
    ∧ algebraic_KernelGlaDw0Ideal_ReferenceGlaDw0Ideal (hKernelGlaDw0Ideal := hKernelGlaDw0Ideal) (hReferenceGlaDw0Ideal := hReferenceGlaDw0Ideal) (hPre_gla_core_ok := hPre_gla_core_ok)
    ∧ preserves_KernelGlaDw1_KernelGlaDw1Ideal
    ∧ algebraic_KernelGlaDw1Ideal_ReferenceGlaDw1Ideal (hKernelGlaDw1Ideal := hKernelGlaDw1Ideal) (hReferenceGlaDw1Ideal := hReferenceGlaDw1Ideal) (hPre_gla_core_ok := hPre_gla_core_ok)
    ∧ preserves_KernelPreNorm_KernelPreNormIdeal
    ∧ algebraic_KernelPreNormIdeal_ReferencePreNormIdeal (hKernelPreNormIdeal := hKernelPreNormIdeal) (hReferencePreNormIdeal := hReferencePreNormIdeal)
    ∧ preserves_KernelPostPre_KernelPostPreIdeal
    ∧ algebraic_KernelPostPreIdeal_ReferencePostPreIdeal (hKernelPostPreIdeal := hKernelPostPreIdeal) (hReferencePostPreIdeal := hReferencePostPreIdeal)
    ∧ preserves_KernelLossHead_KernelLossHeadIdeal
    ∧ algebraic_KernelLossHeadIdeal_ReferenceLossHeadIdeal_pre_loss_finite (hKernelLossHeadIdeal := hKernelLossHeadIdeal) (hReferenceLossHeadIdeal := hReferenceLossHeadIdeal) (hPre_loss_finite := hPre_loss_finite)
    ∧ preserves_KernelMidBwd_KernelMidBwdIdeal
    ∧ algebraic_KernelMidBwdIdeal_ReferenceMidBwdIdeal_pre_mid_finite (hKernelMidBwdIdeal := hKernelMidBwdIdeal) (hReferenceMidBwdIdeal := hReferenceMidBwdIdeal) (hPre_mid_finite := hPre_mid_finite)
    ∧ preserves_KernelFirstBwd_KernelFirstBwdIdeal
    ∧ algebraic_KernelFirstBwdIdeal_ReferenceFirstBwdIdeal_pre_first_finite (hKernelFirstBwdIdeal := hKernelFirstBwdIdeal) (hReferenceFirstBwdIdeal := hReferenceFirstBwdIdeal) (hPre_first_finite := hPre_first_finite)
-- ==== Pre_finite.lean ====
abbrev S2048x2048 : Shape := ⟨2, ![2048, 2048]⟩
abbrev S2048x6144 : Shape := ⟨2, ![2048, 6144]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x6144 : S_.BroadcastsInDim S2048x6144 (![] : Fin 0 → Fin S2048x6144.rank)
  reducesTo_S2048x6144_S_d0_1 : S2048x6144.ReducesTo [0, 1] S_
  bcast_S_S1x2048 : S_.BroadcastsInDim S1x2048 (![] : Fin 0 → Fin S1x2048.rank)
  reducesTo_S1x2048_S_d0_1 : S1x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  main_v28

def fn {F : FTy → Type} [FloatOps F] (main_arg0 : FVec F S2048x2048 .f32) (main_arg1 : FVec F S2048x6144 .f32) (main_arg2 : FVec F S1x2048 .f32) (main_arg3 : FVec F S1x2048 .f32) (main_arg4 : FVec F S8x128x128 .f32) (main_arg5 : FVec F S8x128 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x6144 .f32 := Host.absf main_arg1
  let main_cst_0 : FVec F S_ .f32 := constant S_ .f32 0x7F800000#32
  let main_v5 : FVec F S2048x6144 .f32 := broadcastInDim S2048x6144 ![] bcast_S_S2048x6144 main_cst_0
  let main_v6 : IVec S2048x6144 1 := cmpf .olt main_v4 main_v5
  let main_c_1 : IVec S_ 1 := constantI S_ 1 1#1
  let main_v7 : IVec S_ 1 := (fun x v => Host.reduce IntOp.andi x v reducesTo_S2048x6144_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_v13 main_v16
-- ==== Pre_first_finite.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S2048x2048 .f32) (main_arg1 : FVec F S2048x2048 .f32) (main_arg2 : FVec F S2048x2048 .f32) (main_arg3 : FVec F S1x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Pre_gla_core_ok.lean ====
abbrev S1 : Shape := ⟨1, ![1]⟩
abbrev S2048x6656 : Shape := ⟨2, ![2048, 6656]⟩
abbrev S2048x2048 : Shape := ⟨2, ![2048, 2048]⟩
abbrev S2048x1024 : Shape := ⟨2, ![2048, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x6656 .bf16) (main_arg2 : FVec F S2048x6656 .bf16) (main_arg3 : FVec F S2048x2048 .bf16) (main_arg4 : FVec F S2048x1024 .bf16) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 1#32
  let main_v3 : IVec S_ 1 := cmpi .sle main_v2 main_c_0
  let main_v4 : IVec S_ 1 := andi main_v1 main_v3
  main_v4
-- ==== Pre_loss_finite.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S2048x2048 .f32) (main_arg2 : FVec F S1x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Pre_mid_finite.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S2048x2048 .f32) (main_arg5 : FVec F S1x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  main_v28

def fn {F : FTy → Type} [FloatOps F] (main_arg0 : FVec F S2048x2048 .f32) (main_arg1 : FVec F S2048x2048 .f32) (main_arg2 : FVec F S2048x2048 .f32) (main_arg3 : FVec F S1x2048 .f32) (main_arg4 : FVec F S2048x2048 .f32) (main_arg5 : FVec F S1x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_v13 main_v16
-- ==== Pre_out_core_ok.lean ====
abbrev S1 : Shape := ⟨1, ![1]⟩
abbrev S2048x2048 : Shape := ⟨2, ![2048, 2048]⟩
abbrev S2048x1024 : Shape := ⟨2, ![2048, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x2048 .bf16) (main_arg2 : FVec F S2048x2048 .bf16) (main_arg3 : FVec F S2048x2048 .bf16) (main_arg4 : FVec F S2048x1024 .bf16) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 1#32
  let main_v3 : IVec S_ 1 := cmpi .sle main_v2 main_c_0
  let main_v4 : IVec S_ 1 := andi main_v1 main_v3
  main_v4
-- ==== Pre_sgu_core_ok.lean ====
abbrev S1 : Shape := ⟨1, ![1]⟩
abbrev S2048x2048 : Shape := ⟨2, ![2048, 2048]⟩
abbrev S2048x6144 : Shape := ⟨2, ![2048, 6144]⟩
abbrev S2048x3072 : Shape := ⟨2, ![2048, 3072]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x2048 .bf16) (main_arg2 : FVec F S2048x2048 .bf16) (main_arg3 : FVec F S2048x6144 .bf16) (main_arg4 : FVec F S2048x3072 .bf16) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 1#32
  let main_v3 : IVec S_ 1 := cmpi .sle main_v2 main_c_0
  let main_v4 : IVec S_ 1 := andi main_v1 main_v3
  main_v4
-- ==== Kernel.lean ====
abbrev S2048x2048 : Shape := ⟨2, ![2048, 2048]⟩
abbrev S2048x6144 : Shape := ⟨2, ![2048, 6144]⟩
abbrev S1x2048 : Shape := ⟨2, ![1, 2048]⟩
abbrev S8x128x128 : Shape := ⟨3, ![8, 128, 128]⟩
abbrev S8x128 : Shape := ⟨2, ![8, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S128x8 : Shape := ⟨2, ![128, 8]⟩
abbrev S128x2048 : Shape := ⟨2, ![128, 2048]⟩
abbrev S128x6144 : Shape := ⟨2, ![128, 6144]⟩
abbrev S128x256 : Shape := ⟨2, ![128, 256]⟩
abbrev S2048 : Shape := ⟨1, ![2048]⟩

abbrev nBuf : Space → Nat
  | .hbm => 50
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128, .f32⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S1x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S1x128x128, .i1⟩
  | .hbm, ⟨31, _⟩ => ⟨S_, .f32⟩
  | .hbm, ⟨32, _⟩ => ⟨S_, .f32⟩
  | .hbm, ⟨33, _⟩ => ⟨S8x128x128, .i1⟩
  | .hbm, ⟨34, _⟩ => ⟨S8x128x128, .f32⟩
  | .hbm, ⟨35, _⟩ => ⟨S8x128x128, .f32⟩
  | .hbm, ⟨36, _⟩ => ⟨S8x128x128, .f32⟩
  | .hbm, ⟨37, _⟩ => ⟨S128x8, .f32⟩
  | .hbm, ⟨38, _⟩ => ⟨S2048x6144, .bf16⟩
  | .hbm, ⟨39, _⟩ => ⟨S8x128x128, .f32⟩
  | .hbm, ⟨40, _⟩ => ⟨S128x8, .f32⟩
  | .hbm, ⟨41, _⟩ => ⟨S1x2048, .f32⟩
  | .hbm, ⟨42, _⟩ => ⟨S1x2048, .f32⟩
  | .hbm, ⟨43, _⟩ => ⟨S1x128x128, .i1⟩
  | .hbm, ⟨44, _⟩ => ⟨S_, .f32⟩
  | .hbm, ⟨45, _⟩ => ⟨S_, .f32⟩
  | .hbm, ⟨46, _⟩ => ⟨S8x128x128, .i1⟩
  | .hbm, ⟨47, _⟩ => ⟨S8x128x128, .f32⟩
  | .hbm, ⟨48, _⟩ => ⟨S8x128x128, .f32⟩
  | .hbm, ⟨49, _⟩ => ⟨S8x128, .f32⟩
  | .local _ .vmem, ⟨0, _⟩ => ⟨S128x2048, .f32⟩
  | .local _ .vmem, ⟨1, _⟩ => ⟨S128x2048, .f32⟩
  | .local _ .vmem, ⟨2, _⟩ => ⟨S128x6144, .f32⟩
  | .local _ .vmem, ⟨3, _⟩ => ⟨S128x6144, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S8x128x128, .f32⟩
  | .local _ .vmem, ⟨8, _⟩ => ⟨S128x8, .f32⟩
  | .local _ .vmem, ⟨9, _⟩ => ⟨S128x6144, .bf16⟩
  | .local _ .vmem, ⟨10, _⟩ => ⟨S128x6144, .bf16⟩
  | .local _ .vmem, ⟨11, _⟩ => ⟨S8x128x128, .f32⟩
  | .local _ .vmem, ⟨12, _⟩ => ⟨S128x8, .f32⟩
  | .local _ .vmem, ⟨13, _⟩ => ⟨S1x2048, .f32⟩
  | .local _ .vmem, ⟨14, _⟩ => ⟨S1x2048, .f32⟩
  | .local _ .vmem, ⟨15, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11_0 : Ref sig .tc := ⟨.hbm, 38, rfl⟩
abbrev main_v11_1 : Ref sig .tc := ⟨.hbm, 39, rfl⟩
abbrev main_v11_2 : Ref sig .tc := ⟨.hbm, 40, rfl⟩
abbrev main_v11_3 : Ref sig .tc := ⟨.hbm, 41, rfl⟩
abbrev main_v11_4 : Ref sig .tc := ⟨.hbm, 42, rfl⟩
abbrev main_v12 : Ref sig .tc := ⟨.hbm, 43, rfl⟩
abbrev main_cst_0 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v13 : Ref sig .tc := ⟨.hbm, 48, rfl⟩
abbrev main_v14 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v185 : BitVec 1 := Scalar.cmpi .eq arg0 c0_i32
  let v186 : BitVec 32 := Scalar.extui v185
  let c0_i32_87 : BitVec 32 := 0#32
  let v187 : BitVec 1 := Scalar.cmpi .ne v186 c0_i32_87
  v187

def k0_cond2 (i : grid0.Coords) : BitVec 1 :=
  let arg0 : BitVec 32 := BitVec.ofNat 32 (i 0).val
  let c0_i32_88 : BitVec 32 := 0#32
  let v188 : BitVec 1 := Scalar.cmpi .sgt arg0 c0_i32_88
  let v189 : BitVec 32 := Scalar.extui v188
  let c0_i32_89 : BitVec 32 := 0#32
  let v190 : BitVec 1 := Scalar.cmpi .ne v189 c0_i32_89
  v190

def k0_cond3 (i : grid0.Coords) : BitVec 1 :=
  let arg0 : BitVec 32 := BitVec.ofNat 32 (i 0).val
  let c0_i32_109 : BitVec 32 := 0#32
  let v233 : BitVec 1 := Scalar.cmpi .eq arg0 c0_i32_109
  let v234 : BitVec 32 := Scalar.extui v233
  let c0_i32_110 : BitVec 32 := 0#32
  let v235 : BitVec 1 := Scalar.cmpi .ne v234 c0_i32_110
  v235

def k0_cond4 (i : grid0.Coords) : BitVec 1 :=
  let arg0 : BitVec 32 := BitVec.ofNat 32 (i 0).val
  let c0_i32_111 : BitVec 32 := 0#32
  let v236 : BitVec 1 := Scalar.cmpi .sgt arg0 c0_i32_111
  let v237 : BitVec 32 := Scalar.extui v236
  let c0_i32_112 : BitVec 32 := 0#32
  let v238 : BitVec 1 := Scalar.cmpi .ne v237 c0_i32_112
  v238

def k0_cond5 (i : grid0.Coords) : BitVec 1 :=
  let arg0 : BitVec 32 := BitVec.ofNat 32 (i 0).val
  let c0_i32_132 : BitVec 32 := 0#32
  let v281 : BitVec 1 := Scalar.cmpi .eq arg0 c0_i32_132
  let v282 : BitVec 32 := Scalar.extui v281
  let c0_i32_133 : BitVec 32 := 0#32
  let v283 : BitVec 1 := Scalar.cmpi .ne v282 c0_i32_133
  v283

def k0_cond6 (i : grid0.Coords) : BitVec 1 :=
  let arg0 : BitVec 32 := BitVec.ofNat 32 (i 0).val
  let c0_i32_134 : BitVec 32 := 0#32
  let v284 : BitVec 1 := Scalar.cmpi .sgt arg0 c0_i32_134
  let v285 : BitVec 32 := Scalar.extui v284
  let c0_i32_135 : BitVec 32 := 0#32
  let v286 : BitVec 1 := Scalar.cmpi .ne v285 c0_i32_135
  v286

def k0_cond7 (i : grid0.Coords) : BitVec 1 :=
  let arg0 : BitVec 32 := BitVec.ofNat 32 (i 0).val
  let c0_i32_155 : BitVec 32 := 0#32
  let v329 : BitVec 1 := Scalar.cmpi .eq arg0 c0_i32_155
  let v330 : BitVec 32 := Scalar.extui v329
  let c0_i32_156 : BitVec 32 := 0#32
  let v331 : BitVec 1 := Scalar.cmpi .ne v330 c0_i32_156
  v331

def k0_cond8 (i : grid0.Coords) : BitVec 1 :=
  let arg0 : BitVec 32 := BitVec.ofNat 32 (i 0).val
  let c0_i32_157 : BitVec 32 := 0#32
  let v332 : BitVec 1 := Scalar.cmpi .sgt arg0 c0_i32_157
  let v333 : BitVec 32 := Scalar.extui v332
  let c0_i32_158 : BitVec 32 := 0#32
  let v334 : BitVec 1 := Scalar.cmpi .ne v333 c0_i32_158
  v334

def k0_cond9 (i : grid0.Coords) : BitVec 1 :=
  let arg0 : BitVec 32 := BitVec.ofNat 32 (i 0).val
  let c0_i32_178 : BitVec 32 := 0#32
  let v377 : BitVec 1 := Scalar.cmpi .eq arg0 c0_i32_178
  let v378 : BitVec 32 := Scalar.extui v377
  let c0_i32_179 : BitVec 32 := 0#32
  let v379 : BitVec 1 := Scalar.cmpi .ne v378 c0_i32_179
  v379

def k0_cond10 (i : grid0.Coords) : BitVec 1 :=
  let arg0 : BitVec 32 := BitVec.ofNat 32 (i 0).val
  let c0_i32_180 : BitVec 32 := 0#32
  let v380 : BitVec 1 := Scalar.cmpi .sgt arg0 c0_i32_180
  let v381 : BitVec 32 := Scalar.extui v380
  let c0_i32_181 : BitVec 32 := 0#32
  let v382 : BitVec 1 := Scalar.cmpi .ne v381 c0_i32_181
  v382

def k0_cond11 (i : grid0.Coords) : BitVec 1 :=
  let arg0 : BitVec 32 := BitVec.ofNat 32 (i 0).val
  let c0_i32_201 : BitVec 32 := 0#32
  let v425 : BitVec 1 := Scalar.cmpi .eq arg0 c0_i32_201
  let v426 : BitVec 32 := Scalar.extui v425
  let c0_i32_202 : BitVec 32 := 0#32
  let v427 : BitVec 1 := Scalar.cmpi .ne v426 c0_i32_202
  v427

def k0_cond12 (i : grid0.Coords) : BitVec 1 :=
  let arg0 : BitVec 32 := BitVec.ofNat 32 (i 0).val
  let c0_i32_203 : BitVec 32 := 0#32
  let v428 : BitVec 1 := Scalar.cmpi .sgt arg0 c0_i32_203
  let v429 : BitVec 32 := Scalar.extui v428
  let c0_i32_204 : BitVec 32 := 0#32
  let v430 : BitVec 1 := Scalar.cmpi .ne v429 c0_i32_204
  v430

def k0_cond13 (i : grid0.Coords) : BitVec 1 :=
  let arg0 : BitVec 32 := BitVec.ofNat 32 (i 0).val
  let c0_i32_224 : BitVec 32 := 0#32
  let v473 : BitVec 1 := Scalar.cmpi .eq arg0 c0_i32_224
  let v474 : BitVec 32 := Scalar.extui v473
  let c0_i32_225 : BitVec 32 := 0#32
  let v475 : BitVec 1 := Scalar.cmpi .ne v474 c0_i32_225
  v475

def k0_cond14 (i : grid0.Coords) : BitVec 1 :=
  let arg0 : BitVec 32 := BitVec.ofNat 32 (i 0).val
  let c0_i32_226 : BitVec 32 := 0#32
  let v476 : BitVec 1 := Scalar.cmpi .sgt arg0 c0_i32_226
  let v477 : BitVec 32 := Scalar.extui v476
  let c0_i32_227 : BitVec 32 := 0#32
  let v478 : BitVec 1 := Scalar.cmpi .ne v477 c0_i32_227
  v478

def k0_cond15 (i : grid0.Coords) : BitVec 1 :=
  let arg0 : BitVec 32 := BitVec.ofNat 32 (i 0).val
  let c0_i32_247 : BitVec 32 := 0#32
  let v521 : BitVec 1 := Scalar.cmpi .eq arg0 c0_i32_247
  let v522 : BitVec 32 := Scalar.extui v521
  let c0_i32_248 : BitVec 32 := 0#32
  let v523 : BitVec 1 := Scalar.cmpi .ne v522 c0_i32_248
  v523

def k0_cond16 (i : grid0.Coords) : BitVec 1 :=
  let arg0 : BitVec 32 := BitVec.ofNat 32 (i 0).val
  let c0_i32_249 : BitVec 32 := 0#32
  let v524 : BitVec 1 := Scalar.cmpi .sgt arg0 c0_i32_249
  let v525 : BitVec 32 := Scalar.extui v524
  let c0_i32_250 : BitVec 32 := 0#32
  let v526 : BitVec 1 := Scalar.cmpi .ne v525 c0_i32_250
  v526

def k0_cond17 (i : grid0.Coords) : BitVec 1 :=
  let arg0 : BitVec 32 := BitVec.ofNat 32 (i 0).val
  let c0_i32_254 : BitVec 32 := 0#32
  let v531 : BitVec 1 := Scalar.cmpi .eq arg0 c0_i32_254
  let v532 : BitVec 32 := Scalar.extui v531
  let c0_i32_255 : BitVec 32 := 0#32
  let v533 : BitVec 1 := Scalar.cmpi .ne v532 c0_i32_255
  v533

def k0_cond18 (i : grid0.Coords) : BitVec 1 :=
  let arg0 : BitVec 32 := BitVec.ofNat 32 (i 0).val
  let c0_i32_256 : BitVec 32 := 0#32
  let v534 : BitVec 1 := Scalar.cmpi .sgt arg0 c0_i32_256
  let v535 : BitVec 32 := Scalar.extui v534
  let c0_i32_257 : BitVec 32 := 0#32
  let v536 : BitVec 1 := Scalar.cmpi .ne v535 c0_i32_257
  v536

def k0_cond19 (i : grid0.Coords) : BitVec 1 :=
  let arg0 : BitVec 32 := BitVec.ofNat 32 (i 0).val
  let c0_i32_259 : BitVec 32 := 0#32
  let v539 : BitVec 1 := Scalar.cmpi .eq arg0 c0_i32_259
  let v540 : BitVec 32 := Scalar.extui v539
  let c0_i32_260 : BitVec 32 := 0#32
  let v541 : BitVec 1 := Scalar.cmpi .ne v540 c0_i32_260
  v541

def k0_cond20 (i : grid0.Coords) : BitVec 1 :=
  let arg0 : BitVec 32 := BitVec.ofNat 32 (i 0).val
  let c0_i32_261 : BitVec 32 := 0#32
  let v542 : BitVec 1 := Scalar.cmpi .sgt arg0 c0_i32_261
  let v543 : BitVec 32 := Scalar.extui v542
  let c0_i32_262 : BitVec 32 := 0#32
  let v544 : BitVec 1 := Scalar.cmpi .ne v543 c0_i32_262
  v544

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "gelu_6ca" => some ((241015141496493 / 1125899906842624 : ℝ) : EReal)
  | "gelu_ca" => some ((80338380498831 / 2251799813685248 : ℝ) : EReal)
  | _ => none
-- ==== ReferenceIdeal.lean ====
abbrev S2048x2048 : Shape := ⟨2, ![2048, 2048]⟩
abbrev S2048x6144 : Shape := ⟨2, ![2048, 6144]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S16x128x8x256 : Shape := ⟨4, ![16, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x16x256x128 : Shape := ⟨4, ![8, 16, 256, 128]⟩
abbrev S128x8 : Shape := ⟨2, ![128, 8]⟩
abbrev S1x128x8x1 : Shape := ⟨4, ![1, 128, 8, 1]⟩

abbrev nBuf : Space → Nat
  | .hbm => 249
  | .vmem => 0
  | .smem => 0
  | _ => 0

abbrev hbmTy0_0 (i : Nat) : BufTy := match i % 128 with
  | 0 => ⟨S2048x2048, .f32⟩
  | 1 => ⟨S2048x6144, .f32⟩
  | 2 => ⟨S1x2048, .f32⟩
  | 3 => ⟨S1x2048, .f32⟩
  | 4 => ⟨S8x128x128, .f32⟩
  | 5 => ⟨S8x128, .f32⟩
  | 6 => ⟨S2048x2048, .f32⟩
  | 7 => ⟨S2048x2048, .f32⟩
  | 8 => ⟨S2048x2048, .f32⟩
  | 9 => ⟨S2048x2048, .f32⟩
  | 10 => ⟨S2048x2048, .f32⟩
  | 11 => ⟨S2048x2048, .f32⟩
  | 12 => ⟨S_, .f32⟩
  | 13 => ⟨S2048x2048, .f32⟩
  | 14 => ⟨S2048x2048, .f32⟩
  | 15 => ⟨S_, .f32⟩
  | 16 => ⟨S2048x2048, .f32⟩
  | 17 => ⟨S2048x2048, .f32⟩
  | 18 => ⟨S2048x2048, .f32⟩
  | 19 => ⟨S_, .f32⟩
  | 20 => ⟨S2048x2048, .f32⟩
  | 21 => ⟨S2048x2048, .f32⟩
  | 22 => ⟨S2048x2048, .f32⟩
  | 23 => ⟨S_, .f32⟩
  | 24 => ⟨S2048x2048, .f32⟩
  | 25 => ⟨S2048x2048, .f32⟩
  | 26 => ⟨S_, .f32⟩
  | 27 => ⟨S2048x2048, .f32⟩
  | 28 => ⟨S2048x2048, .f32⟩
  | 29 => ⟨S2048x2048, .f32⟩
  | 30 => ⟨S_, .f32⟩
  | 31 => ⟨S2048x2048, .f32⟩
  | 32 => ⟨S2048x2048, .f32⟩
  | 33 => ⟨S_, .f32⟩
  | 34 => ⟨S2048x2048, .f32⟩
  | 35 => ⟨S2048x2048, .f32⟩
  | 36 => ⟨S2048x2048, .f32⟩
  | 37 => ⟨S2048x2048, .f32⟩
  | 38 => ⟨S2048x2048, .f32⟩
  | 39 => ⟨S2048x2048, .f32⟩
  | 40 => ⟨S_, .f32⟩
  | 41 => ⟨S2048x2048, .f32⟩
  | 42 => ⟨S2048x2048, .f32⟩
  | 43 => ⟨S_, .f32⟩
  | 44 => ⟨S2048x2048, .f32⟩
  | 45 => ⟨S2048x2048, .f32⟩
  | 46 => ⟨S2048x2048, .f32⟩
  | 47 => ⟨S_, .f32⟩
  | 48 => ⟨S2048x2048, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S_, .f32⟩
  | 55 => ⟨S2048x2048, .f32⟩
  | 56 => ⟨S2048x2048, .f32⟩
  | 57 => ⟨S2048x2048, .f32⟩
  | 58 => ⟨S_, .f32⟩
  | 59 => ⟨S2048x2048, .f32⟩
  | 60 => ⟨S2048x2048, .f32⟩
  | 61 => ⟨S_, .f32⟩
  | 62 => ⟨S2048x2048, .f32⟩
  | 63 => ⟨S2048x2048, .f32⟩
  | 64 => ⟨S2048x2048, .f32⟩
  | 65 => ⟨S_, .f32⟩
  | 66 => ⟨S2048, .f32⟩
  | 67 => ⟨S2048x1, .f32⟩
  | 68 => ⟨S_, .f32⟩
  | 69 => ⟨S2048x1, .f32⟩
  | 70 => ⟨S2048x1, .f32⟩
  | 71 => ⟨S2048x2048, .f32⟩
  | 72 => ⟨S2048x2048, .f32⟩
  | 73 => ⟨S2048x2048, .f32⟩
  | 74 => ⟨S_, .f32⟩
  | 75 => ⟨S2048x2048, .f32⟩
  | 76 => ⟨S2048x2048, .f32⟩
  | 77 => ⟨S_, .f32⟩
  | 78 => ⟨S2048, .f32⟩
  | 79 => ⟨S2048x1, .f32⟩
  | 80 => ⟨S_, .f32⟩
  | 81 => ⟨S2048x1, .f32⟩
  | 82 => ⟨S2048x1, .f32⟩
  | 83 => ⟨S2048x2048, .f32⟩
  | 84 => ⟨S2048x2048, .f32⟩
  | 85 => ⟨S_, .f32⟩
  | 86 => ⟨S2048x1, .f32⟩
  | 87 => ⟨S2048x1, .f32⟩
  | 88 => ⟨S2048x1, .f32⟩
  | 89 => ⟨S2048x1, .f32⟩
  | 90 => ⟨S_, .f32⟩
  | 91 => ⟨S2048x1, .f32⟩
  | 92 => ⟨S2048x1, .f32⟩
  | 93 => ⟨S2048x2048, .f32⟩
  | 94 => ⟨S2048x2048, .f32⟩
  | 95 => ⟨S2048x2048, .f32⟩
  | 96 => ⟨S2048x2048, .f32⟩
  | 97 => ⟨S2048x2048, .f32⟩
  | 98 => ⟨S2048x2048, .f32⟩
  | 99 => ⟨S16x128x8x256, .f32⟩
  | 100 => ⟨S128, .i32⟩
  | 101 => ⟨S_, .i32⟩
  | 102 => ⟨S_, .i32⟩
  | 103 => ⟨S128, .i32⟩
  | 104 => ⟨S128, .i32⟩
  | 105 => ⟨S128, .i32⟩
  | 106 => ⟨S_, .i32⟩
  | 107 => ⟨S128, .i32⟩
  | 108 => ⟨S128, .i1⟩
  | 109 => ⟨S128, .i32⟩
  | 110 => ⟨S128, .i32⟩
  | 111 => ⟨S_, .i32⟩
  | 112 => ⟨S128, .i32⟩
  | 113 => ⟨S128, .i1⟩
  | 114 => ⟨S128, .i1⟩
  | 115 => ⟨S_, .i32⟩
  | 116 => ⟨S128, .i32⟩
  | 117 => ⟨S128, .i32⟩
  | 118 => ⟨S128, .i32⟩
  | 119 => ⟨S128x1, .i32⟩
  | 120 => ⟨S1x128, .i32⟩
  | 121 => ⟨S128x128, .i32⟩
  | 122 => ⟨S128x128, .i32⟩
  | 123 => ⟨S128x128, .i1⟩
  | 124 => ⟨S1x128x128, .i1⟩
  | 125 => ⟨S_, .i32⟩
  | 126 => ⟨S_, .f32⟩
  | 127 => ⟨S8x128x128, .i1⟩
  | _ => ⟨S2048x2048, .f32⟩

abbrev hbmTy0_1 (i : Nat) : BufTy := match i % 128 with
  | 0 => ⟨S8x128x128, .f32⟩
  | 1 => ⟨S8x128x128, .f32⟩
  | 2 => ⟨S_, .f32⟩
  | 3 => ⟨S8x128x128, .f32⟩
  | 4 => ⟨S8x16x256x128, .f32⟩
  | 5 => ⟨S16x128x8x256, .f32⟩
  | 6 => ⟨S128x8, .f32⟩
  | 7 => ⟨S1x128x8x1, .f32⟩
  | 8 => ⟨S16x128x8x256, .f32⟩
  | 9 => ⟨S16x128x8x256, .f32⟩
  | 10 => ⟨S2048x2048, .f32⟩
  | 11 => ⟨S2048x2048, .f32⟩
  | 12 => ⟨S2048x2048, .f32⟩
  | 13 => ⟨S2048x2048, .f32⟩
  | 14 => ⟨S_, .f32⟩
  | 15 => ⟨S2048x2048, .f32⟩
  | 16 => ⟨S2048x2048, .f32⟩
  | 17 => ⟨S_, .f32⟩
  | 18 => ⟨S2048x2048, .f32⟩
  | 19 => ⟨S2048x2048, .f32⟩
  | 20 => ⟨S_, .f32⟩
  | 21 => ⟨S2048x2048, .f32⟩
  | 22 => ⟨S2048x2048, .f32⟩
  | 23 => ⟨S2048x2048, .f32⟩
  | 24 => ⟨S2048x2048, .f32⟩
  | 25 => ⟨S2048x2048, .f32⟩
  | 26 => ⟨S2048x2048, .f32⟩
  | 27 => ⟨S2048x2048, .f32⟩
  | 28 => ⟨S2048x2048, .f32⟩
  | 29 => ⟨S2048x2048, .f32⟩
  | 30 => ⟨S2048x2048, .f32⟩
  | 31 => ⟨S2048x2048, .f32⟩
  | 32 => ⟨S2048x2048, .f32⟩
  | 33 => ⟨S2048x2048, .f32⟩
  | 34 => ⟨S16x128x8x256, .f32⟩
  | 35 => ⟨S_, .f32⟩
  | 36 => ⟨S128x8, .f32⟩
  | 37 => ⟨S1x128x8x1, .f32⟩
  | 38 => ⟨S_, .f32⟩
  | 39 => ⟨S128x8, .f32⟩
  | 40 => ⟨S8x128, .f32⟩
  | 41 => ⟨S8x16x256x128, .f32⟩
  | 42 => ⟨S8x128x128, .f32⟩
  | 43 => ⟨S8x16x256x128, .f32⟩
  | 44 => ⟨S16x128x8x256, .f32⟩
  | 45 => ⟨S_, .f32⟩
  | 46 => ⟨S8x128x128, .f32⟩
  | 47 => ⟨S8x128x128, .f32⟩
  | 48 => ⟨S2048x2048, .f32⟩
  | 49 => ⟨S_, .f32⟩
  | 50 => ⟨S2048, .f32⟩
  | 51 => ⟨S1x2048, .f32⟩
  | 52 => ⟨S2048x2048, .f32⟩
  | 53 => ⟨S_, .f32⟩
  | 54 => ⟨S2048, .f32⟩
  | 55 => ⟨S1x2048, .f32⟩
  | 56 => ⟨S2048x2048, .f32⟩
  | 57 => ⟨S2048x2048, .f32⟩
  | 58 => ⟨S2048x2048, .f32⟩
  | 59 => ⟨S_, .f32⟩
  | 60 => ⟨S2048, .f32⟩
  | 61 => ⟨S2048x1, .f32⟩
  | 62 => ⟨S2048x2048, .f32⟩
  | 63 => ⟨S2048x2048, .f32⟩
  | 64 => ⟨S2048x1, .f32⟩
  | 65 => ⟨S2048x2048, .f32⟩
  | 66 => ⟨S_, .f32⟩
  | 67 => ⟨S2048, .f32⟩
  | 68 => ⟨S2048x1, .f32⟩
  | 69 => ⟨S_, .f32⟩
  | 70 => ⟨S2048x1, .f32⟩
  | 71 => ⟨S2048x1, .f32⟩
  | 72 => ⟨S_, .f32⟩
  | 73 => ⟨S2048, .f32⟩
  | 74 => ⟨S2048x2048, .f32⟩
  | 75 => ⟨S2048x2048, .f32⟩
  | 76 => ⟨S2048x2048, .f32⟩
  | 77 => ⟨S_, .f32⟩
  | 78 => ⟨S2048, .f32⟩
  | 79 => ⟨S2048x1, .f32⟩
  | 80 => ⟨S2048x2048, .f32⟩
  | 81 => ⟨S2048x1, .f32⟩
  | 82 => ⟨S_, .f32⟩
  | 83 => ⟨S2048x1, .f32⟩
  | 84 => ⟨S2048x1, .f32⟩
  | 85 => ⟨S_, .f32⟩
  | 86 => ⟨S2048, .f32⟩
  | 87 => ⟨S2048x2048, .f32⟩
  | 88 => ⟨S2048x2048, .f32⟩
  | 89 => ⟨S2048x2048, .f32⟩
  | 90 => ⟨S2048x2048, .f32⟩
  | 91 => ⟨S_, .f32⟩
  | 92 => ⟨S2048x2048, .f32⟩
  | 93 => ⟨S2048x2048, .f32⟩
  | 94 => ⟨S2048x2048, .f32⟩
  | 95 => ⟨S_, .f32⟩
  | 96 => ⟨S2048x2048, .f32⟩
  | 97 => ⟨S2048x2048, .f32⟩
  | 98 => ⟨S2048x2048, .f32⟩
  | 99 => ⟨S_, .f32⟩
  | 100 => ⟨S2048x2048, .f32⟩
  | 101 => ⟨S2048x2048, .f32⟩
  | 102 => ⟨S2048x2048, .f32⟩
  | 103 => ⟨S2048x2048, .f32⟩
  | 104 => ⟨S2048x2048, .f32⟩
  | 105 => ⟨S2048x2048, .f32⟩
  | 106 => ⟨S_, .f32⟩
  | 107 => ⟨S2048x2048, .f32⟩
  | 108 => ⟨S2048x2048, .f32⟩
  | 109 => ⟨S2048x2048, .f32⟩
  | 110 => ⟨S_, .f32⟩
  | 111 => ⟨S2048x2048, .f32⟩
  | 112 => ⟨S2048x2048, .f32⟩
  | 113 => ⟨S2048x2048, .f32⟩
  | 114 => ⟨S_, .f32⟩
  | 115 => ⟨S2048x2048, .f32⟩
  | 116 => ⟨S2048x2048, .f32⟩
  | 117 => ⟨S2048x2048, .f32⟩
  | 118 => ⟨S2048x2048, .f32⟩
  | 119 => ⟨S2048x6144, .f32⟩
  | 120 => ⟨S2048x6144, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_v5 : Ref sig .tc := ⟨.hbm, 107, rfl⟩
abbrev main_call0_v6 : Ref sig .tc := ⟨.hbm, 108, rfl⟩
abbrev main_call0_v7 : Ref sig .tc := ⟨.hbm, 109, rfl⟩
abbrev main_call0_v8 : Ref sig .tc := ⟨.hbm, 110, rfl⟩
abbrev main_call0_c : Ref sig .tc := ⟨.hbm, 111, rfl⟩
abbrev main_call0_v9 : Ref sig .tc := ⟨.hbm, 112, rfl⟩
abbrev main_call0_v10 : Ref sig .tc := ⟨.hbm, 113, rfl⟩
abbrev main_call0_v11 : Ref sig .tc := ⟨.hbm, 114, rfl⟩
abbrev main_call0_c_0 : Ref sig .tc := ⟨.hbm, 115, rfl⟩
abbrev main_call0_v12 : Ref sig .tc := ⟨.hbm, 116, rfl⟩
abbrev main_call0_v13 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_c_20 : Ref sig .tc := ⟨.hbm, 125, rfl⟩
abbrev main_call1_v0 : Ref sig .tc := ⟨.hbm, 126, rfl⟩
abbrev main_v81_1 : Ref sig .tc := ⟨.hbm, 127, rfl⟩
abbrev main_call1_v2 : Ref sig .tc := ⟨.hbm, 128, rfl⟩
abbrev main_v81_0 : Ref sig .tc := ⟨.hbm, 129, rfl⟩
abbrev main_call1_cst : Ref sig .tc := ⟨.hbm, 130, rfl⟩
abbrev main_v81_2 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_call2_v0 : Ref sig .tc := ⟨.hbm, 140, rfl⟩
abbrev main_call2_v1 : Ref sig .tc := ⟨.hbm, 141, rfl⟩
abbrev main_call2_cst : Ref sig .tc := ⟨.hbm, 142, rfl⟩
abbrev main_call2_v2 : Ref sig .tc := ⟨.hbm, 143, rfl⟩
abbrev main_call2_v3 : Ref sig .tc := ⟨.hbm, 144, rfl⟩
abbrev main_call2_cst_0 : Ref sig .tc := ⟨.hbm, 145, rfl⟩
abbrev main_call2_v4 : Ref sig .tc := ⟨.hbm, 146, rfl⟩
abbrev main_v90_2 : Ref sig .tc := ⟨.hbm, 147, rfl⟩
abbrev main_call2_cst_1 : Ref sig .tc := ⟨.hbm, 148, rfl⟩
abbrev main_call2_v6 : Ref sig .tc := ⟨.hbm, 149, rfl⟩
abbrev main_call2_v7 : Ref sig .tc := ⟨.hbm, 150, rfl⟩
abbrev main_v90_1 : Ref sig .tc := ⟨.hbm, 151, rfl⟩
abbrev main_v90_0 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_call3_v0 : Ref sig .tc := ⟨.hbm, 156, rfl⟩
abbrev main_call3_v1 : Ref sig .tc := ⟨.hbm, 157, rfl⟩
abbrev main_call3_v2 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_cst_21 : Ref sig .tc := ⟨.hbm, 163, rfl⟩
abbrev main_v98 : Ref sig .tc := ⟨.hbm, 164, rfl⟩
abbrev main_v99 : Ref sig .tc := ⟨.hbm, 165, rfl⟩
abbrev main_cst_22 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_call4_cst : Ref sig .tc := ⟨.hbm, 173, rfl⟩
abbrev main_call4_v0 : Ref sig .tc := ⟨.hbm, 174, rfl⟩
abbrev main_v106 : Ref sig .tc := ⟨.hbm, 175, rfl⟩
abbrev main_v107 : Ref sig .tc := ⟨.hbm, 176, rfl⟩
abbrev main_cst_23 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_cst_24 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_cst_25 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_cst_26 : Ref sig .tc := ⟨.hbm, 194, rfl⟩
abbrev main_v122 : Ref sig .tc := ⟨.hbm, 195, rfl⟩
abbrev main_v123 : Ref sig .tc := ⟨.hbm, 196, rfl⟩
abbrev main_cst_27 : Ref sig .tc := ⟨.hbm, 197, rfl⟩
abbrev main_v124 : Ref sig .tc := ⟨.hbm, 198, rfl⟩
abbrev main_v125 : Ref sig .tc := ⟨.hbm, 199, rfl⟩
abbrev main_cst_28 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_cst_29 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_cst_30 : Ref sig .tc := ⟨.hbm, 210, rfl⟩
abbrev main_v134 : Ref sig .tc := ⟨.hbm, 211, rfl⟩
abbrev main_v135 : Ref sig .tc := ⟨.hbm, 212, rfl⟩
abbrev main_cst_31 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_cst_32 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_cst_33 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_cst_34 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_cst_35 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_cst_36 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_cst_37 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩

abbrev nD : Nat := 1
abbrev τ : Topo := Topo.v7x

variable {F : FTy → Type} [FloatOps F]
-- ==== KernelSguDh.lean ====
abbrev S2048x6144 : Shape := ⟨2, ![2048, 6144]⟩
abbrev S2048x4x1536 : Shape := ⟨3, ![2048, 4, 1536]⟩
abbrev S4x2048x1536 : Shape := ⟨3, ![4, 2048, 1536]⟩
abbrev S2048x2048 : Shape := ⟨2, ![2048, 2048]⟩
abbrev S1024x6144 : Shape := ⟨2, ![1024, 6144]⟩
abbrev S1x512x1536 : Shape := ⟨3, ![1, 512, 1536]⟩
abbrev S1024x512 : Shape := ⟨2, ![1024, 512]⟩
abbrev S1024x1536 : Shape := ⟨2, ![1024, 1536]⟩
abbrev S512x1536 : Shape := ⟨2, ![512, 1536]⟩

abbrev nBuf : Space → Nat
  | .hbm => 6
  | .vmem => 12
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .f32⟩
  | .hbm, ⟨2, _⟩ => ⟨S2048x4x1536, .f32⟩
  | .hbm, ⟨3, _⟩ => ⟨S4x2048x1536, .f32⟩
  | .hbm, ⟨4, _⟩ => ⟨S4x2048x1536, .bf16⟩
  | .hbm, ⟨5, _⟩ => ⟨S2048x2048, .f32⟩
  | .local _ .vmem, ⟨0, _⟩ => ⟨S1024x6144, .bf16⟩
  | .local _ .vmem, ⟨1, _⟩ => ⟨S1024x6144, .bf16⟩
  | .local _ .vmem, ⟨2, _⟩ => ⟨S1x512x1536, .bf16⟩
  | .local _ .vmem, ⟨3, _⟩ => ⟨S1x512x1536, .bf16⟩
  | .local _ .vmem, ⟨4, _⟩ => ⟨S1x512x1536, .bf16⟩
  | .local _ .vmem, ⟨5, _⟩ => ⟨S1x512x1536, .bf16⟩
  | .local _ .vmem, ⟨6, _⟩ => ⟨S1x512x1536, .bf16⟩
  | .local _ .vmem, ⟨7, _⟩ => ⟨S1x512x1536, .bf16⟩
  | .local _ .vmem, ⟨8, _⟩ => ⟨S1x512x1536, .bf16⟩
  | .local _ .vmem, ⟨9, _⟩ => ⟨S1x512x1536, .bf16⟩
  | .local _ .vmem, ⟨10, _⟩ => ⟨S1024x512, .f32⟩
  | .local _ .vmem, ⟨11, _⟩ => ⟨S1024x512, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceSguDhIdeal.lean ====
abbrev S2048x6144 : Shape := ⟨2, ![2048, 6144]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .f32⟩
  | .hbm, ⟨2, _⟩ => ⟨S_, .f32⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelSguIn.lean ====
abbrev S2048x2048 : Shape := ⟨2, ![2048, 2048]⟩
abbrev S2048x6144 : Shape := ⟨2, ![2048, 6144]⟩
abbrev S2048x4x1536 : Shape := ⟨3, ![2048, 4, 1536]⟩
abbrev S4x2048x1536 : Shape := ⟨3, ![4, 2048, 1536]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .f32⟩
  | .hbm, ⟨2, _⟩ => ⟨S2048x4x1536, .f32⟩
  | .hbm, ⟨3, _⟩ => ⟨S4x2048x1536, .f32⟩
  | .hbm, ⟨4, _⟩ => ⟨S4x2048x1536, .bf16⟩
  | .hbm, ⟨5, _⟩ => ⟨S2048x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .f32⟩
  | .local _ .vmem, ⟨5, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSguInIdeal.lean ====
abbrev S2048x2048 : Shape := ⟨2, ![2048, 2048]⟩
abbrev S2048x6144 : Shape := ⟨2, ![2048, 6144]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .f32⟩
  | .hbm, ⟨2, _⟩ => ⟨S2048x2048, .f32⟩
  | .hbm, ⟨3, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelOutDa.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutDaIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutIdeal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelOutDw.lean ====
abbrev S1 : Shape := ⟨1, ![1]⟩
abbrev S2048x2048 : Shape := ⟨2, ![2048, 2048]⟩
abbrev S2048x1024 : Shape := ⟨2, ![2048, 1024]⟩
abbrev S4x512x1024 : Shape := ⟨3, ![4, 512, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 5
  | .vmem => 8
  | .smem => 1
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x1024, .bf16⟩
  | .hbm, ⟨4, _⟩ => ⟨S4x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1x512x1024, .bf16⟩
  | .local _ .vmem, ⟨7, _⟩ => ⟨S1x512x1024, .bf16⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let c0_i32 : BitVec 32 := 0#32
  let v2 : BitVec 32 := Scalar.addi v1 c0_i32
  let c1_i32_0 : BitVec 32 := 1#32
  let v3 : BitVec 32 := Scalar.muli v2 c1_i32_0
  let v4 : BitVec 32 := Scalar.addi v3 arg1
  let c0_i32_1 : BitVec 32 := 0#32
  let c0_i32_2 : BitVec 32 := 0#32
  ![c0_i32_1.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOutDwIdeal.lean ====
abbrev S1 : Shape := ⟨1, ![1]⟩
abbrev S2048x2048 : Shape := ⟨2, ![2048, 2048]⟩
abbrev S2048x1024 : Shape := ⟨2, ![2048, 1024]⟩
abbrev S_ : Shape := ⟨0, ![]⟩
abbrev S4096x2048 : Shape := ⟨2, ![4096, 2048]⟩
abbrev S4096x1024 : Shape := ⟨2, ![4096, 1024]⟩
abbrev S1024x2048 : Shape := ⟨2, ![1024, 2048]⟩
abbrev S4x512x1024 : Shape := ⟨3, ![4, 512, 1024]⟩

abbrev nBuf : Space → Nat
  | .hbm => 22
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x1024, .bf16⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S4096x2048, .bf16⟩
  | .hbm, ⟨12, _⟩ => ⟨S4096x2048, .f32⟩
  | .hbm, ⟨13, _⟩ => ⟨S4096x1024, .bf16⟩
  | .hbm, ⟨14, _⟩ => ⟨S4096x1024, .f32⟩
  | .hbm, ⟨15, _⟩ => ⟨S_, .f32⟩
  | .hbm, ⟨16, _⟩ => ⟨S2048x1024, .f32⟩
  | .hbm, ⟨17, _⟩ => ⟨S4096x1024, .f32⟩
  | .hbm, ⟨18, _⟩ => ⟨S1024x2048, .f32⟩
  | .hbm, ⟨19, _⟩ => ⟨S2048x1024, .f32⟩
  | .hbm, ⟨20, _⟩ => ⟨S4x512x1024, .f32⟩
  | .hbm, ⟨21, _⟩ => ⟨S4x512x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== KernelSguDw.lean ====
abbrev S1 : Shape := ⟨1, ![1]⟩
abbrev S2048x2048 : Shape := ⟨2, ![2048, 2048]⟩
abbrev S2048x6144 : Shape := ⟨2, ![2048, 6144]⟩
abbrev S2048x3072 : Shape := ⟨2, ![2048, 3072]⟩
abbrev S4x2048x768 : Shape := ⟨3, ![4, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 5
  | .vmem => 10
  | .smem => 1
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x6144, .bf16⟩
  | .hbm, ⟨3, _⟩ => ⟨S2048x3072, .bf16⟩
  | .hbm, ⟨4, _⟩ => ⟨S4x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x768, .bf16⟩
  | .local _ .vmem, ⟨5, _⟩ => ⟨S2048x768, .bf16⟩
  | .local _ .vmem, ⟨6, _⟩ => ⟨S2048x768, .bf16⟩
  | .local _ .vmem, ⟨7, _⟩ => ⟨S2048x768, .bf16⟩
  | .local _ .vmem, ⟨8, _⟩ => ⟨S1x1024x768, .bf16⟩
  | .local _ .vmem, ⟨9, _⟩ => ⟨S1x1024x768, .bf16⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceSguDwIdeal.lean ====
abbrev S1 : Shape := ⟨1, ![1]⟩
abbrev S2048x2048 : Shape := ⟨2, ![2048, 2048]⟩
abbrev S2048x6144 : Shape := ⟨2, ![2048, 6144]⟩
abbrev S2048x3072 : Shape := ⟨2, ![2048, 3072]⟩
abbrev S2048x4x2x768 : Shape := ⟨4, ![2048, 4, 2, 768]⟩
abbrev S_ : Shape := ⟨0, ![]⟩
abbrev S2048x4x1x768 : Shape := ⟨4, ![2048, 4, 1, 768]⟩
abbrev S2048x4x768 : Shape := ⟨3, ![2048, 4, 768]⟩
abbrev S4096x2048 : Shape := ⟨2, ![4096, 2048]⟩
abbrev S4096x3072 : Shape := ⟨2, ![4096, 3072]⟩
abbrev S3072x2048 : Shape := ⟨2, ![3072, 2048]⟩
abbrev S4x2048x768 : Shape := ⟨3, ![4, 2048, 768]⟩

abbrev nBuf : Space → Nat
  | .hbm => 27
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .bf16⟩
  | .hbm, ⟨2, _⟩ => ⟨S2048x2048, .bf16⟩
  | .hbm, ⟨3, _⟩ => ⟨S2048x6144, .bf16⟩
  | .hbm, ⟨4, _⟩ => ⟨S2048x3072, .bf16⟩
  | .hbm, ⟨5, _⟩ => ⟨S2048x4x2x768, .bf16⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2048x4x1x768, .bf16⟩
  | .hbm, ⟨10, _⟩ => ⟨S2048x4x768, .bf16⟩
  | .hbm, ⟨11, _⟩ => ⟨S2048x4x1x768, .bf16⟩
  | .hbm, ⟨12, _⟩ => ⟨S2048x4x768, .bf16⟩
  | .hbm, ⟨13, _⟩ => ⟨S2048x4x768, .bf16⟩
  | .hbm, ⟨14, _⟩ => ⟨S2048x3072, .bf16⟩
  | .hbm, ⟨15, _⟩ => ⟨S4096x2048, .bf16⟩
  | .hbm, ⟨16, _⟩ => ⟨S4096x2048, .f32⟩
  | .hbm, ⟨17, _⟩ => ⟨S4096x3072, .bf16⟩
  | .hbm, ⟨18, _⟩ => ⟨S4096x3072, .f32⟩
  | .hbm, ⟨19, _⟩ => ⟨S_, .f32⟩
  | .hbm, ⟨20, _⟩ => ⟨S2048x3072, .f32⟩
  | .hbm, ⟨21, _⟩ => ⟨S4096x3072, .f32⟩
  | .hbm, ⟨22, _⟩ => ⟨S3072x2048, .f32⟩
  | .hbm, ⟨23, _⟩ => ⟨S2048x3072, .f32⟩
  | .hbm, ⟨24, _⟩ => ⟨S2048x4x768, .f32⟩
  | .hbm, ⟨25, _⟩ => ⟨S4x2048x768, .f32⟩
  | .hbm, ⟨26, _⟩ => ⟨S4x2048x768, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelGlaDh.lean ====
abbrev S2048x6656 : Shape := ⟨2, ![2048, 6656]⟩
abbrev S2048x6160 : Shape := ⟨2, ![2048, 6160]⟩
abbrev S6160x2048 : Shape := ⟨2, ![6160, 2048]⟩
abbrev S4x1540x2048 : Shape := ⟨3, ![4, 1540, 2048]⟩
abbrev S_ : Shape := ⟨0, ![]⟩
abbrev S4x1664x2048 : Shape := ⟨3, ![4, 1664, 2048]⟩
abbrev S6656x2048 : Shape := ⟨2, ![6656, 2048]⟩
abbrev S2048x2048 : Shape := ⟨2, ![2048, 2048]⟩
abbrev S1024x6656 : Shape := ⟨2, ![1024, 6656]⟩
abbrev S6656x512 : Shape := ⟨2, ![6656, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S2048x6656, .bf16⟩
  | .hbm, ⟨1, _⟩ => ⟨S2048x6160, .f32⟩
  | .hbm, ⟨2, _⟩ => ⟨S6160x2048, .f32⟩
  | .hbm, ⟨3, _⟩ => ⟨S4x1540x2048, .f32⟩
  | .hbm, ⟨4, _⟩ => ⟨S4x1540x2048, .bf16⟩
  | .hbm, ⟨5, _⟩ => ⟨S_, .i32⟩
  | .hbm, ⟨6, _⟩ => ⟨S_, .bf16⟩
  | .hbm, ⟨7, _⟩ => ⟨S4x1664x2048, .bf16⟩
  | .hbm, ⟨8, _⟩ => ⟨S6656x2048, .bf16⟩
  | .hbm, ⟨9, _⟩ => ⟨S2048x2048, .f32⟩
  | .local _ .vmem, ⟨0, _⟩ => ⟨S1024x6656, .bf16⟩
  | .local _ .vmem, ⟨1, _⟩ => ⟨S1024x6656, .bf16⟩
  | .local _ .vmem, ⟨2, _⟩ => ⟨S6656x512, .bf16⟩
  | .local _ .vmem, ⟨3, _⟩ => ⟨S6656x512, .bf16⟩
  | .local _ .vmem, ⟨4, _⟩ => ⟨S1024x512, .f32⟩
  | .local _ .vmem, ⟨5, _⟩ => ⟨S1024x512, .f32⟩
  | _, _ => ⟨S2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6656x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGlaDhIdeal.lean ====
abbrev S2048x6656 : Shape := ⟨2, ![2048, 6656]⟩
abbrev S2048x6160 : Shape := ⟨2, ![2048, 6160]⟩
abbrev S2048x4x1664 : Shape := ⟨3, ![2048, 4, 1664]⟩
abbrev S2048x4x1540 : Shape := ⟨3, ![2048, 4, 1540]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x6656, .bf16⟩
  | .hbm, ⟨1, _⟩ => ⟨S2048x6160, .f32⟩
  | .hbm, ⟨2, _⟩ => ⟨S2048x4x1664, .bf16⟩
  | .hbm, ⟨3, _⟩ => ⟨S2048x4x1540, .bf16⟩
  | .hbm, ⟨4, _⟩ => ⟨S2048x6160, .bf16⟩
  | .hbm, ⟨5, _⟩ => ⟨S_, .f32⟩
  | .hbm, ⟨6, _⟩ => ⟨S2048x2048, .f32⟩
  | .hbm, ⟨7, _⟩ => ⟨S2048x6160, .f32⟩
  | .hbm, ⟨8, _⟩ => ⟨S2048x6160, .f32⟩
  | .hbm, ⟨9, _⟩ => ⟨S2048x2048, .f32⟩
  | _, _ => ⟨S2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGlaIn.lean ====
abbrev S2048x2048 : Shape := ⟨2, ![2048, 2048]⟩
abbrev S2048x6160 : Shape := ⟨2, ![2048, 6160]⟩
abbrev S6160x2048 : Shape := ⟨2, ![6160, 2048]⟩
abbrev S4x1540x2048 : Shape := ⟨3, ![4, 1540, 2048]⟩
abbrev S_ : Shape := ⟨0, ![]⟩
abbrev S4x1664x2048 : Shape := ⟨3, ![4, 1664, 2048]⟩
abbrev S6656x2048 : Shape := ⟨2, ![6656, 2048]⟩
abbrev S2048x6656 : Shape := ⟨2, ![2048, 6656]⟩
abbrev S1024x2048 : Shape := ⟨2, ![1024, 2048]⟩
abbrev S1664x2048 : Shape := ⟨2, ![1664, 2048]⟩
abbrev S1024x1664 : Shape := ⟨2, ![1024, 1664]⟩

abbrev nBuf : Space → Nat
  | .hbm => 10
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6160, .f32⟩
  | .hbm, ⟨2, _⟩ => ⟨S6160x2048, .f32⟩
  | .hbm, ⟨3, _⟩ => ⟨S4x1540x2048, .f32⟩
  | .hbm, ⟨4, _⟩ => ⟨S4x1540x2048, .bf16⟩
  | .hbm, ⟨5, _⟩ => ⟨S_, .i32⟩
  | .hbm, ⟨6, _⟩ => ⟨S_, .bf16⟩
  | .hbm, ⟨7, _⟩ => ⟨S4x1664x2048, .bf16⟩
  | .hbm, ⟨8, _⟩ => ⟨S6656x2048, .bf16⟩
  | .hbm, ⟨9, _⟩ => ⟨S2048x6656, .f32⟩
  | .local _ .vmem, ⟨0, _⟩ => ⟨S1024x2048, .bf16⟩
  | .local _ .vmem, ⟨1, _⟩ => ⟨S1024x2048, .bf16⟩
  | .local _ .vmem, ⟨2, _⟩ => ⟨S1664x2048, .bf16⟩
  | .local _ .vmem, ⟨3, _⟩ => ⟨S1664x2048, .bf16⟩
  | .local _ .vmem, ⟨4, _⟩ => ⟨S1024x1664, .f32⟩
  | .local _ .vmem, ⟨5, _⟩ => ⟨S1024x1664, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGlaInIdeal.lean ====
abbrev S2048x2048 : Shape := ⟨2, ![2048, 2048]⟩
abbrev S2048x6160 : Shape := ⟨2, ![2048, 6160]⟩
abbrev S2048x4x1540 : Shape := ⟨3, ![2048, 4, 1540]⟩
abbrev S_ : Shape := ⟨0, ![]⟩
abbrev S2048x4x1664 : Shape := ⟨3, ![2048, 4, 1664]⟩
abbrev S2048x6656 : Shape := ⟨2, ![2048, 6656]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6160, .f32⟩
  | .hbm, ⟨2, _⟩ => ⟨S2048x2048, .f32⟩
  | .hbm, ⟨3, _⟩ => ⟨S2048x6160, .f32⟩
  | .hbm, ⟨4, _⟩ => ⟨S2048x4x1540, .f32⟩
  | .hbm, ⟨5, _⟩ => ⟨S_, .i32⟩
  | .hbm, ⟨6, _⟩ => ⟨S_, .f32⟩
  | .hbm, ⟨7, _⟩ => ⟨S2048x4x1664, .f32⟩
  | .hbm, ⟨8, _⟩ => ⟨S2048x6656, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelGlaDw0.lean ====
abbrev S1 : Shape := ⟨1, ![1]⟩
abbrev S2048x6656 : Shape := ⟨2, ![2048, 6656]⟩
abbrev S2048x2048 : Shape := ⟨2, ![2048, 2048]⟩
abbrev S2048x1024 : Shape := ⟨2, ![2048, 1024]⟩
abbrev S4x1664x512 : Shape := ⟨3, ![4, 1664, 512]⟩
abbrev S2048x1664 : Shape := ⟨2, ![2048, 1664]⟩
abbrev S2048x512 : Shape := ⟨2, ![2048, 512]⟩
abbrev S1x1664x512 : Shape := ⟨3, ![1, 1664, 512]⟩
abbrev S1664x512 : Shape := ⟨2, ![1664, 512]⟩

abbrev nBuf : Space → Nat
  | .hbm => 5
  | .vmem => 8
  | .smem => 1
  | _ => 0

abbrev bufTy : (tb : Table) → Fin (tcTables nBuf tb) → BufTy
  | .hbm, ⟨0, _⟩ => ⟨S2048x6656, .bf16⟩
  | .hbm, ⟨1, _⟩ => ⟨S2048x6656, .bf16⟩
  | .hbm, ⟨2, _⟩ => ⟨S2048x2048, .bf16⟩
  | .hbm, ⟨3, _⟩ => ⟨S2048x1024, .bf16⟩
  | .hbm, ⟨4, _⟩ => ⟨S4x1664x512, .bf16⟩
  | .local _ .vmem, ⟨0, _⟩ => ⟨S2048x1664, .bf16⟩
  | .local _ .vmem, ⟨1, _⟩ => ⟨S2048x1664, .bf16⟩
  | .local _ .vmem, ⟨2, _⟩ => ⟨S2048x1664, .bf16⟩
  | .local _ .vmem, ⟨3, _⟩ => ⟨S2048x1664, .bf16⟩
  | .local _ .vmem, ⟨4, _⟩ => ⟨S2048x512, .bf16⟩
  | .local _ .vmem, ⟨5, _⟩ => ⟨S2048x512, .bf16⟩
  | .local _ .vmem, ⟨6, _⟩ => ⟨S1x1664x512, .bf16⟩
  | .local _ .vmem, ⟨7, _⟩ => ⟨S1x1664x512, .bf16⟩
  | .local _ .smem, ⟨0, _⟩ => ⟨S1, .i32⟩
  | _, _ => ⟨S2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let c0_i32 : BitVec 32 := 0#32
  let v2 : BitVec 32 := Scalar.addi v1 c0_i32
  let c1_i32 : BitVec 32 := 1#32
  let v3 : BitVec 32 := Scalar.muli v2 c1_i32
  let v4 : BitVec 32 := Scalar.addi v3 arg1
  let c0_i32_0 : BitVec 32 := 0#32
  let c0_i32_1 : BitVec 32 := 0#32
  ![c0_i32_0.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1x1664x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceGlaDw0Ideal.lean ====
abbrev S1 : Shape := ⟨1, ![1]⟩
abbrev S2048x6656 : Shape := ⟨2, ![2048, 6656]⟩
abbrev S2048x2048 : Shape := ⟨2, ![2048, 2048]⟩
abbrev S2048x1024 : Shape := ⟨2, ![2048, 1024]⟩
abbrev S_ : Shape := ⟨0, ![]⟩
abbrev S4096x6656 : Shape := ⟨2, ![4096, 6656]⟩
abbrev S4096x1024 : Shape := ⟨2, ![4096, 1024]⟩
abbrev S6656x1024 : Shape := ⟨2, ![6656, 1024]⟩
abbrev S1024x6656 : Shape := ⟨2, ![1024, 6656]⟩
abbrev S4x1664x1024 : Shape := ⟨3, ![4, 1664, 1024]⟩
abbrev S4x1664x512 : Shape := ⟨3, ![4, 1664, 512]⟩

abbrev nBuf : Space → Nat
  | .hbm => 23
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x6656, .bf16⟩
  | .hbm, ⟨2, _⟩ => ⟨S2048x6656, .bf16⟩
  | .hbm, ⟨3, _⟩ => ⟨S2048x2048, .bf16⟩
  | .hbm, ⟨4, _⟩ => ⟨S2048x1024, .bf16⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S4096x6656, .bf16⟩
  | .hbm, ⟨12, _⟩ => ⟨S4096x6656, .f32⟩
  | .hbm, ⟨13, _⟩ => ⟨S4096x1024, .bf16⟩
  | .hbm, ⟨14, _⟩ => ⟨S4096x1024, .f32⟩
  | .hbm, ⟨15, _⟩ => ⟨S_, .f32⟩
  | .hbm, ⟨16, _⟩ => ⟨S6656x1024, .f32⟩
  | .hbm, ⟨17, _⟩ => ⟨S4096x1024, .f32⟩
  | .hbm, ⟨18, _⟩ => ⟨S1024x6656, .f32⟩
  | .hbm, ⟨19, _⟩ => ⟨S6656x1024, .f32⟩
  | .hbm, ⟨20, _⟩ => ⟨S4x1664x1024, .f32⟩
  | .hbm, ⟨21, _⟩ => ⟨S4x1664x512, .f32⟩
  | .hbm, ⟨22, _⟩ => ⟨S4x1664x512, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelGlaDw1.lean ====
abbrev S1 : Shape := ⟨1, ![1]⟩
abbrev S2048x6656 : Shape := ⟨2, ![2048, 6656]⟩
abbrev S2048x2048 : Shape := ⟨2, ![2048, 2048]⟩
abbrev S2048x1024 : Shape := ⟨2, ![2048, 1024]⟩
abbrev S4x1664x512 : Shape := ⟨3, ![4, 1664, 512]⟩
abbrev S2048x1664 : Shape := ⟨2, ![2048, 1664]⟩
abbrev S2048x512 : Shape := ⟨2, ![2048, 512]⟩
abbrev S1x1664x512 : Shape := ⟨3, ![1, 1664, 512]⟩
abbrev S1664x512 : Shape := ⟨2, ![1664, 512]⟩

abbrev nBuf : Space → Nat
  | .hbm => 5
  | .vmem => 8
  | .smem => 1
  | _ => 0

abbrev bufTy : (tb : Table) → Fin (tcTables nBuf tb) → BufTy
  | .hbm, ⟨0, _⟩ => ⟨S2048x6656, .bf16⟩
  | .hbm, ⟨1, _⟩ => ⟨S2048x6656, .bf16⟩
  | .hbm, ⟨2, _⟩ => ⟨S2048x2048, .bf16⟩
  | .hbm, ⟨3, _⟩ => ⟨S2048x1024, .bf16⟩
  | .hbm, ⟨4, _⟩ => ⟨S4x1664x512, .bf16⟩
  | .local _ .vmem, ⟨0, _⟩ => ⟨S2048x1664, .bf16⟩
  | .local _ .vmem, ⟨1, _⟩ => ⟨S2048x1664, .bf16⟩
  | .local _ .vmem, ⟨2, _⟩ => ⟨S2048x1664, .bf16⟩
  | .local _ .vmem, ⟨3, _⟩ => ⟨S2048x1664, .bf16⟩
  | .local _ .vmem, ⟨4, _⟩ => ⟨S2048x512, .bf16⟩
  | .local _ .vmem, ⟨5, _⟩ => ⟨S2048x512, .bf16⟩
  | .local _ .vmem, ⟨6, _⟩ => ⟨S1x1664x512, .bf16⟩
  | .local _ .vmem, ⟨7, _⟩ => ⟨S1x1664x512, .bf16⟩
  | .local _ .smem, ⟨0, _⟩ => ⟨S1, .i32⟩
  | _, _ => ⟨S2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let c1_i32 : BitVec 32 := 1#32
  let v2 : BitVec 32 := Scalar.addi v1 c1_i32
  let c1_i32_0 : BitVec 32 := 1#32
  let v3 : BitVec 32 := Scalar.muli v2 c1_i32_0
  let v4 : BitVec 32 := Scalar.addi v3 arg1
  let c0_i32 : BitVec 32 := 0#32
  let c0_i32_1 : BitVec 32 := 0#32
  ![c0_i32.toNat, v4.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1x1664x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceGlaDw1Ideal.lean ====
abbrev S1 : Shape := ⟨1, ![1]⟩
abbrev S2048x6656 : Shape := ⟨2, ![2048, 6656]⟩
abbrev S2048x2048 : Shape := ⟨2, ![2048, 2048]⟩
abbrev S2048x1024 : Shape := ⟨2, ![2048, 1024]⟩
abbrev S_ : Shape := ⟨0, ![]⟩
abbrev S4096x6656 : Shape := ⟨2, ![4096, 6656]⟩
abbrev S4096x1024 : Shape := ⟨2, ![4096, 1024]⟩
abbrev S6656x1024 : Shape := ⟨2, ![6656, 1024]⟩
abbrev S1024x6656 : Shape := ⟨2, ![1024, 6656]⟩
abbrev S4x1664x1024 : Shape := ⟨3, ![4, 1664, 1024]⟩
abbrev S4x1664x512 : Shape := ⟨3, ![4, 1664, 512]⟩

abbrev nBuf : Space → Nat
  | .hbm => 23
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x6656, .bf16⟩
  | .hbm, ⟨2, _⟩ => ⟨S2048x6656, .bf16⟩
  | .hbm, ⟨3, _⟩ => ⟨S2048x2048, .bf16⟩
  | .hbm, ⟨4, _⟩ => ⟨S2048x1024, .bf16⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S4096x6656, .bf16⟩
  | .hbm, ⟨12, _⟩ => ⟨S4096x6656, .f32⟩
  | .hbm, ⟨13, _⟩ => ⟨S4096x1024, .bf16⟩
  | .hbm, ⟨14, _⟩ => ⟨S4096x1024, .f32⟩
  | .hbm, ⟨15, _⟩ => ⟨S_, .f32⟩
  | .hbm, ⟨16, _⟩ => ⟨S6656x1024, .f32⟩
  | .hbm, ⟨17, _⟩ => ⟨S4096x1024, .f32⟩
  | .hbm, ⟨18, _⟩ => ⟨S1024x6656, .f32⟩
  | .hbm, ⟨19, _⟩ => ⟨S6656x1024, .f32⟩
  | .hbm, ⟨20, _⟩ => ⟨S4x1664x1024, .f32⟩
  | .hbm, ⟨21, _⟩ => ⟨S4x1664x512, .f32⟩
  | .hbm, ⟨22, _⟩ => ⟨S4x1664x512, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelPreNorm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePreNormIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelPostPre.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencePostPreIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== KernelLossHead.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S1x128, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x1, .f32⟩
  | .hbm, ⟨9, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x128, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .sgt arg0 c0_i32_17
  let v36 : BitVec 32 := Scalar.extui v35
  let c0_i32_18 : BitVec 32 := 0#32
  let v37 : BitVec 1 := Scalar.cmpi .ne v36 c0_i32_18
  v37

def k0_cond3 (i : grid0.Coords) : BitVec 1 :=
  let arg0 : BitVec 32 := BitVec.ofNat 32 (i 0).val
  let c0_i32_20 : BitVec 32 := 0#32
  let v41 : BitVec 1 := Scalar.cmpi .eq arg0 c0_i32_20
  let v42 : BitVec 32 := Scalar.extui v41
  let c0_i32_21 : BitVec 32 := 0#32
  let v43 : BitVec 1 := Scalar.cmpi .ne v42 c0_i32_21
  v43

def k0_cond4 (i : grid0.Coords) : BitVec 1 :=
  let arg0 : BitVec 32 := BitVec.ofNat 32 (i 0).val
  let c0_i32_22 : BitVec 32 := 0#32
  let v44 : BitVec 1 := Scalar.cmpi .sgt arg0 c0_i32_22
  let v45 : BitVec 32 := Scalar.extui v44
  let c0_i32_23 : BitVec 32 := 0#32
  let v46 : BitVec 1 := Scalar.cmpi .ne v45 c0_i32_23
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceLossHeadIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 71
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== KernelMidBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def k0_cond3 (i : grid0.Coords) : BitVec 1 :=
  let arg0 : BitVec 32 := BitVec.ofNat 32 (i 0).val
  let c0_i32_23 : BitVec 32 := 0#32
  let v51 : BitVec 1 := Scalar.cmpi .eq arg0 c0_i32_23
  let v52 : BitVec 32 := Scalar.extui v51
  let c0_i32_24 : BitVec 32 := 0#32
  let v53 : BitVec 1 := Scalar.cmpi .ne v52 c0_i32_24
  v53

def k0_cond4 (i : grid0.Coords) : BitVec 1 :=
  let arg0 : BitVec 32 := BitVec.ofNat 32 (i 0).val
  let c0_i32_25 : BitVec 32 := 0#32
  let v54 : BitVec 1 := Scalar.cmpi .sgt arg0 c0_i32_25
  let v55 : BitVec 32 := Scalar.extui v54
  let c0_i32_26 : BitVec 32 := 0#32
  let v56 : BitVec 1 := Scalar.cmpi .ne v55 c0_i32_26
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceMidBwdIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 92
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x2048, .f32⟩
  | .hbm, ⟨79, _⟩ => ⟨S2048x2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== KernelFirstBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceFirstBwdIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Lift.lean ====
/-
  Arrays of real numbers inside the arrays of extended reals: `lift f` is the array whose element at an index is the
  real number `f` gives the index's coordinates, taken as natural numbers. Every operation that the two programs of
  this certificate apply to such arrays gives such an array again; the lemmas here say which. With them a long
  composed term of a program becomes `lift` of one real expression, by rewriting.
-/
module

public import Idealize.ShloMosaic.Lib.Pipeline.Value
public import Idealize.ShloMosaic.Lib.ValueIdx
public import Idealize.ShloMosaic.Lib.TwoAxisContraction
public import Idealize.ShloMosaic.PureOps.Ideal.Laws

@[expose] public section

noncomputable section

namespace Cert.Sgu

open Idealize.ShloMosaic Idealize.ShloMosaic.ValueIdx
open scoped BigOperators

/-- The array of the real numbers that `f` gives the indices' coordinates. -/
def lift {s : Shape} (f : (Fin s.rank → ℕ) → ℝ) : s.Idx → EReal := fun i => ((f fun a => (i a).val : ℝ) : EReal)

variable {s t : Shape} {φ : FTy}

/-! ## Elementwise operations -/

theorem addf_lift (f g : (Fin s.rank → ℕ) → ℝ) :
    addf (F := Ideal) (φ := φ) (lift f) (lift g) = lift fun i => f i + g i :=
  funext fun _ => (EReal.coe_add _ _).symm

theorem subf_lift (f g : (Fin s.rank → ℕ) → ℝ) :
    subf (F := Ideal) (φ := φ) (lift f) (lift g) = lift fun i => f i - g i :=
  funext fun _ => (EReal.coe_sub _ _).symm

theorem mulf_lift (f g : (Fin s.rank → ℕ) → ℝ) :
    mulf (F := Ideal) (φ := φ) (lift f) (lift g) = lift fun i => f i * g i :=
  funext fun _ => (EReal.coe_mul _ _).symm

theorem hostNegf_lift (f : (Fin s.rank → ℕ) → ℝ) :
    Host.negf (F := Ideal) (φ := φ) (lift f) = lift fun i => -f i :=
  funext fun _ => (EReal.coe_neg _).symm

theorem tanh_lift (f : (Fin s.rank → ℕ) → ℝ) :
    tanh (F := Ideal) (φ := φ) (lift f) = lift fun i => Real.tanh (f i) := rfl

theorem hostTanh_lift (f : (Fin s.rank → ℕ) → ℝ) :
    Host.tanh (F := Ideal) (φ := φ) (lift f) = lift fun i => Real.tanh (f i) := rfl

theorem exp_lift (f : (Fin s.rank → ℕ) → ℝ) :
    exp (F := Ideal) (φ := φ) (lift f) = lift fun i => Real.exp (f i) := rfl

theorem hostExp_lift (f : (Fin s.rank → ℕ) → ℝ) :
    Host.exp (F := Ideal) (φ := φ) (lift f) = lift fun i => Real.exp (f i) := rfl

theorem truncf_lift {ψ : FTy} (h : ψ.bits < φ.bits) (f : (Fin s.rank → ℕ) → ℝ) :
    truncf (F := Ideal) (φ := φ) ψ (lift f) h = lift f := rfl

/-- A quotient of reals by a real other than zero is their quotient. -/
theorem div_coe (x : ℝ) {y : ℝ} (h : y ≠ 0) : Ideal.div (x : EReal) (y : EReal) = ((x / y : ℝ) : EReal) := by
  unfold Ideal.div
  rw [if_neg (by exact_mod_cast h), div_eq_mul_inv, EReal.coe_mul, EReal.coe_inv]

theorem divf_lift (f g : (Fin s.rank → ℕ) → ℝ) (h : ∀ i, g i ≠ 0) :
    divf (F := Ideal) (φ := φ) (lift f) (lift g) = lift fun i => f i / g i :=
  funext fun _ => div_coe _ (h _)

theorem hostDivf_lift (f g : (Fin s.rank → ℕ) → ℝ) (h : ∀ i, g i ≠ 0) :
    Host.divf (F := Ideal) (φ := φ) (lift f) (lift g) = lift fun i => f i / g i :=
  funext fun _ => div_coe _ (h _)

/-- The inverse square root of a positive real. -/
theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg h.le.not_gt, if_neg h.ne']

theorem rsqrt_lift (f : (Fin s.rank → ℕ) → ℝ) (h : ∀ i, 0 < f i) :
    rsqrt (F := Ideal) (φ := φ) (lift f) = lift fun i => (Real.sqrt (f i))⁻¹ :=
  funext fun _ => rsqrt_coe (h _)

theorem hostRsqrt_lift (f : (Fin s.rank → ℕ) → ℝ) (h : ∀ i, 0 < f i) :
    Host.rsqrt (F := Ideal) (φ := φ) (lift f) = lift fun i => (Real.sqrt (f i))⁻¹ :=
  funext fun _ => rsqrt_coe (h _)

/-! ## Constants -/

theorem broadcast_coe (x : ℝ) : broadcast s (x : EReal) = lift fun _ => x := rfl

theorem constant_lift (w : BitVec φ.bits) (x : ℝ) (h : Ideal.ofBits φ w = (x : EReal)) :
    constant (F := Ideal) s φ w = lift fun _ => x := funext fun _ => h

theorem broadcastInDim_scalar {dims : Fin (⟨0, ![]⟩ : Shape).rank → Fin t.rank} (h : (⟨0, ![]⟩ : Shape).BroadcastsInDim t dims) (x : ℝ) :
    broadcastInDim t dims h (lift (s := ⟨0, ![]⟩) fun _ => x) = lift fun _ => x := rfl

/-! ## Layout -/

/-- A column spread over the columns. -/
theorem broadcastTo_col {a b : ℕ} (h : (⟨2, ![a, 1]⟩ : Shape).Broadcasts ⟨2, ![a, b]⟩) (f : (Fin 2 → ℕ) → ℝ) :
    broadcastTo ⟨2, ![a, b]⟩ (lift (s := ⟨2, ![a, 1]⟩) f) h = lift (s := ⟨2, ![a, b]⟩) fun i => f ![i 0, 0] := by
  funext j
  rw [broadcastTo_apply _ h j (ix2 (j 0) 0)]
  · unfold lift; congr 2; funext d; fin_cases d <;> rfl
  · intro d
    have := idx2_lt0 j
    fin_cases d
    · show (j 0).val = if a = 1 then 0 else (j 0).val
      split <;> omega
    · rfl

/-- A row spread over the rows. -/
theorem broadcastTo_row {a b : ℕ} (h : (⟨2, ![1, b]⟩ : Shape).Broadcasts ⟨2, ![a, b]⟩) (f : (Fin 2 → ℕ) → ℝ) :
    broadcastTo ⟨2, ![a, b]⟩ (lift (s := ⟨2, ![1, b]⟩) f) h = lift (s := ⟨2, ![a, b]⟩) fun i => f ![0, i 1] := by
  funext j
  rw [broadcastTo_apply _ h j (ix2 0 (j 1))]
  · unfold lift; congr 2; funext d; fin_cases d <;> rfl
  · intro d
    have := idx2_lt1 j
    fin_cases d
    · rfl
    · show (j 1).val = if b = 1 then 0 else (j 1).val
      split <;> omega

/-- A rectangle cut out. -/
theorem slice_lift {a b a' b' : ℕ} (off : Fin 2 → ℕ) (h : (⟨2, ![a, b]⟩ : Shape).Slices off ⟨2, ![a', b']⟩) (f : (Fin 2 → ℕ) → ℝ) :
    extractStridedSlice ⟨2, ![a', b']⟩ off (lift (s := ⟨2, ![a, b]⟩) f) h
      = lift (s := ⟨2, ![a', b']⟩) fun i => f ![off 0 + i 0, off 1 + i 1] := by
  funext j
  unfold extractStridedSlice lift
  congr 2; funext d; fin_cases d <;> rfl

/-- A vector made a column. -/
theorem shapeCast_col {a : ℕ} (h : (⟨1, ![a]⟩ : Shape).ShapeCasts ⟨2, ![a, 1]⟩) (f : (Fin 1 → ℕ) → ℝ) :
    shapeCast ⟨2, ![a, 1]⟩ (lift (s := ⟨1, ![a]⟩) f) h = lift (s := ⟨2, ![a, 1]⟩) fun i => f ![i 0] := by
  funext j
  rw [shapeCast_apply _ h j (ix1 (j 0))]
  · unfold lift; congr 2; funext d; fin_cases d; rfl
  · have := idx2_lt1 j
    simp only [Shape.rowMajor_val_one, Shape.rowMajor_val_two]
    show (j 0).val = (j 0).val * 1 + (j 1).val
    omega

/-- A vector made a row. -/
theorem shapeCast_row {a : ℕ} (h : (⟨1, ![a]⟩ : Shape).ShapeCasts ⟨2, ![1, a]⟩) (f : (Fin 1 → ℕ) → ℝ) :
    shapeCast ⟨2, ![1, a]⟩ (lift (s := ⟨1, ![a]⟩) f) h = lift (s := ⟨2, ![1, a]⟩) fun i => f ![i 1] := by
  funext j
  rw [shapeCast_apply _ h j (ix1 (j 1))]
  · unfold lift; congr 2; funext d; fin_cases d; rfl
  · have := idx2_lt0 j
    simp only [Shape.rowMajor_val_one, Shape.rowMajor_val_two]
    show (j 1).val = (j 0).val * a + (j 1).val
    rw [show (j 0).val = 0 by omega]; omega

/-- A leading unit axis dropped. -/
theorem shapeCast_drop {a b : ℕ} (h : (⟨3, ![1, a, b]⟩ : Shape).ShapeCasts ⟨2, ![a, b]⟩) (f : (Fin 3 → ℕ) → ℝ) :
    shapeCast ⟨2, ![a, b]⟩ (lift (s := ⟨3, ![1, a, b]⟩) f) h = lift (s := ⟨2, ![a, b]⟩) fun i => f ![0, i 0, i 1] := by
  funext j
  rw [shapeCast_apply _ h j (ix3 0 (j 0) (j 1))]
  · unfold lift; congr 2; funext d; fin_cases d <;> rfl
  · simp only [Shape.rowMajor_val_three, Shape.rowMajor_val_two]
    show (0 * a + (j 0).val) * b + (j 1).val = (j 0).val * b + (j 1).val
    rw [Nat.zero_mul, Nat.zero_add]

/-- A leading unit axis added. -/
theorem shapeCast_add {a b : ℕ} (h : (⟨2, ![a, b]⟩ : Shape).ShapeCasts ⟨3, ![1, a, b]⟩) (f : (Fin 2 → ℕ) → ℝ) :
    shapeCast ⟨3, ![1, a, b]⟩ (lift (s := ⟨2, ![a, b]⟩) f) h = lift (s := ⟨3, ![1, a, b]⟩) fun i => f ![i 1, i 2] := by
  funext j
  rw [shapeCast_apply _ h j (ix2 (j 1) (j 2))]
  · unfold lift; congr 2; funext d; fin_cases d <;> rfl
  · have : (j 0).val < 1 := (j 0).isLt
    simp only [Shape.rowMajor_val_three, Shape.rowMajor_val_two]
    show (j 1).val * b + (j 2).val = ((j 0).val * a + (j 1).val) * b + (j 2).val
    rw [show (j 0).val = 0 by omega, Nat.zero_mul, Nat.zero_add]

/-! ## Sums -/

/-- A finite sum of reals is a real. -/
theorem sum_coe {n : ℕ} (f : ℕ → ℝ) :
    ∑ k : Fin n, ((f k.val : ℝ) : EReal) = ((∑ k ∈ Finset.range n, f k : ℝ) : EReal) := by
  rw [← Finset.sum_range fun k => ((f k : ℝ) : EReal)]
  induction n with
  | zero => simp
  | succ n ih => rw [Finset.sum_range_succ, Finset.sum_range_succ, EReal.coe_add, ih]

/-- A row sum on the vector unit. -/
theorem reduce_cols {a b : ℕ} (acc : BitVec (FTy.f32).bits) (h : (⟨2, ![a, b]⟩ : Shape).Reduces [1] ⟨1, ![a]⟩)
    (hφ : FKind.Formats .f32) (hacc : acc = FKind.add.neutral .f32 hφ) (f : (Fin 2 → ℕ) → ℝ) :
    multiReduction (F := Ideal) (φ := .f32) .add [1] ⟨1, ![a]⟩ (lift (s := ⟨2, ![a, b]⟩) f) acc h hφ hacc
      = lift (s := ⟨1, ![a]⟩) fun i => ∑ k ∈ Finset.range b, f ![i 0, k] := by
  funext j
  rw [Ideal.multiReduction_add_single]
  refine Eq.trans (Finset.sum_congr rfl fun k _ => ?_) (sum_coe fun k => f ![(j 0).val, k])
  unfold lift; congr 2; funext d; fin_cases d <;> rfl

/-- A column sum on the vector unit. -/
theorem reduce_rows {a b : ℕ} (acc : BitVec (FTy.f32).bits) (h : (⟨2, ![a, b]⟩ : Shape).Reduces [0] ⟨1, ![b]⟩)
    (hφ : FKind.Formats .f32) (hacc : acc = FKind.add.neutral .f32 hφ) (f : (Fin 2 → ℕ) → ℝ) :
    multiReduction (F := Ideal) (φ := .f32) .add [0] ⟨1, ![b]⟩ (lift (s := ⟨2, ![a, b]⟩) f) acc h hφ hacc
      = lift (s := ⟨1, ![b]⟩) fun i => ∑ k ∈ Finset.range a, f ![k, i 0] := by
  funext j
  rw [Ideal.multiReduction_add_single]
  refine Eq.trans (Finset.sum_congr rfl fun k _ => ?_) (sum_coe fun k => f ![k, (j 0).val])
  unfold lift; congr 2; funext d; fin_cases d <;> rfl

/-- A sum over one contracted axis. -/
theorem sum_contr1 {sl sr so : Shape} (d : DotDims sl sr so) (n : ℕ) (hr : d.contr.rank = 1) (hs : d.contr.size ⟨0, by omega⟩ = n)
    (f : (Fin sl.rank → ℕ) → ℝ) (g : (Fin sr.rank → ℕ) → ℝ) (j : so.Idx) (gl : ℕ → Fin sl.rank → ℕ) (gr : ℕ → Fin sr.rank → ℕ)
    (hl : ∀ k a, (d.lhsIdx j k a).val = gl (k ⟨0, by omega⟩).val a) (hg : ∀ k a, (d.rhsIdx j k a).val = gr (k ⟨0, by omega⟩).val a) :
    ∑ k : d.contr.Idx, lift f (d.lhsIdx j k) * lift g (d.rhsIdx j k)
      = ((∑ k ∈ Finset.range n, f (gl k) * g (gr k) : ℝ) : EReal) := by
  rw [← Equiv.sum_comp (contrEquiv1 d n hr hs).symm, ← sum_coe fun k => f (gl k) * g (gr k)]
  refine Finset.sum_congr rfl fun k _ => ?_
  have e1 : (fun a => (d.lhsIdx j ((contrEquiv1 d n hr hs).symm k) a).val) = gl k.val := by
    funext a; rw [hl, contrEquiv1_symm_val]
  have e2 : (fun a => (d.rhsIdx j ((contrEquiv1 d n hr hs).symm k) a).val) = gr k.val := by
    funext a; rw [hg, contrEquiv1_symm_val]
  unfold lift
  rw [e1, e2, EReal.coe_mul]

/-- A product on the matrix unit into zeros. -/
theorem matmul_lift {φ₁ φ₂ : FTy} {sl sr so : Shape} (d : DotDims sl sr so) (n : ℕ) (hr : d.contr.rank = 1) (hs : d.contr.size ⟨0, by omega⟩ = n)
    (gl : (Fin so.rank → ℕ) → ℕ → Fin sl.rank → ℕ) (gr : (Fin so.rank → ℕ) → ℕ → Fin sr.rank → ℕ)
    (hl : ∀ (j : so.Idx) k a, (d.lhsIdx j k a).val = gl (fun b => (j b).val) (k ⟨0, by omega⟩).val a)
    (hg : ∀ (j : so.Idx) k a, (d.rhsIdx j k a).val = gr (fun b => (j b).val) (k ⟨0, by omega⟩).val a)
    (f : (Fin sl.rank → ℕ) → ℝ) (g : (Fin sr.rank → ℕ) → ℝ) :
    matmul (F := Ideal) (φ₁ := φ₁) (φ₂ := φ₂) d none (lift f) (lift g) (constant so .f32 0x00000000#32)
      = lift fun i => ∑ k ∈ Finset.range n, f (gl i k) * g (gr i k) := by
  funext j
  simp only [matmul]
  rw [Ideal.matmul_constant_zero_apply]
  exact sum_contr1 d n hr hs f g j _ _ (hl j) (hg j)

/-- A host product over one axis. -/
theorem dotGeneral_lift {φ₁ φ₂ : FTy} {sl sr so : Shape} (d : DotDims sl sr so) (n : ℕ) (hr : d.contr.rank = 1) (hs : d.contr.size ⟨0, by omega⟩ = n)
    (gl : (Fin so.rank → ℕ) → ℕ → Fin sl.rank → ℕ) (gr : (Fin so.rank → ℕ) → ℕ → Fin sr.rank → ℕ)
    (hl : ∀ (j : so.Idx) k a, (d.lhsIdx j k a).val = gl (fun b => (j b).val) (k ⟨0, by omega⟩).val a)
    (hg : ∀ (j : so.Idx) k a, (d.rhsIdx j k a).val = gr (fun b => (j b).val) (k ⟨0, by omega⟩).val a)
    (f : (Fin sl.rank → ℕ) → ℝ) (g : (Fin sr.rank → ℕ) → ℝ) :
    Host.dotGeneral (F := Ideal) (φ₁ := φ₁) (φ₂ := φ₂) d none (lift f) (lift g)
      = lift fun i => ∑ k ∈ Finset.range n, f (gl i k) * g (gr i k) := by
  funext j
  simp only [Host.dotGeneral]
  rw [Ideal.dotGeneral_apply]
  exact sum_contr1 d n hr hs f g j _ _ (hl j) (hg j)

/-- A host product over two axes. -/
theorem dotGeneral_lift2 {φ₁ φ₂ : FTy} {sl sr so : Shape} (d : DotDims sl sr so) (n n' : ℕ) (hr : d.contr.rank = 2)
    (h0 : d.contr.size ⟨0, by omega⟩ = n) (h1 : d.contr.size ⟨1, by omega⟩ = n')
    (gl : (Fin so.rank → ℕ) → ℕ → ℕ → Fin sl.rank → ℕ) (gr : (Fin so.rank → ℕ) → ℕ → ℕ → Fin sr.rank → ℕ)
    (hl : ∀ (j : so.Idx) k a, (d.lhsIdx j k a).val = gl (fun b => (j b).val) (k ⟨0, by omega⟩).val (k ⟨1, by omega⟩).val a)
    (hg : ∀ (j : so.Idx) k a, (d.rhsIdx j k a).val = gr (fun b => (j b).val) (k ⟨0, by omega⟩).val (k ⟨1, by omega⟩).val a)
    (f : (Fin sl.rank → ℕ) → ℝ) (g : (Fin sr.rank → ℕ) → ℝ) :
    Host.dotGeneral (F := Ideal) (φ₁ := φ₁) (φ₂ := φ₂) d none (lift f) (lift g)
      = lift fun i => ∑ k ∈ Finset.range n, ∑ l ∈ Finset.range n', f (gl i k l) * g (gr i k l) := by
  funext j
  simp only [Host.dotGeneral]
  rw [Ideal.dotGeneral_apply, sum_contr2 d n n' hr h0 h1]
  show _ = (((∑ k ∈ Finset.range n, ∑ l ∈ Finset.range n', f (gl (fun b => (j b).val) k l) * g (gr (fun b => (j b).val) k l)) : ℝ) : EReal)
  rw [← sum_coe fun k => ∑ l ∈ Finset.range n', f (gl (fun b => (j b).val) k l) * g (gr (fun b => (j b).val) k l)]
  refine Finset.sum_congr rfl fun k _ => ?_
  rw [← sum_coe fun l => f (gl (fun b => (j b).val) k.val l) * g (gr (fun b => (j b).val) k.val l)]
  refine Finset.sum_congr rfl fun l _ => ?_
  have e1 : (fun a => (d.lhsIdx j ((contrEquiv2 d n n' hr h0 h1).symm (k, l)) a).val) = gl (fun b => (j b).val) k.val l.val := by
    funext a; rw [hl, contrEquiv2_symm_val0, contrEquiv2_symm_val1]
  have e2 : (fun a => (d.rhsIdx j ((contrEquiv2 d n n' hr h0 h1).symm (k, l)) a).val) = gr (fun b => (j b).val) k.val l.val := by
    funext a; rw [hg, contrEquiv2_symm_val0, contrEquiv2_symm_val1]
  unfold lift
  rw [e1, e2, EReal.coe_mul]

end Cert.Sgu

end
-- ==== Proof.Spec.lean ====
/-
  The gradient of the spatial gating unit over the real numbers, as functions of an index's coordinates: what both
  programs of this certificate are shown to compute. `In` holds the arguments; the rows come in blocks of 128 and the
  2048 columns in 8 groups of 256.
-/
module

public import Mathlib.Analysis.SpecialFunctions.Pow.Real
public import Mathlib.Analysis.SpecialFunctions.Exp

@[expose] public section

noncomputable section

namespace Cert.Sgu

open scoped BigOperators

/-- The real that gelu's constant `sqrt (2 / pi)` is stored as. -/
def gC : ℝ := 6693141 / 2 ^ 23
/-- The real that gelu's constant `0.044715` is stored as. -/
def gA : ℝ := 12003091 / 2 ^ 28
/-- The real that the norm's `1e-6` is stored as. -/
def eps : ℝ := 8796093 / 2 ^ 43

/-- The factor of `x` in gelu. -/
def hh (x : ℝ) : ℝ := 1 / 2 * Real.tanh (x * (gC + gC * gA * (x * x))) + 1 / 2
/-- Gelu. -/
def gelu (x : ℝ) : ℝ := x * hh x
/-- Gelu's derivative. -/
def dgelu (x : ℝ) : ℝ := hh x * (1 + (1 - hh x) * (x * (2 * gC + 6 * gC * gA * (x * x))))
/-- The logistic function. -/
def sgm (x : ℝ) : ℝ := 1 / (1 + Real.exp (0 - x))

/-- A row's deviation from its mean. -/
def cen (h : (Fin 2 → ℕ) → ℝ) (i : Fin 2 → ℕ) : ℝ := h i - (∑ k ∈ Finset.range 2048, h ![i 0, k]) / 2048
/-- The inverse standard deviation of a row. -/
def rst (h : (Fin 2 → ℕ) → ℝ) (i : Fin 2 → ℕ) : ℝ :=
  (Real.sqrt ((∑ k ∈ Finset.range 2048, cen h ![i 0, k] * cen h ![i 0, k]) / 2048 + eps))⁻¹
/-- The normalised row. -/
def xh (h : (Fin 2 → ℕ) → ℝ) (i : Fin 2 → ℕ) : ℝ := cen h i * rst h i

/-- The arguments: the cotangent, the projection (its three parts side by side), the norm's gain and bias, the masked
    spatial weights and the spatial bias. -/
structure In where
  da : (Fin 2 → ℕ) → ℝ
  p : (Fin 2 → ℕ) → ℝ
  lg : (Fin 2 → ℕ) → ℝ
  lb : (Fin 2 → ℕ) → ℝ
  w : (Fin 3 → ℕ) → ℝ
  b : (Fin 2 → ℕ) → ℝ

variable (x : In)

/-- The projection's three parts. -/
def pu (i : Fin 2 → ℕ) : ℝ := x.p ![i 0, i 1]
def pv (i : Fin 2 → ℕ) : ℝ := x.p ![i 0, 2048 + i 1]
def pg (i : Fin 2 → ℕ) : ℝ := x.p ![i 0, 4096 + i 1]

/-- The activated second part. -/
def vf (i : Fin 2 → ℕ) : ℝ := gelu (pv x i)
/-- … normalised, … -/
def vn (i : Fin 2 → ℕ) : ℝ := xh (vf x) i * x.lg ![0, i 1] + x.lb ![0, i 1]
/-- … and mixed over the rows of a block. -/
def vs (i : Fin 2 → ℕ) : ℝ :=
  (∑ k ∈ Finset.range 128, x.w ![i 1 / 256, i 0 % 128, k] * vn x ![128 * (i 0 / 128) + k, i 1]) + x.b ![i 1 / 256, i 0 % 128]

/-- The gradient of the mixed rows … -/
def dvs (i : Fin 2 → ℕ) : ℝ := x.da i * gelu (pu x i) * (pg x i * sgm (pg x i))
/-- … and of the normalised ones. -/
def dvn (i : Fin 2 → ℕ) : ℝ :=
  ∑ k ∈ Finset.range 128, x.w ![i 1 / 256, k, i 0 % 128] * dvs x ![128 * (i 0 / 128) + k, i 1]
def dxh (i : Fin 2 → ℕ) : ℝ := dvn x i * x.lg ![0, i 1]

/-- The three parts of the projection's gradient. -/
def oU (i : Fin 2 → ℕ) : ℝ := x.da i * vs x i * (pg x i * sgm (pg x i)) * dgelu (pu x i)
def oG (i : Fin 2 → ℕ) : ℝ := x.da i * gelu (pu x i) * vs x i * (sgm (pg x i) * (1 + pg x i * (1 - sgm (pg x i))))
def oV (i : Fin 2 → ℕ) : ℝ :=
  rst (vf x) i * (dxh x i - (∑ k ∈ Finset.range 2048, dxh x ![i 0, k]) / 2048
    - xh (vf x) i * ((∑ k ∈ Finset.range 2048, dxh x ![i 0, k] * xh (vf x) ![i 0, k]) / 2048)) * dgelu (pv x i)

/-- The gradient of the projection. -/
def dproj (i : Fin 2 → ℕ) : ℝ :=
  if i 1 < 2048 then oU x i else if i 1 < 4096 then oV x ![i 0, i 1 - 2048] else oG x ![i 0, i 1 - 4096]

/-- What row block `t` adds to the gradients of the weights, … -/
def dws (t : ℕ) (i : Fin 3 → ℕ) : ℝ :=
  ∑ d ∈ Finset.range 256, dvs x ![128 * t + i 1, 256 * i 0 + d] * vn x ![128 * t + i 2, 256 * i 0 + d]
/-- … of the spatial bias (transposed), … -/
def dbs (t : ℕ) (i : Fin 2 → ℕ) : ℝ := ∑ d ∈ Finset.range 256, dvs x ![128 * t + i 0, 256 * i 1 + d]
/-- … of the gain … -/
def dlg (t : ℕ) (i : Fin 2 → ℕ) : ℝ :=
  ∑ r ∈ Finset.range 128, dvn x ![128 * t + r, i 1] * xh (vf x) ![128 * t + r, i 1]
/-- … and of the bias. -/
def dlb (t : ℕ) (i : Fin 2 → ℕ) : ℝ := ∑ r ∈ Finset.range 128, dvn x ![128 * t + r, i 1]

/-- Row block `t` of the arguments, as arguments of its own. -/
def In.block (t : ℕ) : In := { x with
  da := fun i => x.da ![128 * t + i 0, i 1]
  p := fun i => x.p ![128 * t + i 0, i 1] }

end Cert.Sgu

end
-- ==== Proof.Pay.lean ====
/-
  The kernel's own values on real blocks: each of its named values, at arrays of reals, is the array of the reals the
  specification gives.
-/
module

public import proofs.«01_k».proof.Proof.Gen.KernelIdeal.Skeleton
public import proofs.«01_k».proof.Proof.Lift
public import proofs.«01_k».proof.Proof.Spec

@[expose] public section

noncomputable section

namespace Cert.Sgu

open Idealize.ShloMosaic Idealize.ShloMosaic.ValueIdx Cert.KernelIdeal Cert.KernelIdeal.Gen
open scoped BigOperators

variable {s : Shape}

/-! ## Constants -/

theorem of_C : Scalar.ofBits (F := Ideal) .f32 0x3F4C422A#32 = (gC : EReal) := by
  simp [Scalar.ofBits, Ideal.ofBits, Ideal.ieee, -EReal.coe_mul, gC]; norm_num
theorem of_2C : Scalar.ofBits (F := Ideal) .f32 0x3FCC422A#32 = ((2 * gC : ℝ) : EReal) := by
  simp [Scalar.ofBits, Ideal.ofBits, Ideal.ieee, -EReal.coe_mul, gC]; norm_num
theorem of_half : Scalar.ofBits (F := Ideal) .f32 0x3F000000#32 = ((1 / 2 : ℝ) : EReal) := by
  simp [Scalar.ofBits, Ideal.ofBits, Ideal.ieee, -EReal.coe_mul]; norm_num
theorem of_one : Scalar.ofBits (F := Ideal) .f32 0x3F800000#32 = ((1 : ℝ) : EReal) := by
  simp [Scalar.ofBits, Ideal.ofBits, Ideal.ieee, -EReal.coe_mul]; norm_num
theorem of_2048 : Scalar.ofBits (F := Ideal) .f32 0x45000000#32 = ((2048 : ℝ) : EReal) := by
  simp [Scalar.ofBits, Ideal.ofBits, Ideal.ieee, -EReal.coe_mul]; norm_num
theorem of_eps : Scalar.ofBits (F := Ideal) .f32 0x358637BD#32 = (eps : EReal) := by
  simp [Scalar.ofBits, Ideal.ofBits, Ideal.ieee, -EReal.coe_mul, eps]; norm_num
theorem of_zero : Scalar.ofBits (F := Ideal) .f32 0x00000000#32 = ((0 : ℝ) : EReal) := by
  simp [Scalar.ofBits, Ideal.ofBits, Ideal.ieee, -EReal.coe_mul]
theorem of_CA : Named.named (F := Ideal) (φ := .f32) κ "gelu_ca" 0x3D122279#32 = ((gC * gA : ℝ) : EReal) := by
  refine Eq.trans (b := ((80338380498831 / 2251799813685248 : ℝ) : EReal)) rfl ?_
  congr 1; norm_num [gC, gA]
theorem of_6CA : Named.named (F := Ideal) (φ := .f32) κ "gelu_6ca" 0x3E5B33B6#32 = ((6 * gC * gA : ℝ) : EReal) := by
  refine Eq.trans (b := ((241015141496493 / 1125899906842624 : ℝ) : EReal)) rfl ?_
  congr 1; norm_num [gC, gA]

theorem eps_pos : 0 < eps := by norm_num [eps]

/-! ## Gelu -/

theorem p3 (f : (Fin 2 → ℕ) → ℝ) : k0_pay3 (F := Ideal) (lift f) = lift fun i => hh (f i) := by
  simp only [k0_pay3, k0_pay2, of_C, of_CA, of_half, broadcast_coe, mulf_lift, addf_lift, tanh_lift]; rfl

theorem p4 (f : (Fin 2 → ℕ) → ℝ) : k0_pay4 (F := Ideal) (lift f) = lift fun i => gelu (f i) := by
  simp only [k0_pay4, p3, mulf_lift]; rfl

theorem p5 (f : (Fin 2 → ℕ) → ℝ) : k0_pay5 (F := Ideal) (lift f) = lift fun i => dgelu (f i) := by
  simp only [k0_pay5, p3, k0_pay2, of_2C, of_6CA, of_one, broadcast_coe, mulf_lift, addf_lift, subf_lift]; rfl

theorem p7 (f : (Fin 2 → ℕ) → ℝ) : k0_pay7 (F := Ideal) (lift f) = lift fun i => hh (f i) := by
  simp only [k0_pay7, k0_pay6, of_C, of_CA, of_half, broadcast_coe, mulf_lift, addf_lift, tanh_lift]; rfl

theorem p8 (f : (Fin 2 → ℕ) → ℝ) : k0_pay8 (F := Ideal) (lift f) = lift fun i => gelu (f i) := by
  simp only [k0_pay8, p7, mulf_lift]; rfl

theorem p11 (f : (Fin 2 → ℕ) → ℝ) :
    k0_pay11 (F := Ideal) (lift f) (k0_pay7 (lift f)) (k0_pay9 (lift f)) (k0_pay10 (lift f)) = lift fun i => dgelu (f i) := by
  simp only [k0_pay11, k0_pay10, k0_pay9, p7, k0_pay6, of_2C, of_6CA, of_one, broadcast_coe, mulf_lift, addf_lift, subf_lift]; rfl

/-! ## The norm -/

section sums

variable (hφ : FTy.f32 = FTy.f32 ∨ FTy.f32 = FTy.bf16) (hacc : (0x00000000#32 : BitVec 32) = 0x00000000#32)

theorem sum_row (f : (Fin 2 → ℕ) → ℝ) :
    multiReduction (F := Ideal) (φ := .f32) .add [1] S128 (lift (s := S128x2048) f) 0x00000000#32 reduces_S128x2048_S128 hφ hacc
      = lift (s := S128) fun i => ∑ k ∈ Finset.range 2048, f ![i 0, k] :=
  reduce_cols ..

theorem sum_group (f : (Fin 2 → ℕ) → ℝ) :
    multiReduction (F := Ideal) (φ := .f32) .add [1] S128 (lift (s := S128x256) f) 0x00000000#32 reduces_S128x256_S128 hφ hacc
      = lift (s := S128) fun i => ∑ k ∈ Finset.range 256, f ![i 0, k] :=
  reduce_cols ..

theorem sum_col (f : (Fin 2 → ℕ) → ℝ) :
    multiReduction (F := Ideal) (φ := .f32) .add [0] S2048 (lift (s := S128x2048) f) 0x00000000#32 reduces_S128x2048_S2048 hφ hacc
      = lift (s := S2048) fun i => ∑ k ∈ Finset.range 128, f ![k, i 0] :=
  reduce_rows ..

end sums

theorem divf_2048 (f : (Fin s.rank → ℕ) → ℝ) :
    divf (F := Ideal) (φ := .f32) (lift f) (lift fun _ => 2048) = lift fun i => f i / 2048 :=
  divf_lift _ _ fun _ => by norm_num

theorem rsqrt_var (f : (Fin s.rank → ℕ) → ℕ → ℝ) :
    rsqrt (F := Ideal) (φ := .f32) (lift fun i => (∑ k ∈ Finset.range 2048, f i k * f i k) / 2048 + eps)
      = lift fun i => (Real.sqrt ((∑ k ∈ Finset.range 2048, f i k * f i k) / 2048 + eps))⁻¹ :=
  rsqrt_lift _ fun i => by
    have : 0 ≤ ∑ k ∈ Finset.range 2048, f i k * f i k := Finset.sum_nonneg fun k _ => mul_self_nonneg _
    have := eps_pos
    positivity

theorem p12 (f : (Fin 2 → ℕ) → ℝ) : k0_pay12 (F := Ideal) (lift f) = lift (cen f) := by
  simp only [k0_pay12]
  rw [sum_row]
  simp only [shapeCast_col, of_2048, broadcast_coe, divf_2048, broadcastTo_col, subf_lift]; rfl

theorem p13 (f : (Fin 2 → ℕ) → ℝ) : k0_pay13 (F := Ideal) (lift f) = lift (rst f) := by
  simp only [k0_pay13, p12, mulf_lift]
  rw [sum_row]
  simp only [shapeCast_col, of_2048, of_eps, broadcast_coe, divf_2048, addf_lift]
  exact rsqrt_var (s := S128x1) fun i k => cen f ![i 0, k]

theorem p14 (f : (Fin 2 → ℕ) → ℝ) : k0_pay14 (F := Ideal) (lift f) = lift (xh f) := by
  simp only [k0_pay14, p12, p13, broadcastTo_col, mulf_lift]; rfl

theorem p15 (f g h : (Fin 2 → ℕ) → ℝ) :
    k0_pay15 (F := Ideal) (lift f) (lift g) (lift h) = lift fun i => xh f i * g ![0, i 1] + h ![0, i 1] := by
  simp only [k0_pay15, p14, broadcastTo_row, mulf_lift, addf_lift, truncf_lift]

/-! ## The logistic function and the products of a group -/

theorem divf_sig (f : (Fin s.rank → ℕ) → ℝ) :
    divf (F := Ideal) (φ := .f32) (lift fun _ => 1) (lift fun i => 1 + Real.exp (0 - f i)) = lift fun i => sgm (f i) :=
  divf_lift _ _ fun _ => by positivity

theorem mm_mix (f g : (Fin 2 → ℕ) → ℝ) :
    matmul (F := Ideal) (φ₁ := .bf16) (φ₂ := .bf16) dot_S128x128_S128x256_S128x256_1_0_0_1_n_n none (lift f) (lift g) (constant S128x256 .f32 0x00000000#32)
      = lift (s := S128x256) fun i => ∑ k ∈ Finset.range 128, f ![i 0, k] * g ![k, i 1] :=
  matmul_lift dot_S128x128_S128x256_S128x256_1_0_0_1_n_n 128 rfl rfl (fun i k => ![i 0, k]) (fun i k => ![k, i 1])
    (fun j k a => by fin_cases a <;> rfl) (fun j k a => by fin_cases a <;> rfl) f g

theorem mm_outer (f g : (Fin 2 → ℕ) → ℝ) :
    matmul (F := Ideal) (φ₁ := .bf16) (φ₂ := .bf16) dot_S128x256_S128x256_S128x128_1_1_0_0_n_n none (lift f) (lift g) (constant S128x128 .f32 0x00000000#32)
      = lift (s := S128x128) fun i => ∑ k ∈ Finset.range 256, f ![i 0, k] * g ![i 1, k] :=
  matmul_lift dot_S128x256_S128x256_S128x128_1_1_0_0_n_n 256 rfl rfl (fun i k => ![i 0, k]) (fun i k => ![i 1, k])
    (fun j k a => by fin_cases a <;> rfl) (fun j k a => by fin_cases a <;> rfl) f g

/-- A rectangle loaded. -/
theorem ld2 {a b : ℕ} (off size : Fin 2 → ℕ) (inb : ∀ d, off d + size d ≤ (⟨2, ![a, b]⟩ : Shape).size d) (f : (Fin 2 → ℕ) → ℝ) :
    View.ld (Val := Elt Ideal) (e' := .f32) (lift (s := ⟨2, ![a, b]⟩) f) (Rect.unit (s := ⟨2, ![a, b]⟩) off size inb)
      = lift (s := ⟨2, size⟩) fun i => f ![off 0 + i 0, off 1 + i 1] := by
  funext j
  unfold lift
  show ((f fun d => ((Rect.unit (s := ⟨2, ![a, b]⟩) off size inb).idx j d).val : ℝ) : EReal) = _
  congr 2; funext d; fin_cases d <;> exact congrArg (off _ + ·) (Nat.one_mul (j _).val)

theorem ld3 {a b c : ℕ} (off size : Fin 3 → ℕ) (inb : ∀ d, off d + size d ≤ (⟨3, ![a, b, c]⟩ : Shape).size d) (f : (Fin 3 → ℕ) → ℝ) :
    View.ld (Val := Elt Ideal) (e' := .f32) (lift (s := ⟨3, ![a, b, c]⟩) f) (Rect.unit (s := ⟨3, ![a, b, c]⟩) off size inb)
      = lift (s := ⟨3, size⟩) fun i => f ![off 0 + i 0, off 1 + i 1, off 2 + i 2] := by
  funext j
  unfold lift
  show ((f fun d => ((Rect.unit (s := ⟨3, ![a, b, c]⟩) off size inb).idx j d).val : ℝ) : EReal) = _
  congr 2; funext d; fin_cases d <;> exact congrArg (off _ + ·) (Nat.one_mul (j _).val)

theorem eta2 (i : Fin 2 → ℕ) : ![i 0, i 1] = i := by funext d; fin_cases d <;> rfl

theorem lift_congr {f g : (Fin s.rank → ℕ) → ℝ} (h : ∀ i, (∀ a, i a < s.size a) → f i = g i) : lift (s := s) f = lift g :=
  funext fun i => congrArg _ (h _ fun a => (i a).isLt)

/-! ## A group's values from the specification's -/

variable (x : In) {g r d : ℕ}

theorem vs_at (hc : d / 256 = g) (hr : r < 128) :
    vs x ![r, d] = (∑ k ∈ Finset.range 128, x.w ![g, r, k] * vn x ![k, d]) + x.b ![g, r] := by
  have h2 : r % 128 = r := by omega
  have h3 : r / 128 = 0 := by omega
  simp only [vs, Matrix.cons_val_zero, Matrix.cons_val_one, hc, h2, h3, Nat.mul_zero, Nat.zero_add]

theorem dvn_at (hc : d / 256 = g) (hr : r < 128) :
    dvn x ![r, d] = ∑ k ∈ Finset.range 128, x.w ![g, k, r] * dvs x ![k, d] := by
  have h2 : r % 128 = r := by omega
  have h3 : r / 128 = 0 := by omega
  simp only [dvn, Matrix.cons_val_zero, Matrix.cons_val_one, hc, h2, h3, Nat.mul_zero, Nat.zero_add]

variable {c c' : ℕ}

theorem dproj_u (hc : c / 256 = g) (hc' : c' = 4096 + c) (hg : g < 8) (hr : r < 128) :
    x.da ![r, c] * ((∑ k ∈ Finset.range 128, x.w ![g, r, k] * vn x ![k, c]) + x.b ![g, r])
        * (x.p ![r, c'] * sgm (x.p ![r, c'])) * dgelu (x.p ![r, c]) = dproj x ![r, c] := by
  have h1 : c < 2048 := by omega
  rw [← vs_at x hc hr, hc']
  simp only [dproj, oU, pu, pg, Matrix.cons_val_zero, Matrix.cons_val_one, h1, if_true]

theorem dproj_g (hc : c / 256 = g) (hc' : c' = 4096 + c) (hg : g < 8) (hr : r < 128) :
    x.da ![r, c] * gelu (x.p ![r, c]) * ((∑ k ∈ Finset.range 128, x.w ![g, r, k] * vn x ![k, c]) + x.b ![g, r])
        * (sgm (x.p ![r, c']) * (1 + x.p ![r, c'] * (1 - sgm (x.p ![r, c'])))) = dproj x ![r, c'] := by
  have h1 : ¬ c' < 2048 := by omega
  have h2 : ¬ c' < 4096 := by omega
  have h3 : c' - 4096 = c := by omega
  rw [← vs_at x hc hr]
  simp only [dproj, oG, pu, pg, Matrix.cons_val_zero, Matrix.cons_val_one, h1, h2, h3, ← hc', if_false]

theorem dproj_v (hc : c < 2048) : oV x ![r, c] = dproj x ![r, 2048 + c] := by
  have h1 : ¬ 2048 + c < 2048 := by omega
  have h2 : 2048 + c < 4096 := by omega
  have h3 : 2048 + c - 2048 = c := by omega
  simp only [dproj, Matrix.cons_val_zero, Matrix.cons_val_one, h1, h2, h3, if_false, if_true]

theorem dvn_piece (hc : c / 256 = g) (hc' : c' = 4096 + c) (hr : r < 128) :
    ∑ k ∈ Finset.range 128, x.w ![g, k, r] * (x.da ![k, c] * gelu (x.p ![k, c]) * (x.p ![k, c'] * sgm (x.p ![k, c'])))
      = dvn x ![r, c] := by
  rw [dvn_at x hc hr, hc']
  simp only [dvs, pu, pg, Matrix.cons_val_zero, Matrix.cons_val_one]

section groups

variable {q q' : ℕ → ℕ} {r' a : ℕ}

theorem dws_piece (hq : ∀ k, q k = 256 * a + k) (hq' : ∀ k, q' k = 4096 + q k) :
    ∑ k ∈ Finset.range 256, x.da ![r, q k] * gelu (x.p ![r, q k]) * (x.p ![r, q' k] * sgm (x.p ![r, q' k])) * vn x ![r', q k]
      = dws x 0 ![a, r, r'] := by
  simp only [dws, dvs, pu, pg, Matrix.cons_val_zero, Matrix.cons_val_one, Matrix.cons_val, Nat.mul_zero, Nat.zero_add, hq, hq']

theorem dbs_piece (hq : ∀ k, q k = 256 * a + k) (hq' : ∀ k, q' k = 4096 + q k) :
    ∑ k ∈ Finset.range 256, x.da ![r, q k] * gelu (x.p ![r, q k]) * (x.p ![r, q' k] * sgm (x.p ![r, q' k]))
      = dbs x 0 ![r, a] := by
  simp only [dbs, dvs, pu, pg, Matrix.cons_val_zero, Matrix.cons_val_one, Nat.mul_zero, Nat.zero_add, hq, hq']

variable {f3 : (Fin 3 → ℕ) → ℝ} {f2 : (Fin 2 → ℕ) → ℝ}

theorem dws_acc (ha : a = g) (hq : ∀ k, q k = 256 * a + k) (hq' : ∀ k, q' k = 4096 + q k) :
    f3 ![g, r, r'] + ∑ k ∈ Finset.range 256, x.da ![r, q k] * gelu (x.p ![r, q k]) * (x.p ![r, q' k] * sgm (x.p ![r, q' k])) * vn x ![r', q k]
      = f3 ![a, r, r'] + dws x 0 ![a, r, r'] := by
  rw [dws_piece x hq hq', ha]

theorem dbs_acc (hq : ∀ k, q k = 256 * a + k) (hq' : ∀ k, q' k = 4096 + q k) :
    f2 ![r, a] + ∑ k ∈ Finset.range 256, x.da ![r, q k] * gelu (x.p ![r, q k]) * (x.p ![r, q' k] * sgm (x.p ![r, q' k]))
      = f2 ![r, a] + dbs x 0 ![r, a] := by
  rw [dbs_piece x hq hq']

end groups

theorem dlg_piece {j : ℕ} : ∑ k ∈ Finset.range 128, dvn x ![k, j] * xh (vf x) ![k, j] = ∑ k ∈ Finset.range 128, dvn x ![128 * 0 + k, j] * xh (vf x) ![128 * 0 + k, j] := by
  simp only [Nat.mul_zero, Nat.zero_add]

theorem dlb_piece {j : ℕ} : ∑ k ∈ Finset.range 128, dvn x ![k, j] = ∑ k ∈ Finset.range 128, dvn x ![128 * 0 + k, j] := by
  simp only [Nat.mul_zero, Nat.zero_add]

/-! ## The whole block's values -/

theorem p133 (f h : (Fin 2 → ℕ) → ℝ) :
    k0_pay133 (F := Ideal) (lift h) (lift f) = lift fun i => ∑ k ∈ Finset.range 128, f ![k, i 1] * h ![k, i 1] := by
  simp only [k0_pay133, mulf_lift]
  rw [sum_col]
  simp only [shapeCast_row, Matrix.cons_val_zero]

theorem p135 (f : (Fin 2 → ℕ) → ℝ) :
    k0_pay135 (F := Ideal) (lift f) = lift fun i => ∑ k ∈ Finset.range 128, f ![k, i 1] := by
  simp only [k0_pay135]
  rw [sum_col]
  simp only [shapeCast_row, Matrix.cons_val_zero]

theorem p134 (f h a : (Fin 2 → ℕ) → ℝ) :
    k0_pay134 (F := Ideal) (lift h) (lift f) (lift a) = lift fun i => a i + ∑ k ∈ Finset.range 128, f ![k, i 1] * h ![k, i 1] := by
  simp only [k0_pay134, p133, shapeCast_self, addf_lift]

theorem p136 (f a : (Fin 2 → ℕ) → ℝ) :
    k0_pay136 (F := Ideal) (lift f) (lift a) = lift fun i => a i + ∑ k ∈ Finset.range 128, f ![k, i 1] := by
  simp only [k0_pay136, p135, shapeCast_self, addf_lift]

theorem p138 (f h : (Fin 2 → ℕ) → ℝ) :
    k0_pay138 (F := Ideal) (lift f) (lift h)
      = lift fun i => f i * h ![0, i 1] - (∑ k ∈ Finset.range 2048, f ![i 0, k] * h ![0, k]) / 2048 := by
  simp only [k0_pay138, k0_pay137, broadcastTo_row, mulf_lift]
  rw [sum_row]
  simp only [shapeCast_col, of_2048, broadcast_coe, divf_2048,
    broadcastTo_col, subf_lift, Matrix.cons_val_zero, Matrix.cons_val_one]

theorem p139 (f h e : (Fin 2 → ℕ) → ℝ) :
    k0_pay139 (F := Ideal) (lift e) (lift f) (lift h)
      = lift fun i => (∑ k ∈ Finset.range 2048, f ![i 0, k] * h ![0, k] * e ![i 0, k]) / 2048 := by
  simp only [k0_pay139, k0_pay137, broadcastTo_row, mulf_lift]
  rw [sum_row]
  simp only [shapeCast_col, of_2048, broadcast_coe, divf_2048,
    broadcastTo_col, Matrix.cons_val_zero, Matrix.cons_val_one]

theorem p1 (a q h e n : (Fin 2 → ℕ) → ℝ) :
    k0_pay1 (F := Ideal) (lift a) (lift q) (lift h) (lift e) (lift n) = lift fun i => q ![i 0, 0] * (e i - h i * n i) * a i := by
  simp only [k0_pay1, mulf_lift, subf_lift, broadcastTo_col, truncf_lift]

end Cert.Sgu

end
-- ==== Proof.Body.lean ====
/-
  One grid point of the kernel: from real blocks of the arguments it leaves the block of the projection's gradient and
  adds the block's share to the four accumulated gradients (the first point stores the shares).
-/
module
public import proofs.«01_k».proof.Proof.Gen.KernelIdeal.Frame
public import proofs.«01_k».proof.Proof.Pay
@[expose] public section
set_option maxRecDepth 16384
set_option maxHeartbeats 0
noncomputable section
namespace Cert.Sgu
open Cert.KernelIdeal Cert.KernelIdeal.Gen Idealize.ShloMosaic Idealize.ShloMosaic.TcCoe Idealize.SL.Sem

attribute [local irreducible] gelu dgelu sgm hh

variable (m : (ℓ : Loc nD τ sig) → Buf (Elt Ideal) ℓ)

theorem piece2 {a b : ℕ} {off size : Fin 2 → ℕ} (inb : ∀ d, off d + size d ≤ (⟨2, ![a, b]⟩ : Shape).size d) (G : (Fin 2 → ℕ) → ℝ)
    {w : (⟨2, size⟩ : Shape).Idx → EReal} (h : w = lift fun i => G ![off 0 + i 0, off 1 + i 1]) (y : (⟨2, size⟩ : Shape).Idx) :
    w y = lift (s := ⟨2, ![a, b]⟩) G ((Rect.unit (s := ⟨2, ![a, b]⟩) off size inb).emb y) := by
  rw [h]; exact (congrFun (ld2 off size inb G) y).symm

theorem piece3 {a b c : ℕ} {off size : Fin 3 → ℕ} (inb : ∀ d, off d + size d ≤ (⟨3, ![a, b, c]⟩ : Shape).size d) (G : (Fin 3 → ℕ) → ℝ)
    {w : (⟨3, size⟩ : Shape).Idx → EReal} (h : w = lift fun i => G ![off 0 + i 0, off 1 + i 1, off 2 + i 2]) (y : (⟨3, size⟩ : Shape).Idx) :
    w y = lift (s := ⟨3, ![a, b, c]⟩) G ((Rect.unit (s := ⟨3, ![a, b, c]⟩) off size inb).emb y) := by
  rw [h]; exact (congrFun (ld3 off size inb G) y).symm

/-- What pieces that tile the scratch and hold `G`'s values leave, read back whole. -/
theorem scratch_read (G : (Fin 2 → ℕ) → ℝ) (L : List (View.Piece (Elt Ideal) S128x2048 .f32))
    (inb : ∀ a, (![0, 0] : Fin 2 → ℕ) a + S128x2048.size a ≤ S128x2048.size a)
    (hL : ∀ p ∈ L, ∀ y, p.2 y = lift (s := S128x2048) G (p.1.emb y)) (hc : ∀ y, ∃ p ∈ L, y ∈ p.1.set) :
    (View.whole cc0_scratch0).readCov (Val := Elt Ideal) L (Rect.unit (s := S128x2048) ![0, 0] S128x2048.size inb).toLoadRect = lift (s := S128x2048) G := by
  rw [View.readCov_eq_canon_ld _ _ _ hc, View.ld_unit_zero (by funext d; fin_cases d <;> rfl)]
  exact funext fun y => View.canon_apply_of_pieces _ _ hL y (hc y)

/-- A group's gradient of the normalised rows, as the body computes it. -/
theorem scratch_dvn (x : In) :
    (View.whole cc0_scratch0).readCov (Val := Elt Ideal)
      [⟨Rect.unit (s := S128x2048) ![0, 1792] ![128, 256] inb_S128x2048_S128x256_0_1792, lift (s := S128x256) fun i => ∑ k ∈ Finset.range 128,
        x.w ![7, k, i 0] * (x.da ![k, 1792 + i 1] * gelu (x.p ![k, 1792 + i 1]) * (x.p ![k, 5888 + i 1] * sgm (x.p ![k, 5888 + i 1])))⟩, ⟨Rect.unit (s := S128x2048) ![0, 1536] ![128, 256] inb_S128x2048_S128x256_0_1536, lift (s := S128x256) fun i => ∑ k ∈ Finset.range 128,
        x.w ![6, k, i 0] * (x.da ![k, 1536 + i 1] * gelu (x.p ![k, 1536 + i 1]) * (x.p ![k, 5632 + i 1] * sgm (x.p ![k, 5632 + i 1])))⟩, ⟨Rect.unit (s := S128x2048) ![0, 1280] ![128, 256] inb_S128x2048_S128x256_0_1280, lift (s := S128x256) fun i => ∑ k ∈ Finset.range 128,
        x.w ![5, k, i 0] * (x.da ![k, 1280 + i 1] * gelu (x.p ![k, 1280 + i 1]) * (x.p ![k, 5376 + i 1] * sgm (x.p ![k, 5376 + i 1])))⟩, ⟨Rect.unit (s := S128x2048) ![0, 1024] ![128, 256] inb_S128x2048_S128x256_0_1024, lift (s := S128x256) fun i => ∑ k ∈ Finset.range 128,
        x.w ![4, k, i 0] * (x.da ![k, 1024 + i 1] * gelu (x.p ![k, 1024 + i 1]) * (x.p ![k, 5120 + i 1] * sgm (x.p ![k, 5120 + i 1])))⟩, ⟨Rect.unit (s := S128x2048) ![0, 768] ![128, 256] inb_S128x2048_S128x256_0_768, lift (s := S128x256) fun i => ∑ k ∈ Finset.range 128,
        x.w ![3, k, i 0] * (x.da ![k, 768 + i 1] * gelu (x.p ![k, 768 + i 1]) * (x.p ![k, 4864 + i 1] * sgm (x.p ![k, 4864 + i 1])))⟩, ⟨Rect.unit (s := S128x2048) ![0, 512] ![128, 256] inb_S128x2048_S128x256_0_512, lift (s := S128x256) fun i => ∑ k ∈ Finset.range 128,
        x.w ![2, k, i 0] * (x.da ![k, 512 + i 1] * gelu (x.p ![k, 512 + i 1]) * (x.p ![k, 4608 + i 1] * sgm (x.p ![k, 4608 + i 1])))⟩, ⟨Rect.unit (s := S128x2048) ![0, 256] ![128, 256] inb_S128x2048_S128x256_0_256, lift (s := S128x256) fun i => ∑ k ∈ Finset.range 128,
        x.w ![1, k, i 0] * (x.da ![k, 256 + i 1] * gelu (x.p ![k, 256 + i 1]) * (x.p ![k, 4352 + i 1] * sgm (x.p ![k, 4352 + i 1])))⟩, ⟨Rect.unit (s := S128x2048) ![0, 0] ![128, 256] inb_S128x2048_S128x256_0_0, lift (s := S128x256) fun i => ∑ k ∈ Finset.range 128,
        x.w ![0, k, i 0] * (x.da ![k, i 1] * gelu (x.p ![k, i 1]) * (x.p ![k, 4096 + i 1] * sgm (x.p ![k, 4096 + i 1])))⟩]
      (Rect.unit (s := S128x2048) ![0, 0] ![128, 2048] inb_S128x2048_S128x2048_0_0).toLoadRect = lift (s := S128x2048) (dvn x) := by
  refine scratch_read (dvn x) _ _ ?_ fun y => View.cover_of_tiledL (s := S128x2048) _ ![128, 256] (by sl_kernel_rfl) y
  simp only [List.forall_mem_cons]
  refine ⟨piece2 _ _ ?_, piece2 _ _ ?_, piece2 _ _ ?_, piece2 _ _ ?_, piece2 _ _ ?_, piece2 _ _ ?_, piece2 _ _ ?_, piece2 _ _ ?_,  fun _ h => absurd h List.not_mem_nil⟩
  all_goals simp only [Matrix.cons_val_zero, Matrix.cons_val_one, Nat.zero_add]
  all_goals refine lift_congr fun i hi => ?_
  all_goals have h0 : i 0 < 128 := hi 0
  all_goals have h1 : i 1 < 256 := hi 1
  all_goals refine dvn_piece x ?_ ?_ h0 <;> omega

/-- The first point. -/
theorem outA (c : Dev nD) (t : Fin cfg0.N) (h : t.val % 16 = 0) (h' : ¬ 1 ≤ t.val) (x : In)
    (e0 : iblk m c 0 t = lift (s := S128x2048) x.da) (e1 : iblk m c 1 t = lift (s := S128x6144) x.p)
    (e2 : iblk m c 2 t = lift (s := S1x2048) x.lg) (e3 : iblk m c 3 t = lift (s := S1x2048) x.lb)
    (e4 : iblk m c 4 t = lift (s := S8x128x128) x.w) (e5 : iblk m c 5 t = lift (s := S8x128x128) fun i => x.w ![i 0, i 2, i 1])
    (e6 : iblk m c 6 t = lift (s := S128x8) fun i => x.b ![i 1, i 0]) :
    outsAt0 m c t.val t.isLt = (lift (s := S128x6144) (dproj x), lift (s := S8x128x128) (dws x 0), lift (s := S128x8) (dbs x 0), lift (s := S1x2048) (dlg x 0), lift (s := S1x2048) (dlb x 0)) := by
  rw [outsAt0_A m c t h h' h h' h h' h h' h h' h h' h h' h h' h h' h h']
  refine Prod.ext ?_ (Prod.ext ?_ (Prod.ext ?_ (Prod.ext ?_ ?_)))
  · dsimp only
    unfold out0_A_7
    rw [View.read_writes_eq_canon _ _ _ (fun y => cover0_A_7 (y := y) ..)]
    refine funext fun y => View.canon_apply_of_pieces _ _ ?_ y (cover0_A_7 (y := y) ..)
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, e0, e1, e2, e3, e4, e5, e6]
    simp only [List.forall_mem_cons]
    simp only [ld2, ld3, p4, p5, p8, p15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, slice_lift, mm_mix, mm_outer, shapeCast_add, mulf_lift, addf_lift, subf_lift, exp_lift, truncf_lift, of_one, of_zero, broadcast_coe, divf_sig, shapeCast_drop, shapeCast_self, broadcastTo_col, Matrix.cons_val_zero, Matrix.cons_val_one, Matrix.cons_val, Nat.zero_add, Nat.add_zero]
    refine ⟨?v, piece2 _ _ ?g7, piece2 _ _ ?u7, piece2 _ _ ?g6, piece2 _ _ ?u6, piece2 _ _ ?g5, piece2 _ _ ?u5, piece2 _ _ ?g4, piece2 _ _ ?u4,
      piece2 _ _ ?g3, piece2 _ _ ?u3, piece2 _ _ ?g2, piece2 _ _ ?u2, piece2 _ _ ?g1, piece2 _ _ ?u1, piece2 _ _ ?g0, piece2 _ _ ?u0,
      fun _ h => absurd h List.not_mem_nil⟩
    case v =>
      rw [scratch_dvn x]
      simp only [p11, p13, p14, p138, p139, p1, Matrix.cons_val_zero, Matrix.cons_val_one]
      refine piece2 _ _ ?_
      simp only [Matrix.cons_val_zero, Matrix.cons_val_one, Nat.zero_add]
      refine lift_congr fun i hi => ?_
      have h1 : i 1 < 2048 := hi 1
      exact dproj_v x h1
    all_goals simp only [Matrix.cons_val_zero, Matrix.cons_val_one, Nat.zero_add]
    all_goals refine lift_congr fun i hi => ?_
    all_goals have h0 : i 0 < 128 := hi 0
    all_goals have h1 : i 1 < 256 := hi 1
    case g7 | g6 | g5 | g4 | g3 | g2 | g1 | g0 => refine dproj_g x ?_ ?_ ?_ h0 <;> omega
    all_goals refine dproj_u x ?_ ?_ ?_ h0 <;> omega
  · dsimp only
    unfold out0_A_8
    rw [View.read_writes_eq_canon _ _ _ (fun y => cover0_A_8 (y := y) ..)]
    refine funext fun y => View.canon_apply_of_pieces _ _ ?_ y (cover0_A_8 (y := y) ..)
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, e0, e1, e2, e3, e4, e5, e6]
    simp only [List.forall_mem_cons]
    simp only [ld2, ld3, p4, p5, p8, p15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, slice_lift, mm_mix, mm_outer, shapeCast_add, mulf_lift, addf_lift, subf_lift, exp_lift, truncf_lift, of_one, of_zero, broadcast_coe, divf_sig, shapeCast_drop, shapeCast_self, broadcastTo_col, Matrix.cons_val_zero, Matrix.cons_val_one, Matrix.cons_val, Nat.zero_add, Nat.add_zero]
    refine ⟨piece3 _ _ ?_, piece3 _ _ ?_, piece3 _ _ ?_, piece3 _ _ ?_, piece3 _ _ ?_, piece3 _ _ ?_, piece3 _ _ ?_, piece3 _ _ ?_,  fun _ h => absurd h List.not_mem_nil⟩
    all_goals simp only [Matrix.cons_val_zero, Matrix.cons_val_one, Matrix.cons_val, Nat.zero_add]
    all_goals refine lift_congr fun i hi => ?_
    all_goals have h0 : i 0 < 1 := hi 0
    all_goals refine dws_piece x ?_ ?_ <;> intro k <;> omega
  · dsimp only
    unfold out0_A_9
    rw [View.read_writes_eq_canon _ _ _ (fun y => cover0_A_9 (y := y) ..)]
    refine funext fun y => View.canon_apply_of_pieces _ _ ?_ y (cover0_A_9 (y := y) ..)
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, e0, e1, e2, e3, e4, e5, e6]
    simp only [List.forall_mem_cons]
    simp only [ld2, ld3, p4, p5, p8, p15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, slice_lift, mm_mix, mm_outer, shapeCast_add, mulf_lift, addf_lift, subf_lift, exp_lift, truncf_lift, of_one, of_zero, broadcast_coe, divf_sig, shapeCast_drop, shapeCast_self, broadcastTo_col, Matrix.cons_val_zero, Matrix.cons_val_one, Matrix.cons_val, Nat.zero_add, Nat.add_zero]
    refine ⟨piece2 _ _ ?_, piece2 _ _ ?_, piece2 _ _ ?_, piece2 _ _ ?_, piece2 _ _ ?_, piece2 _ _ ?_, piece2 _ _ ?_, piece2 _ _ ?_,  fun _ h => absurd h List.not_mem_nil⟩
    all_goals rw [sum_group]
    all_goals simp only [shapeCast_col, Matrix.cons_val_zero, Matrix.cons_val_one, Nat.zero_add]
    all_goals refine lift_congr fun i hi => ?_
    all_goals have h1 : i 1 < 1 := hi 1
    all_goals refine dbs_piece x ?_ ?_ <;> intro k <;> omega
  · dsimp only
    unfold out0_A_10
    rw [View.read_writes_eq_canon _ _ _ (fun y => cover0_A_10 (y := y) ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, e0, e1, e2, e3, e4, e5, e6]
    rw [View.canon_unit_zero (by funext d; fin_cases d <;> rfl)]
    simp only [ld2, ld3, p4, p5, p8, p15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, slice_lift, mm_mix, mm_outer, shapeCast_add, mulf_lift, addf_lift, subf_lift, exp_lift, truncf_lift, of_one, of_zero, broadcast_coe, divf_sig, shapeCast_drop, shapeCast_self, broadcastTo_col, Matrix.cons_val_zero, Matrix.cons_val_one, Matrix.cons_val, Nat.zero_add, Nat.add_zero]
    rw [scratch_dvn x]
    simp only [p14, p133]
    exact lift_congr fun i hi => dlg_piece x
  · dsimp only
    unfold out0_A_11
    rw [View.read_writes_eq_canon _ _ _ (fun y => cover0_A_11 (y := y) ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, e0, e1, e2, e3, e4, e5, e6]
    rw [View.canon_unit_zero (by funext d; fin_cases d <;> rfl)]
    simp only [ld2, ld3, p4, p5, p8, p15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, slice_lift, mm_mix, mm_outer, shapeCast_add, mulf_lift, addf_lift, subf_lift, exp_lift, truncf_lift, of_one, of_zero, broadcast_coe, divf_sig, shapeCast_drop, shapeCast_self, broadcastTo_col, Matrix.cons_val_zero, Matrix.cons_val_one, Matrix.cons_val, Nat.zero_add, Nat.add_zero]
    rw [scratch_dvn x]
    simp only [p135]
    exact lift_congr fun i hi => dlb_piece x

/-- A later point, from what the previous points left in the four accumulators. -/
theorem outB (c : Dev nD) (t : Fin cfg0.N) (h : ¬ t.val % 16 = 0) (h' : 1 ≤ t.val) (x : In)
    (e0 : iblk m c 0 t = lift (s := S128x2048) x.da) (e1 : iblk m c 1 t = lift (s := S128x6144) x.p)
    (e2 : iblk m c 2 t = lift (s := S1x2048) x.lg) (e3 : iblk m c 3 t = lift (s := S1x2048) x.lb)
    (e4 : iblk m c 4 t = lift (s := S8x128x128) x.w) (e5 : iblk m c 5 t = lift (s := S8x128x128) fun i => x.w ![i 0, i 2, i 1])
    (e6 : iblk m c 6 t = lift (s := S128x8) fun i => x.b ![i 1, i 0])
    (a8 : (Fin 3 → ℕ) → ℝ) (a9 a10 a11 : (Fin 2 → ℕ) → ℝ)
    (hp : (outsAt0 m c (t.val - 1) (Nat.lt_of_le_of_lt (Nat.sub_le _ _) t.isLt)).2
      = (lift (s := S8x128x128) a8, lift (s := S128x8) a9, lift (s := S1x2048) a10, lift (s := S1x2048) a11)) :
    outsAt0 m c t.val t.isLt = (lift (s := S128x6144) (dproj x), lift (s := S8x128x128) fun i => a8 i + dws x 0 i, lift (s := S128x8) fun i => a9 i + dbs x 0 i, lift (s := S1x2048) fun i => a10 i + dlg x 0 i,
      lift (s := S1x2048) fun i => a11 i + dlb x 0 i) := by
  rw [outsAt0_B m c t h h' h h' h h' h h' h h' h h' h h' h h' h h' h h']
  refine Prod.ext ?_ (Prod.ext ?_ (Prod.ext ?_ (Prod.ext ?_ ?_)))
  · dsimp only
    unfold out0_B_7
    rw [View.read_writes_eq_canon _ _ _ (fun y => cover0_B_7 (y := y) ..)]
    refine funext fun y => View.canon_apply_of_pieces _ _ ?_ y (cover0_B_7 (y := y) ..)
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_11 t).read_unread, hp, e0, e1, e2, e3, e4, e5, e6]
    simp only [List.forall_mem_cons]
    simp only [ld2, ld3, p4, p5, p8, p15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, slice_lift, mm_mix, mm_outer, shapeCast_add, mulf_lift, addf_lift, subf_lift, exp_lift, truncf_lift, of_one, of_zero, broadcast_coe, divf_sig, shapeCast_drop, shapeCast_self, broadcastTo_col, Matrix.cons_val_zero, Matrix.cons_val_one, Matrix.cons_val, Nat.zero_add, Nat.add_zero]
    refine ⟨?v, piece2 _ _ ?g7, piece2 _ _ ?u7, piece2 _ _ ?g6, piece2 _ _ ?u6, piece2 _ _ ?g5, piece2 _ _ ?u5, piece2 _ _ ?g4, piece2 _ _ ?u4,
      piece2 _ _ ?g3, piece2 _ _ ?u3, piece2 _ _ ?g2, piece2 _ _ ?u2, piece2 _ _ ?g1, piece2 _ _ ?u1, piece2 _ _ ?g0, piece2 _ _ ?u0,
      fun _ h => absurd h List.not_mem_nil⟩
    case v =>
      rw [scratch_dvn x]
      simp only [p11, p13, p14, p138, p139, p1, Matrix.cons_val_zero, Matrix.cons_val_one]
      refine piece2 _ _ ?_
      simp only [Matrix.cons_val_zero, Matrix.cons_val_one, Nat.zero_add]
      refine lift_congr fun i hi => ?_
      have h1 : i 1 < 2048 := hi 1
      exact dproj_v x h1
    all_goals simp only [Matrix.cons_val_zero, Matrix.cons_val_one, Nat.zero_add]
    all_goals refine lift_congr fun i hi => ?_
    all_goals have h0 : i 0 < 128 := hi 0
    all_goals have h1 : i 1 < 256 := hi 1
    case g7 | g6 | g5 | g4 | g3 | g2 | g1 | g0 => refine dproj_g x ?_ ?_ ?_ h0 <;> omega
    all_goals refine dproj_u x ?_ ?_ ?_ h0 <;> omega
  · dsimp only
    unfold out0_B_8
    rw [View.read_writes_eq_canon _ _ _ (fun y => cover0_B_8 (y := y) ..)]
    refine funext fun y => View.canon_apply_of_pieces _ _ ?_ y (cover0_B_8 (y := y) ..)
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_11 t).read_unread, hp, e0, e1, e2, e3, e4, e5, e6]
    simp only [List.forall_mem_cons]
    simp only [ld2, ld3, p4, p5, p8, p15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, slice_lift, mm_mix, mm_outer, shapeCast_add, mulf_lift, addf_lift, subf_lift, exp_lift, truncf_lift, of_one, of_zero, broadcast_coe, divf_sig, shapeCast_drop, shapeCast_self, broadcastTo_col, Matrix.cons_val_zero, Matrix.cons_val_one, Matrix.cons_val, Nat.zero_add, Nat.add_zero]
    refine ⟨piece3 _ _ ?_, piece3 _ _ ?_, piece3 _ _ ?_, piece3 _ _ ?_, piece3 _ _ ?_, piece3 _ _ ?_, piece3 _ _ ?_, piece3 _ _ ?_,  fun _ h => absurd h List.not_mem_nil⟩
    all_goals simp only [Matrix.cons_val_zero, Matrix.cons_val_one, Matrix.cons_val, Nat.zero_add]
    all_goals refine lift_congr fun i hi => ?_
    all_goals have h0 : i 0 < 1 := hi 0
    all_goals refine dws_acc x ?_ (fun k => ?_) (fun k => ?_) <;> omega
  · dsimp only
    unfold out0_B_9
    rw [View.read_writes_eq_canon _ _ _ (fun y => cover0_B_9 (y := y) ..)]
    refine funext fun y => View.canon_apply_of_pieces _ _ ?_ y (cover0_B_9 (y := y) ..)
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_11 t).read_unread, hp, e0, e1, e2, e3, e4, e5, e6]
    simp only [List.forall_mem_cons]
    simp only [ld2, ld3, p4, p5, p8, p15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, slice_lift, mm_mix, mm_outer, shapeCast_add, mulf_lift, addf_lift, subf_lift, exp_lift, truncf_lift, of_one, of_zero, broadcast_coe, divf_sig, shapeCast_drop, shapeCast_self, broadcastTo_col, Matrix.cons_val_zero, Matrix.cons_val_one, Matrix.cons_val, Nat.zero_add, Nat.add_zero]
    refine ⟨piece2 _ _ ?_, piece2 _ _ ?_, piece2 _ _ ?_, piece2 _ _ ?_, piece2 _ _ ?_, piece2 _ _ ?_, piece2 _ _ ?_, piece2 _ _ ?_,  fun _ h => absurd h List.not_mem_nil⟩
    all_goals rw [sum_group]
    all_goals simp only [shapeCast_col, addf_lift, Matrix.cons_val_zero, Matrix.cons_val_one, Nat.zero_add]
    all_goals refine lift_congr fun i hi => ?_
    all_goals have h1 : i 1 < 1 := hi 1
    all_goals refine dbs_acc x (fun k => ?_) (fun k => ?_) <;> omega
  · dsimp only
    unfold out0_B_10
    rw [View.read_writes_eq_canon _ _ _ (fun y => cover0_B_10 (y := y) ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_11 t).read_unread, hp, e0, e1, e2, e3, e4, e5, e6]
    rw [View.canon_unit_zero (by funext d; fin_cases d <;> rfl)]
    simp only [ld2, ld3, p4, p5, p8, p15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, slice_lift, mm_mix, mm_outer, shapeCast_add, mulf_lift, addf_lift, subf_lift, exp_lift, truncf_lift, of_one, of_zero, broadcast_coe, divf_sig, shapeCast_drop, shapeCast_self, broadcastTo_col, Matrix.cons_val_zero, Matrix.cons_val_one, Matrix.cons_val, Nat.zero_add, Nat.add_zero]
    rw [scratch_dvn x]
    simp only [p14, p134]
    exact lift_congr fun i hi => congr (congrArg _ (congrArg a10 (eta2 i))) (dlg_piece x)
  · dsimp only
    unfold out0_B_11
    rw [View.read_writes_eq_canon _ _ _ (fun y => cover0_B_11 (y := y) ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_11 t).read_unread, hp, e0, e1, e2, e3, e4, e5, e6]
    rw [View.canon_unit_zero (by funext d; fin_cases d <;> rfl)]
    simp only [ld2, ld3, p4, p5, p8, p15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, slice_lift, mm_mix, mm_outer, shapeCast_add, mulf_lift, addf_lift, subf_lift, exp_lift, truncf_lift, of_one, of_zero, broadcast_coe, divf_sig, shapeCast_drop, shapeCast_self, broadcastTo_col, Matrix.cons_val_zero, Matrix.cons_val_one, Matrix.cons_val, Nat.zero_add, Nat.add_zero]
    rw [scratch_dvn x]
    simp only [p136]
    exact lift_congr fun i hi => congr (congrArg _ (congrArg a11 (eta2 i))) (dlb_piece x)
end Cert.Sgu

end
-- ==== Proof.LiftHost.lean ====
/-
  The lifted arrays of `Lift` under the operations of host code: layouts, reductions, the causal mask over chunks of 64.
-/
module

public import proofs.«01_k».proof.Proof.Lift

@[expose] public section

noncomputable section

namespace Cert.Sgu

open Idealize.ShloMosaic Idealize.ShloMosaic.ValueIdx
open scoped BigOperators

/-- Two lifted arrays at indices with the same values agree. -/
theorem lift_at {s t : Shape} (f : (Fin s.rank → ℕ) → ℝ) (g : (Fin t.rank → ℕ) → ℝ) (k : s.Idx) (j : t.Idx)
    (h : f (fun a => (k a).val) = g fun a => (j a).val) : lift f k = lift g j := congrArg _ h

/-! ## Spreading along axes -/

/-- A vector spread over columns. -/
theorem bInDim_0 {a b : ℕ} (h : (⟨1, ![a]⟩ : Shape).BroadcastsInDim ⟨2, ![a, b]⟩ ![0]) (f : (Fin 1 → ℕ) → ℝ) :
    broadcastInDim ⟨2, ![a, b]⟩ ![0] h (lift (s := ⟨1, ![a]⟩) f) = lift (s := ⟨2, ![a, b]⟩) fun i => f ![i 0] := by
  funext j
  rw [broadcastInDim_apply _ h _ j (ix1 (j 0))]
  · refine lift_at _ _ _ _ (congrArg f ?_); funext d; fin_cases d; rfl
  · intro d
    have := idx2_lt0 j
    fin_cases d
    show (j 0).val = if a = 1 then 0 else (j 0).val
    split <;> omega

/-- A column spread over columns. -/
theorem bInDim_col {a b : ℕ} (h : (⟨2, ![a, 1]⟩ : Shape).BroadcastsInDim ⟨2, ![a, b]⟩ ![0, 1]) (f : (Fin 2 → ℕ) → ℝ) :
    broadcastInDim ⟨2, ![a, b]⟩ ![0, 1] h (lift (s := ⟨2, ![a, 1]⟩) f) = lift (s := ⟨2, ![a, b]⟩) fun i => f ![i 0, 0] := by
  funext j
  rw [broadcastInDim_apply _ h _ j (ix2 (j 0) 0)]
  · refine lift_at _ _ _ _ (congrArg f ?_); funext d; fin_cases d <;> rfl
  · intro d
    have := idx2_lt0 j
    fin_cases d
    · show (j 0).val = if a = 1 then 0 else (j 0).val
      split <;> omega
    · rfl

/-- A row spread over rows. -/
theorem bInDim_row {a b : ℕ} (h : (⟨2, ![1, b]⟩ : Shape).BroadcastsInDim ⟨2, ![a, b]⟩ ![0, 1]) (f : (Fin 2 → ℕ) → ℝ) :
    broadcastInDim ⟨2, ![a, b]⟩ ![0, 1] h (lift (s := ⟨2, ![1, b]⟩) f) = lift (s := ⟨2, ![a, b]⟩) fun i => f ![0, i 1] := by
  funext j
  rw [broadcastInDim_apply _ h _ j (ix2 0 (j 1))]
  · refine lift_at _ _ _ _ (congrArg f ?_); funext d; fin_cases d <;> rfl
  · intro d
    have := idx2_lt1 j
    fin_cases d
    · rfl
    · show (j 1).val = if b = 1 then 0 else (j 1).val
      split <;> omega

/-- A matrix given unit axes at both ends. -/
theorem bInDim_ends (h : (⟨2, ![128, 8]⟩ : Shape).BroadcastsInDim ⟨4, ![1, 128, 8, 1]⟩ ![1, 2]) (f : (Fin 2 → ℕ) → ℝ) :
    broadcastInDim ⟨4, ![1, 128, 8, 1]⟩ ![1, 2] h (lift (s := ⟨2, ![128, 8]⟩) f) = lift (s := ⟨4, ![1, 128, 8, 1]⟩) fun i => f ![i 1, i 2] := by
  funext j
  refine lift_at _ _ _ _ (congrArg f ?_); funext d; fin_cases d <;> rfl

/-- … and spread over them. -/
theorem bInDim_4 (h : (⟨4, ![1, 128, 8, 1]⟩ : Shape).BroadcastsInDim ⟨4, ![16, 128, 8, 256]⟩ ![0, 1, 2, 3]) (f : (Fin 4 → ℕ) → ℝ) :
    broadcastInDim ⟨4, ![16, 128, 8, 256]⟩ ![0, 1, 2, 3] h (lift (s := ⟨4, ![1, 128, 8, 1]⟩) f)
      = lift (s := ⟨4, ![16, 128, 8, 256]⟩) fun i => f ![0, i 1, i 2, 0] := by
  funext j
  refine lift_at _ _ _ _ (congrArg f ?_); funext d; fin_cases d <;> rfl

/-! ## Other layouts -/

/-- Rows and columns split into blocks and groups. -/
theorem split_lift (h : (⟨2, ![2048, 2048]⟩ : Shape).ShapeCasts ⟨4, ![16, 128, 8, 256]⟩) (f : (Fin 2 → ℕ) → ℝ) :
    shapeCast ⟨4, ![16, 128, 8, 256]⟩ (lift (s := ⟨2, ![2048, 2048]⟩) f) h
      = lift (s := ⟨4, ![16, 128, 8, 256]⟩) fun i => f ![128 * i 0 + i 1, 256 * i 2 + i 3] := by
  funext j
  have h0 : (j 0).val < 16 := (j 0).isLt
  have h1 : (j 1).val < 128 := (j 1).isLt
  have h2 : (j 2).val < 8 := (j 2).isLt
  have h3 : (j 3).val < 256 := (j 3).isLt
  rw [shapeCast_apply _ h j (ix2 ⟨128 * (j 0).val + (j 1).val, by omega⟩ ⟨256 * (j 2).val + (j 3).val, by omega⟩)]
  · refine lift_at _ _ _ _ (congrArg f ?_); funext d; fin_cases d <;> rfl
  · simp only [Shape.rowMajor_val_two, Shape.rowMajor_val_four]
    show (128 * (j 0).val + (j 1).val) * 2048 + (256 * (j 2).val + (j 3).val) = (((j 0).val * 128 + (j 1).val) * 8 + (j 2).val) * 256 + (j 3).val
    omega

/-- … and joined again. -/
theorem join_lift (h : (⟨4, ![16, 128, 8, 256]⟩ : Shape).ShapeCasts ⟨2, ![2048, 2048]⟩) (f : (Fin 4 → ℕ) → ℝ) :
    shapeCast ⟨2, ![2048, 2048]⟩ (lift (s := ⟨4, ![16, 128, 8, 256]⟩) f) h
      = lift (s := ⟨2, ![2048, 2048]⟩) fun i => f ![i 0 / 128, i 0 % 128, i 1 / 256, i 1 % 256] := by
  funext j
  have h0 : (j 0).val < 2048 := (j 0).isLt
  have h1 : (j 1).val < 2048 := (j 1).isLt
  rw [shapeCast_apply _ h j (ix4 ⟨(j 0).val / 128, by omega⟩ ⟨(j 0).val % 128, by omega⟩ ⟨(j 1).val / 256, by omega⟩ ⟨(j 1).val % 256, by omega⟩)]
  · refine lift_at _ _ _ _ (congrArg f ?_); funext d; fin_cases d <;> rfl
  · simp only [Shape.rowMajor_val_two, Shape.rowMajor_val_four]
    show (((j 0).val / 128 * 128 + (j 0).val % 128) * 8 + (j 1).val / 256) * 256 + (j 1).val % 256 = (j 0).val * 2048 + (j 1).val
    omega

/-- A matrix given unit axes at both ends, as a reshape. -/
theorem ends_lift (h : (⟨2, ![128, 8]⟩ : Shape).ShapeCasts ⟨4, ![1, 128, 8, 1]⟩) (f : (Fin 2 → ℕ) → ℝ) :
    shapeCast ⟨4, ![1, 128, 8, 1]⟩ (lift (s := ⟨2, ![128, 8]⟩) f) h = lift (s := ⟨4, ![1, 128, 8, 1]⟩) fun i => f ![i 1, i 2] := by
  funext j
  have h0 : (j 0).val < 1 := (j 0).isLt
  have h3 : (j 3).val < 1 := (j 3).isLt
  rw [shapeCast_apply _ h j (ix2 (j 1) (j 2))]
  · refine lift_at _ _ _ _ (congrArg f ?_); funext d; fin_cases d <;> rfl
  · simp only [Shape.rowMajor_val_two, Shape.rowMajor_val_four]
    show (j 1).val * 8 + (j 2).val = (((j 0).val * 128 + (j 1).val) * 8 + (j 2).val) * 1 + (j 3).val
    omega

theorem transpose_2 {a b : ℕ} (h : (⟨2, ![a, b]⟩ : Shape).Transposes [1, 0] ⟨2, ![b, a]⟩) (f : (Fin 2 → ℕ) → ℝ) :
    transpose ⟨2, ![b, a]⟩ [1, 0] (lift (s := ⟨2, ![a, b]⟩) f) h = lift (s := ⟨2, ![b, a]⟩) fun i => f ![i 1, i 0] := by
  funext j
  rw [transpose_apply _ _ h j (ix2 (j 1) (j 0))]
  · refine lift_at _ _ _ _ (congrArg f ?_); funext d; fin_cases d <;> rfl
  · intro d; fin_cases d <;> rfl

theorem transpose_021 {a b c : ℕ} (h : (⟨3, ![a, b, c]⟩ : Shape).Transposes [0, 2, 1] ⟨3, ![a, c, b]⟩) (f : (Fin 3 → ℕ) → ℝ) :
    transpose ⟨3, ![a, c, b]⟩ [0, 2, 1] (lift (s := ⟨3, ![a, b, c]⟩) f) h = lift (s := ⟨3, ![a, c, b]⟩) fun i => f ![i 0, i 2, i 1] := by
  funext j
  rw [transpose_apply _ _ h j (ix3 (j 0) (j 2) (j 1))]
  · refine lift_at _ _ _ _ (congrArg f ?_); funext d; fin_cases d <;> rfl
  · intro d; fin_cases d <;> rfl

theorem transpose_1302 {a b c e : ℕ} (h : (⟨4, ![a, b, c, e]⟩ : Shape).Transposes [1, 3, 0, 2] ⟨4, ![b, e, a, c]⟩) (f : (Fin 4 → ℕ) → ℝ) :
    transpose ⟨4, ![b, e, a, c]⟩ [1, 3, 0, 2] (lift (s := ⟨4, ![a, b, c, e]⟩) f) h
      = lift (s := ⟨4, ![b, e, a, c]⟩) fun i => f ![i 2, i 0, i 3, i 1] := by
  funext j
  rw [transpose_apply _ _ h j (ix4 (j 2) (j 0) (j 3) (j 1))]
  · refine lift_at _ _ _ _ (congrArg f ?_); funext d; fin_cases d <;> rfl
  · intro d; fin_cases d <;> rfl

theorem transpose_2031 {a b c e : ℕ} (h : (⟨4, ![a, b, c, e]⟩ : Shape).Transposes [2, 0, 3, 1] ⟨4, ![c, a, e, b]⟩) (f : (Fin 4 → ℕ) → ℝ) :
    transpose ⟨4, ![c, a, e, b]⟩ [2, 0, 3, 1] (lift (s := ⟨4, ![a, b, c, e]⟩) f) h
      = lift (s := ⟨4, ![c, a, e, b]⟩) fun i => f ![i 1, i 3, i 0, i 2] := by
  funext j
  rw [transpose_apply _ _ h j (ix4 (j 1) (j 3) (j 0) (j 2))]
  · refine lift_at _ _ _ _ (congrArg f ?_); funext d; fin_cases d <;> rfl
  · intro d; fin_cases d <;> rfl

/-- Three arrays of 2048 columns. -/
abbrev trio (f g e : (Fin 2 → ℕ) → ℝ) : List ((s : Shape) × (s.Idx → EReal)) :=
  [⟨⟨2, ![2048, 2048]⟩, lift f⟩, ⟨⟨2, ![2048, 2048]⟩, lift g⟩, ⟨⟨2, ![2048, 2048]⟩, lift e⟩]

/-- Three arrays side by side. -/
theorem concatenate_lift (f g e : (Fin 2 → ℕ) → ℝ)
    (h : Shape.Concatenates [(⟨2, ![2048, 2048]⟩ : Shape), ⟨2, ![2048, 2048]⟩, ⟨2, ![2048, 2048]⟩] ⟨2, ![2048, 6144]⟩ 1) :
    concatenate ⟨2, ![2048, 6144]⟩ 1 [⟨⟨2, ![2048, 2048]⟩, lift f⟩, ⟨⟨2, ![2048, 2048]⟩, lift g⟩, ⟨⟨2, ![2048, 2048]⟩, lift e⟩] h
      = lift (s := ⟨2, ![2048, 6144]⟩) fun i =>
        if i 1 < 2048 then f i else if i 1 < 4096 then g ![i 0, i 1 - 2048] else e ![i 0, i 1 - 4096] := by
  funext j
  have h0 : (j 0).val < 2048 := (j 0).isLt
  have h1 : (j 1).val < 6144 := (j 1).isLt
  by_cases c1 : (j 1).val < 2048
  · rw [concatenate_apply_piece 1 (trio f g e) h j 0 (by simp) _ _ rfl rfl 0 rfl (ix2 (j 0) ⟨(j 1).val, c1⟩)]
    · refine lift_at _ _ _ _ ?_
      dsimp only
      rw [if_pos c1]
      refine congrArg f ?_
      funext d; fin_cases d <;> rfl
    · intro b hb; fin_cases b
      · rfl
      · exact absurd rfl hb
    · show 0 + (j 1).val = (j 1).val
      omega
  · by_cases c2 : (j 1).val < 4096
    · rw [concatenate_apply_piece 1 (trio f g e) h j 1 (by simp) _ _ rfl rfl 2048 rfl (ix2 (j 0) ⟨(j 1).val - 2048, by omega⟩)]
      · refine lift_at _ _ _ _ ?_
        dsimp only
        rw [if_neg c1, if_pos c2]
        refine congrArg g ?_
        funext d; fin_cases d <;> rfl
      · intro b hb; fin_cases b
        · rfl
        · exact absurd rfl hb
      · show 2048 + ((j 1).val - 2048) = (j 1).val
        omega
    · rw [concatenate_apply_piece 1 (trio f g e) h j 2 (by simp) _ _ rfl rfl 4096 rfl (ix2 (j 0) ⟨(j 1).val - 4096, by omega⟩)]
      · refine lift_at _ _ _ _ ?_
        dsimp only
        rw [if_neg c1, if_neg c2]
        refine congrArg e ?_
        funext d; fin_cases d <;> rfl
      · intro b hb; fin_cases b
        · rfl
        · exact absurd rfl hb
      · show 4096 + ((j 1).val - 4096) = (j 1).val
        omega

/-! ## Sums -/

theorem ofBits_zero : Ideal.ofBits .f32 0x00000000#32 = ((0 : ℝ) : EReal) := by
  simp [Ideal.ofBits, Ideal.ieee, -EReal.coe_mul]

/-- A host sum along rows. -/
theorem hostReduce_cols {a b : ℕ} {u : Shape} (h : (⟨2, ![a, b]⟩ : Shape).ReducesTo [1] ⟨1, ![a]⟩) (hu : 0 < u.numel) (f : (Fin 2 → ℕ) → ℝ) :
    Host.reduceAdd (F := Ideal) (φ := .f32) (lift (s := ⟨2, ![a, b]⟩) f) (constant u .f32 0x00000000#32) h hu
      = lift (s := ⟨1, ![a]⟩) fun i => ∑ k ∈ Finset.range b, f ![i 0, k] := by
  funext j
  show Ideal.hostReduceAdd h (lift f) (Ideal.ofBits .f32 0x00000000#32) j = _
  rw [ofBits_zero, Ideal.hostReduceAdd_single h ⟨h.1, Nat.one_pos, h.2⟩, EReal.coe_zero, zero_add]
  refine Eq.trans (Finset.sum_congr rfl fun k _ => ?_) (sum_coe fun k => f ![(j 0).val, k])
  unfold lift; congr 2; funext d; fin_cases d <;> rfl

/-- A host sum along columns. -/
theorem hostReduce_rows {a b : ℕ} {u : Shape} (h : (⟨2, ![a, b]⟩ : Shape).ReducesTo [0] ⟨1, ![b]⟩) (hu : 0 < u.numel) (f : (Fin 2 → ℕ) → ℝ) :
    Host.reduceAdd (F := Ideal) (φ := .f32) (lift (s := ⟨2, ![a, b]⟩) f) (constant u .f32 0x00000000#32) h hu
      = lift (s := ⟨1, ![b]⟩) fun i => ∑ k ∈ Finset.range a, f ![k, i 0] := by
  funext j
  show Ideal.hostReduceAdd h (lift f) (Ideal.ofBits .f32 0x00000000#32) j = _
  rw [ofBits_zero, Ideal.hostReduceAdd_single h ⟨h.1, Nat.one_pos, h.2⟩, EReal.coe_zero, zero_add]
  refine Eq.trans (Finset.sum_congr rfl fun k _ => ?_) (sum_coe fun k => f ![k, (j 0).val])
  unfold lift; congr 2; funext d; fin_cases d <;> rfl

/-- A host sum over the outer two of four axes. -/
theorem hostReduce_ends {a b c e : ℕ} {u : Shape} (h : (⟨4, ![a, b, c, e]⟩ : Shape).ReducesTo [0, 3] ⟨2, ![b, c]⟩) (hu : 0 < u.numel)
    (f : (Fin 4 → ℕ) → ℝ) :
    Host.reduceAdd (F := Ideal) (φ := .f32) (lift (s := ⟨4, ![a, b, c, e]⟩) f) (constant u .f32 0x00000000#32) h hu
      = lift (s := ⟨2, ![b, c]⟩) fun i => ∑ k ∈ Finset.range a, ∑ l ∈ Finset.range e, f ![k, i 0, i 1, l] := by
  funext j
  show Ideal.hostReduceAdd h (lift f) (Ideal.ofBits .f32 0x00000000#32) j = _
  unfold Ideal.hostReduceAdd
  rw [ofBits_zero, EReal.coe_zero, zero_add]
  show _ = ((∑ k ∈ Finset.range a, ∑ l ∈ Finset.range e, f ![k, (j 0).val, (j 1).val, l] : ℝ) : EReal)
  rw [← sum_coe fun k => ∑ l ∈ Finset.range e, f ![k, (j 0).val, (j 1).val, l]]
  simp only [← sum_coe fun l => f ![_, (j 0).val, (j 1).val, l]]
  rw [← Finset.sum_product']
  refine Finset.sum_bij' (fun i _ => ((i 0 : Fin a), (i 3 : Fin e))) (fun p _ => ix4 p.1 (j 0) (j 1) p.2) ?_ ?_ ?_ ?_ ?_
  · intro i _; exact Finset.mem_product.mpr ⟨Finset.mem_univ _, Finset.mem_univ _⟩
  · intro p _
    refine Finset.mem_filter.mpr ⟨Finset.mem_univ _, funext fun d => Fin.ext ?_⟩
    fin_cases d <;> rfl
  · intro i hi
    have hi := (Finset.mem_filter.mp hi).2
    have e0 : (i 1).val = (j 0).val := congrArg (fun q : (⟨2, ![b, c]⟩ : Shape).Idx => (q 0).val) hi
    have e1 : (i 2).val = (j 1).val := congrArg (fun q : (⟨2, ![b, c]⟩ : Shape).Idx => (q 1).val) hi
    funext d
    apply Fin.ext
    fin_cases d
    · rfl
    · exact e0.symm
    · exact e1.symm
    · rfl
  · intro p _; rfl
  · intro i hi
    have hi := (Finset.mem_filter.mp hi).2
    have e0 : (i 1).val = (j 0).val := congrArg (fun q : (⟨2, ![b, c]⟩ : Shape).Idx => (q 0).val) hi
    have e1 : (i 2).val = (j 1).val := congrArg (fun q : (⟨2, ![b, c]⟩ : Shape).Idx => (q 1).val) hi
    unfold lift
    refine congrArg (fun q => ((f q : ℝ) : EReal)) ?_
    funext d
    fin_cases d
    · rfl
    · exact e0
    · exact e1
    · rfl

/-! ## The mask: a position sees the positions of its own chunk of 64 and of the chunks before it -/

/-- The entries the mask keeps. -/
def msk (f : (Fin 3 → ℕ) → ℝ) (i : Fin 3 → ℕ) : ℝ := if i 2 / 64 ≤ i 1 / 64 then f i else 0

/-- The chunk of each of 128 positions, as the host's floor division computes it. -/
theorem chunk (hb : (⟨0, ![]⟩ : Shape).BroadcastsInDim ⟨1, ![128]⟩ ![]) :
    select (andi (cmpi .ne (signi (iotaInDim ⟨1, ![128]⟩ 32 0)) (broadcastInDim ⟨1, ![128]⟩ ![] hb (signi (id (constantI ⟨0, ![]⟩ 32 64#32)))))
        (cmpi .ne (Host.remsi (iotaInDim ⟨1, ![128]⟩ 32 0) (broadcastInDim ⟨1, ![128]⟩ ![] hb (id (constantI ⟨0, ![]⟩ 32 64#32))))
          (broadcastInDim ⟨1, ![128]⟩ ![] hb (constantI ⟨0, ![]⟩ 32 0#32))))
      (subi (Host.divsi (iotaInDim ⟨1, ![128]⟩ 32 0) (broadcastInDim ⟨1, ![128]⟩ ![] hb (id (constantI ⟨0, ![]⟩ 32 64#32))))
        (broadcastInDim ⟨1, ![128]⟩ ![] hb (constantI ⟨0, ![]⟩ 32 1#32)))
      (Host.divsi (iotaInDim ⟨1, ![128]⟩ 32 0) (broadcastInDim ⟨1, ![128]⟩ ![] hb (id (constantI ⟨0, ![]⟩ 32 64#32))))
      = fun i => BitVec.ofNat 32 ((i 0).val / 64) := by
  have key : ∀ n : Fin 128,
      Scalar.select (IntOp.andi (IntOp.cmpi .ne (if BitVec.ofNat 32 n.val = 0 then 0 else if (BitVec.ofNat 32 n.val).msb then -1 else 1 : BitVec 32)
            (if (64#32) = 0 then 0 else if (64#32).msb then -1 else 1 : BitVec 32))
          (IntOp.cmpi .ne (IntOp.remsi .host (BitVec.ofNat 32 n.val) 64#32) 0#32))
        (IntOp.subi (IntOp.divsi .host (BitVec.ofNat 32 n.val) 64#32) 1#32)
        (IntOp.divsi .host (BitVec.ofNat 32 n.val) 64#32) = BitVec.ofNat 32 (n.val / 64) := by decide +kernel
  exact funext fun i => key (i 0)

/-- The mask at an entry. -/
theorem mask_apply (h0 : (⟨1, ![128]⟩ : Shape).BroadcastsInDim ⟨2, ![128, 1]⟩ ![0]) (h1 : (⟨1, ![128]⟩ : Shape).BroadcastsInDim ⟨2, ![1, 128]⟩ ![1])
    (h2 : (⟨2, ![128, 1]⟩ : Shape).BroadcastsInDim ⟨2, ![128, 128]⟩ ![0, 1]) (h3 : (⟨2, ![1, 128]⟩ : Shape).BroadcastsInDim ⟨2, ![128, 128]⟩ ![0, 1])
    (h4 : (⟨2, ![128, 128]⟩ : Shape).BroadcastsInDim ⟨3, ![1, 128, 128]⟩ ![1, 2])
    (h5 : (⟨3, ![1, 128, 128]⟩ : Shape).BroadcastsInDim ⟨3, ![8, 128, 128]⟩ ![0, 1, 2])
    (C : IVec ⟨1, ![128]⟩ 32) (hC : C = fun i => BitVec.ofNat 32 ((i 0).val / 64)) (j : (⟨3, ![8, 128, 128]⟩ : Shape).Idx) :
    broadcastInDim ⟨3, ![8, 128, 128]⟩ ![0, 1, 2] h5 (broadcastInDim ⟨3, ![1, 128, 128]⟩ ![1, 2] h4
      (cmpi .sge (broadcastInDim ⟨2, ![128, 128]⟩ ![0, 1] h2 (broadcastInDim ⟨2, ![128, 1]⟩ ![0] h0 C))
        (broadcastInDim ⟨2, ![128, 128]⟩ ![0, 1] h3 (broadcastInDim ⟨2, ![1, 128]⟩ ![1] h1 C)))) j
      = if (j 2).val / 64 ≤ (j 1).val / 64 then 1#1 else 0#1 := by
  subst hC
  have key : ∀ p q : Fin 2, IntOp.cmpi .sge (BitVec.ofNat 32 p.val) (BitVec.ofNat 32 q.val) = if q.val ≤ p.val then 1#1 else 0#1 := by decide
  have a1 : (j 1).val < 128 := (j 1).isLt
  have a2 : (j 2).val < 128 := (j 2).isLt
  exact key ⟨(j 1).val / 64, by omega⟩ ⟨(j 2).val / 64, by omega⟩

/-- Selecting by the mask against zeros. -/
theorem select_mask (M : IVec ⟨3, ![8, 128, 128]⟩ 1) (hM : ∀ j, M j = if (j 2).val / 64 ≤ (j 1).val / 64 then 1#1 else 0#1)
    (f : (Fin 3 → ℕ) → ℝ) :
    select M (lift (s := ⟨3, ![8, 128, 128]⟩) f) (lift fun _ => 0) = lift (msk f) := by
  funext j
  rw [select_apply, hM]
  unfold lift msk
  by_cases h : (j 2).val / 64 ≤ (j 1).val / 64
  · rw [if_pos h, if_pos h]; exact select_one _ _
  · rw [if_neg h, if_neg h]; exact select_zero _ _

end Cert.Sgu

end
-- ==== Proof.KernelValue.lean ====
/-
  The kernel's five result arrays after its run, from real arguments: the induction over the sixteen row blocks, and the
  arrays from the blocks that are written back.
-/
module
public import proofs.«01_k».proof.Proof.Body
public import proofs.«01_k».proof.Proof.LiftHost
@[expose] public section
set_option maxRecDepth 16384
noncomputable section
namespace Cert.Sgu
open Cert.KernelIdeal Cert.KernelIdeal.Gen Idealize.ShloMosaic Idealize.ShloMosaic.TcCoe Idealize.SL.Sem
open Idealize.ShloMosaic.Pipeline (Dat)
open scoped BigOperators

attribute [local irreducible] gelu dgelu sgm hh

/-! ## A block of the arguments -/

theorem vn_block (x : In) (t : ℕ) (i : Fin 2 → ℕ) : vn (x.block t) i = vn x ![128 * t + i 0, i 1] := rfl
theorem xh_block (x : In) (t : ℕ) (i : Fin 2 → ℕ) : xh (vf (x.block t)) i = xh (vf x) ![128 * t + i 0, i 1] := rfl
theorem rst_block (x : In) (t : ℕ) (i : Fin 2 → ℕ) : rst (vf (x.block t)) i = rst (vf x) ![128 * t + i 0, i 1] := rfl
theorem dvs_block (x : In) (t : ℕ) (i : Fin 2 → ℕ) : dvs (x.block t) i = dvs x ![128 * t + i 0, i 1] := rfl

theorem row_block (t r k : ℕ) : 128 * t + (128 * (r / 128) + k) = 128 * ((128 * t + r) / 128) + k := by omega
theorem row_mod (t r : ℕ) : (128 * t + r) % 128 = r % 128 := by omega

theorem vs_block (x : In) (t : ℕ) (i : Fin 2 → ℕ) : vs (x.block t) i = vs x ![128 * t + i 0, i 1] := by
  show (∑ k ∈ Finset.range 128, x.w ![i 1 / 256, i 0 % 128, k] * vn (x.block t) ![128 * (i 0 / 128) + k, i 1]) + x.b ![i 1 / 256, i 0 % 128]
    = (∑ k ∈ Finset.range 128, x.w ![i 1 / 256, (128 * t + i 0) % 128, k] * vn x ![128 * ((128 * t + i 0) / 128) + k, i 1])
      + x.b ![i 1 / 256, (128 * t + i 0) % 128]
  simp only [row_mod, ← row_block, vn_block, Matrix.cons_val_zero, Matrix.cons_val_one]

theorem dvn_block (x : In) (t : ℕ) (i : Fin 2 → ℕ) : dvn (x.block t) i = dvn x ![128 * t + i 0, i 1] := by
  show (∑ k ∈ Finset.range 128, x.w ![i 1 / 256, k, i 0 % 128] * dvs (x.block t) ![128 * (i 0 / 128) + k, i 1])
    = ∑ k ∈ Finset.range 128, x.w ![i 1 / 256, k, (128 * t + i 0) % 128] * dvs x ![128 * ((128 * t + i 0) / 128) + k, i 1]
  simp only [row_mod, ← row_block, dvs_block, Matrix.cons_val_zero, Matrix.cons_val_one]

theorem dxh_block (x : In) (t : ℕ) (i : Fin 2 → ℕ) : dxh (x.block t) i = dxh x ![128 * t + i 0, i 1] := by
  unfold dxh; rw [dvn_block]; rfl

theorem dproj_block (x : In) (t : ℕ) (i : Fin 2 → ℕ) : dproj (x.block t) i = dproj x ![128 * t + i 0, i 1] := by
  unfold dproj
  have hU : oU (x.block t) i = oU x ![128 * t + i 0, i 1] := by unfold oU; rw [vs_block]; rfl
  have hG : oG (x.block t) ![i 0, i 1 - 4096] = oG x ![128 * t + i 0, i 1 - 4096] := by unfold oG; rw [vs_block]; rfl
  have hV : oV (x.block t) ![i 0, i 1 - 2048] = oV x ![128 * t + i 0, i 1 - 2048] := by
    unfold oV; simp only [dxh_block, xh_block, rst_block]; rfl
  rw [hU, hG, hV]; rfl

theorem dws_block (x : In) (t : ℕ) (i : Fin 3 → ℕ) : dws (x.block t) 0 i = dws x t i := by
  unfold dws; simp only [dvs_block, vn_block, Matrix.cons_val_zero, Matrix.cons_val_one, Nat.mul_zero, Nat.zero_add]
theorem dbs_block (x : In) (t : ℕ) (i : Fin 2 → ℕ) : dbs (x.block t) 0 i = dbs x t i := by
  unfold dbs; simp only [dvs_block, Matrix.cons_val_zero, Matrix.cons_val_one, Nat.mul_zero, Nat.zero_add]
theorem dlg_block (x : In) (t : ℕ) (i : Fin 2 → ℕ) : dlg (x.block t) 0 i = dlg x t i := by
  unfold dlg; simp only [dvn_block, xh_block, Matrix.cons_val_zero, Matrix.cons_val_one, Nat.mul_zero, Nat.zero_add]
theorem dlb_block (x : In) (t : ℕ) (i : Fin 2 → ℕ) : dlb (x.block t) 0 i = dlb x t i := by
  unfold dlb; simp only [dvn_block, Matrix.cons_val_zero, Matrix.cons_val_one, Nat.mul_zero, Nat.zero_add]

/-! ## The input blocks -/

variable (m : (ℓ : Loc nD τ sig) → Buf (Elt Ideal) ℓ)

/-- The arrays the kernel is called with hold the arguments `x`. -/
structure Holds (c : Dev nD) (x : In) : Prop where
  da : V m c main_arg0 = lift (s := S2048x2048) x.da
  p : V m c main_arg1 = lift (s := S2048x6144) x.p
  lg : V m c main_arg2 = lift (s := S1x2048) x.lg
  lb : V m c main_arg3 = lift (s := S1x2048) x.lb
  w : V m c main_v8 = lift (s := S8x128x128) x.w
  wt : V m c main_v9 = lift (s := S8x128x128) fun i => x.w ![i 0, i 2, i 1]
  b : V m c main_v10 = lift (s := S128x8) fun i => x.b ![i 1, i 0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem idx5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

variable {m} {c : Dev nD} {x : In} (H : Holds m c x) (t : Fin cfg0.N)
include H

theorem iblk0 : iblk m c 0 t = lift (s := S128x2048) (x.block t.val).da := by
  funext j
  unfold iblk
  rw [View.read_apply]
  show V m c main_arg0 _ = _
  rw [H.da]
  refine lift_at _ _ _ _ (congrArg x.da ?_)
  funext d
  fin_cases d
  · show win0_0.index t 0 * 128 + 1 * (j 0).val = 128 * t.val + (j 0).val; rw [(idx0 t).1]; omega
  · show win0_0.index t 1 * 2048 + 1 * (j 1).val = (j 1).val; rw [(idx0 t).2]; omega

theorem iblk1 : iblk m c 1 t = lift (s := S128x6144) (x.block t.val).p := by
  funext j
  unfold iblk
  rw [View.read_apply]
  show V m c main_arg1 _ = _
  rw [H.p]
  refine lift_at _ _ _ _ (congrArg x.p ?_)
  funext d
  fin_cases d
  · show win0_1.index t 0 * 128 + 1 * (j 0).val = 128 * t.val + (j 0).val; rw [(idx1 t).1]; omega
  · show win0_1.index t 1 * 6144 + 1 * (j 1).val = (j 1).val; rw [(idx1 t).2]; omega

theorem iblk2 : iblk m c 2 t = lift (s := S1x2048) x.lg := by
  funext j
  unfold iblk
  rw [View.read_apply]
  show V m c main_arg2 _ = _
  rw [H.lg]
  refine lift_at _ _ _ _ (congrArg x.lg ?_)
  funext d
  fin_cases d
  · show win0_2.index t 0 * 1 + 1 * (j 0).val = (j 0).val; rw [(idx2 t).1]; omega
  · show win0_2.index t 1 * 2048 + 1 * (j 1).val = (j 1).val; rw [(idx2 t).2]; omega

theorem iblk3 : iblk m c 3 t = lift (s := S1x2048) x.lb := by
  funext j
  unfold iblk
  rw [View.read_apply]
  show V m c main_arg3 _ = _
  rw [H.lb]
  refine lift_at _ _ _ _ (congrArg x.lb ?_)
  funext d
  fin_cases d
  · show win0_3.index t 0 * 1 + 1 * (j 0).val = (j 0).val; rw [(idx3 t).1]; omega
  · show win0_3.index t 1 * 2048 + 1 * (j 1).val = (j 1).val; rw [(idx3 t).2]; omega

theorem iblk4 : iblk m c 4 t = lift (s := S8x128x128) x.w := by
  funext j
  unfold iblk
  rw [View.read_apply]
  show V m c main_v8 _ = _
  rw [H.w]
  refine lift_at _ _ _ _ (congrArg x.w ?_)
  funext d
  fin_cases d
  · show win0_4.index t 0 * 8 + 1 * (j 0).val = (j 0).val; rw [(idx4 t).1]; omega
  · show win0_4.index t 1 * 128 + 1 * (j 1).val = (j 1).val; rw [(idx4 t).2.1]; omega
  · show win0_4.index t 2 * 128 + 1 * (j 2).val = (j 2).val; rw [(idx4 t).2.2]; omega

theorem iblk5 : iblk m c 5 t = lift (s := S8x128x128) fun i => x.w ![i 0, i 2, i 1] := by
  funext j
  unfold iblk
  rw [View.read_apply]
  show V m c main_v9 _ = _
  rw [H.wt]
  refine lift_at _ _ _ _ (congrArg x.w ?_)
  funext d
  fin_cases d
  · show win0_5.index t 0 * 8 + 1 * (j 0).val = (j 0).val; rw [(idx5 t).1]; omega
  · show win0_5.index t 2 * 128 + 1 * (j 2).val = (j 2).val; rw [(idx5 t).2.2]; omega
  · show win0_5.index t 1 * 128 + 1 * (j 1).val = (j 1).val; rw [(idx5 t).2.1]; omega

theorem iblk6 : iblk m c 6 t = lift (s := S128x8) fun i => x.b ![i 1, i 0] := by
  funext j
  unfold iblk
  rw [View.read_apply]
  show V m c main_v10 _ = _
  rw [H.b]
  refine lift_at _ _ _ _ (congrArg x.b ?_)
  funext d
  fin_cases d
  · show win0_6.index t 1 * 8 + 1 * (j 1).val = (j 1).val; rw [(idx6 t).2]; omega
  · show win0_6.index t 0 * 128 + 1 * (j 0).val = (j 0).val; rw [(idx6 t).1]; omega

/-! ## The points in order -/

/-- What the outputs' buffers hold after point `n`: the block of the projection's gradient, and the sums so far. -/
theorem outs_eq : ∀ (n : ℕ) (h : n < cfg0.N), outsAt0 m c n h = (lift (dproj (x.block n)),
    lift fun i => ∑ s ∈ Finset.range (n + 1), dws x s i, lift fun i => ∑ s ∈ Finset.range (n + 1), dbs x s i,
    lift fun i => ∑ s ∈ Finset.range (n + 1), dlg x s i, lift fun i => ∑ s ∈ Finset.range (n + 1), dlb x s i)
  | 0, h => by
    rw [outA m c ⟨0, h⟩ rfl (Nat.not_succ_le_zero 0) (x.block 0) (iblk0 H ⟨0, h⟩) (iblk1 H _) (iblk2 H _) (iblk3 H _) (iblk4 H _) (iblk5 H _) (iblk6 H _)]
    simp only [Finset.sum_range_one, dws_block, dbs_block, dlg_block, dlb_block,
      funext (dws_block x 0), funext (dbs_block x 0), funext (dlg_block x 0), funext (dlb_block x 0), Nat.zero_add]
  | n + 1, h => by
    have hN : cfg0.N = 16 := N_0
    rw [outB m c ⟨n + 1, h⟩ (by dsimp only; omega) (by dsimp only; omega) (x.block (n + 1)) (iblk0 H ⟨n + 1, h⟩) (iblk1 H _) (iblk2 H _)
      (iblk3 H _) (iblk4 H _) (iblk5 H _) (iblk6 H _) _ _ _ _ (congrArg Prod.snd (outs_eq n (by omega)))]
    simp only [dws_block, dbs_block, dlg_block, dlb_block, Finset.sum_range_succ _ (n + 1)]

/-! ## The arrays -/

theorem final7 : (dats m 0 c).arrAt 7 cfg0.N = lift (s := S2048x6144) (dproj x) := by
  refine (dats m 0 c).arrAt_eq_of_cover 7 (lift (s := S2048x6144) (dproj x)) (fun t _ => ?_) fun i => ?_
  · show (cfg0.win 7).cut (grid0.coords t) ((dats m 0 c).after 7 t) = _
    rw [after0_7, outs_eq H]
    funext j
    rw [View.read_apply]
    refine lift_at _ _ _ _ ((dproj_block x t.val _).trans (congrArg (dproj x) ?_))
    funext d
    fin_cases d
    · show 128 * t.val + (j 0).val = win0_7.index t 0 * 128 + 1 * (j 0).val; rw [(idx7 t).1]; omega
    · show (j 1).val = win0_7.index t 1 * 6144 + 1 * (j 1).val; rw [(idx7 t).2]; omega
  · have h0 : (i 0 : ℕ) < 2048 := (i 0).isLt
    have h1 : (i 1 : ℕ) < 6144 := (i 1).isLt
    have hN : cfg0.N = 16 := N_0
    obtain ⟨t, ht⟩ : ∃ t : Fin cfg0.N, t.val = (i 0 : ℕ) / 128 := ⟨⟨(i 0 : ℕ) / 128, by omega⟩, rfl⟩
    refine ⟨t, flush0_7 t, ?_⟩
    show i ∈ ((View.whole main_v11_0).slice (win0_7.rect t)).set
    rw [View.set_slice_whole, Rect.mem_set_unit]
    intro a
    fin_cases a
    · show win0_7.index t 0 * 128 ≤ (i 0 : ℕ) ∧ (i 0 : ℕ) < win0_7.index t 0 * 128 + 128
      rw [(idx7 t).1]; omega
    · show win0_7.index t 1 * 6144 ≤ (i 1 : ℕ) ∧ (i 1 : ℕ) < win0_7.index t 1 * 6144 + 6144
      rw [(idx7 t).2]; omega

/-- The last point. -/
abbrev tl : Fin cfg0.N := ⟨15, by rw [show cfg0.N = 16 from N_0]; decide⟩

theorem final8 : (dats m 0 c).arrAt 8 cfg0.N = lift (s := S8x128x128) fun i => ∑ s ∈ Finset.range 16, dws x s i := by
  have hz : (fun a => win0_8.index tl a * main_v11_1.ty.shape.size a) = fun _ => 0 := funext fun a => by fin_cases a <;> decide +kernel
  refine (dats m 0 c).arrAt_eq_of_cover 8 _ (fun t hf => ?_) fun i => ⟨tl, (flush0_8 tl).mpr rfl, ?_⟩
  · have hN : cfg0.N = 16 := N_0
    obtain rfl : t = tl := Fin.ext (by have := (flush0_8 t).mp hf; have := t.isLt; show t.val = 15; omega)
    show (cfg0.win 8).cut (grid0.coords tl) ((dats m 0 c).after 8 tl) = _
    rw [after0_8, outs_eq H]
    exact (Memref.read_access_unit_zero (Elt Ideal) main_v11_1 hz (fun a => by rw [congrFun hz a]; simp) _).symm
  · show i ∈ ((View.whole main_v11_1).slice (win0_8.rect tl)).set
    rw [View.set_slice_whole, Rect.mem_set_unit]
    intro a
    have ha := congrFun hz a
    refine ⟨ha.trans_le (Nat.zero_le _), ?_⟩
    show (i a : ℕ) < win0_8.index tl a * main_v11_1.ty.shape.size a + main_v11_1.ty.shape.size a
    rw [show win0_8.index tl a * main_v11_1.ty.shape.size a = 0 from ha, Nat.zero_add]
    exact (i a).isLt

theorem final9 : (dats m 0 c).arrAt 9 cfg0.N = lift (s := S128x8) fun i => ∑ s ∈ Finset.range 16, dbs x s i := by
  have hz : (fun a => win0_9.index tl a * main_v11_2.ty.shape.size a) = fun _ => 0 := funext fun a => by fin_cases a <;> decide +kernel
  refine (dats m 0 c).arrAt_eq_of_cover 9 _ (fun t hf => ?_) fun i => ⟨tl, (flush0_9 tl).mpr rfl, ?_⟩
  · have hN : cfg0.N = 16 := N_0
    obtain rfl : t = tl := Fin.ext (by have := (flush0_9 t).mp hf; have := t.isLt; show t.val = 15; omega)
    show (cfg0.win 9).cut (grid0.coords tl) ((dats m 0 c).after 9 tl) = _
    rw [after0_9, outs_eq H]
    exact (Memref.read_access_unit_zero (Elt Ideal) main_v11_2 hz (fun a => by rw [congrFun hz a]; simp) _).symm
  · show i ∈ ((View.whole main_v11_2).slice (win0_9.rect tl)).set
    rw [View.set_slice_whole, Rect.mem_set_unit]
    intro a
    have ha := congrFun hz a
    refine ⟨ha.trans_le (Nat.zero_le _), ?_⟩
    show (i a : ℕ) < win0_9.index tl a * main_v11_2.ty.shape.size a + main_v11_2.ty.shape.size a
    rw [show win0_9.index tl a * main_v11_2.ty.shape.size a = 0 from ha, Nat.zero_add]
    exact (i a).isLt

theorem final10 : (dats m 0 c).arrAt 10 cfg0.N = lift (s := S1x2048) fun i => ∑ s ∈ Finset.range 16, dlg x s i := by
  have hz : (fun a => win0_10.index tl a * main_v11_3.ty.shape.size a) = fun _ => 0 := funext fun a => by fin_cases a <;> decide +kernel
  refine (dats m 0 c).arrAt_eq_of_cover 10 _ (fun t hf => ?_) fun i => ⟨tl, (flush0_10 tl).mpr rfl, ?_⟩
  · have hN : cfg0.N = 16 := N_0
    obtain rfl : t = tl := Fin.ext (by have := (flush0_10 t).mp hf; have := t.isLt; show t.val = 15; omega)
    show (cfg0.win 10).cut (grid0.coords tl) ((dats m 0 c).after 10 tl) = _
    rw [after0_10, outs_eq H]
    exact (Memref.read_access_unit_zero (Elt Ideal) main_v11_3 hz (fun a => by rw [congrFun hz a]; simp) _).symm
  · show i ∈ ((View.whole main_v11_3).slice (win0_10.rect tl)).set
    rw [View.set_slice_whole, Rect.mem_set_unit]
    intro a
    have ha := congrFun hz a
    refine ⟨ha.trans_le (Nat.zero_le _), ?_⟩
    show (i a : ℕ) < win0_10.index tl a * main_v11_3.ty.shape.size a + main_v11_3.ty.shape.size a
    rw [show win0_10.index tl a * main_v11_3.ty.shape.size a = 0 from ha, Nat.zero_add]
    exact (i a).isLt

theorem final11 : (dats m 0 c).arrAt 11 cfg0.N = lift (s := S1x2048) fun i => ∑ s ∈ Finset.range 16, dlb x s i := by
  have hz : (fun a => win0_11.index tl a * main_v11_4.ty.shape.size a) = fun _ => 0 := funext fun a => by fin_cases a <;> decide +kernel
  refine (dats m 0 c).arrAt_eq_of_cover 11 _ (fun t hf => ?_) fun i => ⟨tl, (flush0_11 tl).mpr rfl, ?_⟩
  · have hN : cfg0.N = 16 := N_0
    obtain rfl : t = tl := Fin.ext (by have := (flush0_11 t).mp hf; have := t.isLt; show t.val = 15; omega)
    show (cfg0.win 11).cut (grid0.coords tl) ((dats m 0 c).after 11 tl) = _
    rw [after0_11, outs_eq H]
    exact (Memref.read_access_unit_zero (Elt Ideal) main_v11_4 hz (fun a => by rw [congrFun hz a]; simp) _).symm
  · show i ∈ ((View.whole main_v11_4).slice (win0_11.rect tl)).set
    rw [View.set_slice_whole, Rect.mem_set_unit]
    intro a
    have ha := congrFun hz a
    refine ⟨ha.trans_le (Nat.zero_le _), ?_⟩
    show (i a : ℕ) < win0_11.index tl a * main_v11_4.ty.shape.size a + main_v11_4.ty.shape.size a
    rw [show win0_11.index tl a * main_v11_4.ty.shape.size a = 0 from ha, Nat.zero_add]
    exact (i a).isLt

end Cert.Sgu

end
-- ==== Proof.KernelRun.lean ====
/-
  The kernel's run from real arguments: the host lines before the call (the mask, the masked weights, their transposes),
  the call's arrays, and the host lines after it.
-/
module
public import proofs.«01_k».proof.Proof.KernelValue
public import Idealize.ShloMosaic.Lib.StableHlo.RunRead
@[expose] public section
set_option maxRecDepth 16384
noncomputable section
namespace Cert.Sgu
open Cert.KernelIdeal Cert.KernelIdeal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (c : Dev nD)

/-! ## Before the call -/

theorem at_arg0 : V m c main_arg0 = m ((c.tc : Thread nD τ).loc main_arg0) := by unfold V V0; after_reads_simp
theorem at_arg1 : V m c main_arg1 = m ((c.tc : Thread nD τ).loc main_arg1) := by unfold V V0; after_reads_simp
theorem at_arg2 : V m c main_arg2 = m ((c.tc : Thread nD τ).loc main_arg2) := by unfold V V0; after_reads_simp
theorem at_arg3 : V m c main_arg3 = m ((c.tc : Thread nD τ).loc main_arg3) := by unfold V V0; after_reads_simp
theorem at_arg4 : V m c main_arg4 = m ((c.tc : Thread nD τ).loc main_arg4) := by unfold V V0; after_reads_simp
theorem at_arg5 : V m c main_arg5 = m ((c.tc : Thread nD τ).loc main_arg5) := by unfold V V0; after_reads_simp

theorem at_v1 : V m c main_v1 = fun i => BitVec.ofNat 32 ((i 0).val / 64) := by
  refine Eq.trans ?_ (chunk bcast_S_S128)
  unfold V V0
  after_reads_simp
  rfl

/-- The mask spread over the weights, from the mask over positions. -/
abbrev spread (M : IVec S128x128 1) : IVec S8x128x128 1 :=
  broadcastInDim S8x128x128 ![0, 1, 2] bcast_S1x128x128_S8x128x128_0_1_2 (broadcastInDim S1x128x128 ![1, 2] bcast_S128x128_S1x128x128_1_2 M)

theorem at_v6 : V m c main_v6 = cmpi .sge
    (broadcastInDim S128x128 ![0, 1] bcast_S128x1_S128x128_0_1 (broadcastInDim S128x1 ![0] bcast_S128_S128x1_0 (V m c main_v1)))
    (broadcastInDim S128x128 ![0, 1] bcast_S1x128_S128x128_0_1 (broadcastInDim S1x128 ![1] bcast_S128_S1x128_1 (V m c main_v1))) := by
  unfold V V0
  after_reads_simp

theorem spread_apply (j : S8x128x128.Idx) : spread (V m c main_v6) j = if (j 2).val / 64 ≤ (j 1).val / 64 then 1#1 else 0#1 := by
  rw [at_v6]
  exact mask_apply _ _ _ _ _ _ _ (at_v1 m c) j

theorem at_v8 : V m c main_v8 = select (spread (V m c main_v6)) (V m c main_arg4)
    (broadcastInDim (α := Ideal .f32) S8x128x128 ![] bcast_S_S8x128x128 (constant (F := Ideal) S_ .f32 0x00000000#32)) := by
  unfold V V0
  after_reads_simp
  rfl

theorem at_v9 : V m c main_v9 = transpose S8x128x128 [0, 2, 1] (V m c main_v8) transposes_S8x128x128_S8x128x128_0_2_1 := by
  unfold V V0
  after_reads_simp

theorem at_v10 : V m c main_v10 = transpose S128x8 [1, 0] (V m c main_arg5) transposes_S8x128_S128x8_1_0 := by
  unfold V V0
  after_reads_simp

theorem zeros : (broadcastInDim S8x128x128 ![] bcast_S_S8x128x128 (constant (F := Ideal) S_ .f32 0x00000000#32)) = lift fun _ => 0 := by
  rw [constant_lift _ 0 ofBits_zero]; rfl

variable {m c} {x : In} {W : (Fin 3 → ℕ) → ℝ}

theorem holds (hw : x.w = msk W)
    (h0 : m ((c.tc : Thread nD τ).loc main_arg0) = lift (s := S2048x2048) x.da)
    (h1 : m ((c.tc : Thread nD τ).loc main_arg1) = lift (s := S2048x6144) x.p)
    (h2 : m ((c.tc : Thread nD τ).loc main_arg2) = lift (s := S1x2048) x.lg)
    (h3 : m ((c.tc : Thread nD τ).loc main_arg3) = lift (s := S1x2048) x.lb)
    (h4 : m ((c.tc : Thread nD τ).loc main_arg4) = lift (s := S8x128x128) W)
    (h5 : m ((c.tc : Thread nD τ).loc main_arg5) = lift (s := S8x128) x.b) : Holds m c x := by
  have w8 : V m c main_v8 = lift (s := S8x128x128) x.w := by
    rw [at_v8, at_arg4, h4, zeros, hw]; exact select_mask _ (spread_apply m c) W
  refine ⟨(at_arg0 m c).trans h0, (at_arg1 m c).trans h1, (at_arg2 m c).trans h2, (at_arg3 m c).trans h3, w8, ?_, ?_⟩
  · rw [at_v9, w8]; exact transpose_021 _ _
  · rw [at_v10, at_arg5, h5]; exact transpose_2 _ _

/-! ## After the call -/

variable (m c)

/-- The contents the lines after the call start from. -/
abbrev exitV : Valuation τ sig (Elt Ideal) := Pipeline.withArrays (cfgs 0).spec c (V0 m c) fun w => (dats m 0 c).arrAt w (cfgs 0).N

theorem arr_inj : Function.Injective (Pipeline.arrRef (cfgs 0).spec) := by decide +kernel

theorem tail_13 : Pipeline.afterTail₀ cfgs (dats m) 0 (V0 m) [hostOps1, hostOps1_1, hostOps1_2] c main_v13
    = select (spread (V m c main_v6)) ((dats m 0 c).arrAt 8 cfg0.N)
      (broadcastInDim S8x128x128 ![] bcast_S_S8x128x128 (constant (F := Ideal) S_ .f32 0x00000000#32)) := by
  have e6 : exitV m c (Proc.devRef .tc main_v6) = V m c main_v6 := Pipeline.withArrays_of_ne _ _ _ _ _ (by decide +kernel)
  have e8 : exitV m c (Proc.devRef .tc main_v11_1) = (dats m 0 c).arrAt 8 cfg0.N := Pipeline.withArrays_arr (cfgs 0).spec arr_inj _ _ _ 8
  rw [← e6, ← e8]
  unfold Pipeline.afterTail₀
  after_reads_simp
  rfl

theorem tail_14 : Pipeline.afterTail₀ cfgs (dats m) 0 (V0 m) [hostOps1, hostOps1_1, hostOps1_2] c main_v14
    = transpose S8x128 [1, 0] ((dats m 0 c).arrAt 9 cfg0.N) transposes_S128x8_S8x128_1_0 := by
  have e9 : exitV m c (Proc.devRef .tc main_v11_2) = (dats m 0 c).arrAt 9 cfg0.N := Pipeline.withArrays_arr (cfgs 0).spec arr_inj _ _ _ 9
  rw [← e9]
  unfold Pipeline.afterTail₀
  after_reads_simp

variable {m c}

/-- What the kernel's results hold at the end of a run from arguments that hold `x` (the weights masked). -/
theorem kernel_run (x : Dev nD → In) (ρ : Dev nD → PrngReg) (H : ∀ c, Holds m c (x c)) :
    θ_run defs (onTc (τ := τ) (main (F := Ideal))) ⟨m, fun _ => 0, ρ⟩ fun r => ∀ c : Dev nD,
      r.2.mem ((c.tc : Thread nD τ).loc main_v11_0) = lift (s := S2048x6144) (dproj (x c))
      ∧ r.2.mem ((c.tc : Thread nD τ).loc main_v13) = lift (s := S8x128x128) (msk fun i => ∑ s ∈ Finset.range 16, dws (x c) s i)
      ∧ r.2.mem ((c.tc : Thread nD τ).loc main_v14) = lift (s := S8x128) (fun i => ∑ s ∈ Finset.range 16, dbs (x c) s ![i 1, i 0])
      ∧ r.2.mem ((c.tc : Thread nD τ).loc main_v11_3) = lift (s := S1x2048) (fun i => ∑ s ∈ Finset.range 16, dlg (x c) s i)
      ∧ r.2.mem ((c.tc : Thread nD τ).loc main_v11_4) = lift (s := S1x2048) (fun i => ∑ s ∈ Finset.range 16, dlb (x c) s i) := by
  refine (θ_run defs _ _).mono (fun r h c => ⟨?_, ?_, ?_, ?_, ?_⟩) (run_main m ρ)
  · exact ((h c).1 7).trans (final7 (H c))
  · rw [(h c).2 main_v13 (Pipeline.mem_restRefs_of main_v13 (by decide) (by decide)), tail_13, final8 (H c), zeros]
    exact select_mask _ (spread_apply m c) _
  · rw [(h c).2 main_v14 (Pipeline.mem_restRefs_of main_v14 (by decide) (by decide)), tail_14, final9 (H c)]
    exact transpose_2 _ _
  · exact ((h c).1 10).trans (final10 (H c))
  · exact ((h c).1 11).trans (final11 (H c))

end Cert.Sgu
end
-- ==== Proof.RealSide.lean ====
/-
  Equalities over the reals between the reference's expressions and the specification's: gelu's derivative through
  `tanh`, the norm's gradient through the variance, and the sum over all rows as a sum over blocks.
-/
module
public import proofs.«01_k».proof.Proof.Spec
public import Mathlib.Tactic.LinearCombination
@[expose] public section
noncomputable section
namespace Cert.Sgu
open scoped BigOperators

/-! ## Gelu -/

theorem th_eq (x : ℝ) : Real.tanh (gC * (x + gA * (x * x * x))) = 2 * hh x - 1 := by
  unfold hh
  rw [show gC * (x + gA * (x * x * x)) = x * (gC + gC * gA * (x * x)) by ring]
  ring

theorem half_eq (x : ℝ) : 1 / 2 * (1 + (2 * hh x - 1)) = hh x := by ring

/-- What reaches gelu's argument through `tanh`, before the inner polynomial's own derivative. -/
def toT (x g : ℝ) : ℝ := gC * (1 / 2 * (x * g) * ((1 + (2 * hh x - 1)) * (1 - (2 * hh x - 1))))

theorem dgelu_eq (x g : ℝ) : g * hh x + toT x g + gA * toT x g * (3 * (x * x)) = g * dgelu x := by
  unfold toT dgelu; ring

/-! ## The norm -/

theorem eps_pos' : 0 < eps := by norm_num [eps]

/-- A row's variance, with the norm's `eps`. -/
def var (h : (Fin 2 → ℕ) → ℝ) (i : Fin 2 → ℕ) : ℝ := (∑ k ∈ Finset.range 2048, cen h ![i 0, k] * cen h ![i 0, k]) / 2048 + eps

theorem var_pos (h : (Fin 2 → ℕ) → ℝ) (i : Fin 2 → ℕ) : 0 < var h i := by
  have : 0 ≤ ∑ k ∈ Finset.range 2048, cen h ![i 0, k] * cen h ![i 0, k] := Finset.sum_nonneg fun k _ => mul_self_nonneg _
  have := eps_pos'
  unfold var; positivity

theorem rst_div_var (h : (Fin 2 → ℕ) → ℝ) (i : Fin 2 → ℕ) : rst h i / var h i = rst h i * (rst h i * rst h i) := by
  have hv := var_pos h i
  have e : rst h i = (Real.sqrt (var h i))⁻¹ := rfl
  rw [div_eq_mul_inv, e]
  refine congrArg _ ?_
  rw [← mul_inv, Real.mul_self_sqrt hv.le]

theorem sum_cen (h : (Fin 2 → ℕ) → ℝ) (r : ℕ) : ∑ k ∈ Finset.range 2048, cen h ![r, k] = 0 := by
  have e : ∀ k ∈ Finset.range 2048, cen h ![r, k] = h ![r, k] - (∑ k ∈ Finset.range 2048, h ![r, k]) / 2048 := fun _ _ => rfl
  rw [Finset.sum_congr rfl e, Finset.sum_sub_distrib, Finset.sum_const, Finset.card_range, nsmul_eq_mul]
  push_cast
  ring

/-- The norm's gradient with the variance's and the mean's contributions apart is the usual closed form. -/
theorem norm_back (c d : ℕ → ℝ) (r v : ℝ) (hv : r / v = r * (r * r)) (hc : ∑ k ∈ Finset.range 2048, c k = 0) (k : ℕ) :
    d k * r + (∑ j ∈ Finset.range 2048, c j * d j) * (-(1 / 2) * (r / v)) / 2048 * (2 * c k)
        + ((∑ j ∈ Finset.range 2048, -(d j * r))
          + ∑ j ∈ Finset.range 2048, -((∑ j ∈ Finset.range 2048, c j * d j) * (-(1 / 2) * (r / v)) / 2048 * (2 * c j))) / 2048
      = r * (d k - (∑ j ∈ Finset.range 2048, d j) / 2048 - c k * r * ((∑ j ∈ Finset.range 2048, d j * (c j * r)) / 2048)) := by
  have e1 : ∑ j ∈ Finset.range 2048, -(d j * r) = -(r * ∑ j ∈ Finset.range 2048, d j) := by
    rw [Finset.sum_neg_distrib, Finset.mul_sum]; exact congrArg _ (Finset.sum_congr rfl fun j _ => mul_comm _ _)
  have e2 : ∀ A : ℝ, ∑ j ∈ Finset.range 2048, -(A * (2 * c j)) = 0 := fun A => by
    rw [Finset.sum_neg_distrib, ← Finset.mul_sum, ← Finset.mul_sum, hc, mul_zero, mul_zero, neg_zero]
  have e3 : ∑ j ∈ Finset.range 2048, d j * (c j * r) = r * ∑ j ∈ Finset.range 2048, c j * d j := by
    rw [Finset.mul_sum]; exact Finset.sum_congr rfl fun j _ => by ring
  rw [e1, e2, e3, hv]
  ring

variable (x : In)

/-- What the variance contributes to the activated part's gradient. -/
def toVar (i : Fin 2 → ℕ) : ℝ :=
  (∑ k ∈ Finset.range 2048, cen (vf x) ![i 0, k] * dxh x ![i 0, k]) * (-(1 / 2) * (rst (vf x) i / var (vf x) i)) / 2048 * (2 * cen (vf x) i)

/-- The gradient of the activated second part. -/
def dact (i : Fin 2 → ℕ) : ℝ :=
  rst (vf x) i * (dxh x i - (∑ k ∈ Finset.range 2048, dxh x ![i 0, k]) / 2048
    - xh (vf x) i * ((∑ k ∈ Finset.range 2048, dxh x ![i 0, k] * xh (vf x) ![i 0, k]) / 2048))

theorem pair (i : Fin 2 → ℕ) : ![i 0, i 1] = i := by funext a; fin_cases a <;> rfl

theorem dact_eq (i : Fin 2 → ℕ) :
    dxh x i * rst (vf x) i + toVar x i
        + ((∑ k ∈ Finset.range 2048, -(dxh x ![i 0, k] * rst (vf x) ![i 0, k])) + ∑ k ∈ Finset.range 2048, -toVar x ![i 0, k]) / 2048
      = dact x i := by
  have key := norm_back (fun k => cen (vf x) ![i 0, k]) (fun k => dxh x ![i 0, k]) (rst (vf x) i) (var (vf x) i) (rst_div_var _ _) (sum_cen _ _) (i 1)
  simp only [pair] at key
  exact key

/-! ## Places in the blocks -/

theorem vs_eq (i : Fin 2 → ℕ) :
    (∑ k ∈ Finset.range 128, vn x ![128 * (i 0 / 128) + k, 256 * (i 1 / 256) + i 1 % 256] * x.w ![i 1 / 256, i 0 % 128, k])
      + x.b ![i 1 / 256, i 0 % 128] = vs x i := by
  rw [Nat.div_add_mod]
  exact congrArg (· + _) (Finset.sum_congr rfl fun k _ => mul_comm _ _)

theorem dvs_eq (i : Fin 2 → ℕ) : gelu (pu x i) * (x.da i * (pg x i * sgm (pg x i))) = dvs x i := by
  unfold dvs; ring

theorem dvn_eq (i : Fin 2 → ℕ) :
    ∑ k ∈ Finset.range 128, dvs x ![128 * (i 0 / 128) + k, 256 * (i 1 / 256) + i 1 % 256] * x.w ![i 1 / 256, k, i 0 % 128] = dvn x i := by
  rw [Nat.div_add_mod]
  exact Finset.sum_congr rfl fun k _ => mul_comm _ _

/-- A sum over rows, block by block. -/
theorem sum_blocks (f : ℕ → ℝ) (n : ℕ) :
    ∑ k ∈ Finset.range (128 * n), f k = ∑ s ∈ Finset.range n, ∑ r ∈ Finset.range 128, f (128 * s + r) := by
  induction n with
  | zero => rfl
  | succ n ih => rw [Nat.mul_succ, Finset.sum_range_add, ih, Finset.sum_range_succ _ n]

end Cert.Sgu
end
-- ==== Proof.Reference.lean ====
/-
  The reference's named values from real arguments: each is the array of the reals the specification gives.
-/
module
public import proofs.«01_k».proof.Proof.Gen.ReferenceIdeal.Run
public import proofs.«01_k».proof.Proof.LiftHost
public import proofs.«01_k».proof.Proof.RealSide
@[expose] public section
set_option maxRecDepth 16384
noncomputable section
namespace Cert.Sgu.Ref
open Cert.Sgu Cert.ReferenceIdeal Cert.ReferenceIdeal.Gen Cert.ReferenceIdeal.Value Idealize.ShloMosaic Idealize.ShloMosaic.TcCoe Idealize.SL.Sem
open Idealize.ShloMosaic.StableHlo
open scoped BigOperators

/-! ## Constants -/

section constants

variable {t : Shape} (h : S_.BroadcastsInDim t ![])

/-- A scalar constant spread over a shape. -/
theorem const_lift (w : BitVec 32) (x : ℝ) (e : Ideal.ofBits .f32 w = (x : EReal)) :
    broadcastInDim t ![] h (constant (F := Ideal) S_ .f32 w) = lift fun _ => x := by
  funext j; exact e

theorem k_C : broadcastInDim t ![] h (constant (F := Ideal) S_ .f32 0x3F4C422A#32) = lift fun _ => gC :=
  const_lift h _ _ (by simp [Ideal.ofBits, Ideal.ieee, -EReal.coe_mul, gC]; norm_num)
theorem k_A : broadcastInDim t ![] h (constant (F := Ideal) S_ .f32 0x3D372713#32) = lift fun _ => gA :=
  const_lift h _ _ (by simp [Ideal.ofBits, Ideal.ieee, -EReal.coe_mul, gA]; norm_num)
theorem k_eps : broadcastInDim t ![] h (constant (F := Ideal) S_ .f32 0x358637BD#32) = lift fun _ => eps :=
  const_lift h _ _ (by simp [Ideal.ofBits, Ideal.ieee, -EReal.coe_mul, eps]; norm_num)
theorem k_half : broadcastInDim t ![] h (constant (F := Ideal) S_ .f32 0x3F000000#32) = lift fun _ => 1 / 2 :=
  const_lift h _ _ (by simp [Ideal.ofBits, Ideal.ieee, -EReal.coe_mul]; norm_num)
theorem k_neghalf : broadcastInDim t ![] h (constant (F := Ideal) S_ .f32 0xBF000000#32) = lift fun _ => -(1 / 2) :=
  const_lift h _ _ (by simp [Ideal.ofBits, Ideal.ieee, -EReal.coe_mul, -EReal.coe_neg]; norm_num)
theorem k_1 : broadcastInDim t ![] h (constant (F := Ideal) S_ .f32 0x3F800000#32) = lift fun _ => 1 :=
  const_lift h _ _ (by simp [Ideal.ofBits, Ideal.ieee, -EReal.coe_mul]; norm_num)
theorem k_2 : broadcastInDim t ![] h (constant (F := Ideal) S_ .f32 0x40000000#32) = lift fun _ => 2 :=
  const_lift h _ _ (by simp [Ideal.ofBits, Ideal.ieee, -EReal.coe_mul]; norm_num)
theorem k_3 : broadcastInDim t ![] h (constant (F := Ideal) S_ .f32 0x40400000#32) = lift fun _ => 3 :=
  const_lift h _ _ (by simp [Ideal.ofBits, Ideal.ieee, -EReal.coe_mul]; norm_num)
theorem k_2048 : broadcastInDim t ![] h (constant (F := Ideal) S_ .f32 0x45000000#32) = lift fun _ => 2048 :=
  const_lift h _ _ (by simp [Ideal.ofBits, Ideal.ieee, -EReal.coe_mul]; norm_num)
theorem k_0 : broadcastInDim t ![] h (constant (F := Ideal) S_ .f32 0x00000000#32) = lift fun _ => 0 :=
  const_lift h _ _ ofBits_zero
theorem k_int0 : broadcastInDim t ![] h (sitofp (F := Ideal) .f32 (constantI S_ 32 0#32)) = lift fun _ => 0 := by
  funext j
  show ((((0#32 : BitVec 32).toInt : ℝ)) : EReal) = ((0 : ℝ) : EReal)
  simp

theorem div_2048 {s : Shape} (f : (Fin s.rank → ℕ) → ℝ) :
    Host.divf (F := Ideal) (φ := .f32) (lift f) (lift fun _ => 2048) = lift fun i => f i / 2048 :=
  hostDivf_lift _ _ fun _ => by norm_num

end constants

/-- The contents that hold the arguments `x`, the weights before masking being `W`. -/
structure Holds (V : Valuation τ sig (Elt Ideal)) (x : In) (W : (Fin 3 → ℕ) → ℝ) : Prop where
  w : x.w = msk W
  a0 : V (Proc.devRef .tc main_arg0) = lift (s := S2048x2048) x.da
  a1 : V (Proc.devRef .tc main_arg1) = lift (s := S2048x6144) x.p
  a2 : V (Proc.devRef .tc main_arg2) = lift (s := S1x2048) x.lg
  a3 : V (Proc.devRef .tc main_arg3) = lift (s := S1x2048) x.lb
  a4 : V (Proc.devRef .tc main_arg4) = lift (s := S8x128x128) W
  a5 : V (Proc.devRef .tc main_arg5) = lift (s := S8x128) x.b

variable {V : Valuation τ sig (Elt Ideal)} {x : In} {W : (Fin 3 → ℕ) → ℝ} (H : Holds V x W)

/-! ## Forward -/

include H in
theorem v0 : res_main_v0 V = lift (s := S2048x2048) (pu x) := by
  unfold res_main_v0; rw [H.a1]
  refine (slice_lift _ _ _).trans (congrArg (lift (s := S2048x2048)) ?_)
  funext i; simp [pu]

include H in
theorem v1 : res_main_v1 V = lift (s := S2048x2048) (pv x) := by
  unfold res_main_v1; rw [H.a1]
  refine (slice_lift _ _ _).trans (congrArg (lift (s := S2048x2048)) ?_)
  funext i; simp [pv]

include H in
theorem v2 : res_main_v2 V = lift (s := S2048x2048) (pg x) := by
  unfold res_main_v2; rw [H.a1]
  refine (slice_lift _ _ _).trans (congrArg (lift (s := S2048x2048)) ?_)
  funext i; simp [pg]

include H in
theorem v13 : res_main_v13 V = lift (s := S2048x2048) fun i => 2 * hh (pu x i) - 1 := by
  unfold res_main_v13; rw [v0 H]
  rw [k_C, k_A, mulf_lift, mulf_lift, mulf_lift, addf_lift, mulf_lift, hostTanh_lift]
  exact congrArg (lift (s := S2048x2048)) (funext fun i => th_eq _)

include H in
theorem v22 : res_main_v22 V = lift (s := S2048x2048) fun i => hh (pu x i) := by
  unfold res_main_v22; rw [v13 H]
  rw [k_half, k_1, addf_lift, mulf_lift]
  exact congrArg (lift (s := S2048x2048)) (funext fun i => half_eq _)

include H in
theorem v23 : res_main_v23 V = lift (s := S2048x2048) fun i => gelu (pu x i) := by
  unfold res_main_v23; rw [v0 H, v22 H, mulf_lift]; rfl

include H in
theorem v34 : res_main_v34 V = lift (s := S2048x2048) fun i => 2 * hh (pv x i) - 1 := by
  unfold res_main_v34; rw [v1 H]
  rw [k_C, k_A, mulf_lift, mulf_lift, mulf_lift, addf_lift, mulf_lift, hostTanh_lift]
  exact congrArg (lift (s := S2048x2048)) (funext fun i => th_eq _)

include H in
theorem v43 : res_main_v43 V = lift (s := S2048x2048) fun i => hh (pv x i) := by
  unfold res_main_v43; rw [v34 H]
  rw [k_half, k_1, addf_lift, mulf_lift]
  exact congrArg (lift (s := S2048x2048)) (funext fun i => half_eq _)

include H in
theorem v44 : res_main_v44 V = lift (s := S2048x2048) (vf x) := by
  unfold res_main_v44; rw [v1 H, v43 H, mulf_lift]; rfl

include H in
theorem v48 : res_main_v48 V = lift (s := S2048x1) fun i => (∑ k ∈ Finset.range 2048, vf x ![i 0, k]) / 2048 := by
  unfold res_main_v48
  rw [v44 H, hostReduce_cols, k_2048, bInDim_0, div_2048 (s := S2048x1)]; rfl

include H in
theorem v50 : res_main_v50 V = lift (s := S2048x2048) (cen (vf x)) := by
  unfold res_main_v50
  rw [v44 H, v48 H, bInDim_col, subf_lift]; rfl

include H in
theorem v59 : res_main_v59 V = lift (s := S2048x2048) (cen (vf x)) := by
  unfold res_main_v59
  rw [v44 H, v48 H, bInDim_col, subf_lift]; rfl

include H in
theorem v61 : res_main_v61 V = lift (s := S2048x1) (var (vf x)) := by
  unfold res_main_v61
  rw [v50 H, mulf_lift, hostReduce_cols, k_2048, k_eps, bInDim_0, div_2048 (s := S2048x1), addf_lift]; rfl

include H in
theorem v62 : res_main_v62 V = lift (s := S2048x1) (rst (vf x)) := by
  unfold res_main_v62
  rw [v61 H]
  exact hostRsqrt_lift _ fun i => var_pos _ _

include H in
theorem v67 : res_main_v67 V = lift (s := S2048x2048) (xh (vf x)) := by
  unfold res_main_v67
  rw [v59 H, v62 H, bInDim_col, mulf_lift]; rfl

include H in
theorem v72 : res_main_v72 V = lift (s := S16x128x8x256) fun i => vn x ![128 * i 0 + i 1, 256 * i 2 + i 3] := by
  unfold res_main_v72
  rw [v67 H, H.a2, H.a3, bInDim_row, bInDim_row, mulf_lift, addf_lift]
  exact split_lift _ _

theorem v74 : res_main_v74 V = fun i => BitVec.ofNat 32 ((i 0).val / 64) := by
  unfold res_main_v74 res_main_call0_v2 res_main_call0_v0 res_main_v73
  exact chunk _

theorem v81_1 (j : S8x128x128.Idx) : res_main_v81_1 V j = if (j 2).val / 64 ≤ (j 1).val / 64 then 1#1 else 0#1 := by
  unfold res_main_v81_1
  exact mask_apply _ _ _ _ _ _ _ v74 j

include H in
theorem v81_0 : res_main_v81_0 V = lift (s := S8x128x128) x.w := by
  unfold res_main_v81_0
  rw [H.a4, k_int0, H.w]
  exact select_mask _ v81_1 W

theorem mixF (f : (Fin 4 → ℕ) → ℝ) (g : (Fin 3 → ℕ) → ℝ) :
    Host.dotGeneral (F := Ideal) (φ₁ := .f32) (φ₂ := .f32) dot_S16x128x8x256_S8x128x128_S8x16x256x128_1_2_03_1_2_0 none (lift f) (lift g)
      = lift (s := S8x16x256x128) fun j => ∑ k ∈ Finset.range 128, f ![j 1, k, j 0, j 2] * g ![j 0, j 3, k] :=
  dotGeneral_lift dot_S16x128x8x256_S8x128x128_S8x16x256x128_1_2_03_1_2_0 128 rfl rfl (fun j k => ![j 1, k, j 0, j 2]) (fun j k => ![j 0, j 3, k])
    (fun j k a => by fin_cases a <;> rfl) (fun j k a => by fin_cases a <;> rfl) f g

theorem mixB (f : (Fin 4 → ℕ) → ℝ) (g : (Fin 3 → ℕ) → ℝ) :
    Host.dotGeneral (F := Ideal) (φ₁ := .f32) (φ₂ := .f32) dot_S8x16x256x128_S8x128x128_S8x16x256x128_3_1_12_2_0_0 none (lift f) (lift g)
      = lift (s := S8x16x256x128) fun j => ∑ k ∈ Finset.range 128, f ![j 0, j 1, j 2, k] * g ![j 0, k, j 3] :=
  dotGeneral_lift dot_S8x16x256x128_S8x128x128_S8x16x256x128_3_1_12_2_0_0 128 rfl rfl (fun j k => ![j 0, j 1, j 2, k]) (fun j k => ![j 0, k, j 3])
    (fun j k a => by fin_cases a <;> rfl) (fun j k a => by fin_cases a <;> rfl) f g

theorem mixW (f g : (Fin 4 → ℕ) → ℝ) :
    Host.dotGeneral (F := Ideal) (φ₁ := .f32) (φ₂ := .f32) dot_S8x16x256x128_S16x128x8x256_S8x128x128_12_03_3_1_0_2 none (lift f) (lift g)
      = lift (s := S8x128x128) fun j => ∑ k ∈ Finset.range 16, ∑ l ∈ Finset.range 256, f ![j 0, k, l, j 1] * g ![k, j 2, j 0, l] :=
  dotGeneral_lift2 dot_S8x16x256x128_S16x128x8x256_S8x128x128_12_03_3_1_0_2 16 256 rfl rfl rfl (fun j k l => ![j 0, k, l, j 1]) (fun j k l => ![k, j 2, j 0, l])
    (fun j k a => by fin_cases a <;> rfl) (fun j k a => by fin_cases a <;> rfl) f g

include H in
theorem v88 : res_main_v88 V = lift (s := S2048x2048) (vs x) := by
  unfold res_main_v88
  rw [v72 H, v81_0 H, mixF, transpose_1302, H.a5, transpose_2, bInDim_ends, bInDim_4, addf_lift]
  refine (join_lift _ _).trans (congrArg (lift (s := S2048x2048)) (funext fun i => ?_))
  exact vs_eq x i

include H in
theorem v89 : res_main_v89 V = lift (s := S2048x2048) fun i => gelu (pu x i) * vs x i := by
  unfold res_main_v89; rw [v23 H, v88 H, mulf_lift]; rfl

include H in
theorem v90_2 : res_main_v90_2 V = lift (s := S2048x2048) fun i => sgm (pg x i) := by
  unfold res_main_v90_2
  rw [v2 H, k_1, hostNegf_lift, hostExp_lift, addf_lift, hostDivf_lift _ _ fun i => by positivity]
  refine congrArg (lift (s := S2048x2048)) (funext fun i => ?_)
  simp only [sgm, zero_sub]

include H in
theorem v90_0 : res_main_v90_0 V = lift (s := S2048x2048) fun i => pg x i * sgm (pg x i) := by
  unfold res_main_v90_0; rw [v2 H, v90_2 H, mulf_lift]; rfl

/-! ## Backward -/

include H in
theorem v92 : res_main_v92 V = lift (s := S2048x2048) fun i => gelu (pu x i) * vs x i * x.da i := by
  unfold res_main_v92; rw [v89 H, H.a0, mulf_lift]; rfl

include H in
theorem v93 : res_main_v93 V = lift (s := S2048x2048) fun i => x.da i * (pg x i * sgm (pg x i)) := by
  unfold res_main_v93; rw [v90_0 H, H.a0, mulf_lift]; rfl

include H in
theorem v96 : res_main_v96 V = lift (s := S2048x2048) fun i => x.da i * (pg x i * sgm (pg x i)) * vs x i := by
  unfold res_main_v96; rw [v93 H, v88 H, mulf_lift]; rfl

include H in
theorem v97 : res_main_v97 V = lift (s := S16x128x8x256) fun i => dvs x ![128 * i 0 + i 1, 256 * i 2 + i 3] := by
  unfold res_main_v97; rw [v23 H, v93 H, mulf_lift]
  refine (split_lift _ _).trans (congrArg (lift (s := S16x128x8x256)) (funext fun i => ?_))
  exact dvs_eq x _

include H in
theorem v102 : res_main_v102 V = lift (s := S8x16x256x128) fun i => dvs x ![128 * i 1 + i 3, 256 * i 0 + i 2] := by
  unfold res_main_v102; rw [v97 H]
  exact transpose_2031 _ _

include H in
theorem v107 : res_main_v107 V = lift (s := S2048x2048) (dvn x) := by
  unfold res_main_v107
  rw [v102 H, v81_0 H, mixB, transpose_1302]
  refine (join_lift _ _).trans (congrArg (lift (s := S2048x2048)) (funext fun i => ?_))
  exact dvn_eq x i

include H in
theorem v114 : res_main_v114 V = lift (s := S2048x2048) (dxh x) := by
  unfold res_main_v114; rw [v107 H, H.a2, bInDim_row, mulf_lift]; rfl

include H in
theorem v119 : res_main_v119 V = lift (s := S2048x2048) fun i => dxh x i * rst (vf x) i := by
  unfold res_main_v119; rw [v114 H, v62 H, bInDim_col, mulf_lift]; rfl

include H in
theorem v128 : res_main_v128 V = lift (s := S2048x2048) (toVar x) := by
  unfold res_main_v128
  rw [v59 H, v114 H, v62 H, v61 H, v50 H, mulf_lift, hostReduce_cols, shapeCast_col, k_neghalf,
    hostDivf_lift _ _ fun i => (var_pos _ _).ne', mulf_lift, mulf_lift, k_2048, div_2048 (s := S2048x1), hostReduce_cols, bInDim_0, k_2, mulf_lift, mulf_lift]
  refine congrArg (lift (s := S2048x2048)) (funext fun i => ?_)
  rw [Finset.sum_range_one]; rfl

include H in
theorem v138 : res_main_v138 V = lift (s := S2048x2048) (dact x) := by
  unfold res_main_v138
  rw [v119 H, v128 H, addf_lift, hostNegf_lift, hostNegf_lift, hostReduce_cols, hostReduce_cols, shapeCast_col, shapeCast_col, addf_lift,
    k_2048, div_2048 (s := S2048x1), hostReduce_cols, bInDim_0, addf_lift]
  refine congrArg (lift (s := S2048x2048)) (funext fun i => ?_)
  rw [Finset.sum_range_one]
  exact dact_eq x i

include H in
theorem v145 : res_main_v145 V = lift (s := S2048x2048) fun i => toT (pv x i) (dact x i) := by
  unfold res_main_v145
  rw [v1 H, v138 H, v34 H, k_C, k_half, k_1, addf_lift, subf_lift, mulf_lift, mulf_lift, mulf_lift, mulf_lift, mulf_lift]; rfl

include H in
theorem v157 : res_main_v157 V = lift (s := S2048x2048) fun i => toT (pu x i) (x.da i * (pg x i * sgm (pg x i)) * vs x i) := by
  unfold res_main_v157
  rw [v0 H, v96 H, v13 H, k_C, k_half, k_1, addf_lift, subf_lift, mulf_lift, mulf_lift, mulf_lift, mulf_lift, mulf_lift]; rfl

end Cert.Sgu.Ref
end
-- ==== Proof.ReferenceRun.lean ====
/-
  The reference's five results from real arguments.
-/
module
public import proofs.«01_k».proof.Proof.Reference
@[expose] public section
set_option maxRecDepth 16384
noncomputable section
namespace Cert.Sgu.Ref
open Cert.Sgu Cert.ReferenceIdeal Cert.ReferenceIdeal.Gen Cert.ReferenceIdeal.Value Idealize.ShloMosaic Idealize.ShloMosaic.TcCoe Idealize.SL.Sem
open Idealize.ShloMosaic.StableHlo
open scoped BigOperators

variable {V : Valuation τ sig (Elt Ideal)} {x : In} {W : (Fin 3 → ℕ) → ℝ} (H : Holds V x W)

include H in
theorem partU : addf (addf (mulf (res_main_v96 V) (res_main_v22 V)) (res_main_v157 V))
      (mulf (mulf (broadcastInDim S2048x2048 ![] bcast_S_S2048x2048 (constant S_ .f32 0x3D372713#32)) (res_main_v157 V))
        (mulf (broadcastInDim S2048x2048 ![] bcast_S_S2048x2048 (constant S_ .f32 0x40400000#32)) (mulf (res_main_v0 V) (res_main_v0 V))))
    = lift (s := S2048x2048) (oU x) := by
  rw [v96 H, v22 H, v157 H, v0 H, k_A, k_3, mulf_lift, mulf_lift, mulf_lift, mulf_lift, mulf_lift, addf_lift, addf_lift]
  refine congrArg (lift (s := S2048x2048)) (funext fun i => ?_)
  refine (dgelu_eq (pu x i) (x.da i * (pg x i * sgm (pg x i)) * vs x i)).trans ?_
  unfold oU; ring

include H in
theorem partV : addf (addf (mulf (res_main_v138 V) (res_main_v43 V)) (res_main_v145 V))
      (mulf (mulf (broadcastInDim S2048x2048 ![] bcast_S_S2048x2048 (constant S_ .f32 0x3D372713#32)) (res_main_v145 V))
        (mulf (broadcastInDim S2048x2048 ![] bcast_S_S2048x2048 (constant S_ .f32 0x40400000#32)) (mulf (res_main_v1 V) (res_main_v1 V))))
    = lift (s := S2048x2048) (oV x) := by
  rw [v138 H, v43 H, v145 H, v1 H, k_A, k_3, mulf_lift, mulf_lift, mulf_lift, mulf_lift, mulf_lift, addf_lift, addf_lift]
  exact congrArg (lift (s := S2048x2048)) (funext fun i => dgelu_eq (pv x i) (dact x i))

include H in
theorem partG : addf (mulf (res_main_v92 V) (res_main_v90_2 V)) (mulf (mulf (res_main_v2 V) (res_main_v92 V))
      (mulf (res_main_v90_2 V) (subf (broadcastInDim S2048x2048 ![] bcast_S_S2048x2048 (constant S_ .f32 0x3F800000#32)) (res_main_v90_2 V))))
    = lift (s := S2048x2048) (oG x) := by
  rw [v92 H, v90_2 H, v2 H, k_1, subf_lift, mulf_lift, mulf_lift, mulf_lift, mulf_lift, addf_lift]
  refine congrArg (lift (s := S2048x2048)) (funext fun i => ?_)
  unfold oG; ring

/-- What the reference's results hold at the end of a run from arguments that hold `x` (the weights masked). -/
theorem reference_run (m : (ℓ : Loc nD τ sig) → Buf (Elt Ideal) ℓ) (ρ : Dev nD → PrngReg) (x : Dev nD → In) (W : Dev nD → (Fin 3 → ℕ) → ℝ)
    (H : ∀ c, Holds (launchContents m c) (x c) (W c)) :
    θ_run defs (onTc (τ := τ) (main (F := Ideal))) ⟨m, fun _ => 0, ρ⟩ fun r => ∀ c : Dev nD,
      r.2.mem ((c.tc : Thread nD τ).loc main_v164) = lift (s := S2048x6144) (dproj (x c))
      ∧ r.2.mem ((c.tc : Thread nD τ).loc main_v106) = lift (s := S8x128x128) (msk fun i => ∑ s ∈ Finset.range 16, dws (x c) s i)
      ∧ r.2.mem ((c.tc : Thread nD τ).loc main_v101) = lift (s := S8x128) (fun i => ∑ s ∈ Finset.range 16, dbs (x c) s ![i 1, i 0])
      ∧ r.2.mem ((c.tc : Thread nD τ).loc main_v112) = lift (s := S1x2048) (fun i => ∑ s ∈ Finset.range 16, dlg (x c) s i)
      ∧ r.2.mem ((c.tc : Thread nD τ).loc main_v109) = lift (s := S1x2048) (fun i => ∑ s ∈ Finset.range 16, dlb (x c) s i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨?_, ?_, ?_, ?_, ?_, (h c).2.2.2.2.2⟩) (Value.run m ρ)
  · rw [(h c).1, partU (H c), partV (H c), partG (H c)]
    exact concatenate_lift (oU (x c)) (oV (x c)) (oG (x c)) concatenates_S2048x2048_S2048x2048_S2048x2048_S2048x6144_d1
  · rw [(h c).2.1, v102 (H c), v72 (H c), mixW, k_0]
    exact select_mask _ v81_1 _
  · rw [(h c).2.2.1, v97 (H c), hostReduce_ends, ends_lift, hostReduce_ends]
    refine (transpose_2 _ _).trans (congrArg (lift (s := S8x128)) (funext fun i => ?_))
    rw [Finset.sum_range_one, Finset.sum_range_one]; rfl
  · rw [(h c).2.2.2.1, v67 (H c), v107 (H c), mulf_lift, hostReduce_rows]
    refine (shapeCast_row _ _).trans (congrArg (lift (s := S1x2048)) (funext fun i => ?_))
    refine (sum_blocks _ 16).trans ?_
    exact Finset.sum_congr rfl fun s _ => Finset.sum_congr rfl fun r _ => mul_comm _ _
  · rw [(h c).2.2.2.2.1, v107 (H c), hostReduce_rows]
    exact (shapeCast_row _ _).trans (congrArg (lift (s := S1x2048)) (funext fun i => sum_blocks _ 16))

end Cert.Sgu.Ref
end
-- ==== Proof.Finite.lean ====
/-
  What the precondition gives: every argument's entries are reals, so an argument array is the array of a real function
  of its coordinates.
-/
module
public import proofs.«01_k».proof.Proof.Gen.Pre_finite
public import proofs.«01_k».proof.Proof.Lift
public import Idealize.ShloMosaic.Lib.ReduceAll
@[expose] public section
noncomputable section
namespace Cert.Sgu
open Idealize.ShloMosaic Cert.Pre_finite Cert.Pre_finite.Gen

/-- The real function an array holds; zero outside its shape. -/
def coords {s : Shape} (X : s.Idx → EReal) (i : Fin s.rank → ℕ) : ℝ :=
  if h : ∀ a, i a < s.size a then (X fun a => ⟨i a, h a⟩).toReal else 0

theorem lift_coords {s : Shape} (X : s.Idx → EReal) (h : ∀ i, X i ≠ ⊤ ∧ X i ≠ ⊥) : X = lift (coords X) := by
  funext i
  unfold lift coords
  rw [dif_pos fun a => (i a).isLt]
  exact (EReal.coe_toReal (h i).1 (h i).2).symm

theorem ofBits_top : Ideal.ofBits .f32 0x7F800000#32 = ⊤ := by simp [Ideal.ofBits, Ideal.ieee]

instance : Subsingleton S_.Idx := ⟨fun a b => funext fun d => d.elim0⟩

/-- An array all of whose entries lie below infinity in absolute value is an array of reals. -/
theorem real_of_all {s : Shape} {axes : List (Fin s.rank)} (X : FVec Ideal s .f32) (hb : S_.BroadcastsInDim s ![]) (h : s.ReducesTo axes S_)
    (hu : 0 < S_.numel) (init : IVec S_ 1) (j : S_.Idx)
    (e : Host.reduce IntOp.andi (cmpf .olt (Host.absf X) (broadcastInDim s ![] hb (constant (F := Ideal) S_ .f32 0x7F800000#32))) init h hu j = 1#1) :
    X = lift (coords X) := by
  refine lift_coords X fun i => ?_
  have key := Host.reduce_andi_all _ init h hu j e i
  have lt : max (X i) (-X i) < Ideal.ofBits .f32 0x7F800000#32 := by
    by_contra hn
    have z : BitVec.ofBool (decide (max (X i) (-X i) < Ideal.ofBits .f32 0x7F800000#32)) = 1#1 := key
    rw [decide_eq_false hn] at z
    exact absurd z (by decide)
  rw [ofBits_top] at lt
  refine ⟨fun t => ?_, fun t => ?_⟩
  · rw [t] at lt; simp at lt
  · rw [t] at lt; simp at lt

theorem real_args (X0 : FVec Ideal S2048x2048 .f32) (X1 : FVec Ideal S2048x6144 .f32) (X2 X3 : FVec Ideal S1x2048 .f32)
    (X4 : FVec Ideal S8x128x128 .f32) (X5 : FVec Ideal S8x128 .f32) (e : fn (F := Ideal) X0 X1 X2 X3 X4 X5 = fun _ => 1#1) :
    X0 = lift (coords X0) ∧ X1 = lift (coords X1) ∧ X2 = lift (coords X2) ∧ X3 = lift (coords X3) ∧ X4 = lift (coords X4)
      ∧ X5 = lift (coords X5) := by
  have e := congrFun e (Shape.Idx.first h_S_)
  unfold fn fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3,
    real_of_all _ _ _ _ _ _ e4, real_of_all _ _ _ _ _ _ e5⟩

end Cert.Sgu
end
-- ==== Proof.Sums.lean ====
/-
  Sums over a contracted axis cut into equal pieces.
-/
module
public import Mathlib.Data.EReal.Basic
public import Mathlib.Algebra.BigOperators.Fin
@[expose] public section
namespace Cert.Products
open scoped BigOperators

/-- A sum in two halves. -/
theorem sum_two {n N : ℕ} (h : N = n + n) (f : Fin N → EReal) :
    ∑ k, f k = ∑ k : Fin n, f ⟨k.val, by omega⟩ + ∑ k : Fin n, f ⟨n + k.val, by omega⟩ := by
  subst h
  exact Fin.sum_univ_add f

/-- A sum in four quarters, added up from the left. -/
theorem sum_four {n N : ℕ} (h : N = n + n + n + n) (f : Fin N → EReal) :
    ∑ k, f k = ∑ k : Fin n, f ⟨k.val, by omega⟩ + ∑ k : Fin n, f ⟨n + k.val, by omega⟩ + ∑ k : Fin n, f ⟨n + n + k.val, by omega⟩
      + ∑ k : Fin n, f ⟨n + n + n + k.val, by omega⟩ := by
  subst h
  rw [Fin.sum_univ_add f, Fin.sum_univ_add fun k => f (Fin.castAdd n k), Fin.sum_univ_add fun k => f (Fin.castAdd n (Fin.castAdd n k))]
  rfl

/-- A sum over four pieces of 1664 whose last 124 terms vanish, as one over four pieces of 1540. -/
theorem sum_padded (f : Fin 6656 → EReal) (g : Fin 6160 → EReal) (h0 : ∀ k, ¬ k.val % 1664 < 1540 → f k = 0)
    (h1 : ∀ j : Fin 6160, f ⟨j.val / 1540 * 1664 + j.val % 1540, by omega⟩ = g j) : ∑ k, f k = ∑ j, g j := by
  symm
  refine Finset.sum_of_injOn (fun j : Fin 6160 => (⟨j.val / 1540 * 1664 + j.val % 1540, by omega⟩ : Fin 6656)) ?_ ?_ ?_ ?_
  · intro a _ b _ h
    have h' : a.val / 1540 * 1664 + a.val % 1540 = b.val / 1540 * 1664 + b.val % 1540 := congrArg Fin.val h
    exact Fin.ext (by omega)
  · intro a _; exact Finset.mem_coe.mpr (Finset.mem_univ _)
  · intro k _ hk
    refine h0 k fun hlt => hk ⟨⟨k.val / 1664 * 1540 + k.val % 1664, by omega⟩, Finset.mem_coe.mpr (Finset.mem_univ _), Fin.ext ?_⟩
    simp only []
    omega
  · intro j _; exact (h1 j).symm

/-- A product with four pieces of 1540 weights, each padded with 124 zeros, skips the padding. -/
theorem sum_weights (x : Fin 6656 → EReal) (w : Fin 6160 → EReal) :
    ∑ k, x k * (if h : k.val % 1664 < 1540 then w ⟨k.val / 1664 * 1540 + k.val % 1664, by omega⟩ else (0 : EReal))
      = ∑ j : Fin 6160, x ⟨j.val / 1540 * 1664 + j.val % 1540, by omega⟩ * w j := by
  refine sum_padded _ _ (fun k hk => ?_) fun j => ?_
  · rw [dif_neg hk, mul_zero]
  · have h1 : (j.val / 1540 * 1664 + j.val % 1540) % 1664 = j.val % 1540 := by omega
    have h2 : (j.val / 1540 * 1664 + j.val % 1540) / 1664 = j.val / 1540 := by omega
    have h3 : (j.val / 1540 * 1664 + j.val % 1540) % 1664 < 1540 := by omega
    rw [dif_pos h3]
    refine congrArg (fun i => _ * w i) (Fin.ext ?_)
    show (j.val / 1540 * 1664 + j.val % 1540) / 1664 * 1540 + (j.val / 1540 * 1664 + j.val % 1540) % 1664 = j.val
    omega

/-- A product with a column of weights that is zero unless `p`. -/
theorem sum_column {n : ℕ} (p : Prop) [Decidable p] (x : Fin n → EReal) (w : p → Fin n → EReal) :
    ∑ k, x k * (if h : p then w h k else (0 : EReal)) = if h : p then ∑ k, x k * w h k else (0 : EReal) := by
  by_cases h : p
  · simp only [dif_pos h]
  · simp only [dif_neg h, mul_zero, Finset.sum_const_zero]

end Cert.Products
-- ==== Proof.SguDh.lean ====
/-
  The gradient of the spatial gating layer's input projection with respect to its input (`d_sgu_h`): eight tiles, each the
  sum of the four shards' products.
-/
module
public import proofs.«01_k».proof.Defs
public import proofs.«01_k».proof.Proof.Gen.KernelSguDhIdeal.Value
public import proofs.«01_k».proof.Proof.Gen.ReferenceSguDhIdeal.Run
public import proofs.«01_k».proof.Proof.Sums
public import Idealize.ShloMosaic.Lib.Pipeline.ValueKit
@[expose] public section
set_option maxRecDepth 16384
noncomputable section
namespace Cert.Products.SguDh
open Cert.KernelSguDhIdeal Cert.KernelSguDhIdeal.Gen Idealize.ShloMosaic Idealize.ShloMosaic.TcCoe Idealize.SL.Sem

variable (m : (ℓ : Loc nD τ sig) → Buf (Elt Ideal) ℓ)

/-- The tiles of the windows at each point. -/
theorem idx : ∀ t : Fin cfg0.N, win0_0.index t = ![(grid0.coords t 0).val, 0] ∧ win0_1.index t = ![0, (grid0.coords t 1).val, 0]
    ∧ win0_2.index t = ![1, (grid0.coords t 1).val, 0] ∧ win0_3.index t = ![2, (grid0.coords t 1).val, 0]
    ∧ win0_4.index t = ![3, (grid0.coords t 1).val, 0] ∧ win0_5.index t = ![(grid0.coords t 0).val, (grid0.coords t 1).val] :=
  (by decide +kernel : ∀ t : Fin grid0.N, _)

theorem final (c : Dev nD) : (dats m 0 c).arrAt 5 cfg0.N
    = Host.dotGeneral (F := Ideal) (φ₁ := .f32) (φ₂ := .f32) Cert.ReferenceSguDhIdeal.dot_S2048x6144_S2048x6144_S2048x2048_1_1_0_0_n_n none
        (m ((c : Thread nD τ).loc main_arg0)) (m ((c : Thread nD τ).loc main_arg1)) := by
  refine (dats m 0 c).arrAt_eq_of_covers 5 _ (by decide +kernel) fun t hf y => ?_
  obtain ⟨e0, e1, e2, e3, e4, e5⟩ := idx t
  blk_simp
  rw [after0_5]; frame_out
  pointwise [k0_pay1]
  rw [sum_four (n := 1536) rfl]
  blk_point [iblk, V, e0, e1, e2, e3, e4, e5]

/-- The claim: both programs leave the same product. -/
theorem value : Cert.algebraic_KernelSguDhIdeal_ReferenceSguDhIdeal := by
  intro m g m' g' _ hm
  refine ⟨fun c => (dats m 0 c).arrAt 5 cfg0.N, Value.run_blocks m g, (θ_run _ _ _).mono (fun r h c => ?_) (ReferenceSguDhIdeal.Value.run (F := Ideal) m' g')⟩
  refine ⟨(h c).1.trans ?_, (h c).2⟩
  refine Eq.trans ?_ (final m c).symm
  rw [(hm c).1, (hm c).2]; rfl

end Cert.Products.SguDh
end
-- ==== Proof.SguIn.lean ====
/-
  The input projection of the spatial gating layer (`sgu_in`): sixteen tiles of a product with the four shards of the
  weights, each a whole contraction.
-/
module
public import proofs.«01_k».proof.Defs
public import proofs.«01_k».proof.Proof.Gen.KernelSguInIdeal.Value
public import proofs.«01_k».proof.Proof.Gen.ReferenceSguInIdeal.Run
public import Idealize.ShloMosaic.Lib.Pipeline.ValueKit
@[expose] public section
set_option maxRecDepth 16384
noncomputable section
namespace Cert.Products.SguIn
open Cert.KernelSguInIdeal Cert.KernelSguInIdeal.Gen Idealize.ShloMosaic Idealize.ShloMosaic.TcCoe Idealize.SL.Sem

variable (m : (ℓ : Loc nD τ sig) → Buf (Elt Ideal) ℓ)

/-- The tiles of the three windows at each point. -/
theorem idx : ∀ t : Fin cfg0.N, win0_0.index t = ![(grid0.coords t 0).val, 0] ∧ win0_1.index t = ![(grid0.coords t 1).val / 2, 0, (grid0.coords t 1).val % 2]
    ∧ win0_2.index t = ![(grid0.coords t 0).val, (grid0.coords t 1).val] :=
  (by decide +kernel : ∀ t : Fin grid0.N, _)

theorem final (c : Dev nD) : (dats m 0 c).arrAt 2 cfg0.N
    = Host.dotGeneral (F := Ideal) (φ₁ := .f32) (φ₂ := .f32) Cert.ReferenceSguInIdeal.dot_S2048x2048_S2048x6144_S2048x6144_1_0_0_1_n_n none
        (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]; frame_out
  pointwise [k0_pay1]
  blk_point [iblk, V, e0, e1, e2]

/-- The claim: both programs leave the same product. -/
theorem value : Cert.algebraic_KernelSguInIdeal_ReferenceSguInIdeal := by
  intro m g m' g' _ hm
  refine ⟨fun c => (dats m 0 c).arrAt 2 cfg0.N, Value.run_blocks m g, (θ_run _ _ _).mono (fun r h c => ?_) (ReferenceSguInIdeal.Value.run (F := Ideal) m' g')⟩
  refine ⟨(h c).1.trans ?_, (h c).2⟩
  refine Eq.trans ?_ (final m c).symm
  rw [(hm c).1, (hm c).2]; rfl

end Cert.Products.SguIn
end
-- ==== Proof.OutDa.lean ====
/-
  The gradient of an output projection's input (`d_sgu_act`, `d_gla_act`): four tiles of a product against the
  transposed weights, each a whole contraction.
-/
module
public import proofs.«01_k».proof.Defs
public import proofs.«01_k».proof.Proof.Gen.KernelOutDaIdeal.Value
public import proofs.«01_k».proof.Proof.Gen.ReferenceOutDaIdeal.Run
public import Idealize.ShloMosaic.Lib.Pipeline.ValueKit
@[expose] public section
set_option maxRecDepth 16384
noncomputable section
namespace Cert.Products.OutDa
open Cert.KernelOutDaIdeal Cert.KernelOutDaIdeal.Gen Idealize.ShloMosaic Idealize.ShloMosaic.TcCoe Idealize.SL.Sem

variable (m : (ℓ : Loc nD τ sig) → Buf (Elt Ideal) ℓ)

/-- The tiles of the three windows at each point. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

theorem final (c : Dev nD) : (dats m 0 c).arrAt 2 cfg0.N
    = Host.dotGeneral (F := Ideal) (φ₁ := .f32) (φ₂ := .f32) Cert.ReferenceOutDaIdeal.dot_S2048x2048_S2048x2048_S2048x2048_1_1_0_0_n_n none
        (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]; frame_out
  pointwise [k0_pay1]
  blk_point [iblk, V, e0, e1, e2]

/-- The claim: both programs leave the same product. -/
theorem value : Cert.algebraic_KernelOutDaIdeal_ReferenceOutDaIdeal := by
  intro m g m' g' _ hm
  refine ⟨fun c => (dats m 0 c).arrAt 2 cfg0.N, Value.run_blocks m g, (θ_run _ _ _).mono (fun r h c => ?_) (ReferenceOutDaIdeal.Value.run (F := Ideal) m' g')⟩
  refine ⟨(h c).1.trans ?_, (h c).2⟩
  refine Eq.trans ?_ (final m c).symm
  rw [(hm c).1, (hm c).2]; rfl

end Cert.Products.OutDa
end
-- ==== Proof.Out.lean ====
/-
  An output projection (`sgu_out`, `gla_out`): four tiles of a product with the
  weights, each a whole contraction.
-/
module
public import proofs.«01_k».proof.Defs
public import proofs.«01_k».proof.Proof.Gen.KernelOutIdeal.Value
public import proofs.«01_k».proof.Proof.Gen.ReferenceOutIdeal.Run
public import Idealize.ShloMosaic.Lib.Pipeline.ValueKit
@[expose] public section
set_option maxRecDepth 16384
noncomputable section
namespace Cert.Products.Out
open Cert.KernelOutIdeal Cert.KernelOutIdeal.Gen Idealize.ShloMosaic Idealize.ShloMosaic.TcCoe Idealize.SL.Sem

variable (m : (ℓ : Loc nD τ sig) → Buf (Elt Ideal) ℓ)

/-- The tiles of the three windows at each point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

theorem final (c : Dev nD) : (dats m 0 c).arrAt 2 cfg0.N
    = Host.dotGeneral (F := Ideal) (φ₁ := .f32) (φ₂ := .f32) Cert.ReferenceOutIdeal.dot_S2048x2048_S2048x2048_S2048x2048_1_0_0_1_n_n none
        (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]; frame_out
  pointwise [k0_pay1]
  blk_point [iblk, V, e0, e1, e2]

/-- The claim: both programs leave the same product. -/
theorem value : Cert.algebraic_KernelOutIdeal_ReferenceOutIdeal := by
  intro m g m' g' _ hm
  refine ⟨fun c => (dats m 0 c).arrAt 2 cfg0.N, Value.run_blocks m g, (θ_run _ _ _).mono (fun r h c => ?_) (ReferenceOutIdeal.Value.run (F := Ideal) m' g')⟩
  refine ⟨(h c).1.trans ?_, (h c).2⟩
  refine Eq.trans ?_ (final m c).symm
  rw [(hm c).1, (hm c).2]; rfl

end Cert.Products.Out
end
-- ==== Proof.Core.lean ====
/-
  The core's index, the word that the paired products are handed: a word between 0 and 1 is one of the two.
-/
module
public import proofs.«01_k».proof.Defs
public import Idealize.ShloMosaic.Lib.Pointwise
public import Mathlib.Data.EReal.Basic
@[expose] public section
namespace Cert.Products
open Idealize.ShloMosaic

theorem word_cases (x : BitVec 32) (h : IntOp.andi (IntOp.cmpi .sge x 0#32) (IntOp.cmpi .sle x 1#32) = 1#1) : x = 0#32 ∨ x = 1#32 := by
  have andi_one (a b : BitVec 1) : IntOp.andi a b = 1#1 ↔ a = 1#1 ∧ b = 1#1 := by revert a b; decide
  have ofBool_eq_one (p : Bool) : (BitVec.ofBool p = 1#1) ↔ p = true := by cases p <;> decide
  rw [andi_one] at h
  simp only [IntOp.cmpi, ofBool_eq_one, BitVec.sle, decide_eq_true_eq] at h
  obtain ⟨h1, h2⟩ := h
  have e0 : (0#32 : BitVec 32).toInt = 0 := by decide
  have e1 : (1#32 : BitVec 32).toInt = 1 := by decide
  rw [e0] at h1
  rw [e1] at h2
  have : x.toInt = 0 ∨ x.toInt = 1 := by omega
  rcases this with h | h
  · exact .inl (BitVec.eq_of_toInt_eq (h.trans e0.symm))
  · exact .inr (BitVec.eq_of_toInt_eq (h.trans e1.symm))

/-- The one index of a table of one word. -/
theorem idx_one (i j : (⟨1, ![1]⟩ : Shape).Idx) : i = j := by
  funext a
  obtain rfl : a = 0 := Subsingleton.elim _ _
  exact Subsingleton.elim (α := Fin 1) _ _

/-- The choice by the core's index: at 0 the first, at 1 the second. -/
theorem select_zero {α : Type} (x : BitVec 32) (h : x = 0#32) (a b : α) : Scalar.select (IntOp.cmpi .eq x 0#32) a b = a := by subst h; rfl
theorem select_one {α : Type} (x : BitVec 32) (h : x = 1#32) (a b : α) : Scalar.select (IntOp.cmpi .eq x 0#32) a b = b := by subst h; rfl

/-- Two products' sum, the factors of each swapped. -/
theorem pair_congr {n : ℕ} (a b c d a' b' c' d' : Fin n → EReal) (ha : ∀ k, a k = a' k) (hb : ∀ k, b k = b' k) (hc : ∀ k, c k = c' k) (hd : ∀ k, d k = d' k) :
    ∑ k, a k * b k + ∑ k, c k * d k = ∑ k, b' k * a' k + ∑ k, d' k * c' k := by
  obtain rfl := funext ha
  obtain rfl := funext hb
  obtain rfl := funext hc
  obtain rfl := funext hd
  simp only [mul_comm]

end Cert.Products
-- ==== Proof.OutDw.lean ====
/-
  The gradient of the output projection's weights from a pair of sequences (`g_sgu_out`, `g_gla_out`): this core's half of
  the columns, the two sequences' products added up.
-/
module
public import proofs.«01_k».proof.Defs
public import proofs.«01_k».proof.Proof.Gen.KernelOutDw.Frame
public import proofs.«01_k».proof.Proof.Gen.KernelOutDwIdeal.Frame
public import proofs.«01_k».proof.Proof.Gen.ReferenceOutDwIdeal.Run
public import proofs.«01_k».proof.Proof.Gen.Pre_out_core_ok
public import proofs.«01_k».proof.Proof.Sums
public import proofs.«01_k».proof.Proof.Core
public import Idealize.ShloMosaic.Lib.Pipeline.ValueKit
@[expose] public section
set_option maxRecDepth 16384
noncomputable section
namespace Cert.Products.OutDw
open Cert.KernelOutDwIdeal Cert.KernelOutDwIdeal.Gen Idealize.ShloMosaic Idealize.ShloMosaic.TcCoe Idealize.SL.Sem

/-- The core's index in a table. -/
abbrev word {F : FTy → Type} (pf : pre0.Contents (Elt F)) : BitVec 32 := pf 0 (ix1 (0 : Fin 1))

/-- The tile of the window that the core's index moves. -/
theorem half {F : FTy → Type} (pf : pre0.Contents (Elt F)) (h : word pf = 0#32 ∨ word pf = 1#32) (i : grid0.Coords) :
    cc0_transform_2 facts.inb_S1_S1_0 facts.numel1_S1 pf i = ![0, (word pf).toNat] := by
  have e : pf.at 0 (Rect.unit (s := S1) ![0] S1.size facts.inb_S1_S1_0) facts.numel1_S1 = word pf := congrArg (pf 0) (idx_one _ _)
  unfold cc0_transform_2
  rw [e]
  rcases h with h | h <;> rw [h] <;> revert i <;> decide

/-- At either word the tile lies inside its array. -/
theorem ok_of_word {F : FTy → Type} (pf : pre0.Contents (Elt F)) (h : word pf = 0#32 ∨ word pf = 1#32) : ok0 pf := by
  intro i
  rw [half pf h i]
  rcases h with h | h <;> rw [h] <;> revert i <;> decide

/-- The precondition, decoded. -/
theorem cases_ideal (m : (ℓ : Loc nD τ sig) → Buf (Elt Ideal) ℓ) (h : Cert.Pre_KernelOutDwIdeal m) :
    word (tbl m) = 0#32 ∨ word (tbl m) = 1#32 := by
  refine word_cases _ (Eq.trans ?_ (congrFun (h 0) (fun a => a.elim0)))
  refine congrArg (fun x => IntOp.andi (IntOp.cmpi .sge x 0#32) (IntOp.cmpi .sle x 1#32)) (congrArg (m ((0 : Dev nD).tc.loc main_arg0)) (idx_one _ _))

/-- Under the precondition the pipeline is well formed, in the idealisation and in the kernel. -/
theorem ok_ideal (m : (ℓ : Loc nD τ sig) → Buf (Elt Ideal) ℓ) (h : Cert.Pre_KernelOutDwIdeal m) : Ok m := ok_of_word _ (cases_ideal m h)

theorem ok (m : (ℓ : Loc Cert.KernelOutDw.nD Cert.KernelOutDw.τ Cert.KernelOutDw.sig) → Buf (Elt Bits) ℓ) (h : Cert.Pre_KernelOutDw m) : Cert.KernelOutDw.Gen.Ok m := by
  refine ok_of_word (F := Bits) (Cert.KernelOutDw.Gen.tbl m) (word_cases _ (Eq.trans ?_ (congrFun (h 0) (fun a => a.elim0))))
  refine congrArg (fun x => IntOp.andi (IntOp.cmpi .sge x 0#32) (IntOp.cmpi .sle x 1#32)) (congrArg (m ((0 : Dev Cert.KernelOutDw.nD).tc.loc Cert.KernelOutDw.main_arg0)) (idx_one _ _))

/-- The pipeline at a table of zeros: the result's window is the same at any table. -/
abbrev zeros : (pcfg0 (F := Ideal)).Adm := ⟨fun j => match j with | ⟨0, _⟩ => fun _ => (0#32 : BitVec 32), ok_of_word _ (.inl rfl)⟩

/-- What the body leaves of the output block. -/
theorem out_eq (c : Dev nD) (i : grid0.Coords) (a3 : Memref sig .tc .vmem S2048x512 .bf16) (h3 : a3.IsWhole) (a4 : Memref sig .tc .vmem S2048x512 .bf16) (h4 : a4.IsWhole)
    (a5 : Memref sig .tc .vmem S2048x1024 .bf16) (h5 : a5.IsWhole) (a6 : Memref sig .tc .vmem S2048x1024 .bf16) (h6 : a6.IsWhole) (a7 : Memref sig .tc .vmem S1x512x1024 .bf16) (h7 : a7.IsWhole)
    (x0 : Vec Ideal S2048x512 .bf16) (x1 : Vec Ideal S2048x512 .bf16) (x2 : Vec Ideal S2048x1024 .bf16) (x3 : Vec Ideal S2048x1024 .bf16) (xt : TbBuf0 (F := Ideal) c tbM0_0) :
    out0_A_4 c i a3 h3 a4 h4 a5 h5 a6 h6 a7 h7 x0 x1 x2 x3 xt = k0_pay1 x0 x2 x1 x3 := by
  frame_out

/-- The tiles written cover the result. -/
theorem covers : (win0 zeros 4).Covers := by decide +kernel

variable (m : (ℓ : Loc nD τ sig) → Buf (Elt Ideal) ℓ) (hO : Ok m)

/-- The tiles of the windows at each point. -/
theorem idx : ∀ t : Fin grid0.N, (win0 zeros 0).index t = ![0, (grid0.coords t 0).val] ∧ (win0 zeros 1).index t = ![0, (grid0.coords t 0).val]
    ∧ (win0 zeros 3).index t = ![0, 0] ∧ (win0 zeros 4).index t = ![(grid0.coords t 0).val, 0, 0] := by decide +kernel

/-- The tile that the core chooses. -/
theorem idx2 (h : word (tbl m) = 0#32 ∨ word (tbl m) = 1#32) (t : Fin (cfgM m hO).N) : ((cfgM m hO).win 2).index t = ![0, (word (tbl m)).toNat] := half _ h _

/-- What the body leaves at a point, over the tiles read there. -/
theorem outs_eq (c : Dev nD) (t : Fin (cfgM m hO).N) : outsAt0 m hO c t = k0_pay1 (F := Ideal) (iblk m hO c 0 t) (iblk m hO c 2 t) (iblk m hO c 1 t) (iblk m hO c 3 t) :=
  out_eq c _ _ _ _ _ _ _ _ _ _ _ _ _ _ _ _

/-- The result is the reference's expression. -/
theorem final (h : word (tbl m) = 0#32 ∨ word (tbl m) = 1#32) (c : Dev nD) : (dats m hO 0 c).arrAt 4 (cfgM m hO).N
    = shapeCast _ (transpose ReferenceOutDwIdeal.S2048x1024 [1, 0] (Host.dotGeneral (F := Ideal) (φ₁ := .f32) (φ₂ := .f32) ReferenceOutDwIdeal.dot_S4096x1024_S4096x2048_S1024x2048_0_0_1_1_n_n none (concatenate ReferenceOutDwIdeal.S4096x1024 0 [⟨ReferenceOutDwIdeal.S2048x1024, (select (broadcastInDim ReferenceOutDwIdeal.S2048x1024 ![] ReferenceOutDwIdeal.Gen.bcast_S_S2048x1024 (cmpi .eq (shapeCast _ (m ((c.tc : Thread nD τ).loc main_arg0)) ReferenceOutDwIdeal.Gen.shapeCasts_S1_S_) (constantI ReferenceOutDwIdeal.S_ 32 0#32))) (extractStridedSlice ReferenceOutDwIdeal.S2048x1024 ![0, 0] (m ((c.tc : Thread nD τ).loc main_arg3)) ReferenceOutDwIdeal.Gen.slices_S2048x2048_S2048x1024_0_0) (extractStridedSlice ReferenceOutDwIdeal.S2048x1024 ![0, 1024] (m ((c.tc : Thread nD τ).loc main_arg3)) ReferenceOutDwIdeal.Gen.slices_S2048x2048_S2048x1024_0_1024))⟩, ⟨ReferenceOutDwIdeal.S2048x1024, (m ((c.tc : Thread nD τ).loc main_arg4))⟩] ReferenceOutDwIdeal.Gen.concatenates_S2048x1024_S2048x1024_S4096x1024_d0) (concatenate ReferenceOutDwIdeal.S4096x2048 0 [⟨ReferenceOutDwIdeal.S2048x2048, (m ((c.tc : Thread nD τ).loc main_arg1))⟩, ⟨ReferenceOutDwIdeal.S2048x2048, (m ((c.tc : Thread nD τ).loc main_arg2))⟩] ReferenceOutDwIdeal.Gen.concatenates_S2048x2048_S2048x2048_S4096x2048_d0)) ReferenceOutDwIdeal.Gen.transposes_S1024x2048_S2048x1024_1_0) ReferenceOutDwIdeal.Gen.shapeCasts_S2048x1024_S4x512x1024 := by
  have hc : m ((c.tc : Thread nD τ).loc main_arg0) (ix1 (0 : Fin 1)) = word (tbl m) := by
    obtain rfl : c = 0 := Subsingleton.elim _ _
    rfl
  refine (dats m hO 0 c).arrAt_eq_of_covers 4 _ covers fun t hf y => ?_
  have e0 : ((cfgM m hO).win 0).index t = _ := (idx t).1
  have e1 : ((cfgM m hO).win 1).index t = _ := (idx t).2.1
  have e3 : ((cfgM m hO).win 3).index t = _ := (idx t).2.2.1
  have e4 : ((cfgM m hO).win 4).index t = _ := (idx t).2.2.2
  blk_simp
  rw [after0_4, outs_eq]
  pointwise [k0_pay1]
  refine pair_congr _ _ _ _ _ _ _ _ (fun k => ?_) (fun k => ?_) (fun k => ?_) (fun k => ?_)
  · blk_ext [iblk, V, e0, e4]
  · rcases h with h | h
    · have e2 : ((cfgM m hO).win 2).index t = ![0, 0] := (idx2 m hO (.inl h) t).trans (by rw [h]; rfl)
      refine Eq.trans ?_ (select_zero _ (hc.trans h) _ _).symm
      blk_ext [iblk, V, e2, e4]
    · have e2 : ((cfgM m hO).win 2).index t = ![0, 1] := (idx2 m hO (.inr h) t).trans (by rw [h]; rfl)
      refine Eq.trans ?_ (select_one _ (hc.trans h) _ _).symm
      blk_ext [iblk, V, e2, e4]
  · blk_ext [iblk, V, e1, e4]
  · blk_ext [iblk, V, e3, e4]

/-- The claim: both programs leave the same half of the columns. -/
theorem value : Cert.algebraic_KernelOutDwIdeal_ReferenceOutDwIdeal := by
  intro m g m' g' pre hm
  have hO := ok_ideal m pre
  refine ⟨fun c => (dats m hO 0 c).arrAt 4 (cfgM m hO).N, ?_, (θ_run _ _ _).mono (fun r h c => ?_) (ReferenceOutDwIdeal.Value.run (F := Ideal) m' g')⟩
  · exact (θ_run _ _ _).mono (fun r h c => ⟨(h.2 c).1 4, h.1 c⟩) (θ_run_and (unchanged m g hO) (run_main m g hO))
  · refine ⟨(h c).1.trans ?_, (h c).2⟩
    refine Eq.trans ?_ (final m hO (cases_ideal m pre) c).symm
    obtain ⟨h0, h1, h2, h3, h4⟩ := hm c
    rw [h0, h1, h2, h3, h4]; rfl

end Cert.Products.OutDw
end
-- ==== Proof.SguDw.lean ====
/-
  The gradient of the spatial gating unit's input weights from a pair of sequences (`g_sgu_in`): this core's half of each
  shard's columns, the two sequences' products added up.
-/
module
public import proofs.«01_k».proof.Defs
public import proofs.«01_k».proof.Proof.Gen.KernelSguDw.Frame
public import proofs.«01_k».proof.Proof.Gen.KernelSguDwIdeal.Frame
public import proofs.«01_k».proof.Proof.Gen.ReferenceSguDwIdeal.Run
public import proofs.«01_k».proof.Proof.Gen.Pre_sgu_core_ok
public import proofs.«01_k».proof.Proof.Sums
public import proofs.«01_k».proof.Proof.Core
public import Idealize.ShloMosaic.Lib.Pipeline.ValueKit
@[expose] public section
set_option maxRecDepth 16384
noncomputable section
namespace Cert.Products.SguDw
open Cert.KernelSguDwIdeal Cert.KernelSguDwIdeal.Gen Idealize.ShloMosaic Idealize.ShloMosaic.TcCoe Idealize.SL.Sem

/-- The core's index in a table. -/
abbrev word {F : FTy → Type} (pf : pre0.Contents (Elt F)) : BitVec 32 := pf 0 (ix1 (0 : Fin 1))

/-- The tile of the window that the core's index moves. -/
theorem half {F : FTy → Type} (pf : pre0.Contents (Elt F)) (h : word pf = 0#32 ∨ word pf = 1#32) (i : grid0.Coords) :
    cc0_transform_2 facts.inb_S1_S1_0 facts.numel1_S1 pf i = ![0, 2 * (i 1).val + (word pf).toNat] := by
  have e : pf.at 0 (Rect.unit (s := S1) ![0] S1.size facts.inb_S1_S1_0) facts.numel1_S1 = word pf := congrArg (pf 0) (idx_one _ _)
  unfold cc0_transform_2
  rw [e]
  rcases h with h | h <;> rw [h] <;> revert i <;> decide

/-- At either word the tile lies inside its array. -/
theorem ok_of_word {F : FTy → Type} (pf : pre0.Contents (Elt F)) (h : word pf = 0#32 ∨ word pf = 1#32) : ok0 pf := by
  intro i
  rw [half pf h i]
  rcases h with h | h <;> rw [h] <;> revert i <;> decide

/-- The precondition, decoded. -/
theorem cases_ideal (m : (ℓ : Loc nD τ sig) → Buf (Elt Ideal) ℓ) (h : Cert.Pre_KernelSguDwIdeal m) :
    word (tbl m) = 0#32 ∨ word (tbl m) = 1#32 := by
  refine word_cases _ (Eq.trans ?_ (congrFun (h 0) (fun a => a.elim0)))
  refine congrArg (fun x => IntOp.andi (IntOp.cmpi .sge x 0#32) (IntOp.cmpi .sle x 1#32)) (congrArg (m ((0 : Dev nD).tc.loc main_arg0)) (idx_one _ _))

/-- Under the precondition the pipeline is well formed, in the idealisation and in the kernel. -/
theorem ok_ideal (m : (ℓ : Loc nD τ sig) → Buf (Elt Ideal) ℓ) (h : Cert.Pre_KernelSguDwIdeal m) : Ok m := ok_of_word _ (cases_ideal m h)

theorem ok (m : (ℓ : Loc Cert.KernelSguDw.nD Cert.KernelSguDw.τ Cert.KernelSguDw.sig) → Buf (Elt Bits) ℓ) (h : Cert.Pre_KernelSguDw m) : Cert.KernelSguDw.Gen.Ok m := by
  refine ok_of_word (F := Bits) (Cert.KernelSguDw.Gen.tbl m) (word_cases _ (Eq.trans ?_ (congrFun (h 0) (fun a => a.elim0))))
  refine congrArg (fun x => IntOp.andi (IntOp.cmpi .sge x 0#32) (IntOp.cmpi .sle x 1#32)) (congrArg (m ((0 : Dev Cert.KernelSguDw.nD).tc.loc Cert.KernelSguDw.main_arg0)) (idx_one _ _))

/-- The pipeline at a table of zeros: the result's window is the same at any table. -/
abbrev zeros : (pcfg0 (F := Ideal)).Adm := ⟨fun j => match j with | ⟨0, _⟩ => fun _ => (0#32 : BitVec 32), ok_of_word _ (.inl rfl)⟩

/-- What the body leaves of the output block. -/
theorem out_eq (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S2048x768 .bf16) (h5 : a5.IsWhole) (a6 : Memref sig .tc .vmem S2048x768 .bf16) (h6 : a6.IsWhole) (a7 : Memref sig .tc .vmem S1x1024x768 .bf16) (h7 : a7.IsWhole)
    (x0 : Vec Ideal S2048x1024 .bf16) (x1 : Vec Ideal S2048x1024 .bf16) (x2 : Vec Ideal S2048x768 .bf16) (x3 : Vec Ideal S2048x768 .bf16) (xt : TbBuf0 (F := Ideal) c tbM0_0) :
    out0_A_4 c i a3 h3 a4 h4 a5 h5 a6 h6 a7 h7 x0 x1 x2 x3 xt = k0_pay1 x0 x2 x1 x3 := by
  frame_out

/-- The tiles written cover the result. -/
theorem covers : (win0 zeros 4).Covers := by decide +kernel

variable (m : (ℓ : Loc nD τ sig) → Buf (Elt Ideal) ℓ) (hO : Ok m)

/-- The tiles of the windows at each point. -/
theorem idx : ∀ t : Fin grid0.N, (win0 zeros 0).index t = ![0, (grid0.coords t 0).val] ∧ (win0 zeros 1).index t = ![0, (grid0.coords t 0).val]
    ∧ (win0 zeros 3).index t = ![0, (grid0.coords t 1).val] ∧ (win0 zeros 4).index t = ![(grid0.coords t 1).val, (grid0.coords t 0).val, 0] := by decide +kernel

/-- The tile that the core chooses. -/
theorem idx2 (h : word (tbl m) = 0#32 ∨ word (tbl m) = 1#32) (t : Fin (cfgM m hO).N) : ((cfgM m hO).win 2).index t = ![0, 2 * ((grid0.coords t) 1).val + (word (tbl m)).toNat] := half _ h _

/-- What the body leaves at a point, over the tiles read there. -/
theorem outs_eq (c : Dev nD) (t : Fin (cfgM m hO).N) : outsAt0 m hO c t = k0_pay1 (F := Ideal) (iblk m hO c 0 t) (iblk m hO c 2 t) (iblk m hO c 1 t) (iblk m hO c 3 t) :=
  out_eq c _ _ _ _ _ _ _ _ _ _ _ _ _ _ _ _

/-- The result is the reference's expression. -/
theorem final (h : word (tbl m) = 0#32 ∨ word (tbl m) = 1#32) (c : Dev nD) : (dats m hO 0 c).arrAt 4 (cfgM m hO).N
    = transpose ReferenceSguDwIdeal.S4x2048x768 [1, 0, 2] (shapeCast _ (transpose ReferenceSguDwIdeal.S2048x3072 [1, 0] (Host.dotGeneral (F := Ideal) (φ₁ := .f32) (φ₂ := .f32) ReferenceSguDwIdeal.dot_S4096x3072_S4096x2048_S3072x2048_0_0_1_1_n_n none (concatenate ReferenceSguDwIdeal.S4096x3072 0 [⟨ReferenceSguDwIdeal.S2048x3072, (shapeCast _ (select (broadcastInDim ReferenceSguDwIdeal.S2048x4x768 ![] ReferenceSguDwIdeal.Gen.bcast_S_S2048x4x768 (cmpi .eq (shapeCast _ (m ((c.tc : Thread nD τ).loc main_arg0)) ReferenceSguDwIdeal.Gen.shapeCasts_S1_S_) (constantI ReferenceSguDwIdeal.S_ 32 0#32))) (shapeCast _ (extractStridedSlice ReferenceSguDwIdeal.S2048x4x1x768 ![0, 0, 0, 0] (shapeCast _ (m ((c.tc : Thread nD τ).loc main_arg3)) ReferenceSguDwIdeal.Gen.shapeCasts_S2048x6144_S2048x4x2x768) ReferenceSguDwIdeal.Gen.slices_S2048x4x2x768_S2048x4x1x768_0_0_0_0) ReferenceSguDwIdeal.Gen.shapeCasts_S2048x4x1x768_S2048x4x768) (shapeCast _ (extractStridedSlice ReferenceSguDwIdeal.S2048x4x1x768 ![0, 0, 1, 0] (shapeCast _ (m ((c.tc : Thread nD τ).loc main_arg3)) ReferenceSguDwIdeal.Gen.shapeCasts_S2048x6144_S2048x4x2x768) ReferenceSguDwIdeal.Gen.slices_S2048x4x2x768_S2048x4x1x768_0_0_1_0) ReferenceSguDwIdeal.Gen.shapeCasts_S2048x4x1x768_S2048x4x768)) ReferenceSguDwIdeal.Gen.shapeCasts_S2048x4x768_S2048x3072)⟩, ⟨ReferenceSguDwIdeal.S2048x3072, (m ((c.tc : Thread nD τ).loc main_arg4))⟩] ReferenceSguDwIdeal.Gen.concatenates_S2048x3072_S2048x3072_S4096x3072_d0) (concatenate ReferenceSguDwIdeal.S4096x2048 0 [⟨ReferenceSguDwIdeal.S2048x2048, (m ((c.tc : Thread nD τ).loc main_arg1))⟩, ⟨ReferenceSguDwIdeal.S2048x2048, (m ((c.tc : Thread nD τ).loc main_arg2))⟩] ReferenceSguDwIdeal.Gen.concatenates_S2048x2048_S2048x2048_S4096x2048_d0)) ReferenceSguDwIdeal.Gen.transposes_S3072x2048_S2048x3072_1_0) ReferenceSguDwIdeal.Gen.shapeCasts_S2048x3072_S2048x4x768) ReferenceSguDwIdeal.Gen.transposes_S2048x4x768_S4x2048x768_1_0_2 := by
  have hc : m ((c.tc : Thread nD τ).loc main_arg0) (ix1 (0 : Fin 1)) = word (tbl m) := by
    obtain rfl : c = 0 := Subsingleton.elim _ _
    rfl
  refine (dats m hO 0 c).arrAt_eq_of_covers 4 _ covers fun t hf y => ?_
  have e0 : ((cfgM m hO).win 0).index t = _ := (idx t).1
  have e1 : ((cfgM m hO).win 1).index t = _ := (idx t).2.1
  have e3 : ((cfgM m hO).win 3).index t = _ := (idx t).2.2.1
  have e4 : ((cfgM m hO).win 4).index t = _ := (idx t).2.2.2
  blk_simp
  rw [after0_4, outs_eq]
  pointwise [k0_pay1]
  refine pair_congr _ _ _ _ _ _ _ _ (fun k => ?_) (fun k => ?_) (fun k => ?_) (fun k => ?_)
  · blk_ext [iblk, V, e0, e4]
  · rcases h with h | h
    · have e2 : ((cfgM m hO).win 2).index t = ![0, 2 * (grid0.coords t 1).val] := (idx2 m hO (.inl h) t).trans (by rw [h]; rfl)
      refine Eq.trans ?_ (select_zero _ (hc.trans h) _ _).symm
      blk_ext [iblk, V, e2, e4]
    · have e2 : ((cfgM m hO).win 2).index t = ![0, 2 * (grid0.coords t 1).val + 1] := (idx2 m hO (.inr h) t).trans (by rw [h]; rfl)
      refine Eq.trans ?_ (select_one _ (hc.trans h) _ _).symm
      blk_ext [iblk, V, e2, e4]
  · blk_ext [iblk, V, e1, e4]
  · blk_ext [iblk, V, e3, e4]

/-- The claim: both programs leave the same half of the columns. -/
theorem value : Cert.algebraic_KernelSguDwIdeal_ReferenceSguDwIdeal := by
  intro m g m' g' pre hm
  have hO := ok_ideal m pre
  refine ⟨fun c => (dats m hO 0 c).arrAt 4 (cfgM m hO).N, ?_, (θ_run _ _ _).mono (fun r h c => ?_) (ReferenceSguDwIdeal.Value.run (F := Ideal) m' g')⟩
  · exact (θ_run _ _ _).mono (fun r h c => ⟨(h.2 c).1 4, h.1 c⟩) (θ_run_and (unchanged m g hO) (run_main m g hO))
  · refine ⟨(h c).1.trans ?_, (h c).2⟩
    refine Eq.trans ?_ (final m hO (cases_ideal m pre) c).symm
    obtain ⟨h0, h1, h2, h3, h4⟩ := hm c
    rw [h0, h1, h2, h3, h4]; rfl

end Cert.Products.SguDw
end
-- ==== Proof.GlaDh.lean ====
/-
  The gradient of the gated linear attention's input projection with respect to its input (`d_gla_h`): eight tiles of a
  product with the weights, whose four shards are padded with zeros to a multiple of the lane count.
-/
module
public import proofs.«01_k».proof.Defs
public import proofs.«01_k».proof.Proof.Gen.KernelGlaDhIdeal.Value
public import proofs.«01_k».proof.Proof.Gen.ReferenceGlaDhIdeal.Run
public import proofs.«01_k».proof.Proof.Sums
public import Idealize.ShloMosaic.Lib.Pipeline.ValueKit
public import Idealize.ShloMosaic.Lib.StableHlo.RunRead
public import Idealize.ShloMosaic.Lib.KernelVsHost
@[expose] public section
set_option maxRecDepth 16384
noncomputable section
namespace Cert.Products.GlaDh
open Cert.KernelGlaDhIdeal Cert.KernelGlaDhIdeal.Gen Idealize.ShloMosaic Idealize.ShloMosaic.TcCoe Idealize.SL.Sem
open Idealize.ShloMosaic.StableHlo

variable (m : (ℓ : Loc nD τ sig) → Buf (Elt Ideal) ℓ)

/-- The tiles of the windows at each point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The padded weights at an index. -/
theorem weights (c : Dev nD) (k : Fin 6656) (j : Fin 2048) :
    V m c main_v4 (ix2 k j) = if h : k.val % 1664 < 1540 then m ((c : Thread nD τ).loc main_arg1) (ix2 j ⟨k.val / 1664 * 1540 + k.val % 1664, by omega⟩) else (0 : EReal) := by
  unfold V
  after_reads_simp
  pointwise
  simp -implicitDefEqProofs only [TRef.toBuf, TRef.ofBuf, cast_cast, cast_eq]
  by_cases h : k.val % 1664 < 1540
  · rw [dif_pos h]
    exact pad_apply_of_inside _ _ _ _ _ _ _ _ (ix3 ⟨k.val / 1664, by omega⟩ ⟨k.val % 1664, h⟩ j : S4x1540x2048.Idx) fun a => by
      fin_cases a <;> exact ((Nat.zero_add _).trans (Nat.mul_one _)).symm
  · rw [dif_neg h]
    refine (pad_apply_of_not_inside _ _ _ _ _ _ _ _ (1 : Fin 3) ?_).trans (sitofp_zero (φ := .bf16))
    rintro ⟨_, _, h'⟩
    have h' : (k.val % 1664 - 0) / (0 + 1) < 1540 := h'
    omega

theorem final (c : Dev nD) : (dats m 0 c).arrAt 2 cfg0.N
    = Host.dotGeneral (F := Ideal) (φ₁ := .f32) (φ₂ := .f32) Cert.ReferenceGlaDhIdeal.dot_S2048x6160_S2048x6160_S2048x2048_1_1_0_0_n_n none
        (shapeCast _ (extractStridedSlice ReferenceGlaDhIdeal.S2048x4x1540 ![0, 0, 0] (shapeCast _ (m ((c : Thread nD τ).loc main_arg0)) ReferenceGlaDhIdeal.Gen.shapeCasts_S2048x6656_S2048x4x1664) ReferenceGlaDhIdeal.Gen.slices_S2048x4x1664_S2048x4x1540_0_0_0) ReferenceGlaDhIdeal.Gen.shapeCasts_S2048x4x1540_S2048x6160)
        (m ((c : Thread nD τ).loc main_arg1)) := by
  refine (dats m 0 c).arrAt_eq_of_covers 2 _ (by decide +kernel) fun t hf y => ?_
  obtain ⟨e0, e1, e2⟩ := idx t
  blk_simp
  rw [after0_2]; frame_out
  pointwise [k0_pay1]
  have h0 : ∀ k : Fin 6656, iblk m c 0 t (ix2 (y 0) k) = m ((c : Thread nD τ).loc main_arg0) (ix2 ((win0_2.blk t).view.emb y 0) k) := fun k => by
    blk_point [iblk, V, e0, e2]
  have h1 : ∀ k : Fin 6656, iblk m c 1 t (ix2 k (y 1)) = if h : k.val % 1664 < 1540 then
      m ((c : Thread nD τ).loc main_arg1) (ix2 ((win0_2.blk t).view.emb y 1) ⟨k.val / 1664 * 1540 + k.val % 1664, by omega⟩) else (0 : EReal) := fun k => by
    refine Eq.trans ?_ (weights m c k _)
    blk_ext [iblk, e1, e2]
  simp only [h0, h1]
  exact sum_weights (fun k => m ((c : Thread nD τ).loc main_arg0) (ix2 ((win0_2.blk t).view.emb y 0) k))
    fun k => m ((c : Thread nD τ).loc main_arg1) (ix2 ((win0_2.blk t).view.emb y 1) k)

/-- The claim: both programs leave the same product. -/
theorem value : Cert.algebraic_KernelGlaDhIdeal_ReferenceGlaDhIdeal := by
  intro m g m' g' _ hm
  refine ⟨fun c => (dats m 0 c).arrAt 2 cfg0.N, Value.run_blocks m g, (θ_run _ _ _).mono (fun r h c => ?_) (ReferenceGlaDhIdeal.Value.run (F := Ideal) m' g')⟩
  refine ⟨(h c).1.trans ?_, (h c).2⟩
  refine Eq.trans ?_ (final m c).symm
  rw [(hm c).1, (hm c).2]; rfl

end Cert.Products.GlaDh
end
-- ==== Proof.GlaIn.lean ====
/-
  The gated linear attention's input projection (`gla_in`): eight tiles of a product with the transposed weights, whose
  four shards are padded with zeros to a multiple of the lane count; the reference pads the four shards of the product.
-/
module
public import proofs.«01_k».proof.Defs
public import proofs.«01_k».proof.Proof.Gen.KernelGlaInIdeal.Value
public import proofs.«01_k».proof.Proof.Gen.ReferenceGlaInIdeal.Run
public import proofs.«01_k».proof.Proof.Sums
public import Idealize.ShloMosaic.Lib.Pipeline.ValueKit
public import Idealize.ShloMosaic.Lib.StableHlo.RunRead
public import Idealize.ShloMosaic.Lib.KernelVsHost
@[expose] public section
set_option maxRecDepth 16384
noncomputable section
namespace Cert.Products.GlaIn
open Cert.KernelGlaInIdeal Cert.KernelGlaInIdeal.Gen Idealize.ShloMosaic Idealize.ShloMosaic.TcCoe Idealize.SL.Sem
open Idealize.ShloMosaic.StableHlo

variable (m : (ℓ : Loc nD τ sig) → Buf (Elt Ideal) ℓ)

/-- The tiles of the windows at each point. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The padded weights at an index. -/
theorem weights (c : Dev nD) (k : Fin 6656) (j : Fin 2048) :
    V m c main_v4 (ix2 k j) = if h : k.val % 1664 < 1540 then m ((c : Thread nD τ).loc main_arg1) (ix2 j ⟨k.val / 1664 * 1540 + k.val % 1664, by omega⟩) else (0 : EReal) := by
  unfold V
  after_reads_simp
  pointwise
  simp -implicitDefEqProofs only [TRef.toBuf, TRef.ofBuf, cast_cast, cast_eq]
  by_cases h : k.val % 1664 < 1540
  · rw [dif_pos h]
    exact pad_apply_of_inside _ _ _ _ _ _ _ _ (ix3 ⟨k.val / 1664, by omega⟩ ⟨k.val % 1664, h⟩ j : S4x1540x2048.Idx) fun a => by
      fin_cases a <;> exact ((Nat.zero_add _).trans (Nat.mul_one _)).symm
  · rw [dif_neg h]
    refine (pad_apply_of_not_inside _ _ _ _ _ _ _ _ (1 : Fin 3) ?_).trans (sitofp_zero (φ := .bf16))
    rintro ⟨_, _, h'⟩
    have h' : (k.val % 1664 - 0) / (0 + 1) < 1540 := h'
    omega

theorem unpad {a : ℕ} (ha : a < 6656) (h : a % 1664 < 1540) : a / 1664 * 1540 + a % 1664 < 6160 := by omega

/-- The product at unpadded columns, zero at the others. -/
def padded (P : FVec Ideal ReferenceGlaInIdeal.S2048x6160 .f32) : FVec Ideal ReferenceGlaInIdeal.S2048x6656 .f32 := fun i =>
  if h : (i 1).val % 1664 < 1540 then P (ix2 (i 0) ⟨(i 1).val / 1664 * 1540 + (i 1).val % 1664, by have := (i 1).isLt; change (i 1).val < 6656 at this; omega⟩) else (0 : EReal)

/-- The reference's padding is that one. -/
theorem padded_eq (P : FVec Ideal ReferenceGlaInIdeal.S2048x6160 .f32) :
    shapeCast ReferenceGlaInIdeal.S2048x6656 (pad ReferenceGlaInIdeal.S2048x4x1664 ![0, 0, 0] ![0, 0, 124] ![0, 0, 0]
      (shapeCast ReferenceGlaInIdeal.S2048x4x1540 P ReferenceGlaInIdeal.Gen.shapeCasts_S2048x6160_S2048x4x1540)
      (sitofp (F := Ideal) .f32 (constantI ReferenceGlaInIdeal.S_ 32 0#32)) ReferenceGlaInIdeal.Gen.pads_S2048x4x1540_S2048x4x1664_000_000_01240 ReferenceGlaInIdeal.Gen.h_S_)
      ReferenceGlaInIdeal.Gen.shapeCasts_S2048x4x1664_S2048x6656 = padded P := by
  funext i
  unfold padded
  pointwise
  have hi : (i 1).val < 6656 := (i 1).isLt
  by_cases h : (i 1).val % 1664 < 1540
  · rw [dif_pos h, dif_pos ⟨by omega, h⟩]
  · rw [dif_neg h, dif_neg fun h' => h h'.2]
    exact sitofp_zero (φ := .f32)

theorem final (c : Dev nD) : (dats m 0 c).arrAt 2 cfg0.N
    = padded (Host.dotGeneral (F := Ideal) (φ₁ := .f32) (φ₂ := .f32) Cert.ReferenceGlaInIdeal.dot_S2048x2048_S2048x6160_S2048x6160_1_0_0_1_n_n none
        (m ((c : Thread nD τ).loc main_arg0)) (m ((c : Thread nD τ).loc main_arg1))) := by
  refine (dats m 0 c).arrAt_eq_of_covers 2 _ (by decide +kernel) fun t hf y => ?_
  obtain ⟨e0, e1, e2⟩ := idx t
  blk_simp
  rw [after0_2]; frame_out
  unfold padded
  pointwise [k0_pay1]
  have h0 : ∀ k : Fin 2048, iblk m c 0 t (ix2 (y 0) k) = m ((c : Thread nD τ).loc main_arg0) (ix2 ((win0_2.blk t).view.emb y 0) k) := fun k => by
    blk_point [iblk, V, e0, e2]
  have h1 : ∀ k : Fin 2048, iblk m c 1 t (ix2 (y 1) k) = if h : ((win0_2.blk t).view.emb y 1).val % 1664 < 1540 then
      m ((c : Thread nD τ).loc main_arg1) (ix2 k ⟨((win0_2.blk t).view.emb y 1).val / 1664 * 1540 + ((win0_2.blk t).view.emb y 1).val % 1664, by
        have := ((win0_2.blk t).view.emb y 1).isLt; change ((win0_2.blk t).view.emb y 1).val < 6656 at this; omega⟩) else (0 : EReal) := fun k => by
    refine Eq.trans ?_ (weights m c _ k)
    blk_ext [iblk, e1, e2]
  simp only [h0, h1]
  have hb : ((win0_2.blk t).view.emb y 1).val < 6656 := ((win0_2.blk t).view.emb y 1).isLt
  exact sum_column _ (fun k : Fin 2048 => m ((c : Thread nD τ).loc main_arg0) (ix2 ((win0_2.blk t).view.emb y 0) k)) fun h k =>
    m ((c : Thread nD τ).loc main_arg1) (ix2 k ⟨((win0_2.blk t).view.emb y 1).val / 1664 * 1540 + ((win0_2.blk t).view.emb y 1).val % 1664, unpad hb h⟩)

/-- The claim: both programs leave the same product. -/
theorem value : Cert.algebraic_KernelGlaInIdeal_ReferenceGlaInIdeal := by
  intro m g m' g' _ hm
  refine ⟨fun c => (dats m 0 c).arrAt 2 cfg0.N, Value.run_blocks m g, (θ_run _ _ _).mono (fun r h c => ?_) (ReferenceGlaInIdeal.Value.run (F := Ideal) m' g')⟩
  refine ⟨(h c).1.trans ?_, (h c).2⟩
  refine Eq.trans ?_ (final m c).symm
  rw [(hm c).1, (hm c).2]
  exact padded_eq _

end Cert.Products.GlaIn
end
-- ==== Proof.GlaDw0.lean ====
/-
  The gradient of the gated linear attention's input weights from a pair of sequences (`g_gla_in`), part 0 of two: this
  core's half of the transposed weights' columns, the two sequences' products added up.
-/
module
public import proofs.«01_k».proof.Defs
public import proofs.«01_k».proof.Proof.Gen.KernelGlaDw0.Frame
public import proofs.«01_k».proof.Proof.Gen.KernelGlaDw0Ideal.Frame
public import proofs.«01_k».proof.Proof.Gen.ReferenceGlaDw0Ideal.Run
public import proofs.«01_k».proof.Proof.Gen.Pre_gla_core_ok
public import proofs.«01_k».proof.Proof.Sums
public import proofs.«01_k».proof.Proof.Core
public import Idealize.ShloMosaic.Lib.Pipeline.ValueKit
@[expose] public section
set_option maxRecDepth 16384
noncomputable section
namespace Cert.Products.GlaDw0
open Cert.KernelGlaDw0Ideal Cert.KernelGlaDw0Ideal.Gen Idealize.ShloMosaic Idealize.ShloMosaic.TcCoe Idealize.SL.Sem

/-- The core's index in a table. -/
abbrev word {F : FTy → Type} (pf : pre0.Contents (Elt F)) : BitVec 32 := pf 0 (ix1 (0 : Fin 1))

/-- The tile of the window that the core's index moves. -/
theorem half {F : FTy → Type} (pf : pre0.Contents (Elt F)) (h : word pf = 0#32 ∨ word pf = 1#32) (i : grid0.Coords) :
    cc0_transform_2 facts.inb_S1_S1_0 facts.numel1_S1 pf i = ![0, 2 * (word pf).toNat] := by
  have e : pf.at 0 (Rect.unit (s := S1) ![0] S1.size facts.inb_S1_S1_0) facts.numel1_S1 = word pf := congrArg (pf 0) (idx_one _ _)
  unfold cc0_transform_2
  rw [e]
  rcases h with h | h <;> rw [h] <;> revert i <;> decide

/-- At either word the tile lies inside its array. -/
theorem ok_of_word {F : FTy → Type} (pf : pre0.Contents (Elt F)) (h : word pf = 0#32 ∨ word pf = 1#32) : ok0 pf := by
  intro i
  rw [half pf h i]
  rcases h with h | h <;> rw [h] <;> revert i <;> decide

/-- The precondition, decoded. -/
theorem cases_ideal (m : (ℓ : Loc nD τ sig) → Buf (Elt Ideal) ℓ) (h : Cert.Pre_KernelGlaDw0Ideal m) :
    word (tbl m) = 0#32 ∨ word (tbl m) = 1#32 := by
  refine word_cases _ (Eq.trans ?_ (congrFun (h 0) (fun a => a.elim0)))
  refine congrArg (fun x => IntOp.andi (IntOp.cmpi .sge x 0#32) (IntOp.cmpi .sle x 1#32)) (congrArg (m ((0 : Dev nD).tc.loc main_arg0)) (idx_one _ _))

/-- Under the precondition the pipeline is well formed, in the idealisation and in the kernel. -/
theorem ok_ideal (m : (ℓ : Loc nD τ sig) → Buf (Elt Ideal) ℓ) (h : Cert.Pre_KernelGlaDw0Ideal m) : Ok m := ok_of_word _ (cases_ideal m h)

theorem ok (m : (ℓ : Loc Cert.KernelGlaDw0.nD Cert.KernelGlaDw0.τ Cert.KernelGlaDw0.sig) → Buf (Elt Bits) ℓ) (h : Cert.Pre_KernelGlaDw0 m) : Cert.KernelGlaDw0.Gen.Ok m := by
  refine ok_of_word (F := Bits) (Cert.KernelGlaDw0.Gen.tbl m) (word_cases _ (Eq.trans ?_ (congrFun (h 0) (fun a => a.elim0))))
  refine congrArg (fun x => IntOp.andi (IntOp.cmpi .sge x 0#32) (IntOp.cmpi .sle x 1#32)) (congrArg (m ((0 : Dev Cert.KernelGlaDw0.nD).tc.loc Cert.KernelGlaDw0.main_arg0)) (idx_one _ _))

/-- The pipeline at a table of zeros: the result's window is the same at any table. -/
abbrev zeros : (pcfg0 (F := Ideal)).Adm := ⟨fun j => match j with | ⟨0, _⟩ => fun _ => (0#32 : BitVec 32), ok_of_word _ (.inl rfl)⟩

/-- What the body leaves of the output block. -/
theorem out_eq (c : Dev nD) (i : grid0.Coords) (a3 : Memref sig .tc .vmem S2048x1664 .bf16) (h3 : a3.IsWhole) (a4 : Memref sig .tc .vmem S2048x1664 .bf16) (h4 : a4.IsWhole)
    (a5 : Memref sig .tc .vmem S2048x512 .bf16) (h5 : a5.IsWhole) (a6 : Memref sig .tc .vmem S2048x512 .bf16) (h6 : a6.IsWhole) (a7 : Memref sig .tc .vmem S1x1664x512 .bf16) (h7 : a7.IsWhole)
    (x0 : Vec Ideal S2048x1664 .bf16) (x1 : Vec Ideal S2048x1664 .bf16) (x2 : Vec Ideal S2048x512 .bf16) (x3 : Vec Ideal S2048x512 .bf16) (xt : TbBuf0 (F := Ideal) c tbM0_0) :
    out0_A_4 c i a3 h3 a4 h4 a5 h5 a6 h6 a7 h7 x0 x1 x2 x3 xt = k0_pay1 x0 x2 x1 x3 := by
  frame_out

/-- The tiles written cover the result. -/
theorem covers : (win0 zeros 4).Covers := by decide +kernel

variable (m : (ℓ : Loc nD τ sig) → Buf (Elt Ideal) ℓ) (hO : Ok m)

/-- The tiles of the windows at each point. -/
theorem idx : ∀ t : Fin grid0.N, (win0 zeros 0).index t = ![0, (grid0.coords t 0).val] ∧ (win0 zeros 1).index t = ![0, (grid0.coords t 0).val]
    ∧ (win0 zeros 3).index t = ![0, 0] ∧ (win0 zeros 4).index t = ![(grid0.coords t 0).val, 0, 0] := by decide +kernel

/-- The tile that the core chooses. -/
theorem idx2 (h : word (tbl m) = 0#32 ∨ word (tbl m) = 1#32) (t : Fin (cfgM m hO).N) : ((cfgM m hO).win 2).index t = ![0, 2 * (word (tbl m)).toNat] := half _ h _

/-- What the body leaves at a point, over the tiles read there. -/
theorem outs_eq (c : Dev nD) (t : Fin (cfgM m hO).N) : outsAt0 m hO c t = k0_pay1 (F := Ideal) (iblk m hO c 0 t) (iblk m hO c 2 t) (iblk m hO c 1 t) (iblk m hO c 3 t) :=
  out_eq c _ _ _ _ _ _ _ _ _ _ _ _ _ _ _ _

/-- The result is the reference's expression. -/
theorem final (h : word (tbl m) = 0#32 ∨ word (tbl m) = 1#32) (c : Dev nD) : (dats m hO 0 c).arrAt 4 (cfgM m hO).N
    = extractStridedSlice ReferenceGlaDw0Ideal.S4x1664x512 ![0, 0, 0] (shapeCast _ (transpose ReferenceGlaDw0Ideal.S6656x1024 [1, 0] (Host.dotGeneral (F := Ideal) (φ₁ := .f32) (φ₂ := .f32) ReferenceGlaDw0Ideal.dot_S4096x1024_S4096x6656_S1024x6656_0_0_1_1_n_n none (concatenate ReferenceGlaDw0Ideal.S4096x1024 0 [⟨ReferenceGlaDw0Ideal.S2048x1024, (select (broadcastInDim ReferenceGlaDw0Ideal.S2048x1024 ![] ReferenceGlaDw0Ideal.Gen.bcast_S_S2048x1024 (cmpi .eq (shapeCast _ (m ((c.tc : Thread nD τ).loc main_arg0)) ReferenceGlaDw0Ideal.Gen.shapeCasts_S1_S_) (constantI ReferenceGlaDw0Ideal.S_ 32 0#32))) (extractStridedSlice ReferenceGlaDw0Ideal.S2048x1024 ![0, 0] (m ((c.tc : Thread nD τ).loc main_arg3)) ReferenceGlaDw0Ideal.Gen.slices_S2048x2048_S2048x1024_0_0) (extractStridedSlice ReferenceGlaDw0Ideal.S2048x1024 ![0, 1024] (m ((c.tc : Thread nD τ).loc main_arg3)) ReferenceGlaDw0Ideal.Gen.slices_S2048x2048_S2048x1024_0_1024))⟩, ⟨ReferenceGlaDw0Ideal.S2048x1024, (m ((c.tc : Thread nD τ).loc main_arg4))⟩] ReferenceGlaDw0Ideal.Gen.concatenates_S2048x1024_S2048x1024_S4096x1024_d0) (concatenate ReferenceGlaDw0Ideal.S4096x6656 0 [⟨ReferenceGlaDw0Ideal.S2048x6656, (m ((c.tc : Thread nD τ).loc main_arg1))⟩, ⟨ReferenceGlaDw0Ideal.S2048x6656, (m ((c.tc : Thread nD τ).loc main_arg2))⟩] ReferenceGlaDw0Ideal.Gen.concatenates_S2048x6656_S2048x6656_S4096x6656_d0)) ReferenceGlaDw0Ideal.Gen.transposes_S1024x6656_S6656x1024_1_0) ReferenceGlaDw0Ideal.Gen.shapeCasts_S6656x1024_S4x1664x1024) ReferenceGlaDw0Ideal.Gen.slices_S4x1664x1024_S4x1664x512_0_0_0 := by
  have hc : m ((c.tc : Thread nD τ).loc main_arg0) (ix1 (0 : Fin 1)) = word (tbl m) := by
    obtain rfl : c = 0 := Subsingleton.elim _ _
    rfl
  refine (dats m hO 0 c).arrAt_eq_of_covers 4 _ covers fun t hf y => ?_
  have e0 : ((cfgM m hO).win 0).index t = _ := (idx t).1
  have e1 : ((cfgM m hO).win 1).index t = _ := (idx t).2.1
  have e3 : ((cfgM m hO).win 3).index t = _ := (idx t).2.2.1
  have e4 : ((cfgM m hO).win 4).index t = _ := (idx t).2.2.2
  blk_simp
  rw [after0_4, outs_eq]
  pointwise [k0_pay1]
  refine pair_congr _ _ _ _ _ _ _ _ (fun k => ?_) (fun k => ?_) (fun k => ?_) (fun k => ?_)
  · blk_ext [iblk, V, e0, e4]
  · rcases h with h | h
    · have e2 : ((cfgM m hO).win 2).index t = ![0, 0] := (idx2 m hO (.inl h) t).trans (by rw [h]; rfl)
      refine Eq.trans ?_ (select_zero _ (hc.trans h) _ _).symm
      blk_ext [iblk, V, e2, e4]
    · have e2 : ((cfgM m hO).win 2).index t = ![0, 2] := (idx2 m hO (.inr h) t).trans (by rw [h]; rfl)
      refine Eq.trans ?_ (select_one _ (hc.trans h) _ _).symm
      blk_ext [iblk, V, e2, e4]
  · blk_ext [iblk, V, e1, e4]
  · blk_ext [iblk, V, e3, e4]

/-- The claim: both programs leave the same half of the columns. -/
theorem value : Cert.algebraic_KernelGlaDw0Ideal_ReferenceGlaDw0Ideal := by
  intro m g m' g' pre hm
  have hO := ok_ideal m pre
  refine ⟨fun c => (dats m hO 0 c).arrAt 4 (cfgM m hO).N, ?_, (θ_run _ _ _).mono (fun r h c => ?_) (ReferenceGlaDw0Ideal.Value.run (F := Ideal) m' g')⟩
  · exact (θ_run _ _ _).mono (fun r h c => ⟨(h.2 c).1 4, h.1 c⟩) (θ_run_and (unchanged m g hO) (run_main m g hO))
  · refine ⟨(h c).1.trans ?_, (h c).2⟩
    refine Eq.trans ?_ (final m hO (cases_ideal m pre) c).symm
    obtain ⟨h0, h1, h2, h3, h4⟩ := hm c
    rw [h0, h1, h2, h3, h4]; rfl

end Cert.Products.GlaDw0
end
-- ==== Proof.GlaDw1.lean ====
/-
  The gradient of the gated linear attention's input weights from a pair of sequences (`g_gla_in`), part 1 of two: this
  core's half of the transposed weights' columns, the two sequences' products added up.
-/
module
public import proofs.«01_k».proof.Defs
public import proofs.«01_k».proof.Proof.Gen.KernelGlaDw1.Frame
public import proofs.«01_k».proof.Proof.Gen.KernelGlaDw1Ideal.Frame
public import proofs.«01_k».proof.Proof.Gen.ReferenceGlaDw1Ideal.Run
public import proofs.«01_k».proof.Proof.Gen.Pre_gla_core_ok
public import proofs.«01_k».proof.Proof.Sums
public import proofs.«01_k».proof.Proof.Core
public import Idealize.ShloMosaic.Lib.Pipeline.ValueKit
@[expose] public section
set_option maxRecDepth 16384
noncomputable section
namespace Cert.Products.GlaDw1
open Cert.KernelGlaDw1Ideal Cert.KernelGlaDw1Ideal.Gen Idealize.ShloMosaic Idealize.ShloMosaic.TcCoe Idealize.SL.Sem

/-- The core's index in a table. -/
abbrev word {F : FTy → Type} (pf : pre0.Contents (Elt F)) : BitVec 32 := pf 0 (ix1 (0 : Fin 1))

/-- The tile of the window that the core's index moves. -/
theorem half {F : FTy → Type} (pf : pre0.Contents (Elt F)) (h : word pf = 0#32 ∨ word pf = 1#32) (i : grid0.Coords) :
    cc0_transform_2 facts.inb_S1_S1_0 facts.numel1_S1 pf i = ![0, 2 * (word pf).toNat + 1] := by
  have e : pf.at 0 (Rect.unit (s := S1) ![0] S1.size facts.inb_S1_S1_0) facts.numel1_S1 = word pf := congrArg (pf 0) (idx_one _ _)
  unfold cc0_transform_2
  rw [e]
  rcases h with h | h <;> rw [h] <;> revert i <;> decide

/-- At either word the tile lies inside its array. -/
theorem ok_of_word {F : FTy → Type} (pf : pre0.Contents (Elt F)) (h : word pf = 0#32 ∨ word pf = 1#32) : ok0 pf := by
  intro i
  rw [half pf h i]
  rcases h with h | h <;> rw [h] <;> revert i <;> decide

/-- The precondition, decoded. -/
theorem cases_ideal (m : (ℓ : Loc nD τ sig) → Buf (Elt Ideal) ℓ) (h : Cert.Pre_KernelGlaDw1Ideal m) :
    word (tbl m) = 0#32 ∨ word (tbl m) = 1#32 := by
  refine word_cases _ (Eq.trans ?_ (congrFun (h 0) (fun a => a.elim0)))
  refine congrArg (fun x => IntOp.andi (IntOp.cmpi .sge x 0#32) (IntOp.cmpi .sle x 1#32)) (congrArg (m ((0 : Dev nD).tc.loc main_arg0)) (idx_one _ _))

/-- Under the precondition the pipeline is well formed, in the idealisation and in the kernel. -/
theorem ok_ideal (m : (ℓ : Loc nD τ sig) → Buf (Elt Ideal) ℓ) (h : Cert.Pre_KernelGlaDw1Ideal m) : Ok m := ok_of_word _ (cases_ideal m h)

theorem ok (m : (ℓ : Loc Cert.KernelGlaDw1.nD Cert.KernelGlaDw1.τ Cert.KernelGlaDw1.sig) → Buf (Elt Bits) ℓ) (h : Cert.Pre_KernelGlaDw1 m) : Cert.KernelGlaDw1.Gen.Ok m := by
  refine ok_of_word (F := Bits) (Cert.KernelGlaDw1.Gen.tbl m) (word_cases _ (Eq.trans ?_ (congrFun (h 0) (fun a => a.elim0))))
  refine congrArg (fun x => IntOp.andi (IntOp.cmpi .sge x 0#32) (IntOp.cmpi .sle x 1#32)) (congrArg (m ((0 : Dev Cert.KernelGlaDw1.nD).tc.loc Cert.KernelGlaDw1.main_arg0)) (idx_one _ _))

/-- The pipeline at a table of zeros: the result's window is the same at any table. -/
abbrev zeros : (pcfg0 (F := Ideal)).Adm := ⟨fun j => match j with | ⟨0, _⟩ => fun _ => (0#32 : BitVec 32), ok_of_word _ (.inl rfl)⟩

/-- What the body leaves of the output block. -/
theorem out_eq (c : Dev nD) (i : grid0.Coords) (a3 : Memref sig .tc .vmem S2048x1664 .bf16) (h3 : a3.IsWhole) (a4 : Memref sig .tc .vmem S2048x1664 .bf16) (h4 : a4.IsWhole)
    (a5 : Memref sig .tc .vmem S2048x512 .bf16) (h5 : a5.IsWhole) (a6 : Memref sig .tc .vmem S2048x512 .bf16) (h6 : a6.IsWhole) (a7 : Memref sig .tc .vmem S1x1664x512 .bf16) (h7 : a7.IsWhole)
    (x0 : Vec Ideal S2048x1664 .bf16) (x1 : Vec Ideal S2048x1664 .bf16) (x2 : Vec Ideal S2048x512 .bf16) (x3 : Vec Ideal S2048x512 .bf16) (xt : TbBuf0 (F := Ideal) c tbM0_0) :
    out0_A_4 c i a3 h3 a4 h4 a5 h5 a6 h6 a7 h7 x0 x1 x2 x3 xt = k0_pay1 x0 x2 x1 x3 := by
  frame_out

/-- The tiles written cover the result. -/
theorem covers : (win0 zeros 4).Covers := by decide +kernel

variable (m : (ℓ : Loc nD τ sig) → Buf (Elt Ideal) ℓ) (hO : Ok m)

/-- The tiles of the windows at each point. -/
theorem idx : ∀ t : Fin grid0.N, (win0 zeros 0).index t = ![0, (grid0.coords t 0).val] ∧ (win0 zeros 1).index t = ![0, (grid0.coords t 0).val]
    ∧ (win0 zeros 3).index t = ![0, 1] ∧ (win0 zeros 4).index t = ![(grid0.coords t 0).val, 0, 0] := by decide +kernel

/-- The tile that the core chooses. -/
theorem idx2 (h : word (tbl m) = 0#32 ∨ word (tbl m) = 1#32) (t : Fin (cfgM m hO).N) : ((cfgM m hO).win 2).index t = ![0, 2 * (word (tbl m)).toNat + 1] := half _ h _

/-- What the body leaves at a point, over the tiles read there. -/
theorem outs_eq (c : Dev nD) (t : Fin (cfgM m hO).N) : outsAt0 m hO c t = k0_pay1 (F := Ideal) (iblk m hO c 0 t) (iblk m hO c 2 t) (iblk m hO c 1 t) (iblk m hO c 3 t) :=
  out_eq c _ _ _ _ _ _ _ _ _ _ _ _ _ _ _ _

/-- The result is the reference's expression. -/
theorem final (h : word (tbl m) = 0#32 ∨ word (tbl m) = 1#32) (c : Dev nD) : (dats m hO 0 c).arrAt 4 (cfgM m hO).N
    = extractStridedSlice ReferenceGlaDw1Ideal.S4x1664x512 ![0, 0, 512] (shapeCast _ (transpose ReferenceGlaDw1Ideal.S6656x1024 [1, 0] (Host.dotGeneral (F := Ideal) (φ₁ := .f32) (φ₂ := .f32) ReferenceGlaDw1Ideal.dot_S4096x1024_S4096x6656_S1024x6656_0_0_1_1_n_n none (concatenate ReferenceGlaDw1Ideal.S4096x1024 0 [⟨ReferenceGlaDw1Ideal.S2048x1024, (select (broadcastInDim ReferenceGlaDw1Ideal.S2048x1024 ![] ReferenceGlaDw1Ideal.Gen.bcast_S_S2048x1024 (cmpi .eq (shapeCast _ (m ((c.tc : Thread nD τ).loc main_arg0)) ReferenceGlaDw1Ideal.Gen.shapeCasts_S1_S_) (constantI ReferenceGlaDw1Ideal.S_ 32 0#32))) (extractStridedSlice ReferenceGlaDw1Ideal.S2048x1024 ![0, 0] (m ((c.tc : Thread nD τ).loc main_arg3)) ReferenceGlaDw1Ideal.Gen.slices_S2048x2048_S2048x1024_0_0) (extractStridedSlice ReferenceGlaDw1Ideal.S2048x1024 ![0, 1024] (m ((c.tc : Thread nD τ).loc main_arg3)) ReferenceGlaDw1Ideal.Gen.slices_S2048x2048_S2048x1024_0_1024))⟩, ⟨ReferenceGlaDw1Ideal.S2048x1024, (m ((c.tc : Thread nD τ).loc main_arg4))⟩] ReferenceGlaDw1Ideal.Gen.concatenates_S2048x1024_S2048x1024_S4096x1024_d0) (concatenate ReferenceGlaDw1Ideal.S4096x6656 0 [⟨ReferenceGlaDw1Ideal.S2048x6656, (m ((c.tc : Thread nD τ).loc main_arg1))⟩, ⟨ReferenceGlaDw1Ideal.S2048x6656, (m ((c.tc : Thread nD τ).loc main_arg2))⟩] ReferenceGlaDw1Ideal.Gen.concatenates_S2048x6656_S2048x6656_S4096x6656_d0)) ReferenceGlaDw1Ideal.Gen.transposes_S1024x6656_S6656x1024_1_0) ReferenceGlaDw1Ideal.Gen.shapeCasts_S6656x1024_S4x1664x1024) ReferenceGlaDw1Ideal.Gen.slices_S4x1664x1024_S4x1664x512_0_0_512 := by
  have hc : m ((c.tc : Thread nD τ).loc main_arg0) (ix1 (0 : Fin 1)) = word (tbl m) := by
    obtain rfl : c = 0 := Subsingleton.elim _ _
    rfl
  refine (dats m hO 0 c).arrAt_eq_of_covers 4 _ covers fun t hf y => ?_
  have e0 : ((cfgM m hO).win 0).index t = _ := (idx t).1
  have e1 : ((cfgM m hO).win 1).index t = _ := (idx t).2.1
  have e3 : ((cfgM m hO).win 3).index t = _ := (idx t).2.2.1
  have e4 : ((cfgM m hO).win 4).index t = _ := (idx t).2.2.2
  blk_simp
  rw [after0_4, outs_eq]
  pointwise [k0_pay1]
  refine pair_congr _ _ _ _ _ _ _ _ (fun k => ?_) (fun k => ?_) (fun k => ?_) (fun k => ?_)
  · blk_ext [iblk, V, e0, e4]
  · rcases h with h | h
    · have e2 : ((cfgM m hO).win 2).index t = ![0, 1] := (idx2 m hO (.inl h) t).trans (by rw [h]; rfl)
      refine Eq.trans ?_ (select_zero _ (hc.trans h) _ _).symm
      blk_ext [iblk, V, e2, e4]
    · have e2 : ((cfgM m hO).win 2).index t = ![0, 3] := (idx2 m hO (.inr h) t).trans (by rw [h]; rfl)
      refine Eq.trans ?_ (select_one _ (hc.trans h) _ _).symm
      blk_ext [iblk, V, e2, e4]
  · blk_ext [iblk, V, e1, e4]
  · blk_ext [iblk, V, e3, e4]

/-- The claim: both programs leave the same half of the columns. -/
theorem value : Cert.algebraic_KernelGlaDw1Ideal_ReferenceGlaDw1Ideal := by
  intro m g m' g' pre hm
  have hO := ok_ideal m pre
  refine ⟨fun c => (dats m hO 0 c).arrAt 4 (cfgM m hO).N, ?_, (θ_run _ _ _).mono (fun r h c => ?_) (ReferenceGlaDw1Ideal.Value.run (F := Ideal) m' g')⟩
  · exact (θ_run _ _ _).mono (fun r h c => ⟨(h.2 c).1 4, h.1 c⟩) (θ_run_and (unchanged m g hO) (run_main m g hO))
  · refine ⟨(h c).1.trans ?_, (h c).2⟩
    refine Eq.trans ?_ (final m hO (cases_ideal m pre) c).symm
    obtain ⟨h0, h1, h2, h3, h4⟩ := hm c
    rw [h0, h1, h2, h3, h4]; rfl

end Cert.Products.GlaDw1
end
-- ==== Proof.Norm.lean ====
/-
  The norm without a mean over rows of 2048, on arrays of reals: what the programs' operations compute for the
  reciprocal root, the normalised rows, the gradient through them, and the gains' gradients, on blocks of 256 rows and on
  all 2048 rows.
-/
module
public import proofs.«01_k».proof.Proof.Pay
public import proofs.«01_k».proof.Proof.Reference
@[expose] public section
set_option maxRecDepth 16384
noncomputable section
namespace Cert.Norm
open Cert.Sgu Cert.Sgu.Ref Idealize.ShloMosaic Idealize.ShloMosaic.ValueIdx
open scoped BigOperators

abbrev Blk : Shape := ⟨2, ![256, 2048]⟩
abbrev BlkC : Shape := ⟨2, ![256, 1]⟩
abbrev BlkV : Shape := ⟨1, ![256]⟩
abbrev Full : Shape := ⟨2, ![2048, 2048]⟩
abbrev FullC : Shape := ⟨2, ![2048, 1]⟩
abbrev Vec2k : Shape := ⟨1, ![2048]⟩
abbrev Gain : Shape := ⟨2, ![1, 2048]⟩
abbrev Sc : Shape := ⟨0, ![]⟩

/-! ## The real formulas -/

/-- A row's mean square, with the norm's `eps`. -/
def ms (f : (Fin 2 → ℕ) → ℝ) (i : Fin 2 → ℕ) : ℝ := (∑ k ∈ Finset.range 2048, f ![i 0, k] * f ![i 0, k]) / 2048 + eps
/-- Its reciprocal root. -/
def rr (f : (Fin 2 → ℕ) → ℝ) (i : Fin 2 → ℕ) : ℝ := (Real.sqrt (ms f i))⁻¹
/-- The normalised rows. -/
def nm (f : (Fin 2 → ℕ) → ℝ) (i : Fin 2 → ℕ) : ℝ := f i * rr f i
/-- The gradient through the norm of `f`, from the gradient `d` of the normalised rows. -/
def back (f d : (Fin 2 → ℕ) → ℝ) (i : Fin 2 → ℕ) : ℝ :=
  rr f i * (d i - nm f i * ((∑ k ∈ Finset.range 2048, d ![i 0, k] * nm f ![i 0, k]) / 2048))
/-- A block of 256 rows. -/
def blk (t : ℕ) (f : (Fin 2 → ℕ) → ℝ) (i : Fin 2 → ℕ) : ℝ := f ![256 * t + i 0, i 1]

theorem ms_pos (f : (Fin 2 → ℕ) → ℝ) (i : Fin 2 → ℕ) : 0 < ms f i := by
  have : 0 ≤ ∑ k ∈ Finset.range 2048, f ![i 0, k] * f ![i 0, k] := Finset.sum_nonneg fun k _ => mul_self_nonneg _
  have := eps_pos'
  unfold ms; positivity

theorem rr_div (f : (Fin 2 → ℕ) → ℝ) (i : Fin 2 → ℕ) : rr f i / ms f i = rr f i * (rr f i * rr f i) := by
  rw [div_eq_mul_inv]
  refine congrArg _ ?_
  unfold rr
  rw [← mul_inv, Real.mul_self_sqrt (ms_pos f i).le]

theorem nm_blk (t : ℕ) (f : (Fin 2 → ℕ) → ℝ) (i : Fin 2 → ℕ) : nm (blk t f) i = nm f ![256 * t + i 0, i 1] := rfl
theorem back_blk (t : ℕ) (f d : (Fin 2 → ℕ) → ℝ) (i : Fin 2 → ℕ) : back (blk t f) (blk t d) i = back f d ![256 * t + i 0, i 1] := rfl

theorem sum_rows (f : ℕ → ℝ) (n : ℕ) : ∑ k ∈ Finset.range (256 * n), f k = ∑ s ∈ Finset.range n, ∑ k ∈ Finset.range 256, f (256 * s + k) := by
  induction n with
  | zero => simp
  | succ n ih => rw [Finset.sum_range_succ, ← ih, Nat.mul_succ, Finset.sum_range_add]

theorem back_eq (f d : (Fin 2 → ℕ) → ℝ) (i : Fin 2 → ℕ) (hi : ![i 0, i 1] = i) :
    d i * rr f ![i 0, 0] + f i * ((∑ k ∈ Finset.range 2048, f ![i 0, k] * d ![i 0, k]) * (-(1 / 2) * (rr f ![i 0, 0] / ms f ![i 0, 0])) / 2048)
        + (∑ k ∈ Finset.range 2048, f ![i 0, k] * d ![i 0, k]) * (-(1 / 2) * (rr f ![i 0, 0] / ms f ![i 0, 0])) / 2048 * f i
      = back f d i := by
  rw [rr_div]
  have e : rr f ![i 0, 0] = rr f i := rfl
  have s : ∑ k ∈ Finset.range 2048, d ![i 0, k] * nm f ![i 0, k] = rr f i * ∑ k ∈ Finset.range 2048, f ![i 0, k] * d ![i 0, k] := by
    rw [Finset.mul_sum]
    refine Finset.sum_congr rfl fun k _ => ?_
    have : nm f ![i 0, k] = f ![i 0, k] * rr f i := rfl
    rw [this]; ring
  unfold back
  rw [s, e]; unfold nm; ring

/-! ## Blocks of 256 rows -/

section device
variable (f d : (Fin 2 → ℕ) → ℝ) (hφ : FKind.Formats .f32) (hacc : (0x00000000#32 : BitVec (FTy.f32).bits) = FKind.add.neutral .f32 hφ)

theorem sum_cols (hr : Blk.Reduces [1] BlkV) : multiReduction (F := Ideal) .add [1] BlkV (lift (s := Blk) f) 0x00000000#32 hr hφ hacc
    = lift (s := BlkV) fun i => ∑ k ∈ Finset.range 2048, f ![i 0, k] := reduce_cols _ hr hφ hacc f

theorem sum_down (hr : Blk.Reduces [0] Vec2k) : multiReduction (F := Ideal) .add [0] Vec2k (lift (s := Blk) f) 0x00000000#32 hr hφ hacc
    = lift (s := Vec2k) fun i => ∑ k ∈ Finset.range 256, f ![k, i 0] := reduce_rows _ hr hφ hacc f

theorem dev_rr (hr : Blk.Reduces [1] BlkV) (hs : BlkV.ShapeCasts BlkC) :
    rsqrt (F := Ideal) (φ := .f32) (addf (divf (shapeCast BlkC (multiReduction .add [1] BlkV (mulf (lift (s := Blk) f) (lift f)) 0x00000000#32 hr hφ hacc) hs)
      (broadcast BlkC (Scalar.ofBits .f32 0x45000000#32))) (broadcast BlkC (Scalar.ofBits .f32 0x358637BD#32))) = lift (s := BlkC) (rr f) := by
  rw [mulf_lift, sum_cols, shapeCast_col, of_2048, of_eps, broadcast_coe, broadcast_coe, divf_2048, addf_lift]
  exact rsqrt_lift _ fun i => ms_pos f i

theorem dev_nm (h : BlkC.Broadcasts Blk) :
    mulf (F := Ideal) (φ := .f32) (lift (s := Blk) f) (broadcastTo Blk (lift (s := BlkC) (rr f)) h) = lift (s := Blk) (nm f) := by
  rw [broadcastTo_col, mulf_lift]; rfl

theorem dev_gain (h : Gain.Broadcasts Blk) :
    mulf (F := Ideal) (φ := .f32) (lift (s := Blk) f) (broadcastTo Blk (lift (s := Gain) d) h) = lift (s := Blk) fun i => f i * d ![0, i 1] := by
  rw [broadcastTo_row, mulf_lift]

theorem dev_rows (hr : Blk.Reduces [0] Vec2k) (hs : Vec2k.ShapeCasts Gain) :
    shapeCast Gain (multiReduction (F := Ideal) .add [0] Vec2k (mulf (lift (s := Blk) f) (lift d)) 0x00000000#32 hr hφ hacc) hs
      = lift (s := Gain) fun i => ∑ k ∈ Finset.range 256, f ![k, i 1] * d ![k, i 1] := by
  rw [mulf_lift, sum_down, shapeCast_row]; rfl

theorem dev_back (hr : Blk.Reduces [1] BlkV) (hs : BlkV.ShapeCasts BlkC) (h : BlkC.Broadcasts Blk) :
    mulf (F := Ideal) (φ := .f32) (broadcastTo Blk (lift (s := BlkC) (rr f)) h) (subf (lift (s := Blk) d) (mulf (lift (nm f))
      (broadcastTo Blk (divf (shapeCast BlkC (multiReduction .add [1] BlkV (mulf (lift (s := Blk) d) (lift (nm f))) 0x00000000#32 hr hφ hacc) hs)
        (broadcast BlkC (Scalar.ofBits .f32 0x45000000#32))) h))) = lift (s := Blk) (back f d) := by
  rw [mulf_lift (s := Blk) d (nm f), sum_cols, shapeCast_col, of_2048, broadcast_coe, divf_2048, broadcastTo_col, broadcastTo_col, mulf_lift, subf_lift, mulf_lift]
  rfl

end device

/-! ## All rows, as the reference's operations compute them -/

section host
variable (X D : Full.Idx → EReal) (f d : (Fin 2 → ℕ) → ℝ) (hc : Sc.BroadcastsInDim FullC ![]) (h0 : Vec2k.BroadcastsInDim FullC ![0]) (hr : Full.ReducesTo [1] Vec2k)
  (hu : 0 < Sc.numel) (hb : FullC.BroadcastsInDim Full ![0, 1]) (hs : Vec2k.ShapeCasts FullC) (hr1 : FullC.ReducesTo [1] Vec2k)
  (hf : Vec2k.BroadcastsInDim Full ![0]) (hr0 : Full.ReducesTo [0] Vec2k) (hg : Vec2k.ShapeCasts Gain)

/-- The mean squares. -/
abbrev hostMs : FullC.Idx → EReal :=
  addf (F := Ideal) (φ := .f32) (Host.divf (broadcastInDim FullC ![0] h0 (Host.reduceAdd (F := Ideal) (φ := .f32) (mulf X X) (constant Sc .f32 0x00000000#32) hr hu))
    (broadcastInDim FullC ![] hc (constant Sc .f32 0x45000000#32))) (broadcastInDim FullC ![] hc (constant Sc .f32 0x358637BD#32))

/-- The normalised rows. -/
abbrev hostNm : Full.Idx → EReal :=
  mulf (F := Ideal) (φ := .f32) X (broadcastInDim Full ![0, 1] hb (Host.rsqrt (F := Ideal) (φ := .f32) (hostMs X hc h0 hr hu)))

/-- What each row's mean square passes back. -/
abbrev hostZ : Full.Idx → EReal :=
  broadcastInDim Full ![0] hf (Host.reduceAdd (F := Ideal) (φ := .f32) (Host.divf (mulf (shapeCast FullC (Host.reduceAdd (F := Ideal) (φ := .f32) (mulf X D) (constant Sc .f32 0x00000000#32) hr hu) hs)
    (mulf (broadcastInDim FullC ![] hc (constant Sc .f32 0xBF000000#32)) (Host.divf (Host.rsqrt (F := Ideal) (φ := .f32) (hostMs X hc h0 hr hu)) (hostMs X hc h0 hr hu))))
    (broadcastInDim FullC ![] hc (constant Sc .f32 0x45000000#32))) (constant Sc .f32 0x00000000#32) hr1 hu)

/-- The gradient through the norm. -/
abbrev hostBack : Full.Idx → EReal :=
  addf (F := Ideal) (φ := .f32) (addf (mulf D (broadcastInDim Full ![0, 1] hb (Host.rsqrt (F := Ideal) (φ := .f32) (hostMs X hc h0 hr hu))))
    (mulf X (hostZ X D hc h0 hr hu hs hr1 hf))) (mulf (hostZ X D hc h0 hr hu hs hr1 hf) X)

theorem ms_host : hostMs (lift f) hc h0 hr hu = lift (s := FullC) (ms f) := by
  unfold hostMs
  rw [mulf_lift, hostReduce_cols, bInDim_0, k_2048, k_eps, div_2048, addf_lift]; rfl

theorem rr_host : Host.rsqrt (F := Ideal) (φ := .f32) (lift (s := FullC) (ms f)) = lift (s := FullC) (rr f) :=
  hostRsqrt_lift _ fun i => ms_pos f i

theorem nm_host : hostNm (lift f) hc h0 hr hu hb = lift (s := Full) (nm f) := by
  unfold hostNm
  rw [ms_host, rr_host, bInDim_col, mulf_lift]; rfl

theorem back_host : hostBack (lift f) (lift d) hc h0 hr hu hb hs hr1 hf = lift (s := Full) (back f d) := by
  unfold hostBack hostZ
  rw [ms_host, rr_host, bInDim_col, hostDivf_lift (s := FullC) (rr f) (ms f) fun i => (ms_pos f i).ne', k_neghalf, mulf_lift, mulf_lift, mulf_lift, hostReduce_cols, shapeCast_col,
    mulf_lift, k_2048, div_2048, hostReduce_cols, bInDim_0, mulf_lift, mulf_lift, addf_lift, addf_lift]
  refine lift_congr fun i _ => ?_
  rw [Finset.sum_range_one]
  exact back_eq f d i (by funext a; fin_cases a <;> rfl)

theorem gain_host (h : Gain.BroadcastsInDim Full ![0, 1]) :
    mulf (F := Ideal) (φ := .f32) (lift (s := Full) f) (broadcastInDim Full ![0, 1] h (lift (s := Gain) d)) = lift (s := Full) fun i => f i * d ![0, i 1] := by
  rw [bInDim_row, mulf_lift]

theorem rows_host :
    shapeCast Gain (Host.reduceAdd (F := Ideal) (φ := .f32) (mulf (lift (s := Full) f) (lift d)) (constant Sc .f32 0x00000000#32) hr0 hu) hg
      = lift (s := Gain) fun i => ∑ k ∈ Finset.range 2048, f ![k, i 1] * d ![k, i 1] := by
  rw [mulf_lift, hostReduce_rows, shapeCast_row]; rfl

end host

/-! ## Blocks of an array -/

theorem row_at {X : Full.Idx → EReal} {f : (Fin 2 → ℕ) → ℝ} (hX : X = lift f) (t : ℕ) (k : Full.Idx) (j : Blk.Idx)
    (h0 : (k 0).val = 256 * t + (j 0).val) (h1 : (k 1).val = (j 1).val) : X k = lift (s := Blk) (blk t f) j := by
  rw [hX]
  refine lift_at _ _ _ _ (congrArg f ?_)
  funext a; fin_cases a
  · exact h0
  · exact h1

theorem gain_at {X : Gain.Idx → EReal} {f : (Fin 2 → ℕ) → ℝ} (hX : X = lift f) (k j : Gain.Idx)
    (h0 : (k 0).val = (j 0).val) (h1 : (k 1).val = (j 1).val) : X k = lift (s := Gain) f j := by
  rw [hX]
  refine lift_at _ _ _ _ (congrArg f ?_)
  funext a; fin_cases a
  · exact h0
  · exact h1

end Cert.Norm
end
-- ==== Proof.Rows.lean ====
/-
  The norm without a mean over rows of 2048, on arrays of extended reals: what the programs' operations compute on blocks
  of 256 rows and on all 2048 rows, no entry assumed finite.
-/
module
public import proofs.«01_k».proof.Proof.Norm
@[expose] public section
set_option maxRecDepth 16384
noncomputable section
namespace Cert.Norm
open Cert.Sgu Cert.Sgu.Ref Idealize.ShloMosaic Idealize.ShloMosaic.ValueIdx
open scoped BigOperators

/-- The array that `f` gives at the indices' coordinates. -/
def ext {s : Shape} (f : (Fin s.rank → ℕ) → EReal) : s.Idx → EReal := fun i => f fun a => (i a).val
/-- The function of the coordinates that an array gives. -/
def entries {s : Shape} (X : s.Idx → EReal) (i : Fin s.rank → ℕ) : EReal := if h : ∀ a, i a < s.size a then X fun a => ⟨i a, h a⟩ else 0

theorem ext_entries {s : Shape} (X : s.Idx → EReal) : X = ext (entries X) := by
  funext i; unfold ext entries; rw [dif_pos fun a => (i a).isLt]

/-! ## The operations -/

theorem ext_broadcastTo_col {a b : ℕ} (h : (⟨2, ![a, 1]⟩ : Shape).Broadcasts ⟨2, ![a, b]⟩) (f : (Fin 2 → ℕ) → EReal) :
    broadcastTo ⟨2, ![a, b]⟩ (ext (s := ⟨2, ![a, 1]⟩) f) h = ext (s := ⟨2, ![a, b]⟩) fun i => f ![i 0, 0] := by
  funext j
  rw [broadcastTo_apply _ h j (ix2 (j 0) 0)]
  · unfold ext; congr 1; funext d; fin_cases d <;> rfl
  · intro d
    have := idx2_lt0 j
    fin_cases d
    · show (j 0).val = if a = 1 then 0 else (j 0).val
      split <;> omega
    · rfl

theorem ext_broadcastTo_row {a b : ℕ} (h : (⟨2, ![1, b]⟩ : Shape).Broadcasts ⟨2, ![a, b]⟩) (f : (Fin 2 → ℕ) → EReal) :
    broadcastTo ⟨2, ![a, b]⟩ (ext (s := ⟨2, ![1, b]⟩) f) h = ext (s := ⟨2, ![a, b]⟩) fun i => f ![0, i 1] := by
  funext j
  rw [broadcastTo_apply _ h j (ix2 0 (j 1))]
  · unfold ext; congr 1; funext d; fin_cases d <;> rfl
  · intro d
    have := idx2_lt1 j
    fin_cases d
    · rfl
    · show (j 1).val = if b = 1 then 0 else (j 1).val
      split <;> omega

theorem ext_shapeCast_col {a : ℕ} (h : (⟨1, ![a]⟩ : Shape).ShapeCasts ⟨2, ![a, 1]⟩) (f : (Fin 1 → ℕ) → EReal) :
    shapeCast ⟨2, ![a, 1]⟩ (ext (s := ⟨1, ![a]⟩) f) h = ext (s := ⟨2, ![a, 1]⟩) fun i => f ![i 0] := by
  funext j
  rw [shapeCast_apply _ h j (ix1 (j 0))]
  · unfold ext; congr 1; funext d; fin_cases d; rfl
  · have := idx2_lt1 j
    simp only [Shape.rowMajor_val_one, Shape.rowMajor_val_two]
    show (j 0).val = (j 0).val * 1 + (j 1).val
    omega

theorem ext_bInDim_0 {a b : ℕ} (h : (⟨1, ![a]⟩ : Shape).BroadcastsInDim ⟨2, ![a, b]⟩ ![0]) (f : (Fin 1 → ℕ) → EReal) :
    broadcastInDim ⟨2, ![a, b]⟩ ![0] h (ext (s := ⟨1, ![a]⟩) f) = ext (s := ⟨2, ![a, b]⟩) fun i => f ![i 0] := by
  funext j
  rw [broadcastInDim_apply _ h _ j (ix1 (j 0))]
  · refine congrArg f ?_; funext d; fin_cases d; rfl
  · intro d
    have := idx2_lt0 j
    fin_cases d
    show (j 0).val = if a = 1 then 0 else (j 0).val
    split <;> omega

theorem ext_bInDim_col {a b : ℕ} (h : (⟨2, ![a, 1]⟩ : Shape).BroadcastsInDim ⟨2, ![a, b]⟩ ![0, 1]) (f : (Fin 2 → ℕ) → EReal) :
    broadcastInDim ⟨2, ![a, b]⟩ ![0, 1] h (ext (s := ⟨2, ![a, 1]⟩) f) = ext (s := ⟨2, ![a, b]⟩) fun i => f ![i 0, 0] := by
  funext j
  rw [broadcastInDim_apply _ h _ j (ix2 (j 0) 0)]
  · refine congrArg f ?_; funext d; fin_cases d <;> rfl
  · intro d
    have := idx2_lt0 j
    fin_cases d
    · show (j 0).val = if a = 1 then 0 else (j 0).val
      split <;> omega
    · rfl

theorem ext_bInDim_row {a b : ℕ} (h : (⟨2, ![1, b]⟩ : Shape).BroadcastsInDim ⟨2, ![a, b]⟩ ![0, 1]) (f : (Fin 2 → ℕ) → EReal) :
    broadcastInDim ⟨2, ![a, b]⟩ ![0, 1] h (ext (s := ⟨2, ![1, b]⟩) f) = ext (s := ⟨2, ![a, b]⟩) fun i => f ![0, i 1] := by
  funext j
  rw [broadcastInDim_apply _ h _ j (ix2 0 (j 1))]
  · refine congrArg f ?_; funext d; fin_cases d <;> rfl
  · intro d
    have := idx2_lt1 j
    fin_cases d
    · rfl
    · show (j 1).val = if b = 1 then 0 else (j 1).val
      split <;> omega

theorem ext_reduce_cols {a b : ℕ} (acc : BitVec (FTy.f32).bits) (h : (⟨2, ![a, b]⟩ : Shape).Reduces [1] ⟨1, ![a]⟩)
    (hφ : FKind.Formats .f32) (hacc : acc = FKind.add.neutral .f32 hφ) (f : (Fin 2 → ℕ) → EReal) :
    multiReduction (F := Ideal) (φ := .f32) .add [1] ⟨1, ![a]⟩ (ext (s := ⟨2, ![a, b]⟩) f) acc h hφ hacc
      = ext (s := ⟨1, ![a]⟩) fun i => ∑ k : Fin b, f ![i 0, k.val] := by
  funext j
  rw [Ideal.multiReduction_add_single]
  refine Finset.sum_congr rfl fun k _ => ?_
  unfold ext; congr 1; funext d; fin_cases d <;> rfl

theorem ext_hostReduce_cols {a b : ℕ} {u : Shape} (h : (⟨2, ![a, b]⟩ : Shape).ReducesTo [1] ⟨1, ![a]⟩) (hu : 0 < u.numel) (f : (Fin 2 → ℕ) → EReal) :
    Host.reduceAdd (F := Ideal) (φ := .f32) (ext (s := ⟨2, ![a, b]⟩) f) (constant u .f32 0x00000000#32) h hu
      = ext (s := ⟨1, ![a]⟩) fun i => ∑ k : Fin b, f ![i 0, k.val] := by
  funext j
  show Ideal.hostReduceAdd h (ext f) (Ideal.ofBits .f32 0x00000000#32) j = _
  rw [ofBits_zero, Ideal.hostReduceAdd_single h ⟨h.1, Nat.one_pos, h.2⟩, EReal.coe_zero, zero_add]
  refine Finset.sum_congr rfl fun k _ => ?_
  unfold ext; congr 1; funext d; fin_cases d <;> rfl

/-! ## The norm -/

/-- The reciprocal root of a row's mean square. -/
def rre (f : (Fin 2 → ℕ) → EReal) (i : Fin 2 → ℕ) : EReal :=
  Ideal.rsqrt (Ideal.div (∑ k : Fin 2048, f ![i 0, k.val] * f ![i 0, k.val]) (Ideal.ofBits .f32 0x45000000#32) + Ideal.ofBits .f32 0x358637BD#32)
/-- The normalised rows, times the gain. -/
def nme (f g : (Fin 2 → ℕ) → EReal) (i : Fin 2 → ℕ) : EReal := f i * rre f i * g ![0, i 1]
/-- A block of 256 rows. -/
def blke (t : ℕ) (f : (Fin 2 → ℕ) → EReal) (i : Fin 2 → ℕ) : EReal := f ![256 * t + i 0, i 1]

theorem ext_dev (f g : (Fin 2 → ℕ) → EReal) (hφ : FKind.Formats .f32) (hacc : (0x00000000#32 : BitVec (FTy.f32).bits) = FKind.add.neutral .f32 hφ)
    (hr : Blk.Reduces [1] BlkV) (hs : BlkV.ShapeCasts BlkC) (h : BlkC.Broadcasts Blk) (h' : Gain.Broadcasts Blk) :
    mulf (F := Ideal) (φ := .f32) (mulf (ext (s := Blk) f) (broadcastTo Blk (rsqrt (F := Ideal) (φ := .f32) (addf (divf (shapeCast BlkC
      (multiReduction .add [1] BlkV (mulf (ext (s := Blk) f) (ext f)) 0x00000000#32 hr hφ hacc) hs)
      (broadcast BlkC (Scalar.ofBits .f32 0x45000000#32))) (broadcast BlkC (Scalar.ofBits .f32 0x358637BD#32)))) h)) (broadcastTo Blk (ext (s := Gain) g) h')
      = ext (s := Blk) (nme f g) := by
  rw [show mulf (F := Ideal) (φ := .f32) (ext (s := Blk) f) (ext f) = ext (s := Blk) fun i => f i * f i from rfl, ext_reduce_cols, ext_shapeCast_col]
  rw [show rsqrt (F := Ideal) (φ := .f32) (addf (divf (ext (s := BlkC) fun i => ∑ k : Fin 2048, f ![(![i 0] : Fin 1 → ℕ) 0, k.val] * f ![(![i 0] : Fin 1 → ℕ) 0, k.val])
    (broadcast BlkC (Scalar.ofBits .f32 0x45000000#32))) (broadcast BlkC (Scalar.ofBits .f32 0x358637BD#32))) = ext (s := BlkC) (rre f) from rfl,
    ext_broadcastTo_col, ext_broadcastTo_row]
  rfl

theorem ext_host (f g : (Fin 2 → ℕ) → EReal) (hc : Sc.BroadcastsInDim FullC ![]) (h0 : Vec2k.BroadcastsInDim FullC ![0]) (hr : Full.ReducesTo [1] Vec2k)
    (hu : 0 < Sc.numel) (hb : FullC.BroadcastsInDim Full ![0, 1]) (h : Gain.BroadcastsInDim Full ![0, 1]) :
    mulf (F := Ideal) (φ := .f32) (hostNm (ext f) hc h0 hr hu hb) (broadcastInDim Full ![0, 1] h (ext (s := Gain) g)) = ext (s := Full) (nme f g) := by
  unfold hostNm hostMs
  rw [show mulf (F := Ideal) (φ := .f32) (ext (s := Full) f) (ext f) = ext (s := Full) fun i => f i * f i from rfl, ext_hostReduce_cols, ext_bInDim_0]
  rw [show Host.rsqrt (F := Ideal) (φ := .f32) (addf (Host.divf (ext (s := FullC) fun i => ∑ k : Fin 2048, f ![(![i 0] : Fin 1 → ℕ) 0, k.val] * f ![(![i 0] : Fin 1 → ℕ) 0, k.val])
    (broadcastInDim FullC ![] hc (constant Sc .f32 0x45000000#32))) (broadcastInDim FullC ![] hc (constant Sc .f32 0x358637BD#32))) = ext (s := FullC) (rre f) from rfl,
    ext_bInDim_col, ext_bInDim_row]
  rfl

theorem ext_row_at {X : Full.Idx → EReal} {f : (Fin 2 → ℕ) → EReal} (hX : X = ext f) (t : ℕ) (k : Full.Idx) (j : Blk.Idx)
    (h0 : (k 0).val = 256 * t + (j 0).val) (h1 : (k 1).val = (j 1).val) : X k = ext (s := Blk) (blke t f) j := by
  rw [hX]
  refine congrArg f ?_
  funext a; fin_cases a
  · exact h0
  · exact h1

theorem ext_gain_at {X : Gain.Idx → EReal} {f : (Fin 2 → ℕ) → EReal} (hX : X = ext f) (k j : Gain.Idx)
    (h0 : (k 0).val = (j 0).val) (h1 : (k 1).val = (j 1).val) : X k = ext (s := Gain) f j := by
  rw [hX]
  refine congrArg f ?_
  funext a; fin_cases a
  · exact h0
  · exact h1

end Cert.Norm
end
-- ==== Proof.PreNorm.lean ====
/-
  The first block's norm: the rows normalised, times the gain, from any arguments.
-/
module
public import proofs.«01_k».proof.Proof.Gen.KernelPreNorm
public import proofs.«01_k».proof.Proof.Gen.KernelPreNorm.Frame
public import proofs.«01_k».proof.Proof.Gen.KernelPreNormIdeal.Frame
public import proofs.«01_k».proof.Proof.Gen.ReferencePreNormIdeal
public import proofs.«01_k».proof.Proof.Gen.ReferencePreNormIdeal.Run
public import proofs.«01_k».proof.Proof.Rows
public import proofs.«01_k».proof.Defs
public import Idealize.ShloMosaic.Lib.Pipeline.ValueKit
@[expose] public section
set_option maxRecDepth 16384
set_option maxHeartbeats 0
noncomputable section
namespace Cert.Norm.PreNorm
open Cert.Norm Cert.KernelPreNormIdeal Cert.KernelPreNormIdeal.Gen Idealize.ShloMosaic Idealize.ShloMosaic.TcCoe Idealize.SL.Sem
open Idealize.ShloMosaic.Pipeline (Dat)

/-- The arguments as functions of the coordinates. -/
structure In where
  x : (Fin 2 → ℕ) → EReal
  g : (Fin 2 → ℕ) → EReal

/-- The normalised rows. -/
def h (a : In) : (Fin 2 → ℕ) → EReal := nme a.x a.g

/-! ## One block -/

theorem pay1 (f g : (Fin 2 → ℕ) → EReal) : k0_pay1 (F := Ideal) (ext f) (ext g) = ext (nme f g) := ext_dev f g _ _ _ _ _ _

/-! ## The arrays -/

variable (m : (ℓ : Loc nD τ sig) → Buf (Elt Ideal) ℓ)

/-- The arguments hold `a`. -/
structure Holds (c : Dev nD) (a : In) : Prop where
  x : m ((c.tc : Thread nD τ).loc main_arg0) = ext (s := S2048x2048) a.x
  g : m ((c.tc : Thread nD τ).loc main_arg1) = ext (s := S1x2048) a.g

/-- The row blocks' windows. -/
theorem idxR : ∀ t : Fin cfg0.N, win0_0.index t = ![t.val, 0] ∧ win0_2.index t = ![t.val, 0] :=
  (by decide +kernel : ∀ t : Fin grid0.N, win0_0.index t = ![t.val, 0] ∧ win0_2.index t = ![t.val, 0])
/-- The gains' windows. -/
theorem idxG : ∀ t : Fin cfg0.N, win0_1.index t = ![0, 0] ∧ win0_1.index t = ![0, 0] :=
  (by decide +kernel : ∀ t : Fin grid0.N, win0_1.index t = ![0, 0] ∧ win0_1.index t = ![0, 0])

variable {m} {c : Dev nD} {a : In} (H : Holds m c a) (t : Fin cfg0.N)
include H

theorem iblk0 : iblk m c 0 t = ext (s := S256x2048) (blke t.val a.x) := by
  funext j
  unfold iblk
  rw [View.read_apply]
  refine ext_row_at H.x t.val _ j ?_ ?_
  · show win0_0.index t 0 * 256 + 1 * (j 0).val = _; rw [(idxR t).1]; show t.val * 256 + _ = _; omega
  · show win0_0.index t 1 * 2048 + 1 * (j 1).val = _; rw [(idxR t).1]; show 0 * 2048 + _ = _; omega

theorem iblk1 : iblk m c 1 t = ext (s := S1x2048) a.g := by
  funext j
  unfold iblk
  rw [View.read_apply]
  refine ext_gain_at H.g _ j ?_ ?_
  · show win0_1.index t 0 * 1 + 1 * (j 0).val = _; rw [(idxG t).1]; show 0 * 1 + _ = _; omega
  · show win0_1.index t 1 * 2048 + 1 * (j 1).val = _; rw [(idxG t).1]; show 0 * 2048 + _ = _; omega

theorem final2 : (dats m 0 c).arrAt 2 cfg0.N = ext (s := S2048x2048) (h a) := by
  refine (dats m 0 c).arrAt_eq_of_covers 2 _ (by decide +kernel) fun t hf y => ?_
  have e := (idxR t).2
  rw [after0_2, show out0_2 (F := Ideal) (iblk m c 0 t) (iblk m c 1 t) = k0_pay1 (F := Ideal) (iblk m c 0 t) (iblk m c 1 t) by frame_out, iblk0 H, iblk1 H, pay1]
  refine Eq.symm (ext_row_at (f := h a) rfl t.val _ _ ?_ ?_)
  · show win0_2.index t 0 * 256 + 1 * (y 0).val = 256 * t.val + (y 0).val; rw [e]; show t.val * 256 + _ = _; omega
  · show win0_2.index t 1 * 2048 + 1 * (y 1).val = (y 1).val; rw [e]; show 0 * 2048 + _ = _; omega

omit H
/-! ## The claim -/

/-- What a device's arrays hold. -/
def args (m : (ℓ : Loc nD τ sig) → Buf (Elt Ideal) ℓ) (c : Dev nD) : In :=
  ⟨entries (s := S2048x2048) (m ((c.tc : Thread nD τ).loc main_arg0)), entries (s := S1x2048) (m ((c.tc : Thread nD τ).loc main_arg1))⟩

section forms
open Cert.ReferencePreNormIdeal.Gen

/-- The reference's normalised rows. -/
theorem ref_0 (a : In) : truncf (F := Ideal) .bf16 (mulf (F := Ideal) (φ := .f32) (hostNm (ext a.x) bcast_S_S2048x1 bcast_S2048_S2048x1_0 reducesTo_S2048x2048_S2048_d1
      ReferencePreNormIdeal.Gen.h_S_ bcast_S2048x1_S2048x2048_0_1)
      (broadcastInDim Full ![0, 1] bcast_S1x2048_S2048x2048_0_1 (ext (s := Gain) a.g))) ReferencePreNormIdeal.Gen.bitsLt_bf16_f32 = ext (s := Full) (h a) := by
  rw [ext_host]; rfl

end forms

theorem value : Cert.algebraic_KernelPreNormIdeal_ReferencePreNormIdeal := by
  intro m g m' g' _ same
  have H : ∀ c, Holds m c (args m c) := fun c => ⟨ext_entries _, ext_entries _⟩
  refine ⟨fun c => ext (s := S2048x2048) (h (args m c)), ?_, ?_⟩
  · refine (θ_run defs _ _).mono (fun r h c => ?_) (θ_run_and (run_main m g) (Cert.KernelPreNormIdeal.Gen.frame m g))
    exact ⟨((h.1 c).1 2).trans (final2 (H c)), h.2.1 c⟩
  · refine (θ_run _ _ _).mono (fun r h c => ?_) (ReferencePreNormIdeal.Value.run (F := Ideal) m' g')
    have E0 := (same c).1.trans (H c).x
    have E1 := (same c).2.trans (H c).g
    have h0 := (h c).1
    rw [E0, E1] at h0
    exact ⟨h0.trans (ref_0 (args m c)), (h c).2⟩

end Cert.Norm.PreNorm
end
-- ==== Proof.PostPre.lean ====
/-
  Between two blocks: the norm on the block's result joins the rows, and their norm goes to the next block, from any
  arguments.
-/
module
public import proofs.«01_k».proof.Proof.Gen.KernelPostPre
public import proofs.«01_k».proof.Proof.Gen.KernelPostPre.Frame
public import proofs.«01_k».proof.Proof.Gen.KernelPostPreIdeal.Frame
public import proofs.«01_k».proof.Proof.Gen.ReferencePostPreIdeal
public import proofs.«01_k».proof.Proof.Gen.ReferencePostPreIdeal.Run
public import proofs.«01_k».proof.Proof.Rows
public import proofs.«01_k».proof.Defs
public import Idealize.ShloMosaic.Lib.Pipeline.ValueKit
@[expose] public section
set_option maxRecDepth 16384
set_option maxHeartbeats 0
noncomputable section
namespace Cert.Norm.PostPre
open Cert.Norm Cert.KernelPostPreIdeal Cert.KernelPostPreIdeal.Gen Idealize.ShloMosaic Idealize.ShloMosaic.TcCoe Idealize.SL.Sem
open Idealize.ShloMosaic.Pipeline (Dat)

/-- The arguments as functions of the coordinates. -/
structure In where
  x : (Fin 2 → ℕ) → EReal
  y : (Fin 2 → ℕ) → EReal
  pg : (Fin 2 → ℕ) → EReal
  ng : (Fin 2 → ℕ) → EReal

/-- The rows between the blocks. -/
def xo (a : In) (i : Fin 2 → ℕ) : EReal := a.x i + nme a.y a.pg i
/-- Their norm. -/
def h (a : In) : (Fin 2 → ℕ) → EReal := nme (xo a) a.ng

/-! ## One block -/

theorem pay1 (y x g : (Fin 2 → ℕ) → EReal) : k0_pay1 (F := Ideal) (ext y) (ext x) (ext g) = ext fun i => x i + nme y g i :=
  congrArg (addf (F := Ideal) (φ := .f32) (ext (s := S256x2048) x)) (ext_dev y g _ _ _ _ _ _)
theorem pay2 (y x g n : (Fin 2 → ℕ) → EReal) : k0_pay2 (F := Ideal) (ext y) (ext x) (ext g) (ext n) = ext (nme (fun i => x i + nme y g i) n) := by
  unfold k0_pay2
  rw [pay1]
  exact ext_dev (fun i => x i + nme y g i) n _ _ _ _ _ _

/-! ## The arrays -/

variable (m : (ℓ : Loc nD τ sig) → Buf (Elt Ideal) ℓ)

/-- The arguments hold `a`. -/
structure Holds (c : Dev nD) (a : In) : Prop where
  x : m ((c.tc : Thread nD τ).loc main_arg0) = ext (s := S2048x2048) a.x
  y : m ((c.tc : Thread nD τ).loc main_arg1) = ext (s := S2048x2048) a.y
  pg : m ((c.tc : Thread nD τ).loc main_arg2) = ext (s := S1x2048) a.pg
  ng : m ((c.tc : Thread nD τ).loc main_arg3) = ext (s := S1x2048) a.ng

/-- The row blocks' windows. -/
theorem idxR : ∀ t : Fin cfg0.N, win0_0.index t = ![t.val, 0] ∧ win0_1.index t = ![t.val, 0] ∧ win0_4.index t = ![t.val, 0] ∧ win0_5.index t = ![t.val, 0] :=
  (by decide +kernel : ∀ t : Fin grid0.N, win0_0.index t = ![t.val, 0] ∧ win0_1.index t = ![t.val, 0] ∧ win0_4.index t = ![t.val, 0] ∧ win0_5.index t = ![t.val, 0])
/-- The gains' windows. -/
theorem idxG : ∀ t : Fin cfg0.N, win0_2.index t = ![0, 0] ∧ win0_3.index t = ![0, 0] :=
  (by decide +kernel : ∀ t : Fin grid0.N, win0_2.index t = ![0, 0] ∧ win0_3.index t = ![0, 0])

variable {m} {c : Dev nD} {a : In} (H : Holds m c a) (t : Fin cfg0.N)
include H

theorem iblk0 : iblk m c 0 t = ext (s := S256x2048) (blke t.val a.x) := by
  funext j
  unfold iblk
  rw [View.read_apply]
  refine ext_row_at H.x t.val _ j ?_ ?_
  · show win0_0.index t 0 * 256 + 1 * (j 0).val = _; rw [(idxR t).1]; show t.val * 256 + _ = _; omega
  · show win0_0.index t 1 * 2048 + 1 * (j 1).val = _; rw [(idxR t).1]; show 0 * 2048 + _ = _; omega

theorem iblk1 : iblk m c 1 t = ext (s := S256x2048) (blke t.val a.y) := by
  funext j
  unfold iblk
  rw [View.read_apply]
  refine ext_row_at H.y t.val _ j ?_ ?_
  · show win0_1.index t 0 * 256 + 1 * (j 0).val = _; rw [(idxR t).2.1]; show t.val * 256 + _ = _; omega
  · show win0_1.index t 1 * 2048 + 1 * (j 1).val = _; rw [(idxR t).2.1]; show 0 * 2048 + _ = _; omega

theorem iblk2 : iblk m c 2 t = ext (s := S1x2048) a.pg := by
  funext j
  unfold iblk
  rw [View.read_apply]
  refine ext_gain_at H.pg _ j ?_ ?_
  · show win0_2.index t 0 * 1 + 1 * (j 0).val = _; rw [(idxG t).1]; show 0 * 1 + _ = _; omega
  · show win0_2.index t 1 * 2048 + 1 * (j 1).val = _; rw [(idxG t).1]; show 0 * 2048 + _ = _; omega

theorem iblk3 : iblk m c 3 t = ext (s := S1x2048) a.ng := by
  funext j
  unfold iblk
  rw [View.read_apply]
  refine ext_gain_at H.ng _ j ?_ ?_
  · show win0_3.index t 0 * 1 + 1 * (j 0).val = _; rw [(idxG t).2]; show 0 * 1 + _ = _; omega
  · show win0_3.index t 1 * 2048 + 1 * (j 1).val = _; rw [(idxG t).2]; show 0 * 2048 + _ = _; omega

theorem final4 : (dats m 0 c).arrAt 4 cfg0.N = ext (s := S2048x2048) (xo a) := by
  refine (dats m 0 c).arrAt_eq_of_covers 4 _ (by decide +kernel) fun t hf y => ?_
  have e := (idxR t).2.2.1
  rw [after0_4, show out0_4 (F := Ideal) (iblk m c 0 t) (iblk m c 1 t) (iblk m c 2 t) (iblk m c 3 t) = k0_pay1 (F := Ideal) (iblk m c 1 t) (iblk m c 0 t) (iblk m c 2 t) by frame_out, iblk0 H, iblk1 H, iblk2 H, pay1]
  refine Eq.symm (ext_row_at (f := xo a) rfl t.val _ _ ?_ ?_)
  · show win0_4.index t 0 * 256 + 1 * (y 0).val = 256 * t.val + (y 0).val; rw [e]; show t.val * 256 + _ = _; omega
  · show win0_4.index t 1 * 2048 + 1 * (y 1).val = (y 1).val; rw [e]; show 0 * 2048 + _ = _; omega

theorem final5 : (dats m 0 c).arrAt 5 cfg0.N = ext (s := S2048x2048) (h a) := by
  refine (dats m 0 c).arrAt_eq_of_covers 5 _ (by decide +kernel) fun t hf y => ?_
  have e := (idxR t).2.2.2
  rw [after0_5, show out0_5 (F := Ideal) (iblk m c 0 t) (iblk m c 1 t) (iblk m c 2 t) (iblk m c 3 t) = k0_pay2 (F := Ideal) (iblk m c 1 t) (iblk m c 0 t) (iblk m c 2 t) (iblk m c 3 t) by frame_out, iblk0 H, iblk1 H, iblk2 H, iblk3 H, pay2]
  refine Eq.symm (ext_row_at (f := h a) rfl t.val _ _ ?_ ?_)
  · show win0_5.index t 0 * 256 + 1 * (y 0).val = 256 * t.val + (y 0).val; rw [e]; show t.val * 256 + _ = _; omega
  · show win0_5.index t 1 * 2048 + 1 * (y 1).val = (y 1).val; rw [e]; show 0 * 2048 + _ = _; omega

omit H
/-! ## The claim -/

/-- What a device's arrays hold. -/
def args (m : (ℓ : Loc nD τ sig) → Buf (Elt Ideal) ℓ) (c : Dev nD) : In :=
  ⟨entries (s := S2048x2048) (m ((c.tc : Thread nD τ).loc main_arg0)), entries (s := S2048x2048) (m ((c.tc : Thread nD τ).loc main_arg1)), entries (s := S1x2048) (m ((c.tc : Thread nD τ).loc main_arg2)), entries (s := S1x2048) (m ((c.tc : Thread nD τ).loc main_arg3))⟩

section forms
open Cert.ReferencePostPreIdeal.Gen

/-- The reference's rows between the blocks. -/
abbrev refX (a : In) : Full.Idx → EReal := addf (F := Ideal) (φ := .f32) (ext (s := Full) a.x) (mulf (F := Ideal) (φ := .f32) (hostNm (ext a.y) bcast_S_S2048x1 bcast_S2048_S2048x1_0 reducesTo_S2048x2048_S2048_d1
      ReferencePostPreIdeal.Gen.h_S_ bcast_S2048x1_S2048x2048_0_1)
      (broadcastInDim Full ![0, 1] bcast_S1x2048_S2048x2048_0_1 (ext (s := Gain) a.pg)))

theorem ref_0 (a : In) : refX a = ext (s := Full) (xo a) := by
  unfold refX; rw [ext_host]; rfl

/-- The reference's norm of them. -/
theorem ref_1 (a : In) : truncf (F := Ideal) .bf16 (mulf (F := Ideal) (φ := .f32) (hostNm (refX a) bcast_S_S2048x1 bcast_S2048_S2048x1_0 reducesTo_S2048x2048_S2048_d1
      ReferencePostPreIdeal.Gen.h_S_ bcast_S2048x1_S2048x2048_0_1)
      (broadcastInDim Full ![0, 1] bcast_S1x2048_S2048x2048_0_1 (ext (s := Gain) a.ng))) ReferencePostPreIdeal.Gen.bitsLt_bf16_f32 = ext (s := Full) (h a) := by
  rw [ref_0, ext_host]; rfl

end forms

theorem value : Cert.algebraic_KernelPostPreIdeal_ReferencePostPreIdeal := by
  intro m g m' g' _ same
  have H : ∀ c, Holds m c (args m c) := fun c => ⟨ext_entries _, ext_entries _, ext_entries _, ext_entries _⟩
  refine ⟨fun c => ext (s := S2048x2048) (xo (args m c)), fun c => ext (s := S2048x2048) (h (args m c)), ?_, ?_⟩
  · refine (θ_run defs _ _).mono (fun r h c => ?_) (θ_run_and (run_main m g) (Cert.KernelPostPreIdeal.Gen.frame m g))
    exact ⟨((h.1 c).1 4).trans (final4 (H c)), ((h.1 c).1 5).trans (final5 (H c)), h.2.1 c⟩
  · refine (θ_run _ _ _).mono (fun r h c => ?_) (ReferencePostPreIdeal.Value.run (F := Ideal) m' g')
    have E0 := (same c).1.trans (H c).x
    have E1 := (same c).2.1.trans (H c).y
    have E2 := (same c).2.2.1.trans (H c).pg
    have E3 := (same c).2.2.2.trans (H c).ng
    have h0 := (h c).1
    rw [E0, E1, E2] at h0
    have h1 := (h c).2.1
    rw [E0, E1, E2, E3] at h1
    exact ⟨h0.trans (ref_0 (args m c)), h1.trans (ref_1 (args m c)), (h c).2.2⟩

end Cert.Norm.PostPre
end
-- ==== Proof.LossHead.lean ====
/-
  The loss: half the sum over the rows of the mean squared error of the last block's output, its gradient, and the
  gradient through the norm on the last block's result, with the gain's, over eight blocks of 256 rows.
-/
module
public import proofs.«01_k».proof.Proof.Gen.KernelLossHead
public import proofs.«01_k».proof.Proof.Gen.KernelLossHead.Frame
public import proofs.«01_k».proof.Proof.Gen.KernelLossHeadIdeal.Frame
public import proofs.«01_k».proof.Proof.Gen.ReferenceLossHeadIdeal
public import proofs.«01_k».proof.Proof.Gen.ReferenceLossHeadIdeal.Run
public import proofs.«01_k».proof.Proof.Gen.Pre_loss_finite
public import proofs.«01_k».proof.Proof.Finite
public import proofs.«01_k».proof.Proof.Norm
public import proofs.«01_k».proof.Defs
public import Idealize.ShloMosaic.Lib.Pipeline.ValueKit
public import Idealize.ShloMosaic.Lib.StableHlo.RunRead
@[expose] public section
set_option maxRecDepth 16384
set_option maxHeartbeats 0
noncomputable section
namespace Cert.Norm.LossHead
open Cert.Sgu Cert.Sgu.Ref Cert.Norm Cert.KernelLossHeadIdeal Cert.KernelLossHeadIdeal.Gen Idealize.ShloMosaic Idealize.ShloMosaic.TcCoe Idealize.SL.Sem
open Idealize.ShloMosaic.Pipeline (Dat)
open scoped BigOperators

/-- The arguments as real functions of the coordinates. -/
structure In where
  x : (Fin 2 → ℕ) → ℝ
  y : (Fin 2 → ℕ) → ℝ
  g : (Fin 2 → ℕ) → ℝ
  tg : (Fin 2 → ℕ) → ℝ

/-- The error, from the rows, the last result, the gain and the target. -/
def errF (x y g tg : (Fin 2 → ℕ) → ℝ) (i : Fin 2 → ℕ) : ℝ := x i + nm y i * g ![0, i 1] - tg i
def err (a : In) : (Fin 2 → ℕ) → ℝ := errF a.x a.y a.g a.tg
/-- The gradient of the output. -/
def dx (a : In) (i : Fin 2 → ℕ) : ℝ := err a i * (1 / 2048)
/-- The gradient of the last block's result. -/
def dy (a : In) (i : Fin 2 → ℕ) : ℝ := back a.y (fun i => dx a i * a.g ![0, i 1]) i
/-- A row's mean squared error. -/
def se (f : (Fin 2 → ℕ) → ℝ) (k : ℕ) : ℝ := (∑ j ∈ Finset.range 2048, f ![k, j] * f ![k, j]) / 2048
/-- A block's share of the loss. -/
def ls (a : In) (s : ℕ) : ℝ := 1 / 2 * ∑ k ∈ Finset.range 256, se (err a) (256 * s + k)
/-- A block's share of the gain's gradient. -/
def dg (a : In) (s : ℕ) (i : Fin 2 → ℕ) : ℝ := ∑ k ∈ Finset.range 256, dx a ![256 * s + k, i 1] * nm a.y ![256 * s + k, i 1]

/-! ## One block -/

theorem of_rcp : Scalar.ofBits (F := Ideal) .f32 0x3A000000#32 = ((1 / 2048 : ℝ) : EReal) := by
  simp [Scalar.ofBits, Ideal.ofBits, Ideal.ieee, -EReal.coe_mul]; norm_num

theorem pay1 (f p : (Fin 2 → ℕ) → ℝ) : k0_pay1 (F := Ideal) (lift f) (lift p) = lift fun i => p i + f i := by
  unfold k0_pay1; rw [shapeCast_self]; exact addf_lift _ _
theorem pay2 (n d : (Fin 2 → ℕ) → ℝ) : k0_pay2 (F := Ideal) (lift n) (lift d) = lift fun i => ∑ k ∈ Finset.range 256, d ![k, i 1] * n ![k, i 1] := by
  unfold k0_pay2; exact dev_rows d n _ _ _ _
theorem pay3 (n d p : (Fin 2 → ℕ) → ℝ) : k0_pay3 (F := Ideal) (lift n) (lift d) (lift p)
    = lift fun i => p i + ∑ k ∈ Finset.range 256, d ![k, i 1] * n ![k, i 1] := by
  unfold k0_pay3; rw [pay2, shapeCast_self]; exact addf_lift _ _
theorem pay4 (f d g : (Fin 2 → ℕ) → ℝ) : k0_pay4 (F := Ideal) (lift (rr f)) (lift (nm f)) (lift d) (lift g) = lift (back f fun i => d i * g ![0, i 1]) := by
  unfold k0_pay4
  dsimp only
  rw [show mulf (F := Ideal) (φ := .f32) (lift (s := S256x2048) d) (broadcastTo S256x2048 (lift (s := S1x2048) g) _) = _ from dev_gain d g _]
  exact dev_back f (fun i => d i * g ![0, i 1]) _ _ _ _ _
theorem pay5 (f : (Fin 2 → ℕ) → ℝ) : k0_pay5 (F := Ideal) (lift f) = lift (rr f) := dev_rr f _ _ _ _
theorem pay6 (f : (Fin 2 → ℕ) → ℝ) : k0_pay6 (F := Ideal) (lift f) = lift (nm f) := by
  unfold k0_pay6; rw [pay5]; exact dev_nm f _
theorem pay7 (y x g tg : (Fin 2 → ℕ) → ℝ) : k0_pay7 (F := Ideal) (lift y) (lift x) (lift g) (lift tg) = lift (errF x y g tg) := by
  unfold k0_pay7
  rw [pay6]
  dsimp only
  rw [show mulf (F := Ideal) (φ := .f32) (lift (s := S256x2048) (nm y)) (broadcastTo S256x2048 (lift (s := S1x2048) g) _) = _ from dev_gain (nm y) g _]
  exact (congrArg (fun z => subf (F := Ideal) (φ := .f32) z (lift (s := S256x2048) tg)) (addf_lift (s := S256x2048) x _)).trans (subf_lift _ _)
theorem pay8 (y x g tg : (Fin 2 → ℕ) → ℝ) : k0_pay8 (F := Ideal) (lift y) (lift x) (lift g) (lift tg) = lift fun i => errF x y g tg i * (1 / 2048) := by
  unfold k0_pay8
  rw [pay7]
  dsimp only
  rw [of_rcp, broadcast_coe]
  exact mulf_lift _ _
theorem half_rows (f : (Fin 2 → ℕ) → ℝ) (hφ : FKind.Formats .f32) (hacc : (0x00000000#32 : BitVec (FTy.f32).bits) = FKind.add.neutral .f32 hφ)
    (hr : Blk.Reduces [1] BlkV) (hs : BlkV.ShapeCasts BlkC) (hr1 : BlkC.Reduces [0] ⟨1, ![1]⟩) (hs1 : (⟨1, ![1]⟩ : Shape).ShapeCasts ⟨2, ![1, 1]⟩)
    (hs2 : (⟨2, ![1, 1]⟩ : Shape).ShapeCasts ⟨2, ![1, 1]⟩) (hb : (⟨2, ![1, 1]⟩ : Shape).Broadcasts ⟨2, ![1, 128]⟩) :
    broadcastTo ⟨2, ![1, 128]⟩ (shapeCast ⟨2, ![1, 1]⟩ (mulf (F := Ideal) (φ := .f32) (broadcast ⟨2, ![1, 1]⟩ (Scalar.ofBits .f32 0x3F000000#32))
      (shapeCast ⟨2, ![1, 1]⟩ (multiReduction .add [0] ⟨1, ![1]⟩ (divf (shapeCast BlkC (multiReduction .add [1] BlkV (mulf (lift (s := Blk) f) (lift f)) 0x00000000#32 hr hφ hacc) hs)
        (broadcast BlkC (Scalar.ofBits .f32 0x45000000#32))) 0x00000000#32 hr1 hφ hacc) hs1)) hs2) hb
      = lift (s := ⟨2, ![1, 128]⟩) fun _ => 1 / 2 * ∑ k ∈ Finset.range 256, se f k := by
  rw [mulf_lift, sum_cols, shapeCast_col, of_2048, broadcast_coe, divf_2048, reduce_rows, shapeCast_row, of_half, broadcast_coe, mulf_lift, shapeCast_self, broadcastTo_col]
  rfl
theorem pay9 (y x g tg : (Fin 2 → ℕ) → ℝ) : k0_pay9 (F := Ideal) (lift y) (lift x) (lift g) (lift tg)
    = lift fun _ => 1 / 2 * ∑ k ∈ Finset.range 256, se (errF x y g tg) k := by
  unfold k0_pay9
  rw [pay7]
  exact half_rows _ _ _ _ _ _ _ _ _

/-! ## The points -/

variable (m : (ℓ : Loc nD τ sig) → Buf (Elt Ideal) ℓ)

/-- The output's gradient at a point. -/
abbrev dxAt (c : Dev nD) (t : Fin cfg0.N) : FVec Ideal S256x2048 .f32 := k0_pay8 (iblk m c 1 t) (iblk m c 0 t) (iblk m c 2 t) (iblk m c 3 t)
/-- The last result's gradient at a point. -/
abbrev dyAt (c : Dev nD) (t : Fin cfg0.N) : FVec Ideal S256x2048 .bf16 := k0_pay4 (k0_pay5 (iblk m c 1 t)) (k0_pay6 (iblk m c 1 t)) (dxAt m c t) (iblk m c 2 t)
/-- The loss's share at a point. -/
abbrev lsAt (c : Dev nD) (t : Fin cfg0.N) : FVec Ideal S1x128 .f32 := k0_pay9 (iblk m c 1 t) (iblk m c 0 t) (iblk m c 2 t) (iblk m c 3 t)

/-- The first point. -/
theorem outA (c : Dev nD) (t : Fin cfg0.N) (h : t.val % 8 = 0) (h' : ¬ 1 ≤ t.val) :
    outsAt0 m c t.val t.isLt = (lsAt m c t, dxAt m c t, dyAt m c t, k0_pay2 (k0_pay6 (iblk m c 1 t)) (dxAt m c t)) := by
  rw [outsAt0_A m c t h h' h h']
  refine Prod.ext ?_ (Prod.ext ?_ (Prod.ext ?_ ?_))
  · dsimp only; frame_out
  · dsimp only; frame_out
  · dsimp only; frame_out
  · dsimp only; frame_out

/-- The other points. -/
theorem outB (c : Dev nD) (t : Fin cfg0.N) (h : ¬ t.val % 8 = 0) (h' : 1 ≤ t.val) :
    outsAt0 m c t.val t.isLt = (k0_pay1 (lsAt m c t) (outsAt0 m c (t.val - 1) (Nat.lt_of_le_of_lt (Nat.sub_le _ _) t.isLt)).1,
      dxAt m c t, dyAt m c t,
      k0_pay3 (k0_pay6 (iblk m c 1 t)) (dxAt m c t) (outsAt0 m c (t.val - 1) (Nat.lt_of_le_of_lt (Nat.sub_le _ _) t.isLt)).2.2.2) := by
  rw [outsAt0_B m c t h h' h h']
  refine Prod.ext ?_ (Prod.ext ?_ (Prod.ext ?_ ?_))
  · dsimp only; frame_out
  · dsimp only; frame_out
  · dsimp only; frame_out
  · dsimp only; frame_out

/-! ## The arrays -/

/-- The arguments hold `a`. -/
structure Holds (c : Dev nD) (a : In) : Prop where
  x : m ((c.tc : Thread nD τ).loc main_arg0) = lift (s := S2048x2048) a.x
  y : m ((c.tc : Thread nD τ).loc main_arg1) = lift (s := S2048x2048) a.y
  g : m ((c.tc : Thread nD τ).loc main_arg2) = lift (s := S1x2048) a.g
  tg : m ((c.tc : Thread nD τ).loc main_arg3) = lift (s := S2048x2048) a.tg

/-- The row blocks' windows. -/
theorem idxR : ∀ t : Fin cfg0.N, win0_0.index t = ![t.val, 0] ∧ win0_1.index t = ![t.val, 0] ∧ win0_3.index t = ![t.val, 0]
    ∧ win0_5.index t = ![t.val, 0] ∧ win0_6.index t = ![t.val, 0] :=
  (by decide +kernel : ∀ t : Fin grid0.N, win0_0.index t = ![t.val, 0] ∧ win0_1.index t = ![t.val, 0] ∧ win0_3.index t = ![t.val, 0]
    ∧ win0_5.index t = ![t.val, 0] ∧ win0_6.index t = ![t.val, 0])
/-- The gain's windows. -/
theorem idxG : ∀ t : Fin cfg0.N, win0_2.index t = ![0, 0] ∧ win0_7.index t = ![0, 0] :=
  (by decide +kernel : ∀ t : Fin grid0.N, win0_2.index t = ![0, 0] ∧ win0_7.index t = ![0, 0])

variable {m} {c : Dev nD} {a : In} (H : Holds m c a) (t : Fin cfg0.N)
include H

theorem iblk0 : iblk m c 0 t = lift (s := S256x2048) (blk t.val a.x) := by
  funext j
  unfold iblk
  rw [View.read_apply]
  refine row_at H.x t.val _ j ?_ ?_
  · show win0_0.index t 0 * 256 + 1 * (j 0).val = _; rw [(idxR t).1]; show t.val * 256 + _ = _; omega
  · show win0_0.index t 1 * 2048 + 1 * (j 1).val = _; rw [(idxR t).1]; show 0 * 2048 + _ = _; omega

theorem iblk1 : iblk m c 1 t = lift (s := S256x2048) (blk t.val a.y) := by
  funext j
  unfold iblk
  rw [View.read_apply]
  refine row_at H.y t.val _ j ?_ ?_
  · show win0_1.index t 0 * 256 + 1 * (j 0).val = _; rw [(idxR t).2.1]; show t.val * 256 + _ = _; omega
  · show win0_1.index t 1 * 2048 + 1 * (j 1).val = _; rw [(idxR t).2.1]; show 0 * 2048 + _ = _; omega

theorem iblk2 : iblk m c 2 t = lift (s := S1x2048) a.g := by
  funext j
  unfold iblk
  rw [View.read_apply]
  refine gain_at H.g _ j ?_ ?_
  · show win0_2.index t 0 * 1 + 1 * (j 0).val = _; rw [(idxG t).1]; show 0 * 1 + _ = _; omega
  · show win0_2.index t 1 * 2048 + 1 * (j 1).val = _; rw [(idxG t).1]; show 0 * 2048 + _ = _; omega

theorem iblk3 : iblk m c 3 t = lift (s := S256x2048) (blk t.val a.tg) := by
  funext j
  unfold iblk
  rw [View.read_apply]
  refine row_at H.tg t.val _ j ?_ ?_
  · show win0_3.index t 0 * 256 + 1 * (j 0).val = _; rw [(idxR t).2.2.1]; show t.val * 256 + _ = _; omega
  · show win0_3.index t 1 * 2048 + 1 * (j 1).val = _; rw [(idxR t).2.2.1]; show 0 * 2048 + _ = _; omega

theorem dxAt_eq : dxAt m c t = lift (s := S256x2048) (blk t.val (dx a)) := by
  unfold dxAt; rw [iblk0 H, iblk1 H, iblk2 H, iblk3 H, pay8]; rfl
theorem dyAt_eq : dyAt m c t = lift (s := S256x2048) (blk t.val (dy a)) := by
  unfold dyAt; rw [dxAt_eq H, iblk1 H, iblk2 H, pay5, pay6, pay4]; rfl
theorem lsAt_eq : lsAt m c t = lift (s := S1x128) fun _ => ls a t.val := by
  unfold lsAt; rw [iblk0 H, iblk1 H, iblk2 H, iblk3 H, pay9]; rfl

/-- What the outputs' buffers hold after point `n`. -/
theorem outs_eq : ∀ (n : ℕ) (h : n < cfg0.N), outsAt0 m c n h = (lift fun _ => ∑ s ∈ Finset.range (n + 1), ls a s, lift (blk n (dx a)), lift (blk n (dy a)),
    lift fun i => ∑ s ∈ Finset.range (n + 1), dg a s i)
  | 0, h => by
    rw [outA m c ⟨0, h⟩ rfl (Nat.not_succ_le_zero 0), lsAt_eq H, dyAt_eq H, dxAt_eq H, iblk1 H, pay6, pay2]
    refine Prod.ext ?_ (Prod.ext rfl (Prod.ext rfl ?_))
    · dsimp only
      refine congrArg (lift (s := S1x128)) (funext fun i => ?_)
      rw [Finset.sum_range_one]
    · dsimp only
      refine congrArg (lift (s := S1x2048)) (funext fun i => ?_)
      rw [Finset.sum_range_one]; rfl
  | n + 1, h => by
    have hN : cfg0.N = 8 := N_0
    have e := outs_eq n (by omega)
    rw [outB m c ⟨n + 1, h⟩ (by dsimp only; omega) (by dsimp only; omega), lsAt_eq H, dyAt_eq H, dxAt_eq H, iblk1 H, pay6,
      show (outsAt0 m c ((⟨n + 1, h⟩ : Fin cfg0.N).val - 1) _).1 = _ from congrArg (fun p => p.1) e,
      show (outsAt0 m c ((⟨n + 1, h⟩ : Fin cfg0.N).val - 1) _).2.2.2 = _ from congrArg (fun p => p.2.2.2) e]
    dsimp only
    rw [pay1, pay3]
    refine Prod.ext ?_ (Prod.ext rfl (Prod.ext rfl ?_))
    · dsimp only
      refine congrArg (lift (s := S1x128)) (funext fun i => ?_)
      rw [Finset.sum_range_succ _ (n + 1)]
    · dsimp only
      refine congrArg (lift (s := S1x2048)) (funext fun i => ?_)
      rw [Finset.sum_range_succ _ (n + 1)]; rfl

theorem final5 : (dats m 0 c).arrAt 5 cfg0.N = lift (s := S2048x2048) (dx a) := by
  refine (dats m 0 c).arrAt_eq_of_covers 5 _ (by decide +kernel) fun t hf y => ?_
  have e := (idxR t).2.2.2.1
  rw [after0_5, outs_eq H]
  refine Eq.symm (row_at (f := dx a) rfl t.val _ _ ?_ ?_)
  · show win0_5.index t 0 * 256 + 1 * (y 0).val = 256 * t.val + (y 0).val; rw [e]; show t.val * 256 + _ = _; omega
  · show win0_5.index t 1 * 2048 + 1 * (y 1).val = (y 1).val; rw [e]; show 0 * 2048 + _ = _; omega

theorem final6 : (dats m 0 c).arrAt 6 cfg0.N = lift (s := S2048x2048) (dy a) := by
  refine (dats m 0 c).arrAt_eq_of_covers 6 _ (by decide +kernel) fun t hf y => ?_
  have e := (idxR t).2.2.2.2
  rw [after0_6, outs_eq H]
  refine Eq.symm (row_at (f := dy a) rfl t.val _ _ ?_ ?_)
  · show win0_6.index t 0 * 256 + 1 * (y 0).val = 256 * t.val + (y 0).val; rw [e]; show t.val * 256 + _ = _; omega
  · show win0_6.index t 1 * 2048 + 1 * (y 1).val = (y 1).val; rw [e]; show 0 * 2048 + _ = _; omega

theorem final7 : (dats m 0 c).arrAt 7 cfg0.N = lift (s := S1x2048) fun i => ∑ s ∈ Finset.range 8, dg a s i := by
  refine (dats m 0 c).arrAt_eq_of_covers 7 _ (by decide +kernel) fun t hf y => ?_
  have e := (idxG t).2
  have hN : cfg0.N = 8 := N_0
  have ht : t.val + 1 = 8 := by have := (flush0_7 t).mp hf; have := t.isLt; omega
  rw [after0_7, outs_eq H, ht]
  refine Eq.symm (gain_at rfl _ _ ?_ ?_)
  · show win0_7.index t 0 * 1 + 1 * (y 0).val = (y 0).val; rw [e]; show 0 * 1 + _ = _; omega
  · show win0_7.index t 1 * 2048 + 1 * (y 1).val = (y 1).val; rw [e]; show 0 * 2048 + _ = _; omega

theorem final4 : (dats m 0 c).arrAt 4 cfg0.N = lift (s := S1x128) fun _ => ∑ s ∈ Finset.range 8, ls a s := by
  refine (dats m 0 c).arrAt_eq_of_covers 4 _ (by decide +kernel) fun t hf y => ?_
  have hN : cfg0.N = 8 := N_0
  have ht : t.val + 1 = 8 := by have := (flush0_4 t).mp hf; have := t.isLt; omega
  rw [after0_4, outs_eq H, ht]
  rfl

omit H
/-- The lines after the call take one entry of the loss's row. -/
theorem tail_2 (L : ℝ) (e : (dats m 0 c).arrAt 4 cfg0.N = lift (s := S1x128) fun _ => L) :
    Pipeline.afterTail₀ cfgs (dats m) 0 (V0 m) [hostOps1] c main_v2 = lift (s := S_) fun _ => L := by
  have e4 : Pipeline.withArrays (cfgs 0).spec c (V0 m c) (fun w => (dats m 0 c).arrAt w (cfgs 0).N) (Proc.devRef .tc main_v0_0) = lift (s := S1x128) fun _ => L :=
    (Pipeline.withArrays_arr (cfgs 0).spec (by decide +kernel) _ _ _ 4).trans e
  unfold Pipeline.afterTail₀
  after_reads_simp
  rw [e4]
  rfl

/-! ## The claim -/

theorem real_args (X0 X1 : FVec Ideal S2048x2048 .f32) (X2 : FVec Ideal S1x2048 .f32) (X3 : FVec Ideal S2048x2048 .f32)
    (e : Cert.Pre_loss_finite.fn (F := Ideal) X0 X1 X2 X3 = fun _ => 1#1) :
    X0 = lift (coords X0) ∧ X1 = lift (coords X1) ∧ X2 = lift (coords X2) ∧ X3 = lift (coords X3) := by
  have e := congrFun e (Shape.Idx.first Cert.Pre_loss_finite.Gen.h_S_)
  unfold Cert.Pre_loss_finite.fn Cert.Pre_loss_finite.fn_part1 at e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3⟩

/-- The real arguments that a device's arrays hold. -/
def args (m : (ℓ : Loc nD τ sig) → Buf (Elt Ideal) ℓ) (c : Dev nD) : In :=
  ⟨coords (s := S2048x2048) (m ((c.tc : Thread nD τ).loc main_arg0)), coords (s := S2048x2048) (m ((c.tc : Thread nD τ).loc main_arg1)),
    coords (s := S1x2048) (m ((c.tc : Thread nD τ).loc main_arg2)), coords (s := S2048x2048) (m ((c.tc : Thread nD τ).loc main_arg3))⟩

/-- A host sum of a vector. -/
theorem hostReduce_all (f : (Fin 1 → ℕ) → ℝ) (h : Vec2k.ReducesTo [0] Sc) (hu : 0 < Sc.numel) :
    Host.reduceAdd (F := Ideal) (φ := .f32) (lift (s := Vec2k) f) (constant Sc .f32 0x00000000#32) h hu = lift (s := Sc) fun _ => ∑ k ∈ Finset.range 2048, f ![k] := by
  funext j
  show Ideal.hostReduceAdd h (lift f) (Ideal.ofBits .f32 0x00000000#32) j = _
  rw [ofBits_zero, Ideal.hostReduceAdd_total h (fun b => b.elim0), EReal.coe_zero, zero_add]
  refine Eq.trans ?_ (sum_coe (n := 2048) fun k => f ![k])
  refine Fintype.sum_equiv ⟨fun i => i 0, fun k => fun d => d.cases k fun e => e.elim0, fun i => funext fun d => by fin_cases d; rfl, fun k => rfl⟩ _ _ fun i => ?_
  unfold lift; congr 2; funext d; fin_cases d; rfl

section forms
open Cert.ReferenceLossHeadIdeal.Gen

/-- The reference's error. -/
abbrev refErr (a : In) : Full.Idx → EReal := subf (F := Ideal) (φ := .f32) (addf (lift (s := Full) a.x) (mulf (hostNm (lift a.y) bcast_S_S2048x1 bcast_S2048_S2048x1_0
  reducesTo_S2048x2048_S2048_d1 ReferenceLossHeadIdeal.Gen.h_S_ bcast_S2048x1_S2048x2048_0_1) (broadcastInDim Full ![0, 1] bcast_S1x2048_S2048x2048_0_1 (lift (s := Gain) a.g)))) (lift (s := Full) a.tg)

theorem ref_err (a : In) : refErr a = lift (err a) := by
  unfold refErr; rw [nm_host, gain_host, addf_lift, subf_lift]; rfl

/-- The reference's gradient of the output. -/
abbrev refDx (a : In) : Full.Idx → EReal := mulf (F := Ideal) (φ := .f32) (broadcastInDim Full ![0] bcast_S2048_S2048x2048_0 (Host.divf (broadcastInDim Vec2k ![] bcast_S_S2048
    (mulf (F := Ideal) (φ := .f32) (constant Sc .f32 0x3F000000#32) (constant Sc .f32 0x3F800000#32))) (broadcastInDim Vec2k ![] bcast_S_S2048 (constant Sc .f32 0x45000000#32))))
  (mulf (broadcastInDim Full ![] bcast_S_S2048x2048 (constant Sc .f32 0x40000000#32)) (refErr a))

theorem ref_dx (a : In) : refDx a = lift (dx a) := by
  unfold refDx
  rw [ref_err, constant_lift (s := Sc) (φ := .f32) 0x3F000000#32 (1 / 2) of_half, constant_lift (s := Sc) (φ := .f32) 0x3F800000#32 1 of_one, mulf_lift, broadcastInDim_scalar,
    k_2048, div_2048, bInDim_0, k_2, mulf_lift, mulf_lift]
  refine congrArg (lift (s := Full)) (funext fun i => ?_)
  unfold dx; ring

/-- The reference's gradient of the last block's result. -/
theorem ref_dy (a : In) : truncf (F := Ideal) .bf16 (hostBack (lift a.y)
      (mulf (F := Ideal) (φ := .f32) (refDx a) (broadcastInDim Full ![0, 1] bcast_S1x2048_S2048x2048_0_1 (lift (s := Gain) a.g)))
      bcast_S_S2048x1 bcast_S2048_S2048x1_0 reducesTo_S2048x2048_S2048_d1 ReferenceLossHeadIdeal.Gen.h_S_ bcast_S2048x1_S2048x2048_0_1 shapeCasts_S2048_S2048x1
      reducesTo_S2048x1_S2048_d1 bcast_S2048_S2048x2048_0) ReferenceLossHeadIdeal.Gen.bitsLt_bf16_f32 = lift (s := Full) (dy a) := by
  rw [ref_dx, gain_host, back_host]; rfl

/-- The reference's gradient of the gain. -/
theorem ref_dg (a : In) : shapeCast Gain (Host.reduceAdd (F := Ideal) (φ := .f32) (mulf (hostNm (lift a.y) bcast_S_S2048x1 bcast_S2048_S2048x1_0 reducesTo_S2048x2048_S2048_d1
      ReferenceLossHeadIdeal.Gen.h_S_ bcast_S2048x1_S2048x2048_0_1) (refDx a)) (constant Sc .f32 0x00000000#32) reducesTo_S2048x2048_S2048_d0
      ReferenceLossHeadIdeal.Gen.h_S_) ReferenceLossHeadIdeal.Gen.shapeCasts_S2048_S1x2048 = lift (s := Gain) fun i => ∑ s ∈ Finset.range 8, dg a s i := by
  rw [nm_host, ref_dx, rows_host]
  refine congrArg (lift (s := Gain)) (funext fun i => ?_)
  exact (sum_rows _ 8).trans (Finset.sum_congr rfl fun s _ => Finset.sum_congr rfl fun k _ => mul_comm _ _)

/-- The reference's loss. -/
theorem ref_loss (a : In) : mulf (F := Ideal) (φ := .f32) (constant Sc .f32 0x3F000000#32) (Host.reduceAdd (F := Ideal) (φ := .f32) (Host.divf (Host.reduceAdd (F := Ideal) (φ := .f32)
      (mulf (refErr a) (refErr a)) (constant Sc .f32 0x00000000#32) reducesTo_S2048x2048_S2048_d1 ReferenceLossHeadIdeal.Gen.h_S_)
      (broadcastInDim Vec2k ![] bcast_S_S2048 (constant Sc .f32 0x45000000#32))) (constant Sc .f32 0x00000000#32) reducesTo_S2048_S_d0 ReferenceLossHeadIdeal.Gen.h_S_)
      = lift (s := Sc) fun _ => ∑ s ∈ Finset.range 8, ls a s := by
  rw [ref_err, mulf_lift, hostReduce_cols, k_2048, div_2048, hostReduce_all, constant_lift (s := Sc) (φ := .f32) 0x3F000000#32 (1 / 2) of_half, mulf_lift]
  refine congrArg (lift (s := Sc)) (funext fun i => ?_)
  refine (congrArg (fun z => 1 / 2 * z) (sum_rows (fun k => se (err a) k) 8)).trans ?_
  rw [Finset.mul_sum]; rfl

end forms

theorem value : Cert.algebraic_KernelLossHeadIdeal_ReferenceLossHeadIdeal_pre_loss_finite := by
  intro m g m' g' pre same
  have H : ∀ c, Holds m c (args m c) := fun c => by
    have R := real_args _ _ _ _ (pre c)
    exact ⟨R.1, R.2.1, R.2.2.1, R.2.2.2⟩
  refine ⟨fun c => lift (s := S_) fun _ => ∑ s ∈ Finset.range 8, ls (args m c) s, fun c => lift (s := S2048x2048) (dx (args m c)), fun c => lift (s := S2048x2048) (dy (args m c)),
    fun c => lift (s := S1x2048) fun i => ∑ s ∈ Finset.range 8, dg (args m c) s i, ?_, ?_⟩
  · refine (θ_run defs _ _).mono (fun r h c => ?_) (θ_run_and (run_main m g) (Cert.KernelLossHeadIdeal.Gen.frame m g))
    exact ⟨((h.1 c).2 main_v2 (Pipeline.mem_restRefs_of main_v2 (by decide) (by decide))).trans (tail_2 _ (final4 (H c))),
      ((h.1 c).1 5).trans (final5 (H c)), ((h.1 c).1 6).trans (final6 (H c)), ((h.1 c).1 7).trans (final7 (H c)), h.2.1 c⟩
  · refine (θ_run _ _ _).mono (fun r h c => ?_) (ReferenceLossHeadIdeal.Value.run (F := Ideal) m' g')
    have E0 := (same c).1.trans (H c).x
    have E1 := (same c).2.1.trans (H c).y
    have E2 := (same c).2.2.1.trans (H c).g
    have E3 := (same c).2.2.2.trans (H c).tg
    have h0 := (h c).1
    have h1 := (h c).2.1
    have h2 := (h c).2.2.1
    have h3 := (h c).2.2.2.1
    unfold ReferenceLossHeadIdeal.Value.res_main_v50 at h2
    rw [E0, E1, E2, E3] at h0 h1 h2 h3
    exact ⟨h0.trans (ref_loss (args m c)), h1.trans (ref_dx (args m c)), h2.trans (ref_dy (args m c)), h3.trans (ref_dg (args m c)), (h c).2.2.2.2⟩

end Cert.Norm.LossHead
end
-- ==== Proof.MidBwd.lean ====
/-
  The gradient between two blocks: through the next block's norm, whose gradient joins the one that bypasses it, and
  through the norm on the previous block's result; with both gains' gradients, summed over eight blocks of 256 rows.
-/
module
public import proofs.«01_k».proof.Proof.Gen.KernelMidBwd
public import proofs.«01_k».proof.Proof.Gen.KernelMidBwd.Frame
public import proofs.«01_k».proof.Proof.Gen.KernelMidBwdIdeal.Frame
public import proofs.«01_k».proof.Proof.Gen.ReferenceMidBwdIdeal
public import proofs.«01_k».proof.Proof.Gen.ReferenceMidBwdIdeal.Run
public import proofs.«01_k».proof.Proof.Gen.Pre_mid_finite
public import proofs.«01_k».proof.Proof.Finite
public import proofs.«01_k».proof.Proof.Norm
public import proofs.«01_k».proof.Defs
public import Idealize.ShloMosaic.Lib.Pipeline.ValueKit
@[expose] public section
set_option maxRecDepth 16384
set_option maxHeartbeats 0
noncomputable section
namespace Cert.Norm.MidBwd
open Cert.Sgu Cert.Norm Cert.KernelMidBwdIdeal Cert.KernelMidBwdIdeal.Gen Idealize.ShloMosaic Idealize.ShloMosaic.TcCoe Idealize.SL.Sem
open Idealize.ShloMosaic.Pipeline (Dat)
open scoped BigOperators

/-- The arguments as real functions of the coordinates. -/
structure In where
  dxo : (Fin 2 → ℕ) → ℝ
  dh : (Fin 2 → ℕ) → ℝ
  x : (Fin 2 → ℕ) → ℝ
  ng : (Fin 2 → ℕ) → ℝ
  y : (Fin 2 → ℕ) → ℝ
  pg : (Fin 2 → ℕ) → ℝ

/-- The gradient of the rows between the blocks. -/
def dx (a : In) (i : Fin 2 → ℕ) : ℝ := a.dxo i + back a.x (fun i => a.dh i * a.ng ![0, i 1]) i
/-- The gradient of the previous block's result. -/
def dy (a : In) (i : Fin 2 → ℕ) : ℝ := back a.y (fun i => dx a i * a.pg ![0, i 1]) i
/-- A block's share of the next norm's gain's gradient. -/
def dn (a : In) (s : ℕ) (i : Fin 2 → ℕ) : ℝ := ∑ k ∈ Finset.range 256, a.dh ![256 * s + k, i 1] * nm a.x ![256 * s + k, i 1]
/-- A block's share of the previous norm's gain's gradient. -/
def dp (a : In) (s : ℕ) (i : Fin 2 → ℕ) : ℝ := ∑ k ∈ Finset.range 256, dx a ![256 * s + k, i 1] * nm a.y ![256 * s + k, i 1]

/-! ## One block -/

theorem pay1 (f : (Fin 2 → ℕ) → ℝ) : k0_pay1 (F := Ideal) (lift f) = lift (rr f) := dev_rr f _ _ _ _
theorem pay2 (f : (Fin 2 → ℕ) → ℝ) : k0_pay2 (F := Ideal) (lift f) = lift (nm f) := by
  unfold k0_pay2; rw [pay1]; exact dev_nm f _
theorem pay3 (d f : (Fin 2 → ℕ) → ℝ) : k0_pay3 (F := Ideal) (lift d) (lift f) = lift fun i => ∑ k ∈ Finset.range 256, d ![k, i 1] * nm f ![k, i 1] := by
  unfold k0_pay3; rw [pay2]; exact dev_rows d (nm f) _ _ _ _
theorem pay4 (d f p : (Fin 2 → ℕ) → ℝ) : k0_pay4 (F := Ideal) (lift d) (lift f) (lift p)
    = lift fun i => p i + ∑ k ∈ Finset.range 256, d ![k, i 1] * nm f ![k, i 1] := by
  unfold k0_pay4; rw [pay3, shapeCast_self]; exact addf_lift _ _
theorem pay5 (d f g : (Fin 2 → ℕ) → ℝ) : k0_pay5 (F := Ideal) (lift d) (lift f) (lift g) = lift (back f fun i => d i * g ![0, i 1]) := by
  unfold k0_pay5
  rw [pay1, pay2]
  dsimp only
  rw [show mulf (F := Ideal) (φ := .f32) (lift (s := S256x2048) d) (broadcastTo S256x2048 (lift (s := S1x2048) g) _) = _ from dev_gain d g _]
  exact dev_back f (fun i => d i * g ![0, i 1]) _ _ _ _ _
theorem pay6 (f : (Fin 2 → ℕ) → ℝ) : k0_pay6 (F := Ideal) (lift f) = lift (rr f) := dev_rr f _ _ _ _
theorem pay7 (f : (Fin 2 → ℕ) → ℝ) : k0_pay7 (F := Ideal) (lift f) = lift (nm f) := by
  unfold k0_pay7; rw [pay6]; exact dev_nm f _
theorem pay8 (f d : (Fin 2 → ℕ) → ℝ) : k0_pay8 (F := Ideal) (lift f) (lift d) = lift fun i => ∑ k ∈ Finset.range 256, d ![k, i 1] * nm f ![k, i 1] := by
  unfold k0_pay8; rw [pay7]; exact dev_rows d (nm f) _ _ _ _
theorem pay9 (f d p : (Fin 2 → ℕ) → ℝ) : k0_pay9 (F := Ideal) (lift f) (lift d) (lift p)
    = lift fun i => p i + ∑ k ∈ Finset.range 256, d ![k, i 1] * nm f ![k, i 1] := by
  unfold k0_pay9; rw [pay8, shapeCast_self]; exact addf_lift _ _
theorem pay10 (f d o g : (Fin 2 → ℕ) → ℝ) : k0_pay10 (F := Ideal) (lift f) (lift d) (lift o) (lift g)
    = lift fun i => o i + back f (fun i => d i * g ![0, i 1]) i := by
  unfold k0_pay10
  rw [pay6, pay7]
  dsimp only
  rw [show mulf (F := Ideal) (φ := .f32) (lift (s := S256x2048) d) (broadcastTo S256x2048 (lift (s := S1x2048) g) _) = _ from dev_gain d g _]
  exact (congrArg (addf (F := Ideal) (φ := .f32) (lift (s := S256x2048) o)) (dev_back f (fun i => d i * g ![0, i 1]) _ _ _ _ _)).trans (addf_lift _ _)

/-! ## The points -/

variable (m : (ℓ : Loc nD τ sig) → Buf (Elt Ideal) ℓ)

/-- The rows' gradient at a point. -/
abbrev dxAt (c : Dev nD) (t : Fin cfg0.N) : FVec Ideal S256x2048 .f32 := k0_pay10 (iblk m c 2 t) (iblk m c 1 t) (iblk m c 0 t) (iblk m c 3 t)

/-- The first point. -/
theorem outA (c : Dev nD) (t : Fin cfg0.N) (h : t.val % 8 = 0) (h' : ¬ 1 ≤ t.val) :
    outsAt0 m c t.val t.isLt = (dxAt m c t, k0_pay5 (dxAt m c t) (iblk m c 4 t) (iblk m c 5 t),
      k0_pay8 (iblk m c 2 t) (iblk m c 1 t), k0_pay3 (dxAt m c t) (iblk m c 4 t)) := by
  rw [outsAt0_A m c t h h' h h']
  refine Prod.ext ?_ (Prod.ext ?_ (Prod.ext ?_ ?_))
  · dsimp only; frame_out
  · dsimp only; frame_out
  · dsimp only; frame_out
  · dsimp only; frame_out

/-- The other points. -/
theorem outB (c : Dev nD) (t : Fin cfg0.N) (h : ¬ t.val % 8 = 0) (h' : 1 ≤ t.val) :
    outsAt0 m c t.val t.isLt = (dxAt m c t, k0_pay5 (dxAt m c t) (iblk m c 4 t) (iblk m c 5 t),
      k0_pay9 (iblk m c 2 t) (iblk m c 1 t) (outsAt0 m c (t.val - 1) (Nat.lt_of_le_of_lt (Nat.sub_le _ _) t.isLt)).2.2.1,
      k0_pay4 (dxAt m c t) (iblk m c 4 t) (outsAt0 m c (t.val - 1) (Nat.lt_of_le_of_lt (Nat.sub_le _ _) t.isLt)).2.2.2) := by
  rw [outsAt0_B m c t h h' h h']
  refine Prod.ext ?_ (Prod.ext ?_ (Prod.ext ?_ ?_))
  · dsimp only; frame_out
  · dsimp only; frame_out
  · dsimp only; frame_out
  · dsimp only; frame_out

/-! ## The arrays -/

/-- The arguments hold `a`. -/
structure Holds (c : Dev nD) (a : In) : Prop where
  dxo : m ((c.tc : Thread nD τ).loc main_arg0) = lift (s := S2048x2048) a.dxo
  dh : m ((c.tc : Thread nD τ).loc main_arg1) = lift (s := S2048x2048) a.dh
  x : m ((c.tc : Thread nD τ).loc main_arg2) = lift (s := S2048x2048) a.x
  ng : m ((c.tc : Thread nD τ).loc main_arg3) = lift (s := S1x2048) a.ng
  y : m ((c.tc : Thread nD τ).loc main_arg4) = lift (s := S2048x2048) a.y
  pg : m ((c.tc : Thread nD τ).loc main_arg5) = lift (s := S1x2048) a.pg

/-- The row blocks' windows. -/
theorem idxR : ∀ t : Fin cfg0.N, win0_0.index t = ![t.val, 0] ∧ win0_1.index t = ![t.val, 0] ∧ win0_2.index t = ![t.val, 0] ∧ win0_4.index t = ![t.val, 0]
    ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_4.index t = ![t.val, 0]
    ∧ win0_6.index t = ![t.val, 0] ∧ win0_7.index t = ![t.val, 0])
/-- The gains' windows. -/
theorem idxG : ∀ t : Fin cfg0.N, win0_3.index t = ![0, 0] ∧ win0_5.index t = ![0, 0] ∧ win0_8.index t = ![0, 0] ∧ win0_9.index t = ![0, 0] :=
  (by decide +kernel : ∀ t : Fin grid0.N, win0_3.index t = ![0, 0] ∧ win0_5.index t = ![0, 0] ∧ win0_8.index t = ![0, 0] ∧ win0_9.index t = ![0, 0])

variable {m} {c : Dev nD} {a : In} (H : Holds m c a) (t : Fin cfg0.N)
include H

theorem iblk0 : iblk m c 0 t = lift (s := S256x2048) (blk t.val a.dxo) := by
  funext j
  unfold iblk
  rw [View.read_apply]
  refine row_at H.dxo t.val _ j ?_ ?_
  · show win0_0.index t 0 * 256 + 1 * (j 0).val = _; rw [(idxR t).1]; show t.val * 256 + _ = _; omega
  · show win0_0.index t 1 * 2048 + 1 * (j 1).val = _; rw [(idxR t).1]; show 0 * 2048 + _ = _; omega

theorem iblk1 : iblk m c 1 t = lift (s := S256x2048) (blk t.val a.dh) := by
  funext j
  unfold iblk
  rw [View.read_apply]
  refine row_at H.dh t.val _ j ?_ ?_
  · show win0_1.index t 0 * 256 + 1 * (j 0).val = _; rw [(idxR t).2.1]; show t.val * 256 + _ = _; omega
  · show win0_1.index t 1 * 2048 + 1 * (j 1).val = _; rw [(idxR t).2.1]; show 0 * 2048 + _ = _; omega

theorem iblk2 : iblk m c 2 t = lift (s := S256x2048) (blk t.val a.x) := by
  funext j
  unfold iblk
  rw [View.read_apply]
  refine row_at H.x t.val _ j ?_ ?_
  · show win0_2.index t 0 * 256 + 1 * (j 0).val = _; rw [(idxR t).2.2.1]; show t.val * 256 + _ = _; omega
  · show win0_2.index t 1 * 2048 + 1 * (j 1).val = _; rw [(idxR t).2.2.1]; show 0 * 2048 + _ = _; omega

theorem iblk3 : iblk m c 3 t = lift (s := S1x2048) a.ng := by
  funext j
  unfold iblk
  rw [View.read_apply]
  refine gain_at H.ng _ j ?_ ?_
  · show win0_3.index t 0 * 1 + 1 * (j 0).val = _; rw [(idxG t).1]; show 0 * 1 + _ = _; omega
  · show win0_3.index t 1 * 2048 + 1 * (j 1).val = _; rw [(idxG t).1]; show 0 * 2048 + _ = _; omega

theorem iblk4 : iblk m c 4 t = lift (s := S256x2048) (blk t.val a.y) := by
  funext j
  unfold iblk
  rw [View.read_apply]
  refine row_at H.y t.val _ j ?_ ?_
  · show win0_4.index t 0 * 256 + 1 * (j 0).val = _; rw [(idxR t).2.2.2.1]; show t.val * 256 + _ = _; omega
  · show win0_4.index t 1 * 2048 + 1 * (j 1).val = _; rw [(idxR t).2.2.2.1]; show 0 * 2048 + _ = _; omega

theorem iblk5 : iblk m c 5 t = lift (s := S1x2048) a.pg := by
  funext j
  unfold iblk
  rw [View.read_apply]
  refine gain_at H.pg _ j ?_ ?_
  · show win0_5.index t 0 * 1 + 1 * (j 0).val = _; rw [(idxG t).2.1]; show 0 * 1 + _ = _; omega
  · show win0_5.index t 1 * 2048 + 1 * (j 1).val = _; rw [(idxG t).2.1]; show 0 * 2048 + _ = _; omega

theorem dxAt_eq : dxAt m c t = lift (s := S256x2048) (blk t.val (dx a)) := by
  unfold dxAt; rw [iblk0 H, iblk1 H, iblk2 H, iblk3 H, pay10]; rfl

/-- What the outputs' buffers hold after point `n`. -/
theorem outs_eq : ∀ (n : ℕ) (h : n < cfg0.N), outsAt0 m c n h = (lift (blk n (dx a)), lift (blk n (dy a)),
    lift fun i => ∑ s ∈ Finset.range (n + 1), dn a s i, lift fun i => ∑ s ∈ Finset.range (n + 1), dp a s i)
  | 0, h => by
    rw [outA m c ⟨0, h⟩ rfl (Nat.not_succ_le_zero 0), dxAt_eq H, iblk1 H, iblk2 H, iblk4 H, iblk5 H, pay5, pay8, pay3]
    refine Prod.ext rfl (Prod.ext rfl (Prod.ext ?_ ?_))
    · dsimp only
      refine congrArg (lift (s := S1x2048)) (funext fun i => ?_)
      rw [Finset.sum_range_one]; rfl
    · dsimp only
      refine congrArg (lift (s := S1x2048)) (funext fun i => ?_)
      rw [Finset.sum_range_one]; rfl
  | n + 1, h => by
    have hN : cfg0.N = 8 := N_0
    have e := outs_eq n (by omega)
    rw [outB m c ⟨n + 1, h⟩ (by dsimp only; omega) (by dsimp only; omega), dxAt_eq H, iblk1 H, iblk2 H, iblk4 H, iblk5 H,
      show (outsAt0 m c ((⟨n + 1, h⟩ : Fin cfg0.N).val - 1) _).2.2.1 = _ from congrArg (fun p => p.2.2.1) e,
      show (outsAt0 m c ((⟨n + 1, h⟩ : Fin cfg0.N).val - 1) _).2.2.2 = _ from congrArg (fun p => p.2.2.2) e]
    dsimp only
    rw [pay5, pay9, pay4]
    refine Prod.ext rfl (Prod.ext rfl (Prod.ext ?_ ?_))
    · dsimp only
      refine congrArg (lift (s := S1x2048)) (funext fun i => ?_)
      rw [Finset.sum_range_succ _ (n + 1)]; rfl
    · dsimp only
      refine congrArg (lift (s := S1x2048)) (funext fun i => ?_)
      rw [Finset.sum_range_succ _ (n + 1)]; rfl

theorem final6 : (dats m 0 c).arrAt 6 cfg0.N = lift (s := S2048x2048) (dx a) := by
  refine (dats m 0 c).arrAt_eq_of_covers 6 _ (by decide +kernel) fun t hf y => ?_
  have e := (idxR t).2.2.2.2.1
  rw [after0_6, outs_eq H]
  refine Eq.symm (row_at (f := dx a) rfl t.val _ _ ?_ ?_)
  · show win0_6.index t 0 * 256 + 1 * (y 0).val = 256 * t.val + (y 0).val; rw [e]; show t.val * 256 + _ = _; omega
  · show win0_6.index t 1 * 2048 + 1 * (y 1).val = (y 1).val; rw [e]; show 0 * 2048 + _ = _; omega

theorem final7 : (dats m 0 c).arrAt 7 cfg0.N = lift (s := S2048x2048) (dy a) := by
  refine (dats m 0 c).arrAt_eq_of_covers 7 _ (by decide +kernel) fun t hf y => ?_
  have e := (idxR t).2.2.2.2.2
  rw [after0_7, outs_eq H]
  refine Eq.symm (row_at (f := dy a) rfl t.val _ _ ?_ ?_)
  · show win0_7.index t 0 * 256 + 1 * (y 0).val = 256 * t.val + (y 0).val; rw [e]; show t.val * 256 + _ = _; omega
  · show win0_7.index t 1 * 2048 + 1 * (y 1).val = (y 1).val; rw [e]; show 0 * 2048 + _ = _; omega

theorem final8 : (dats m 0 c).arrAt 8 cfg0.N = lift (s := S1x2048) fun i => ∑ s ∈ Finset.range 8, dn a s i := by
  refine (dats m 0 c).arrAt_eq_of_covers 8 _ (by decide +kernel) fun t hf y => ?_
  have e := (idxG t).2.2.1
  have hN : cfg0.N = 8 := N_0
  have ht : t.val + 1 = 8 := by have := (flush0_8 t).mp hf; have := t.isLt; omega
  rw [after0_8, outs_eq H, ht]
  refine Eq.symm (gain_at rfl _ _ ?_ ?_)
  · show win0_8.index t 0 * 1 + 1 * (y 0).val = (y 0).val; rw [e]; show 0 * 1 + _ = _; omega
  · show win0_8.index t 1 * 2048 + 1 * (y 1).val = (y 1).val; rw [e]; show 0 * 2048 + _ = _; omega

theorem final9 : (dats m 0 c).arrAt 9 cfg0.N = lift (s := S1x2048) fun i => ∑ s ∈ Finset.range 8, dp a s i := by
  refine (dats m 0 c).arrAt_eq_of_covers 9 _ (by decide +kernel) fun t hf y => ?_
  have e := (idxG t).2.2.2
  have hN : cfg0.N = 8 := N_0
  have ht : t.val + 1 = 8 := by have := (flush0_9 t).mp hf; have := t.isLt; omega
  rw [after0_9, outs_eq H, ht]
  refine Eq.symm (gain_at rfl _ _ ?_ ?_)
  · show win0_9.index t 0 * 1 + 1 * (y 0).val = (y 0).val; rw [e]; show 0 * 1 + _ = _; omega
  · show win0_9.index t 1 * 2048 + 1 * (y 1).val = (y 1).val; rw [e]; show 0 * 2048 + _ = _; omega

omit H
/-! ## The claim -/

theorem real_args (X0 X1 X2 : FVec Ideal S2048x2048 .f32) (X3 : FVec Ideal S1x2048 .f32) (X4 : FVec Ideal S2048x2048 .f32) (X5 : FVec Ideal S1x2048 .f32)
    (e : Cert.Pre_mid_finite.fn (F := Ideal) X0 X1 X2 X3 X4 X5 = fun _ => 1#1) :
    X0 = lift (coords X0) ∧ X1 = lift (coords X1) ∧ X2 = lift (coords X2) ∧ X3 = lift (coords X3) ∧ X4 = lift (coords X4) ∧ X5 = lift (coords X5) := by
  have e := congrFun e (Shape.Idx.first Cert.Pre_mid_finite.Gen.h_S_)
  unfold Cert.Pre_mid_finite.fn Cert.Pre_mid_finite.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3,
    real_of_all _ _ _ _ _ _ e4, real_of_all _ _ _ _ _ _ e5⟩

/-- The real arguments that a device's arrays hold. -/
def args (m : (ℓ : Loc nD τ sig) → Buf (Elt Ideal) ℓ) (c : Dev nD) : In :=
  ⟨coords (s := S2048x2048) (m ((c.tc : Thread nD τ).loc main_arg0)), coords (s := S2048x2048) (m ((c.tc : Thread nD τ).loc main_arg1)),
    coords (s := S2048x2048) (m ((c.tc : Thread nD τ).loc main_arg2)), coords (s := S1x2048) (m ((c.tc : Thread nD τ).loc main_arg3)),
    coords (s := S2048x2048) (m ((c.tc : Thread nD τ).loc main_arg4)), coords (s := S1x2048) (m ((c.tc : Thread nD τ).loc main_arg5))⟩

section forms
open Cert.ReferenceMidBwdIdeal.Gen

/-- The reference's gradient of the rows between the blocks. -/
abbrev refDx (a : In) : Full.Idx → EReal := addf (F := Ideal) (φ := .f32) (lift (s := Full) a.dxo) (hostBack (lift a.x)
      (mulf (F := Ideal) (φ := .f32) (lift (s := Full) a.dh) (broadcastInDim Full ![0, 1] bcast_S1x2048_S2048x2048_0_1 (lift (s := Gain) a.ng)))
      bcast_S_S2048x1 bcast_S2048_S2048x1_0 reducesTo_S2048x2048_S2048_d1 ReferenceMidBwdIdeal.Gen.h_S_ bcast_S2048x1_S2048x2048_0_1 shapeCasts_S2048_S2048x1
      reducesTo_S2048x1_S2048_d1 bcast_S2048_S2048x2048_0)

theorem ref_dx (a : In) : refDx a = lift (dx a) := by
  unfold refDx; rw [gain_host, back_host, addf_lift]; rfl

/-- The reference's gradient of the previous block's result. -/
theorem ref_dy (a : In) : truncf (F := Ideal) .bf16 (hostBack (lift a.y)
      (mulf (F := Ideal) (φ := .f32) (refDx a) (broadcastInDim Full ![0, 1] bcast_S1x2048_S2048x2048_0_1 (lift (s := Gain) a.pg)))
      bcast_S_S2048x1 bcast_S2048_S2048x1_0 reducesTo_S2048x2048_S2048_d1 ReferenceMidBwdIdeal.Gen.h_S_ bcast_S2048x1_S2048x2048_0_1 shapeCasts_S2048_S2048x1
      reducesTo_S2048x1_S2048_d1 bcast_S2048_S2048x2048_0) ReferenceMidBwdIdeal.Gen.bitsLt_bf16_f32 = lift (s := Full) (dy a) := by
  rw [ref_dx, gain_host, back_host]; rfl

/-- The reference's gradient of the next norm's gain. -/
theorem ref_dn (a : In) : shapeCast Gain (Host.reduceAdd (F := Ideal) (φ := .f32) (mulf (hostNm (lift a.x) bcast_S_S2048x1 bcast_S2048_S2048x1_0 reducesTo_S2048x2048_S2048_d1
      ReferenceMidBwdIdeal.Gen.h_S_ bcast_S2048x1_S2048x2048_0_1) (lift (s := Full) a.dh)) (constant Sc .f32 0x00000000#32) reducesTo_S2048x2048_S2048_d0
      ReferenceMidBwdIdeal.Gen.h_S_) ReferenceMidBwdIdeal.Gen.shapeCasts_S2048_S1x2048 = lift (s := Gain) fun i => ∑ s ∈ Finset.range 8, dn a s i := by
  rw [nm_host, rows_host]
  refine congrArg (lift (s := Gain)) (funext fun i => ?_)
  exact (sum_rows _ 8).trans (Finset.sum_congr rfl fun s _ => Finset.sum_congr rfl fun k _ => mul_comm _ _)

/-- The reference's gradient of the previous norm's gain. -/
theorem ref_dp (a : In) : shapeCast Gain (Host.reduceAdd (F := Ideal) (φ := .f32) (mulf (hostNm (lift a.y) bcast_S_S2048x1 bcast_S2048_S2048x1_0 reducesTo_S2048x2048_S2048_d1
      ReferenceMidBwdIdeal.Gen.h_S_ bcast_S2048x1_S2048x2048_0_1) (refDx a)) (constant Sc .f32 0x00000000#32) reducesTo_S2048x2048_S2048_d0
      ReferenceMidBwdIdeal.Gen.h_S_) ReferenceMidBwdIdeal.Gen.shapeCasts_S2048_S1x2048 = lift (s := Gain) fun i => ∑ s ∈ Finset.range 8, dp a s i := by
  rw [nm_host, ref_dx, rows_host]
  refine congrArg (lift (s := Gain)) (funext fun i => ?_)
  exact (sum_rows _ 8).trans (Finset.sum_congr rfl fun s _ => Finset.sum_congr rfl fun k _ => mul_comm _ _)

end forms

theorem value : Cert.algebraic_KernelMidBwdIdeal_ReferenceMidBwdIdeal_pre_mid_finite := by
  intro m g m' g' pre same
  have H : ∀ c, Holds m c (args m c) := fun c => by
    have R := real_args _ _ _ _ _ _ (pre c)
    exact ⟨R.1, R.2.1, R.2.2.1, R.2.2.2.1, R.2.2.2.2.1, R.2.2.2.2.2⟩
  refine ⟨fun c => lift (s := S2048x2048) (dx (args m c)), fun c => lift (s := S2048x2048) (dy (args m c)),
    fun c => lift (s := S1x2048) fun i => ∑ s ∈ Finset.range 8, dn (args m c) s i, fun c => lift (s := S1x2048) fun i => ∑ s ∈ Finset.range 8, dp (args m c) s i, ?_, ?_⟩
  · refine (θ_run defs _ _).mono (fun r h c => ?_) (θ_run_and (run_main m g) (Cert.KernelMidBwdIdeal.Gen.frame m g))
    exact ⟨((h.1 c).1 6).trans (final6 (H c)), ((h.1 c).1 7).trans (final7 (H c)), ((h.1 c).1 8).trans (final8 (H c)), ((h.1 c).1 9).trans (final9 (H c)), h.2.1 c⟩
  · refine (θ_run _ _ _).mono (fun r h c => ?_) (ReferenceMidBwdIdeal.Value.run (F := Ideal) m' g')
    have E0 := (same c).1.trans (H c).dxo
    have E1 := (same c).2.1.trans (H c).dh
    have E2 := (same c).2.2.1.trans (H c).x
    have E3 := (same c).2.2.2.1.trans (H c).ng
    have E4 := (same c).2.2.2.2.1.trans (H c).y
    have E5 := (same c).2.2.2.2.2.trans (H c).pg
    have h0 := (h c).1
    have h1 := (h c).2.1
    have h2 := (h c).2.2.1
    have h3 := (h c).2.2.2.1
    unfold ReferenceMidBwdIdeal.Value.res_main_v69 at h1
    unfold ReferenceMidBwdIdeal.Value.res_main_v52 at h3
    rw [E0, E1, E2, E3] at h0
    rw [E0, E1, E2, E3, E4, E5] at h1
    rw [E1, E2] at h2
    rw [E0, E1, E2, E3, E4] at h3
    exact ⟨h0.trans (ref_dx (args m c)), h1.trans (ref_dy (args m c)), h2.trans (ref_dn (args m c)), h3.trans (ref_dp (args m c)), (h c).2.2.2.2⟩

end Cert.Norm.MidBwd
end
-- ==== Proof.FirstBwd.lean ====
/-
  The gradient through the first block's norm: the rows' gradient added to the one that bypasses the norm, and the gain's
  gradient, summed over eight blocks of 256 rows.
-/
module
public import proofs.«01_k».proof.Proof.Gen.KernelFirstBwd
public import proofs.«01_k».proof.Proof.Gen.KernelFirstBwd.Frame
public import proofs.«01_k».proof.Proof.Gen.KernelFirstBwdIdeal.Frame
public import proofs.«01_k».proof.Proof.Gen.ReferenceFirstBwdIdeal
public import proofs.«01_k».proof.Proof.Gen.ReferenceFirstBwdIdeal.Run
public import proofs.«01_k».proof.Proof.Gen.Pre_first_finite
public import proofs.«01_k».proof.Proof.Finite
public import proofs.«01_k».proof.Proof.Norm
public import proofs.«01_k».proof.Defs
public import Idealize.ShloMosaic.Lib.Pipeline.ValueKit
@[expose] public section
set_option maxRecDepth 16384
set_option maxHeartbeats 0
noncomputable section
namespace Cert.Norm.FirstBwd
open Cert.Sgu Cert.Norm Cert.KernelFirstBwdIdeal Cert.KernelFirstBwdIdeal.Gen Idealize.ShloMosaic Idealize.ShloMosaic.TcCoe Idealize.SL.Sem
open Idealize.ShloMosaic.Pipeline (Dat)
open scoped BigOperators

/-- The arguments as real functions of the coordinates. -/
structure In where
  dxo : (Fin 2 → ℕ) → ℝ
  dh : (Fin 2 → ℕ) → ℝ
  x : (Fin 2 → ℕ) → ℝ
  g : (Fin 2 → ℕ) → ℝ

/-- The gradient of the rows. -/
def dx (a : In) (i : Fin 2 → ℕ) : ℝ := a.dxo i + back a.x (fun i => a.dh i * a.g ![0, i 1]) i
/-- A block's share of the gain's gradient. -/
def dg (a : In) (s : ℕ) (i : Fin 2 → ℕ) : ℝ := ∑ k ∈ Finset.range 256, a.dh ![256 * s + k, i 1] * nm a.x ![256 * s + k, i 1]

/-! ## One block -/

theorem pay1 (f : (Fin 2 → ℕ) → ℝ) : k0_pay1 (F := Ideal) (lift f) = lift (rr f) := dev_rr f _ _ _ _
theorem pay2 (f : (Fin 2 → ℕ) → ℝ) : k0_pay2 (F := Ideal) (lift f) = lift (nm f) := by
  unfold k0_pay2; rw [pay1]; exact dev_nm f _
theorem pay3 (f d : (Fin 2 → ℕ) → ℝ) : k0_pay3 (F := Ideal) (lift f) (lift d) = lift fun i => ∑ k ∈ Finset.range 256, d ![k, i 1] * nm f ![k, i 1] := by
  unfold k0_pay3; rw [pay2]; exact dev_rows d (nm f) _ _ _ _
theorem pay4 (f d p : (Fin 2 → ℕ) → ℝ) : k0_pay4 (F := Ideal) (lift f) (lift d) (lift p)
    = lift fun i => p i + ∑ k ∈ Finset.range 256, d ![k, i 1] * nm f ![k, i 1] := by
  unfold k0_pay4; rw [pay3, shapeCast_self]; exact addf_lift _ _
theorem pay5 (f d o g : (Fin 2 → ℕ) → ℝ) : k0_pay5 (F := Ideal) (lift f) (lift d) (lift o) (lift g)
    = lift fun i => o i + back f (fun i => d i * g ![0, i 1]) i := by
  unfold k0_pay5
  rw [pay1, pay2]
  exact (congrArg₂ (addf (F := Ideal) (φ := .f32)) rfl ((congrArg (fun D => _) rfl).trans (by
    dsimp only
    rw [show mulf (F := Ideal) (φ := .f32) (lift (s := S256x2048) d) (broadcastTo S256x2048 (lift (s := S1x2048) g) _) = _ from dev_gain d g _]
    exact dev_back f (fun i => d i * g ![0, i 1]) _ _ _ _ _))).trans (addf_lift _ _)

/-! ## The points -/

variable (m : (ℓ : Loc nD τ sig) → Buf (Elt Ideal) ℓ)

/-- The first point. -/
theorem outA (c : Dev nD) (t : Fin cfg0.N) (h : t.val % 8 = 0) (h' : ¬ 1 ≤ t.val) :
    outsAt0 m c t.val t.isLt = (k0_pay5 (iblk m c 2 t) (iblk m c 1 t) (iblk m c 0 t) (iblk m c 3 t), k0_pay3 (iblk m c 2 t) (iblk m c 1 t)) := by
  rw [outsAt0_A m c t h h']
  refine Prod.ext ?_ ?_
  · dsimp only; frame_out
  · dsimp only; frame_out

/-- The other points. -/
theorem outB (c : Dev nD) (t : Fin cfg0.N) (h : ¬ t.val % 8 = 0) (h' : 1 ≤ t.val) :
    outsAt0 m c t.val t.isLt = (k0_pay5 (iblk m c 2 t) (iblk m c 1 t) (iblk m c 0 t) (iblk m c 3 t), k0_pay4 (iblk m c 2 t) (iblk m c 1 t) (outsAt0 m c (t.val - 1) (Nat.lt_of_le_of_lt (Nat.sub_le _ _) t.isLt)).2) := by
  rw [outsAt0_B m c t h h']
  refine Prod.ext ?_ ?_
  · dsimp only; frame_out
  · dsimp only; frame_out

/-! ## The arrays -/

/-- The arguments hold `a`. -/
structure Holds (c : Dev nD) (a : In) : Prop where
  dxo : m ((c.tc : Thread nD τ).loc main_arg0) = lift (s := S2048x2048) a.dxo
  dh : m ((c.tc : Thread nD τ).loc main_arg1) = lift (s := S2048x2048) a.dh
  x : m ((c.tc : Thread nD τ).loc main_arg2) = lift (s := S2048x2048) a.x
  g : m ((c.tc : Thread nD τ).loc main_arg3) = lift (s := S1x2048) a.g

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![t.val, 0] ∧ win0_5.index t = ![0, 0])

variable {m} {c : Dev nD} {a : In} (H : Holds m c a) (t : Fin cfg0.N)
include H

theorem iblk0 : iblk m c 0 t = lift (s := S256x2048) (blk t.val a.dxo) := by
  funext j
  unfold iblk
  rw [View.read_apply]
  refine row_at H.dxo t.val _ j ?_ ?_
  · show win0_0.index t 0 * 256 + 1 * (j 0).val = _; rw [(idx t).1]; show t.val * 256 + _ = _; omega
  · show win0_0.index t 1 * 2048 + 1 * (j 1).val = _; rw [(idx t).1]; show 0 * 2048 + _ = _; omega

theorem iblk1 : iblk m c 1 t = lift (s := S256x2048) (blk t.val a.dh) := by
  funext j
  unfold iblk
  rw [View.read_apply]
  refine row_at H.dh t.val _ j ?_ ?_
  · show win0_1.index t 0 * 256 + 1 * (j 0).val = _; rw [(idx t).2.1]; show t.val * 256 + _ = _; omega
  · show win0_1.index t 1 * 2048 + 1 * (j 1).val = _; rw [(idx t).2.1]; show 0 * 2048 + _ = _; omega

theorem iblk2 : iblk m c 2 t = lift (s := S256x2048) (blk t.val a.x) := by
  funext j
  unfold iblk
  rw [View.read_apply]
  refine row_at H.x t.val _ j ?_ ?_
  · show win0_2.index t 0 * 256 + 1 * (j 0).val = _; rw [(idx t).2.2.1]; show t.val * 256 + _ = _; omega
  · show win0_2.index t 1 * 2048 + 1 * (j 1).val = _; rw [(idx t).2.2.1]; show 0 * 2048 + _ = _; omega

theorem iblk3 : iblk m c 3 t = lift (s := S1x2048) a.g := by
  funext j
  unfold iblk
  rw [View.read_apply]
  refine gain_at H.g _ j ?_ ?_
  · show win0_3.index t 0 * 1 + 1 * (j 0).val = _; rw [(idx t).2.2.2.1]; show 0 * 1 + _ = _; omega
  · show win0_3.index t 1 * 2048 + 1 * (j 1).val = _; rw [(idx t).2.2.2.1]; show 0 * 2048 + _ = _; omega

/-- What the outputs' buffers hold after point `n`. -/
theorem outs_eq : ∀ (n : ℕ) (h : n < cfg0.N), outsAt0 m c n h = (lift (blk n (dx a)), lift fun i => ∑ s ∈ Finset.range (n + 1), dg a s i)
  | 0, h => by
    rw [outA m c ⟨0, h⟩ rfl (Nat.not_succ_le_zero 0), iblk0 H, iblk1 H, iblk2 H, iblk3 H, pay5, pay3]
    refine Prod.ext rfl ?_
    dsimp only
    refine congrArg (lift (s := S1x2048)) (funext fun i => ?_)
    rw [Finset.sum_range_one]; rfl
  | n + 1, h => by
    have hN : cfg0.N = 8 := N_0
    rw [outB m c ⟨n + 1, h⟩ (by dsimp only; omega) (by dsimp only; omega), iblk0 H, iblk1 H, iblk2 H, iblk3 H,
      show (outsAt0 m c ((⟨n + 1, h⟩ : Fin cfg0.N).val - 1) _).2 = _ from congrArg Prod.snd (outs_eq n (by omega)), pay5, pay4]
    refine Prod.ext rfl ?_
    dsimp only
    refine congrArg (lift (s := S1x2048)) (funext fun i => ?_)
    rw [Finset.sum_range_succ _ (n + 1)]; rfl

theorem final4 : (dats m 0 c).arrAt 4 cfg0.N = lift (s := S2048x2048) (dx a) := by
  refine (dats m 0 c).arrAt_eq_of_covers 4 _ (by decide +kernel) fun t hf y => ?_
  have e4 := (idx t).2.2.2.2.1
  rw [after0_4, outs_eq H]
  refine Eq.symm (row_at (f := dx a) rfl t.val _ _ ?_ ?_)
  · show win0_4.index t 0 * 256 + 1 * (y 0).val = 256 * t.val + (y 0).val; rw [e4]; show t.val * 256 + _ = _; omega
  · show win0_4.index t 1 * 2048 + 1 * (y 1).val = (y 1).val; rw [e4]; show 0 * 2048 + _ = _; omega

theorem final5 : (dats m 0 c).arrAt 5 cfg0.N = lift (s := S1x2048) fun i => ∑ s ∈ Finset.range 8, dg a s i := by
  refine (dats m 0 c).arrAt_eq_of_covers 5 _ (by decide +kernel) fun t hf y => ?_
  have e5 := (idx t).2.2.2.2.2
  have hN : cfg0.N = 8 := N_0
  have ht : t.val + 1 = 8 := by have := (flush0_5 t).mp hf; have := t.isLt; omega
  rw [after0_5, outs_eq H, ht]
  refine Eq.symm (gain_at rfl _ _ ?_ ?_)
  · show win0_5.index t 0 * 1 + 1 * (y 0).val = (y 0).val; rw [e5]; show 0 * 1 + _ = _; omega
  · show win0_5.index t 1 * 2048 + 1 * (y 1).val = (y 1).val; rw [e5]; show 0 * 2048 + _ = _; omega

omit H
/-! ## The claim -/

theorem real_args (X0 X1 X2 : FVec Ideal S2048x2048 .f32) (X3 : FVec Ideal S1x2048 .f32) (e : Cert.Pre_first_finite.fn (F := Ideal) X0 X1 X2 X3 = fun _ => 1#1) :
    X0 = lift (coords X0) ∧ X1 = lift (coords X1) ∧ X2 = lift (coords X2) ∧ X3 = lift (coords X3) := by
  have e := congrFun e (Shape.Idx.first Cert.Pre_first_finite.Gen.h_S_)
  unfold Cert.Pre_first_finite.fn Cert.Pre_first_finite.fn_part1 at e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3⟩

/-- The real arguments that a device's arrays hold. -/
def args (m : (ℓ : Loc nD τ sig) → Buf (Elt Ideal) ℓ) (c : Dev nD) : In :=
  ⟨coords (s := S2048x2048) (m ((c.tc : Thread nD τ).loc main_arg0)), coords (s := S2048x2048) (m ((c.tc : Thread nD τ).loc main_arg1)),
    coords (s := S2048x2048) (m ((c.tc : Thread nD τ).loc main_arg2)), coords (s := S1x2048) (m ((c.tc : Thread nD τ).loc main_arg3))⟩

/-- The gain's gradient over all rows is the sum of the blocks' shares. -/
theorem dg_all (a : In) : (fun i : Fin 2 → ℕ => ∑ k ∈ Finset.range 2048, nm a.x ![k, i 1] * a.dh ![k, i 1]) = fun i => ∑ s ∈ Finset.range 8, dg a s i := by
  funext i
  refine (sum_rows _ 8).trans (Finset.sum_congr rfl fun s _ => Finset.sum_congr rfl fun k _ => mul_comm _ _)

section forms
open Cert.ReferenceFirstBwdIdeal.Gen

/-- The reference's gradient of the rows. -/
theorem ref_dx (a : In) : addf (F := Ideal) (φ := .f32) (lift (s := Full) a.dxo) (hostBack (lift a.x)
      (mulf (F := Ideal) (φ := .f32) (lift (s := Full) a.dh) (broadcastInDim Full ![0, 1] bcast_S1x2048_S2048x2048_0_1 (lift (s := Gain) a.g)))
      bcast_S_S2048x1 bcast_S2048_S2048x1_0 reducesTo_S2048x2048_S2048_d1 ReferenceFirstBwdIdeal.Gen.h_S_ bcast_S2048x1_S2048x2048_0_1 shapeCasts_S2048_S2048x1
      reducesTo_S2048x1_S2048_d1 bcast_S2048_S2048x2048_0) = lift (dx a) := by
  rw [gain_host, back_host, addf_lift]; rfl

/-- The reference's gradient of the gain. -/
theorem ref_dg (a : In) : shapeCast Gain (Host.reduceAdd (F := Ideal) (φ := .f32) (mulf (hostNm (lift a.x) bcast_S_S2048x1 bcast_S2048_S2048x1_0 reducesTo_S2048x2048_S2048_d1
      ReferenceFirstBwdIdeal.Gen.h_S_ bcast_S2048x1_S2048x2048_0_1) (lift (s := Full) a.dh)) (constant Sc .f32 0x00000000#32) reducesTo_S2048x2048_S2048_d0
      ReferenceFirstBwdIdeal.Gen.h_S_) ReferenceFirstBwdIdeal.Gen.shapeCasts_S2048_S1x2048 = lift (s := Gain) fun i => ∑ s ∈ Finset.range 8, dg a s i := by
  rw [nm_host, rows_host, dg_all]

end forms

theorem value : Cert.algebraic_KernelFirstBwdIdeal_ReferenceFirstBwdIdeal_pre_first_finite := by
  intro m g m' g' pre same
  have H : ∀ c, Holds m c (args m c) := fun c => by
    have R := real_args _ _ _ _ (pre c)
    exact ⟨R.1, R.2.1, R.2.2.1, R.2.2.2⟩
  refine ⟨fun c => lift (s := S2048x2048) (dx (args m c)), fun c => lift (s := S1x2048) fun i => ∑ s ∈ Finset.range 8, dg (args m c) s i, ?_, ?_⟩
  · refine (θ_run defs _ _).mono (fun r h c => ?_) (θ_run_and (run_main m g) (Cert.KernelFirstBwdIdeal.Gen.frame m g))
    exact ⟨((h.1 c).1 4).trans (final4 (H c)), ((h.1 c).1 5).trans (final5 (H c)), h.2.1 c⟩
  · refine (θ_run _ _ _).mono (fun r h c => ?_) (ReferenceFirstBwdIdeal.Value.run (F := Ideal) m' g')
    have E0 := (same c).1.trans (H c).dxo
    have E1 := (same c).2.1.trans (H c).dh
    have E2 := (same c).2.2.1.trans (H c).x
    have E3 := (same c).2.2.2.trans (H c).g
    have h0 := (h c).1
    have h1 := (h c).2.1
    rw [E0, E1, E2, E3] at h0
    rw [E1, E2] at h1
    exact ⟨h0.trans (ref_dx (args m c)), h1.trans (ref_dg (args m c)), (h c).2.2⟩

end Cert.Norm.FirstBwd
end
-- ==== Proof.lean ====
/-
  The certificate: the frames of the printed programs, the two named constants, the equality of the gating unit's five
  gradients with the reference's from finite arguments, the products with the weights, and the norms around the blocks
  with their gradients and the loss.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.KernelRun
public import proofs.«01_k».proof.Proof.ReferenceRun
public import proofs.«01_k».proof.Proof.Finite
public import proofs.«01_k».proof.Proof.Gen.KernelSguDh
public import proofs.«01_k».proof.Proof.Gen.KernelSguDh.Frame
public import proofs.«01_k».proof.Proof.Gen.KernelSguDhIdeal.Frame
public import proofs.«01_k».proof.Proof.Gen.ReferenceSguDhIdeal
public import proofs.«01_k».proof.Proof.Gen.ReferenceSguDhIdeal.Run
public import proofs.«01_k».proof.Proof.SguDh
public import proofs.«01_k».proof.Proof.Gen.KernelSguIn
public import proofs.«01_k».proof.Proof.Gen.KernelSguIn.Frame
public import proofs.«01_k».proof.Proof.Gen.KernelSguInIdeal.Frame
public import proofs.«01_k».proof.Proof.Gen.ReferenceSguInIdeal
public import proofs.«01_k».proof.Proof.Gen.ReferenceSguInIdeal.Run
public import proofs.«01_k».proof.Proof.SguIn
public import proofs.«01_k».proof.Proof.Gen.KernelOutDa
public import proofs.«01_k».proof.Proof.Gen.KernelOutDa.Frame
public import proofs.«01_k».proof.Proof.Gen.KernelOutDaIdeal.Frame
public import proofs.«01_k».proof.Proof.Gen.ReferenceOutDaIdeal
public import proofs.«01_k».proof.Proof.Gen.ReferenceOutDaIdeal.Run
public import proofs.«01_k».proof.Proof.OutDa
public import proofs.«01_k».proof.Proof.Gen.KernelOut
public import proofs.«01_k».proof.Proof.Gen.KernelOut.Frame
public import proofs.«01_k».proof.Proof.Gen.KernelOutIdeal.Frame
public import proofs.«01_k».proof.Proof.Gen.ReferenceOutIdeal
public import proofs.«01_k».proof.Proof.Gen.ReferenceOutIdeal.Run
public import proofs.«01_k».proof.Proof.Out
public import proofs.«01_k».proof.Proof.Gen.KernelOutDw
public import proofs.«01_k».proof.Proof.Gen.KernelOutDw.Frame
public import proofs.«01_k».proof.Proof.Gen.KernelOutDwIdeal.Frame
public import proofs.«01_k».proof.Proof.Gen.ReferenceOutDwIdeal
public import proofs.«01_k».proof.Proof.Gen.ReferenceOutDwIdeal.Run
public import proofs.«01_k».proof.Proof.OutDw
public import proofs.«01_k».proof.Proof.Gen.KernelSguDw
public import proofs.«01_k».proof.Proof.Gen.KernelSguDw.Frame
public import proofs.«01_k».proof.Proof.Gen.KernelSguDwIdeal.Frame
public import proofs.«01_k».proof.Proof.Gen.ReferenceSguDwIdeal
public import proofs.«01_k».proof.Proof.Gen.ReferenceSguDwIdeal.Run
public import proofs.«01_k».proof.Proof.SguDw
public import proofs.«01_k».proof.Proof.Gen.KernelGlaDh
public import proofs.«01_k».proof.Proof.Gen.KernelGlaDh.Frame
public import proofs.«01_k».proof.Proof.Gen.KernelGlaDhIdeal.Frame
public import proofs.«01_k».proof.Proof.Gen.ReferenceGlaDhIdeal
public import proofs.«01_k».proof.Proof.Gen.ReferenceGlaDhIdeal.Run
public import proofs.«01_k».proof.Proof.GlaDh
public import proofs.«01_k».proof.Proof.Gen.KernelGlaIn
public import proofs.«01_k».proof.Proof.Gen.KernelGlaIn.Frame
public import proofs.«01_k».proof.Proof.Gen.KernelGlaInIdeal.Frame
public import proofs.«01_k».proof.Proof.Gen.ReferenceGlaInIdeal
public import proofs.«01_k».proof.Proof.Gen.ReferenceGlaInIdeal.Run
public import proofs.«01_k».proof.Proof.GlaIn
public import proofs.«01_k».proof.Proof.Gen.KernelGlaDw0
public import proofs.«01_k».proof.Proof.Gen.KernelGlaDw0.Frame
public import proofs.«01_k».proof.Proof.Gen.KernelGlaDw0Ideal.Frame
public import proofs.«01_k».proof.Proof.Gen.ReferenceGlaDw0Ideal
public import proofs.«01_k».proof.Proof.Gen.ReferenceGlaDw0Ideal.Run
public import proofs.«01_k».proof.Proof.GlaDw0
public import proofs.«01_k».proof.Proof.Gen.KernelGlaDw1
public import proofs.«01_k».proof.Proof.Gen.KernelGlaDw1.Frame
public import proofs.«01_k».proof.Proof.Gen.KernelGlaDw1Ideal.Frame
public import proofs.«01_k».proof.Proof.Gen.ReferenceGlaDw1Ideal
public import proofs.«01_k».proof.Proof.Gen.ReferenceGlaDw1Ideal.Run
public import proofs.«01_k».proof.Proof.GlaDw1
public import proofs.«01_k».proof.Proof.Gen.Pre_out_core_ok
public import proofs.«01_k».proof.Proof.Gen.Pre_sgu_core_ok
public import proofs.«01_k».proof.Proof.Gen.Pre_gla_core_ok
public import proofs.«01_k».proof.Proof.Gen.KernelPreNorm
public import proofs.«01_k».proof.Proof.Gen.KernelPreNorm.Frame
public import proofs.«01_k».proof.Proof.Gen.KernelPreNormIdeal.Frame
public import proofs.«01_k».proof.Proof.Gen.ReferencePreNormIdeal
public import proofs.«01_k».proof.Proof.Gen.ReferencePreNormIdeal.Run
public import proofs.«01_k».proof.Proof.PreNorm
public import proofs.«01_k».proof.Proof.Gen.KernelPostPre
public import proofs.«01_k».proof.Proof.Gen.KernelPostPre.Frame
public import proofs.«01_k».proof.Proof.Gen.KernelPostPreIdeal.Frame
public import proofs.«01_k».proof.Proof.Gen.ReferencePostPreIdeal
public import proofs.«01_k».proof.Proof.Gen.ReferencePostPreIdeal.Run
public import proofs.«01_k».proof.Proof.PostPre
public import proofs.«01_k».proof.Proof.Gen.KernelLossHead
public import proofs.«01_k».proof.Proof.Gen.KernelLossHead.Frame
public import proofs.«01_k».proof.Proof.Gen.KernelLossHeadIdeal.Frame
public import proofs.«01_k».proof.Proof.Gen.ReferenceLossHeadIdeal
public import proofs.«01_k».proof.Proof.Gen.ReferenceLossHeadIdeal.Run
public import proofs.«01_k».proof.Proof.Gen.Pre_loss_finite
public import proofs.«01_k».proof.Proof.LossHead
public import proofs.«01_k».proof.Proof.Gen.KernelMidBwd
public import proofs.«01_k».proof.Proof.Gen.KernelMidBwd.Frame
public import proofs.«01_k».proof.Proof.Gen.KernelMidBwdIdeal.Frame
public import proofs.«01_k».proof.Proof.Gen.ReferenceMidBwdIdeal
public import proofs.«01_k».proof.Proof.Gen.ReferenceMidBwdIdeal.Run
public import proofs.«01_k».proof.Proof.Gen.Pre_mid_finite
public import proofs.«01_k».proof.Proof.MidBwd
public import proofs.«01_k».proof.Proof.Gen.KernelFirstBwd
public import proofs.«01_k».proof.Proof.Gen.KernelFirstBwd.Frame
public import proofs.«01_k».proof.Proof.Gen.KernelFirstBwdIdeal.Frame
public import proofs.«01_k».proof.Proof.Gen.ReferenceFirstBwdIdeal
public import proofs.«01_k».proof.Proof.Gen.ReferenceFirstBwdIdeal.Run
public import proofs.«01_k».proof.Proof.Gen.Pre_first_finite
public import proofs.«01_k».proof.Proof.FirstBwd
public import Idealize.ShloMosaic.Adequacy
public import Idealize.ShloMosaic.Init

@[expose] public section

set_option maxRecDepth 16384

noncomputable section

namespace Cert.Proof

open Idealize.ShloMosaic Idealize.SL.Sem Cert.Sgu

/-- The reference's run ends with its arguments unchanged; it has no semaphore. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The real arguments that a device's arrays hold, the weights masked. -/
def args (m : (ℓ : Loc Cert.KernelIdeal.nD Cert.KernelIdeal.τ Cert.KernelIdeal.sig) → Buf (Elt Ideal) ℓ) (c : Dev Cert.KernelIdeal.nD) : In where
  da := coords (s := Cert.KernelIdeal.S2048x2048) (m ((c.tc : Thread Cert.KernelIdeal.nD Cert.KernelIdeal.τ).loc Cert.KernelIdeal.main_arg0))
  p := coords (s := Cert.KernelIdeal.S2048x6144) (m ((c.tc : Thread Cert.KernelIdeal.nD Cert.KernelIdeal.τ).loc Cert.KernelIdeal.main_arg1))
  lg := coords (s := Cert.KernelIdeal.S1x2048) (m ((c.tc : Thread Cert.KernelIdeal.nD Cert.KernelIdeal.τ).loc Cert.KernelIdeal.main_arg2))
  lb := coords (s := Cert.KernelIdeal.S1x2048) (m ((c.tc : Thread Cert.KernelIdeal.nD Cert.KernelIdeal.τ).loc Cert.KernelIdeal.main_arg3))
  w := msk (coords (s := Cert.KernelIdeal.S8x128x128) (m ((c.tc : Thread Cert.KernelIdeal.nD Cert.KernelIdeal.τ).loc Cert.KernelIdeal.main_arg4)))
  b := coords (s := Cert.KernelIdeal.S8x128) (m ((c.tc : Thread Cert.KernelIdeal.nD Cert.KernelIdeal.τ).loc Cert.KernelIdeal.main_arg5))

theorem values : Cert.algebraic_KernelIdeal_ReferenceIdeal_pre_finite := by
  intro m g m' g' pre same
  have R := fun c => real_args _ _ _ _ _ _ (pre c)
  have HK : ∀ c, Cert.Sgu.Holds m c (args m c) := fun c =>
    holds rfl (R c).1 (R c).2.1 (R c).2.2.1 (R c).2.2.2.1 (R c).2.2.2.2.1 (R c).2.2.2.2.2
  have HR : ∀ c, Cert.Sgu.Ref.Holds (StableHlo.launchContents m' c) (args m c)
      (coords (s := Cert.KernelIdeal.S8x128x128) (m ((c.tc : Thread Cert.KernelIdeal.nD Cert.KernelIdeal.τ).loc Cert.KernelIdeal.main_arg4))) := fun c =>
    ⟨rfl, (same c).1.trans (R c).1, (same c).2.1.trans (R c).2.1, (same c).2.2.1.trans (R c).2.2.1, (same c).2.2.2.1.trans (R c).2.2.2.1,
      (same c).2.2.2.2.1.trans (R c).2.2.2.2.1, (same c).2.2.2.2.2.trans (R c).2.2.2.2.2⟩
  refine ⟨fun c => lift (s := Cert.KernelIdeal.S2048x6144) (dproj (args m c)),
    fun c => lift (s := Cert.KernelIdeal.S8x128x128) (msk fun i => ∑ s ∈ Finset.range 16, dws (args m c) s i),
    fun c => lift (s := Cert.KernelIdeal.S8x128) (fun i => ∑ s ∈ Finset.range 16, dbs (args m c) s ![i 1, i 0]),
    fun c => lift (s := Cert.KernelIdeal.S1x2048) (fun i => ∑ s ∈ Finset.range 16, dlg (args m c) s i),
    fun c => lift (s := Cert.KernelIdeal.S1x2048) (fun i => ∑ s ∈ Finset.range 16, dlb (args m c) s i),
    ?_, Cert.Sgu.Ref.reference_run m' g' (args m) _ HR⟩
  refine (θ_run Cert.KernelIdeal.defs _ _).mono (fun r h c => ?_)
    (θ_run_and (kernel_run (args m) g HK) (Cert.KernelIdeal.Gen.frame m g))
  exact ⟨(h.1 c).1, (h.1 c).2.1, (h.1 c).2.2.1, (h.1 c).2.2.2.1, (h.1 c).2.2.2.2, h.2.1 c⟩

theorem frame_SguDh : Cert.quiescent_ReferenceSguDhIdeal := fun m ρ _ =>
  (θ_run Cert.ReferenceSguDhIdeal.defs _ _).mono (fun r h => ⟨fun c => (h c).2, sem_eq_zero_of_no_sems (by decide) r.2⟩)
    (Cert.ReferenceSguDhIdeal.Value.run (F := Ideal) m ρ)

theorem frame_SguIn : Cert.quiescent_ReferenceSguInIdeal := fun m ρ _ =>
  (θ_run Cert.ReferenceSguInIdeal.defs _ _).mono (fun r h => ⟨fun c => (h c).2, sem_eq_zero_of_no_sems (by decide) r.2⟩)
    (Cert.ReferenceSguInIdeal.Value.run (F := Ideal) m ρ)

theorem frame_OutDa : Cert.quiescent_ReferenceOutDaIdeal := fun m ρ _ =>
  (θ_run Cert.ReferenceOutDaIdeal.defs _ _).mono (fun r h => ⟨fun c => (h c).2, sem_eq_zero_of_no_sems (by decide) r.2⟩)
    (Cert.ReferenceOutDaIdeal.Value.run (F := Ideal) m ρ)

theorem frame_Out : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

theorem frame_OutDw : Cert.quiescent_ReferenceOutDwIdeal := fun m ρ _ =>
  (θ_run Cert.ReferenceOutDwIdeal.defs _ _).mono (fun r h => ⟨fun c => (h c).2, sem_eq_zero_of_no_sems (by decide) r.2⟩)
    (Cert.ReferenceOutDwIdeal.Value.run (F := Ideal) m ρ)

theorem frame_SguDw : Cert.quiescent_ReferenceSguDwIdeal := fun m ρ _ =>
  (θ_run Cert.ReferenceSguDwIdeal.defs _ _).mono (fun r h => ⟨fun c => (h c).2, sem_eq_zero_of_no_sems (by decide) r.2⟩)
    (Cert.ReferenceSguDwIdeal.Value.run (F := Ideal) m ρ)

theorem frame_GlaDh : Cert.quiescent_ReferenceGlaDhIdeal := fun m ρ _ =>
  (θ_run Cert.ReferenceGlaDhIdeal.defs _ _).mono (fun r h => ⟨fun c => (h c).2, sem_eq_zero_of_no_sems (by decide) r.2⟩)
    (Cert.ReferenceGlaDhIdeal.Value.run (F := Ideal) m ρ)

theorem frame_GlaIn : Cert.quiescent_ReferenceGlaInIdeal := fun m ρ _ =>
  (θ_run Cert.ReferenceGlaInIdeal.defs _ _).mono (fun r h => ⟨fun c => (h c).2, sem_eq_zero_of_no_sems (by decide) r.2⟩)
    (Cert.ReferenceGlaInIdeal.Value.run (F := Ideal) m ρ)

theorem frame_GlaDw0 : Cert.quiescent_ReferenceGlaDw0Ideal := fun m ρ _ =>
  (θ_run Cert.ReferenceGlaDw0Ideal.defs _ _).mono (fun r h => ⟨fun c => (h c).2, sem_eq_zero_of_no_sems (by decide) r.2⟩)
    (Cert.ReferenceGlaDw0Ideal.Value.run (F := Ideal) m ρ)

theorem frame_GlaDw1 : Cert.quiescent_ReferenceGlaDw1Ideal := fun m ρ _ =>
  (θ_run Cert.ReferenceGlaDw1Ideal.defs _ _).mono (fun r h => ⟨fun c => (h c).2, sem_eq_zero_of_no_sems (by decide) r.2⟩)
    (Cert.ReferenceGlaDw1Ideal.Value.run (F := Ideal) m ρ)

theorem frame_PreNorm : Cert.quiescent_ReferencePreNormIdeal := fun m ρ _ =>
  (θ_run Cert.ReferencePreNormIdeal.defs _ _).mono (fun r h => ⟨fun c => (h c).2, sem_eq_zero_of_no_sems (by decide) r.2⟩)
    (Cert.ReferencePreNormIdeal.Value.run (F := Ideal) m ρ)

theorem frame_PostPre : Cert.quiescent_ReferencePostPreIdeal := fun m ρ _ =>
  (θ_run Cert.ReferencePostPreIdeal.defs _ _).mono (fun r h => ⟨fun c => (h c).2.2, sem_eq_zero_of_no_sems (by decide) r.2⟩)
    (Cert.ReferencePostPreIdeal.Value.run (F := Ideal) m ρ)

theorem frame_LossHead : Cert.quiescent_ReferenceLossHeadIdeal := fun m ρ _ =>
  (θ_run Cert.ReferenceLossHeadIdeal.defs _ _).mono (fun r h => ⟨fun c => (h c).2.2.2.2, sem_eq_zero_of_no_sems (by decide) r.2⟩)
    (Cert.ReferenceLossHeadIdeal.Value.run (F := Ideal) m ρ)

theorem frame_MidBwd : Cert.quiescent_ReferenceMidBwdIdeal := fun m ρ _ =>
  (θ_run Cert.ReferenceMidBwdIdeal.defs _ _).mono (fun r h => ⟨fun c => (h c).2.2.2.2, sem_eq_zero_of_no_sems (by decide) r.2⟩)
    (Cert.ReferenceMidBwdIdeal.Value.run (F := Ideal) m ρ)

theorem frame_FirstBwd : Cert.quiescent_ReferenceFirstBwdIdeal := fun m ρ _ =>
  (θ_run Cert.ReferenceFirstBwdIdeal.defs _ _).mono (fun r h => ⟨fun c => (h c).2.2, sem_eq_zero_of_no_sems (by decide) r.2⟩)
    (Cert.ReferenceFirstBwdIdeal.Value.run (F := Ideal) m ρ)

theorem claim : Cert.Claim :=
  ⟨Cert.Kernel.Gen.facts, Cert.KernelIdeal.Gen.facts, Cert.ReferenceIdeal.Gen.facts,
    Cert.KernelSguDh.Gen.facts, Cert.KernelSguDhIdeal.Gen.facts, Cert.ReferenceSguDhIdeal.Gen.facts,
    Cert.KernelSguIn.Gen.facts, Cert.KernelSguInIdeal.Gen.facts, Cert.ReferenceSguInIdeal.Gen.facts,
    Cert.KernelOutDa.Gen.facts, Cert.KernelOutDaIdeal.Gen.facts, Cert.ReferenceOutDaIdeal.Gen.facts,
    Cert.KernelOut.Gen.facts, Cert.KernelOutIdeal.Gen.facts, Cert.ReferenceOutIdeal.Gen.facts,
    Cert.KernelOutDw.Gen.facts, Cert.KernelOutDwIdeal.Gen.facts, Cert.ReferenceOutDwIdeal.Gen.facts,
    Cert.KernelSguDw.Gen.facts, Cert.KernelSguDwIdeal.Gen.facts, Cert.ReferenceSguDwIdeal.Gen.facts,
    Cert.KernelGlaDh.Gen.facts, Cert.KernelGlaDhIdeal.Gen.facts, Cert.ReferenceGlaDhIdeal.Gen.facts,
    Cert.KernelGlaIn.Gen.facts, Cert.KernelGlaInIdeal.Gen.facts, Cert.ReferenceGlaInIdeal.Gen.facts,
    Cert.KernelGlaDw0.Gen.facts, Cert.KernelGlaDw0Ideal.Gen.facts, Cert.ReferenceGlaDw0Ideal.Gen.facts,
    Cert.KernelGlaDw1.Gen.facts, Cert.KernelGlaDw1Ideal.Gen.facts, Cert.ReferenceGlaDw1Ideal.Gen.facts,
    Cert.KernelPreNorm.Gen.facts, Cert.KernelPreNormIdeal.Gen.facts, Cert.ReferencePreNormIdeal.Gen.facts,
    Cert.KernelPostPre.Gen.facts, Cert.KernelPostPreIdeal.Gen.facts, Cert.ReferencePostPreIdeal.Gen.facts,
    Cert.KernelLossHead.Gen.facts, Cert.KernelLossHeadIdeal.Gen.facts, Cert.ReferenceLossHeadIdeal.Gen.facts,
    Cert.KernelMidBwd.Gen.facts, Cert.KernelMidBwdIdeal.Gen.facts, Cert.ReferenceMidBwdIdeal.Gen.facts,
    Cert.KernelFirstBwd.Gen.facts, Cert.KernelFirstBwdIdeal.Gen.facts, Cert.ReferenceFirstBwdIdeal.Gen.facts,
    Cert.Pre_finite.Gen.facts, Cert.Pre_out_core_ok.Gen.facts, Cert.Pre_sgu_core_ok.Gen.facts,
    Cert.Pre_gla_core_ok.Gen.facts,
    Cert.Pre_loss_finite.Gen.facts, Cert.Pre_mid_finite.Gen.facts, Cert.Pre_first_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.KernelSguDh.Gen.frame m ρ, fun m ρ _ => Cert.KernelSguDhIdeal.Gen.frame m ρ, frame_SguDh,
    fun m ρ _ => Cert.KernelSguIn.Gen.frame m ρ, fun m ρ _ => Cert.KernelSguInIdeal.Gen.frame m ρ, frame_SguIn,
    fun m ρ _ => Cert.KernelOutDa.Gen.frame m ρ, fun m ρ _ => Cert.KernelOutDaIdeal.Gen.frame m ρ, frame_OutDa,
    fun m ρ _ => Cert.KernelOut.Gen.frame m ρ, fun m ρ _ => Cert.KernelOutIdeal.Gen.frame m ρ, frame_Out,
    fun m ρ h => Cert.KernelOutDw.Gen.frame m ρ (Cert.Products.OutDw.ok m h), fun m ρ h => Cert.KernelOutDwIdeal.Gen.frame m ρ (Cert.Products.OutDw.ok_ideal m h), frame_OutDw, fun m ρ _ => frame_OutDw m ρ trivial,
    fun m ρ h => Cert.KernelSguDw.Gen.frame m ρ (Cert.Products.SguDw.ok m h), fun m ρ h => Cert.KernelSguDwIdeal.Gen.frame m ρ (Cert.Products.SguDw.ok_ideal m h), frame_SguDw, fun m ρ _ => frame_SguDw m ρ trivial,
    fun m ρ _ => Cert.KernelGlaDh.Gen.frame m ρ, fun m ρ _ => Cert.KernelGlaDhIdeal.Gen.frame m ρ, frame_GlaDh,
    fun m ρ _ => Cert.KernelGlaIn.Gen.frame m ρ, fun m ρ _ => Cert.KernelGlaInIdeal.Gen.frame m ρ, frame_GlaIn,
    fun m ρ h => Cert.KernelGlaDw0.Gen.frame m ρ (Cert.Products.GlaDw0.ok m h), fun m ρ h => Cert.KernelGlaDw0Ideal.Gen.frame m ρ (Cert.Products.GlaDw0.ok_ideal m h), frame_GlaDw0, fun m ρ _ => frame_GlaDw0 m ρ trivial,
    fun m ρ h => Cert.KernelGlaDw1.Gen.frame m ρ (Cert.Products.GlaDw1.ok m h), fun m ρ h => Cert.KernelGlaDw1Ideal.Gen.frame m ρ (Cert.Products.GlaDw1.ok_ideal m h), frame_GlaDw1, fun m ρ _ => frame_GlaDw1 m ρ trivial,
    fun m ρ _ => Cert.KernelPreNorm.Gen.frame m ρ, fun m ρ _ => Cert.KernelPreNormIdeal.Gen.frame m ρ, frame_PreNorm,
    fun m ρ _ => Cert.KernelPostPre.Gen.frame m ρ, fun m ρ _ => Cert.KernelPostPreIdeal.Gen.frame m ρ, frame_PostPre,
    fun m ρ _ => Cert.KernelLossHead.Gen.frame m ρ, fun m ρ _ => Cert.KernelLossHeadIdeal.Gen.frame m ρ, fun m ρ _ => Cert.KernelLossHeadIdeal.Gen.frame m ρ, frame_LossHead, fun m ρ _ => frame_LossHead m ρ trivial,
    fun m ρ _ => Cert.KernelMidBwd.Gen.frame m ρ, fun m ρ _ => Cert.KernelMidBwdIdeal.Gen.frame m ρ, fun m ρ _ => Cert.KernelMidBwdIdeal.Gen.frame m ρ, frame_MidBwd, fun m ρ _ => frame_MidBwd m ρ trivial,
    fun m ρ _ => Cert.KernelFirstBwd.Gen.frame m ρ, fun m ρ _ => Cert.KernelFirstBwdIdeal.Gen.frame m ρ, fun m ρ _ => Cert.KernelFirstBwdIdeal.Gen.frame m ρ, frame_FirstBwd, fun m ρ _ => frame_FirstBwd m ρ trivial,
    ⟨IdealRules.named_const.statement Cert.KernelIdeal.κ "gelu_ca" .f32 0x3D122279#32 _ rfl,
      IdealRules.named_const.statement Cert.KernelIdeal.κ "gelu_6ca" .f32 0x3E5B33B6#32 _ rfl⟩, values,
    trivial, Cert.Products.SguDh.value,
    trivial, Cert.Products.SguIn.value,
    trivial, Cert.Products.OutDa.value,
    trivial, Cert.Products.Out.value,
    trivial, Cert.Products.OutDw.value,
    trivial, Cert.Products.SguDw.value,
    trivial, Cert.Products.GlaDh.value,
    trivial, Cert.Products.GlaIn.value,
    trivial, Cert.Products.GlaDw0.value,
    trivial, Cert.Products.GlaDw1.value,
    trivial, Cert.Norm.PreNorm.value,
    trivial, Cert.Norm.PostPre.value,
    trivial, Cert.Norm.LossHead.value,
    trivial, Cert.Norm.MidBwd.value,
    trivial, Cert.Norm.FirstBwd.value⟩

end Cert.Proof

end
